-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnBackward (m : (ℓ : Loc Cert.FfnBackward.nD Cert.FfnBackward.τ Cert.FfnBackward.sig) → Buf (Elt Bits) ℓ) : Prop :=
  True

def Pre_FfnBackwardIdeal (m : (ℓ : Loc Cert.FfnBackwardIdeal.nD Cert.FfnBackwardIdeal.τ Cert.FfnBackwardIdeal.sig) → Buf (Elt Ideal) ℓ) : Prop :=
  True

def Pre_FfnBackwardIdeal_finite [hPre_finite : Cert.Pre_finite.Facts] (m : (ℓ : Loc Cert.FfnBackwardIdeal.nD Cert.FfnBackwardIdeal.τ Cert.FfnBackwardIdeal.sig) → Buf (Elt Ideal) ℓ) : Prop :=
  ∀ c : Dev Cert.FfnBackwardIdeal.nD,
    (Cert.Pre_finite.fn (F := Ideal) (m ((c.tc : Thread Cert.FfnBackwardIdeal.nD Cert.FfnBackwardIdeal.τ).loc Cert.FfnBackwardIdeal.main_arg0)) (m ((c.tc : Thread Cert.FfnBackwardIdeal.nD Cert.FfnBackwardIdeal.τ).loc Cert.FfnBackwardIdeal.main_arg1)) (m ((c.tc : Thread Cert.FfnBackwardIdeal.nD Cert.FfnBackwardIdeal.τ).loc Cert.FfnBackwardIdeal.main_arg2)) (m ((c.tc : Thread Cert.FfnBackwardIdeal.nD Cert.FfnBackwardIdeal.τ).loc Cert.FfnBackwardIdeal.main_arg3)) (m ((c.tc : Thread Cert.FfnBackwardIdeal.nD Cert.FfnBackwardIdeal.τ).loc Cert.FfnBackwardIdeal.main_arg4)) (m ((c.tc : Thread Cert.FfnBackwardIdeal.nD Cert.FfnBackwardIdeal.τ).loc Cert.FfnBackwardIdeal.main_arg5))).1 = (fun _ => 1#1)
    ∧ (Cert.Pre_finite.fn (F := Ideal) (m ((c.tc : Thread Cert.FfnBackwardIdeal.nD Cert.FfnBackwardIdeal.τ).loc Cert.FfnBackwardIdeal.main_arg0)) (m ((c.tc : Thread Cert.FfnBackwardIdeal.nD Cert.FfnBackwardIdeal.τ).loc Cert.FfnBackwardIdeal.main_arg1)) (m ((c.tc : Thread Cert.FfnBackwardIdeal.nD Cert.FfnBackwardIdeal.τ).loc Cert.FfnBackwardIdeal.main_arg2)) (m ((c.tc : Thread Cert.FfnBackwardIdeal.nD Cert.FfnBackwardIdeal.τ).loc Cert.FfnBackwardIdeal.main_arg3)) (m ((c.tc : Thread Cert.FfnBackwardIdeal.nD Cert.FfnBackwardIdeal.τ).loc Cert.FfnBackwardIdeal.main_arg4)) (m ((c.tc : Thread Cert.FfnBackwardIdeal.nD Cert.FfnBackwardIdeal.τ).loc Cert.FfnBackwardIdeal.main_arg5))).2.1 = (fun _ => 1#1)
    ∧ (Cert.Pre_finite.fn (F := Ideal) (m ((c.tc : Thread Cert.FfnBackwardIdeal.nD Cert.FfnBackwardIdeal.τ).loc Cert.FfnBackwardIdeal.main_arg0)) (m ((c.tc : Thread Cert.FfnBackwardIdeal.nD Cert.FfnBackwardIdeal.τ).loc Cert.FfnBackwardIdeal.main_arg1)) (m ((c.tc : Thread Cert.FfnBackwardIdeal.nD Cert.FfnBackwardIdeal.τ).loc Cert.FfnBackwardIdeal.main_arg2)) (m ((c.tc : Thread Cert.FfnBackwardIdeal.nD Cert.FfnBackwardIdeal.τ).loc Cert.FfnBackwardIdeal.main_arg3)) (m ((c.tc : Thread Cert.FfnBackwardIdeal.nD Cert.FfnBackwardIdeal.τ).loc Cert.FfnBackwardIdeal.main_arg4)) (m ((c.tc : Thread Cert.FfnBackwardIdeal.nD Cert.FfnBackwardIdeal.τ).loc Cert.FfnBackwardIdeal.main_arg5))).2.2.1 = (fun _ => 1#1)
    ∧ (Cert.Pre_finite.fn (F := Ideal) (m ((c.tc : Thread Cert.FfnBackwardIdeal.nD Cert.FfnBackwardIdeal.τ).loc Cert.FfnBackwardIdeal.main_arg0)) (m ((c.tc : Thread Cert.FfnBackwardIdeal.nD Cert.FfnBackwardIdeal.τ).loc Cert.FfnBackwardIdeal.main_arg1)) (m ((c.tc : Thread Cert.FfnBackwardIdeal.nD Cert.FfnBackwardIdeal.τ).loc Cert.FfnBackwardIdeal.main_arg2)) (m ((c.tc : Thread Cert.FfnBackwardIdeal.nD Cert.FfnBackwardIdeal.τ).loc Cert.FfnBackwardIdeal.main_arg3)) (m ((c.tc : Thread Cert.FfnBackwardIdeal.nD Cert.FfnBackwardIdeal.τ).loc Cert.FfnBackwardIdeal.main_arg4)) (m ((c.tc : Thread Cert.FfnBackwardIdeal.nD Cert.FfnBackwardIdeal.τ).loc Cert.FfnBackwardIdeal.main_arg5))).2.2.2.1 = (fun _ => 1#1)
    ∧ (Cert.Pre_finite.fn (F := Ideal) (m ((c.tc : Thread Cert.FfnBackwardIdeal.nD Cert.FfnBackwardIdeal.τ).loc Cert.FfnBackwardIdeal.main_arg0)) (m ((c.tc : Thread Cert.FfnBackwardIdeal.nD Cert.FfnBackwardIdeal.τ).loc Cert.FfnBackwardIdeal.main_arg1)) (m ((c.tc : Thread Cert.FfnBackwardIdeal.nD Cert.FfnBackwardIdeal.τ).loc Cert.FfnBackwardIdeal.main_arg2)) (m ((c.tc : Thread Cert.FfnBackwardIdeal.nD Cert.FfnBackwardIdeal.τ).loc Cert.FfnBackwardIdeal.main_arg3)) (m ((c.tc : Thread Cert.FfnBackwardIdeal.nD Cert.FfnBackwardIdeal.τ).loc Cert.FfnBackwardIdeal.main_arg4)) (m ((c.tc : Thread Cert.FfnBackwardIdeal.nD Cert.FfnBackwardIdeal.τ).loc Cert.FfnBackwardIdeal.main_arg5))).2.2.2.2.1 = (fun _ => 1#1)
    ∧ (Cert.Pre_finite.fn (F := Ideal) (m ((c.tc : Thread Cert.FfnBackwardIdeal.nD Cert.FfnBackwardIdeal.τ).loc Cert.FfnBackwardIdeal.main_arg0)) (m ((c.tc : Thread Cert.FfnBackwardIdeal.nD Cert.FfnBackwardIdeal.τ).loc Cert.FfnBackwardIdeal.main_arg1)) (m ((c.tc : Thread Cert.FfnBackwardIdeal.nD Cert.FfnBackwardIdeal.τ).loc Cert.FfnBackwardIdeal.main_arg2)) (m ((c.tc : Thread Cert.FfnBackwardIdeal.nD Cert.FfnBackwardIdeal.τ).loc Cert.FfnBackwardIdeal.main_arg3)) (m ((c.tc : Thread Cert.FfnBackwardIdeal.nD Cert.FfnBackwardIdeal.τ).loc Cert.FfnBackwardIdeal.main_arg4)) (m ((c.tc : Thread Cert.FfnBackwardIdeal.nD Cert.FfnBackwardIdeal.τ).loc Cert.FfnBackwardIdeal.main_arg5))).2.2.2.2.2 = (fun _ => 1#1)

def Pre_FfnGradientIdeal (m : (ℓ : Loc Cert.FfnGradientIdeal.nD Cert.FfnGradientIdeal.τ Cert.FfnGradientIdeal.sig) → Buf (Elt Ideal) ℓ) : Prop :=
  True

def Pre_FfnGradientIdeal_finite [hPre_finite : Cert.Pre_finite.Facts] (m : (ℓ : Loc Cert.FfnGradientIdeal.nD Cert.FfnGradientIdeal.τ Cert.FfnGradientIdeal.sig) → Buf (Elt Ideal) ℓ) : Prop :=
  ∀ c : Dev Cert.FfnGradientIdeal.nD,
    (Cert.Pre_finite.fn (F := Ideal) (m ((c.tc : Thread Cert.FfnGradientIdeal.nD Cert.FfnGradientIdeal.τ).loc Cert.FfnGradientIdeal.main_arg0)) (m ((c.tc : Thread Cert.FfnGradientIdeal.nD Cert.FfnGradientIdeal.τ).loc Cert.FfnGradientIdeal.main_arg1)) (m ((c.tc : Thread Cert.FfnGradientIdeal.nD Cert.FfnGradientIdeal.τ).loc Cert.FfnGradientIdeal.main_arg2)) (m ((c.tc : Thread Cert.FfnGradientIdeal.nD Cert.FfnGradientIdeal.τ).loc Cert.FfnGradientIdeal.main_arg3)) (m ((c.tc : Thread Cert.FfnGradientIdeal.nD Cert.FfnGradientIdeal.τ).loc Cert.FfnGradientIdeal.main_arg4)) (m ((c.tc : Thread Cert.FfnGradientIdeal.nD Cert.FfnGradientIdeal.τ).loc Cert.FfnGradientIdeal.main_arg5))).1 = (fun _ => 1#1)
    ∧ (Cert.Pre_finite.fn (F := Ideal) (m ((c.tc : Thread Cert.FfnGradientIdeal.nD Cert.FfnGradientIdeal.τ).loc Cert.FfnGradientIdeal.main_arg0)) (m ((c.tc : Thread Cert.FfnGradientIdeal.nD Cert.FfnGradientIdeal.τ).loc Cert.FfnGradientIdeal.main_arg1)) (m ((c.tc : Thread Cert.FfnGradientIdeal.nD Cert.FfnGradientIdeal.τ).loc Cert.FfnGradientIdeal.main_arg2)) (m ((c.tc : Thread Cert.FfnGradientIdeal.nD Cert.FfnGradientIdeal.τ).loc Cert.FfnGradientIdeal.main_arg3)) (m ((c.tc : Thread Cert.FfnGradientIdeal.nD Cert.FfnGradientIdeal.τ).loc Cert.FfnGradientIdeal.main_arg4)) (m ((c.tc : Thread Cert.FfnGradientIdeal.nD Cert.FfnGradientIdeal.τ).loc Cert.FfnGradientIdeal.main_arg5))).2.1 = (fun _ => 1#1)
    ∧ (Cert.Pre_finite.fn (F := Ideal) (m ((c.tc : Thread Cert.FfnGradientIdeal.nD Cert.FfnGradientIdeal.τ).loc Cert.FfnGradientIdeal.main_arg0)) (m ((c.tc : Thread Cert.FfnGradientIdeal.nD Cert.FfnGradientIdeal.τ).loc Cert.FfnGradientIdeal.main_arg1)) (m ((c.tc : Thread Cert.FfnGradientIdeal.nD Cert.FfnGradientIdeal.τ).loc Cert.FfnGradientIdeal.main_arg2)) (m ((c.tc : Thread Cert.FfnGradientIdeal.nD Cert.FfnGradientIdeal.τ).loc Cert.FfnGradientIdeal.main_arg3)) (m ((c.tc : Thread Cert.FfnGradientIdeal.nD Cert.FfnGradientIdeal.τ).loc Cert.FfnGradientIdeal.main_arg4)) (m ((c.tc : Thread Cert.FfnGradientIdeal.nD Cert.FfnGradientIdeal.τ).loc Cert.FfnGradientIdeal.main_arg5))).2.2.1 = (fun _ => 1#1)
    ∧ (Cert.Pre_finite.fn (F := Ideal) (m ((c.tc : Thread Cert.FfnGradientIdeal.nD Cert.FfnGradientIdeal.τ).loc Cert.FfnGradientIdeal.main_arg0)) (m ((c.tc : Thread Cert.FfnGradientIdeal.nD Cert.FfnGradientIdeal.τ).loc Cert.FfnGradientIdeal.main_arg1)) (m ((c.tc : Thread Cert.FfnGradientIdeal.nD Cert.FfnGradientIdeal.τ).loc Cert.FfnGradientIdeal.main_arg2)) (m ((c.tc : Thread Cert.FfnGradientIdeal.nD Cert.FfnGradientIdeal.τ).loc Cert.FfnGradientIdeal.main_arg3)) (m ((c.tc : Thread Cert.FfnGradientIdeal.nD Cert.FfnGradientIdeal.τ).loc Cert.FfnGradientIdeal.main_arg4)) (m ((c.tc : Thread Cert.FfnGradientIdeal.nD Cert.FfnGradientIdeal.τ).loc Cert.FfnGradientIdeal.main_arg5))).2.2.2.1 = (fun _ => 1#1)
    ∧ (Cert.Pre_finite.fn (F := Ideal) (m ((c.tc : Thread Cert.FfnGradientIdeal.nD Cert.FfnGradientIdeal.τ).loc Cert.FfnGradientIdeal.main_arg0)) (m ((c.tc : Thread Cert.FfnGradientIdeal.nD Cert.FfnGradientIdeal.τ).loc Cert.FfnGradientIdeal.main_arg1)) (m ((c.tc : Thread Cert.FfnGradientIdeal.nD Cert.FfnGradientIdeal.τ).loc Cert.FfnGradientIdeal.main_arg2)) (m ((c.tc : Thread Cert.FfnGradientIdeal.nD Cert.FfnGradientIdeal.τ).loc Cert.FfnGradientIdeal.main_arg3)) (m ((c.tc : Thread Cert.FfnGradientIdeal.nD Cert.FfnGradientIdeal.τ).loc Cert.FfnGradientIdeal.main_arg4)) (m ((c.tc : Thread Cert.FfnGradientIdeal.nD Cert.FfnGradientIdeal.τ).loc Cert.FfnGradientIdeal.main_arg5))).2.2.2.2.1 = (fun _ => 1#1)
    ∧ (Cert.Pre_finite.fn (F := Ideal) (m ((c.tc : Thread Cert.FfnGradientIdeal.nD Cert.FfnGradientIdeal.τ).loc Cert.FfnGradientIdeal.main_arg0)) (m ((c.tc : Thread Cert.FfnGradientIdeal.nD Cert.FfnGradientIdeal.τ).loc Cert.FfnGradientIdeal.main_arg1)) (m ((c.tc : Thread Cert.FfnGradientIdeal.nD Cert.FfnGradientIdeal.τ).loc Cert.FfnGradientIdeal.main_arg2)) (m ((c.tc : Thread Cert.FfnGradientIdeal.nD Cert.FfnGradientIdeal.τ).loc Cert.FfnGradientIdeal.main_arg3)) (m ((c.tc : Thread Cert.FfnGradientIdeal.nD Cert.FfnGradientIdeal.τ).loc Cert.FfnGradientIdeal.main_arg4)) (m ((c.tc : Thread Cert.FfnGradientIdeal.nD Cert.FfnGradientIdeal.τ).loc Cert.FfnGradientIdeal.main_arg5))).2.2.2.2.2 = (fun _ => 1#1)

def Pre_FfnWeights (m : (ℓ : Loc Cert.FfnWeights.nD Cert.FfnWeights.τ Cert.FfnWeights.sig) → Buf (Elt Bits) ℓ) : Prop :=
  True

def Pre_FfnWeightsIdeal (m : (ℓ : Loc Cert.FfnWeightsIdeal.nD Cert.FfnWeightsIdeal.τ Cert.FfnWeightsIdeal.sig) → Buf (Elt Ideal) ℓ) : Prop :=
  True

def Pre_FfnWeightsGradientIdeal (m : (ℓ : Loc Cert.FfnWeightsGradientIdeal.nD Cert.FfnWeightsGradientIdeal.τ Cert.FfnWeightsGradientIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownGradientIdeal (m : (ℓ : Loc Cert.FfnDownGradientIdeal.nD Cert.FfnDownGradientIdeal.τ Cert.FfnDownGradientIdeal.sig) → Buf (Elt Ideal) ℓ) : Prop :=
  True

def Pre_FfnForward (m : (ℓ : Loc Cert.FfnForward.nD Cert.FfnForward.τ Cert.FfnForward.sig) → Buf (Elt Bits) ℓ) : Prop :=
  True

def Pre_FfnForwardIdeal (m : (ℓ : Loc Cert.FfnForwardIdeal.nD Cert.FfnForwardIdeal.τ Cert.FfnForwardIdeal.sig) → Buf (Elt Ideal) ℓ) : Prop :=
  True

def Pre_FfnLayerIdeal (m : (ℓ : Loc Cert.FfnLayerIdeal.nD Cert.FfnLayerIdeal.τ Cert.FfnLayerIdeal.sig) → Buf (Elt Ideal) ℓ) : Prop :=
  True

def Pre_FfnWeight (m : (ℓ : Loc Cert.FfnWeight.nD Cert.FfnWeight.τ Cert.FfnWeight.sig) → Buf (Elt Bits) ℓ) : Prop :=
  True

def Pre_FfnWeightIdeal (m : (ℓ : Loc Cert.FfnWeightIdeal.nD Cert.FfnWeightIdeal.τ Cert.FfnWeightIdeal.sig) → Buf (Elt Ideal) ℓ) : Prop :=
  True

def Pre_FfnWeightGradientIdeal (m : (ℓ : Loc Cert.FfnWeightGradientIdeal.nD Cert.FfnWeightGradientIdeal.τ Cert.FfnWeightGradientIdeal.sig) → Buf (Elt Ideal) ℓ) : Prop :=
  True

def Pre_InWeights (m : (ℓ : Loc Cert.InWeights.nD Cert.InWeights.τ Cert.InWeights.sig) → Buf (Elt Bits) ℓ) : Prop :=
  True

def Pre_InWeightsIdeal (m : (ℓ : Loc Cert.InWeightsIdeal.nD Cert.InWeightsIdeal.τ Cert.InWeightsIdeal.sig) → Buf (Elt Ideal) ℓ) : Prop :=
  True

def Pre_InWeightsGradientIdeal (m : (ℓ : Loc Cert.InWeightsGradientIdeal.nD Cert.InWeightsGradientIdeal.τ Cert.InWeightsGradientIdeal.sig) → Buf (Elt Ideal) ℓ) : Prop :=
  True

def Pre_OutForward (m : (ℓ : Loc Cert.OutForward.nD Cert.OutForward.τ Cert.OutForward.sig) → Buf (Elt Bits) ℓ) : Prop :=
  True

def Pre_OutForwardIdeal (m : (ℓ : Loc Cert.OutForwardIdeal.nD Cert.OutForwardIdeal.τ Cert.OutForwardIdeal.sig) → Buf (Elt Ideal) ℓ) : Prop :=
  True

def Pre_OutLayerIdeal (m : (ℓ : Loc Cert.OutLayerIdeal.nD Cert.OutLayerIdeal.τ Cert.OutLayerIdeal.sig) → Buf (Elt Ideal) ℓ) : Prop :=
  True

def Pre_OutBackward (m : (ℓ : Loc Cert.OutBackward.nD Cert.OutBackward.τ Cert.OutBackward.sig) → Buf (Elt Bits) ℓ) : Prop :=
  True

def Pre_OutBackwardIdeal (m : (ℓ : Loc Cert.OutBackwardIdeal.nD Cert.OutBackwardIdeal.τ Cert.OutBackwardIdeal.sig) → Buf (Elt Ideal) ℓ) : Prop :=
  True

def Pre_OutGradientIdeal (m : (ℓ : Loc Cert.OutGradientIdeal.nD Cert.OutGradientIdeal.τ Cert.OutGradientIdeal.sig) → Buf (Elt Ideal) ℓ) : Prop :=
  True

def Pre_OutWeights (m : (ℓ : Loc Cert.OutWeights.nD Cert.OutWeights.τ Cert.OutWeights.sig) → Buf (Elt Bits) ℓ) : Prop :=
  True

def Pre_OutWeightsIdeal (m : (ℓ : Loc Cert.OutWeightsIdeal.nD Cert.OutWeightsIdeal.τ Cert.OutWeightsIdeal.sig) → Buf (Elt Ideal) ℓ) : Prop :=
  True

def Pre_OutWeightsGradientIdeal (m : (ℓ : Loc Cert.OutWeightsGradientIdeal.nD Cert.OutWeightsGradientIdeal.τ Cert.OutWeightsGradientIdeal.sig) → Buf (Elt Ideal) ℓ) : Prop :=
  True

def Pre_HeadForward (m : (ℓ : Loc Cert.HeadForward.nD Cert.HeadForward.τ Cert.HeadForward.sig) → Buf (Elt Bits) ℓ) : Prop :=
  True

def Pre_HeadForwardIdeal (m : (ℓ : Loc Cert.HeadForwardIdeal.nD Cert.HeadForwardIdeal.τ Cert.HeadForwardIdeal.sig) → Buf (Elt Ideal) ℓ) : Prop :=
  True

def Pre_HeadGradientIdeal (m : (ℓ : Loc Cert.HeadGradientIdeal.nD Cert.HeadGradientIdeal.τ Cert.HeadGradientIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfnBackward [hFfnBackward : Cert.FfnBackward.Facts] : Prop :=
  ∀ (m : (ℓ : Loc Cert.FfnBackward.nD Cert.FfnBackward.τ Cert.FfnBackward.sig) → Buf (Elt Bits) ℓ) (g : Dev Cert.FfnBackward.nD → PrngReg), Pre_FfnBackward m →
    θ_run (Cert.FfnBackward.defs (F := Bits)) (onTc (τ := Cert.FfnBackward.τ) (Cert.FfnBackward.main (F := Bits))) ⟨m, fun _ => 0, g⟩ (fun r => (∀ c : Dev Cert.FfnBackward.nD,
      r.2.mem ((c.tc : Thread Cert.FfnBackward.nD Cert.FfnBackward.τ).loc Cert.FfnBackward.main_arg0) = m ((c.tc : Thread Cert.FfnBackward.nD Cert.FfnBackward.τ).loc Cert.FfnBackward.main_arg0)
      ∧ r.2.mem ((c.tc : Thread Cert.FfnBackward.nD Cert.FfnBackward.τ).loc Cert.FfnBackward.main_arg1) = m ((c.tc : Thread Cert.FfnBackward.nD Cert.FfnBackward.τ).loc Cert.FfnBackward.main_arg1)
      ∧ r.2.mem ((c.tc : Thread Cert.FfnBackward.nD Cert.FfnBackward.τ).loc Cert.FfnBackward.main_arg2) = m ((c.tc : Thread Cert.FfnBackward.nD Cert.FfnBackward.τ).loc Cert.FfnBackward.main_arg2)
      ∧ r.2.mem ((c.tc : Thread Cert.FfnBackward.nD Cert.FfnBackward.τ).loc Cert.FfnBackward.main_arg3) = m ((c.tc : Thread Cert.FfnBackward.nD Cert.FfnBackward.τ).loc Cert.FfnBackward.main_arg3)
      ∧ r.2.mem ((c.tc : Thread Cert.FfnBackward.nD Cert.FfnBackward.τ).loc Cert.FfnBackward.main_arg4) = m ((c.tc : Thread Cert.FfnBackward.nD Cert.FfnBackward.τ).loc Cert.FfnBackward.main_arg4)
      ∧ r.2.mem ((c.tc : Thread Cert.FfnBackward.nD Cert.FfnBackward.τ).loc Cert.FfnBackward.main_arg5) = m ((c.tc : Thread Cert.FfnBackward.nD Cert.FfnBackward.τ).loc Cert.FfnBackward.main_arg5))
      ∧ r.2.sem = fun _ => 0)

def quiescent_FfnBackwardIdeal [hFfnBackwardIdeal : Cert.FfnBackwardIdeal.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg), Pre_FfnBackwardIdeal m →
    θ_run (Cert.FfnBackwardIdeal.defs (F := Ideal)) (onTc (τ := Cert.FfnBackwardIdeal.τ) (Cert.FfnBackwardIdeal.main (F := Ideal))) ⟨m, fun _ => 0, g⟩ (fun r => (∀ c : Dev Cert.FfnBackwardIdeal.nD,
      r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
      ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
      ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2)
      ∧ r.2.mem ((c.tc : Thread Cert.FfnBackwardIdeal.nD Cert.FfnBackwardIdeal.τ).loc Cert.FfnBackwardIdeal.main_arg3) = m ((c.tc : Thread Cert.FfnBackwardIdeal.nD Cert.FfnBackwardIdeal.τ).loc Cert.FfnBackwardIdeal.main_arg3)
      ∧ r.2.mem ((c.tc : Thread Cert.FfnBackwardIdeal.nD Cert.FfnBackwardIdeal.τ).loc Cert.FfnBackwardIdeal.main_arg4) = m ((c.tc : Thread Cert.FfnBackwardIdeal.nD Cert.FfnBackwardIdeal.τ).loc Cert.FfnBackwardIdeal.main_arg4)
      ∧ r.2.mem ((c.tc : Thread Cert.FfnBackwardIdeal.nD Cert.FfnBackwardIdeal.τ).loc Cert.FfnBackwardIdeal.main_arg5) = m ((c.tc : Thread Cert.FfnBackwardIdeal.nD Cert.FfnBackwardIdeal.τ).loc Cert.FfnBackwardIdeal.main_arg5))
      ∧ r.2.sem = fun _ => 0)

def quiescent_FfnBackwardIdeal_pre_finite [hFfnBackwardIdeal : Cert.FfnBackwardIdeal.Facts] [hPre_finite : Cert.Pre_finite.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg), Pre_FfnBackwardIdeal_finite m →
    θ_run (Cert.FfnBackwardIdeal.defs (F := Ideal)) (onTc (τ := Cert.FfnBackwardIdeal.τ) (Cert.FfnBackwardIdeal.main (F := Ideal))) ⟨m, fun _ => 0, g⟩ (fun r => (∀ c : Dev Cert.FfnBackwardIdeal.nD,
      r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
      ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
      ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2)
      ∧ r.2.mem ((c.tc : Thread Cert.FfnBackwardIdeal.nD Cert.FfnBackwardIdeal.τ).loc Cert.FfnBackwardIdeal.main_arg3) = m ((c.tc : Thread Cert.FfnBackwardIdeal.nD Cert.FfnBackwardIdeal.τ).loc Cert.FfnBackwardIdeal.main_arg3)
      ∧ r.2.mem ((c.tc : Thread Cert.FfnBackwardIdeal.nD Cert.FfnBackwardIdeal.τ).loc Cert.FfnBackwardIdeal.main_arg4) = m ((c.tc : Thread Cert.FfnBackwardIdeal.nD Cert.FfnBackwardIdeal.τ).loc Cert.FfnBackwardIdeal.main_arg4)
      ∧ r.2.mem ((c.tc : Thread Cert.FfnBackwardIdeal.nD Cert.FfnBackwardIdeal.τ).loc Cert.FfnBackwardIdeal.main_arg5) = m ((c.tc : Thread Cert.FfnBackwardIdeal.nD Cert.FfnBackwardIdeal.τ).loc Cert.FfnBackwardIdeal.main_arg5))
      ∧ r.2.sem = fun _ => 0)

def quiescent_FfnGradientIdeal [hFfnGradientIdeal : Cert.FfnGradientIdeal.Facts] : Prop :=
  ∀ (m : (ℓ : Loc Cert.FfnGradientIdeal.nD Cert.FfnGradientIdeal.τ Cert.FfnGradientIdeal.sig) → Buf (Elt Ideal) ℓ) (g : Dev Cert.FfnGradientIdeal.nD → PrngReg), Pre_FfnGradientIdeal m →
    θ_run (Cert.FfnGradientIdeal.defs (F := Ideal)) (onTc (τ := Cert.FfnGradientIdeal.τ) (Cert.FfnGradientIdeal.main (F := Ideal))) ⟨m, fun _ => 0, g⟩ (fun r => (∀ c : Dev Cert.FfnGradientIdeal.nD,
      r.2.mem ((c.tc : Thread Cert.FfnGradientIdeal.nD Cert.FfnGradientIdeal.τ).loc Cert.FfnGradientIdeal.main_arg0) = m ((c.tc : Thread Cert.FfnGradientIdeal.nD Cert.FfnGradientIdeal.τ).loc Cert.FfnGradientIdeal.main_arg0)
      ∧ r.2.mem ((c.tc : Thread Cert.FfnGradientIdeal.nD Cert.FfnGradientIdeal.τ).loc Cert.FfnGradientIdeal.main_arg1) = m ((c.tc : Thread Cert.FfnGradientIdeal.nD Cert.FfnGradientIdeal.τ).loc Cert.FfnGradientIdeal.main_arg1)
      ∧ r.2.mem ((c.tc : Thread Cert.FfnGradientIdeal.nD Cert.FfnGradientIdeal.τ).loc Cert.FfnGradientIdeal.main_arg2) = m ((c.tc : Thread Cert.FfnGradientIdeal.nD Cert.FfnGradientIdeal.τ).loc Cert.FfnGradientIdeal.main_arg2)
      ∧ r.2.mem ((c.tc : Thread Cert.FfnGradientIdeal.nD Cert.FfnGradientIdeal.τ).loc Cert.FfnGradientIdeal.main_arg3) = m ((c.tc : Thread Cert.FfnGradientIdeal.nD Cert.FfnGradientIdeal.τ).loc Cert.FfnGradientIdeal.main_arg3)
      ∧ r.2.mem ((c.tc : Thread Cert.FfnGradientIdeal.nD Cert.FfnGradientIdeal.τ).loc Cert.FfnGradientIdeal.main_arg4) = m ((c.tc : Thread Cert.FfnGradientIdeal.nD Cert.FfnGradientIdeal.τ).loc Cert.FfnGradientIdeal.main_arg4)
      ∧ r.2.mem ((c.tc : Thread Cert.FfnGradientIdeal.nD Cert.FfnGradientIdeal.τ).loc Cert.FfnGradientIdeal.main_arg5) = m ((c.tc : Thread Cert.FfnGradientIdeal.nD Cert.FfnGradientIdeal.τ).loc Cert.FfnGradientIdeal.main_arg5))
      ∧ r.2.sem = fun _ => 0)

def quiescent_FfnGradientIdeal_pre_finite [hFfnGradientIdeal : Cert.FfnGradientIdeal.Facts] [hPre_finite : Cert.Pre_finite.Facts] : Prop :=
  ∀ (m : (ℓ : Loc Cert.FfnGradientIdeal.nD Cert.FfnGradientIdeal.τ Cert.FfnGradientIdeal.sig) → Buf (Elt Ideal) ℓ) (g : Dev Cert.FfnGradientIdeal.nD → PrngReg), Pre_FfnGradientIdeal_finite m →
    θ_run (Cert.FfnGradientIdeal.defs (F := Ideal)) (onTc (τ := Cert.FfnGradientIdeal.τ) (Cert.FfnGradientIdeal.main (F := Ideal))) ⟨m, fun _ => 0, g⟩ (fun r => (∀ c : Dev Cert.FfnGradientIdeal.nD,
      r.2.mem ((c.tc : Thread Cert.FfnGradientIdeal.nD Cert.FfnGradientIdeal.τ).loc Cert.FfnGradientIdeal.main_arg0) = m ((c.tc : Thread Cert.FfnGradientIdeal.nD Cert.FfnGradientIdeal.τ).loc Cert.FfnGradientIdeal.main_arg0)
      ∧ r.2.mem ((c.tc : Thread Cert.FfnGradientIdeal.nD Cert.FfnGradientIdeal.τ).loc Cert.FfnGradientIdeal.main_arg1) = m ((c.tc : Thread Cert.FfnGradientIdeal.nD Cert.FfnGradientIdeal.τ).loc Cert.FfnGradientIdeal.main_arg1)
      ∧ r.2.mem ((c.tc : Thread Cert.FfnGradientIdeal.nD Cert.FfnGradientIdeal.τ).loc Cert.FfnGradientIdeal.main_arg2) = m ((c.tc : Thread Cert.FfnGradientIdeal.nD Cert.FfnGradientIdeal.τ).loc Cert.FfnGradientIdeal.main_arg2)
      ∧ r.2.mem ((c.tc : Thread Cert.FfnGradientIdeal.nD Cert.FfnGradientIdeal.τ).loc Cert.FfnGradientIdeal.main_arg3) = m ((c.tc : Thread Cert.FfnGradientIdeal.nD Cert.FfnGradientIdeal.τ).loc Cert.FfnGradientIdeal.main_arg3)
      ∧ r.2.mem ((c.tc : Thread Cert.FfnGradientIdeal.nD Cert.FfnGradientIdeal.τ).loc Cert.FfnGradientIdeal.main_arg4) = m ((c.tc : Thread Cert.FfnGradientIdeal.nD Cert.FfnGradientIdeal.τ).loc Cert.FfnGradientIdeal.main_arg4)
      ∧ r.2.mem ((c.tc : Thread Cert.FfnGradientIdeal.nD Cert.FfnGradientIdeal.τ).loc Cert.FfnGradientIdeal.main_arg5) = m ((c.tc : Thread Cert.FfnGradientIdeal.nD Cert.FfnGradientIdeal.τ).loc Cert.FfnGradientIdeal.main_arg5))
      ∧ r.2.sem = fun _ => 0)

def quiescent_FfnWeights [hFfnWeights : Cert.FfnWeights.Facts] : Prop :=
  ∀ (m : (ℓ : Loc Cert.FfnWeights.nD Cert.FfnWeights.τ Cert.FfnWeights.sig) → Buf (Elt Bits) ℓ) (g : Dev Cert.FfnWeights.nD → PrngReg), Pre_FfnWeights m →
    θ_run (Cert.FfnWeights.defs (F := Bits)) (onTc (τ := Cert.FfnWeights.τ) (Cert.FfnWeights.main (F := Bits))) ⟨m, fun _ => 0, g⟩ (fun r => (∀ c : Dev Cert.FfnWeights.nD,
      r.2.mem ((c.tc : Thread Cert.FfnWeights.nD Cert.FfnWeights.τ).loc Cert.FfnWeights.main_arg0) = m ((c.tc : Thread Cert.FfnWeights.nD Cert.FfnWeights.τ).loc Cert.FfnWeights.main_arg0)
      ∧ r.2.mem ((c.tc : Thread Cert.FfnWeights.nD Cert.FfnWeights.τ).loc Cert.FfnWeights.main_arg1) = m ((c.tc : Thread Cert.FfnWeights.nD Cert.FfnWeights.τ).loc Cert.FfnWeights.main_arg1)
      ∧ r.2.mem ((c.tc : Thread Cert.FfnWeights.nD Cert.FfnWeights.τ).loc Cert.FfnWeights.main_arg2) = m ((c.tc : Thread Cert.FfnWeights.nD Cert.FfnWeights.τ).loc Cert.FfnWeights.main_arg2)
      ∧ r.2.mem ((c.tc : Thread Cert.FfnWeights.nD Cert.FfnWeights.τ).loc Cert.FfnWeights.main_arg3) = m ((c.tc : Thread Cert.FfnWeights.nD Cert.FfnWeights.τ).loc Cert.FfnWeights.main_arg3)
      ∧ r.2.mem ((c.tc : Thread Cert.FfnWeights.nD Cert.FfnWeights.τ).loc Cert.FfnWeights.main_arg4) = m ((c.tc : Thread Cert.FfnWeights.nD Cert.FfnWeights.τ).loc Cert.FfnWeights.main_arg4)
      ∧ r.2.mem ((c.tc : Thread Cert.FfnWeights.nD Cert.FfnWeights.τ).loc Cert.FfnWeights.main_arg5) = m ((c.tc : Thread Cert.FfnWeights.nD Cert.FfnWeights.τ).loc Cert.FfnWeights.main_arg5))
      ∧ r.2.sem = fun _ => 0)

def quiescent_FfnWeightsIdeal [hFfnWeightsIdeal : Cert.FfnWeightsIdeal.Facts] : Prop :=
  ∀ (m : (ℓ : Loc Cert.FfnWeightsIdeal.nD Cert.FfnWeightsIdeal.τ Cert.FfnWeightsIdeal.sig) → Buf (Elt Ideal) ℓ) (g : Dev Cert.FfnWeightsIdeal.nD → PrngReg), Pre_FfnWeightsIdeal m →
    θ_run (Cert.FfnWeightsIdeal.defs (F := Ideal)) (onTc (τ := Cert.FfnWeightsIdeal.τ) (Cert.FfnWeightsIdeal.main (F := Ideal))) ⟨m, fun _ => 0, g⟩ (fun r => (∀ c : Dev Cert.FfnWeightsIdeal.nD,
      r.2.mem ((c.tc : Thread Cert.FfnWeightsIdeal.nD Cert.FfnWeightsIdeal.τ).loc Cert.FfnWeightsIdeal.main_arg0) = m ((c.tc : Thread Cert.FfnWeightsIdeal.nD Cert.FfnWeightsIdeal.τ).loc Cert.FfnWeightsIdeal.main_arg0)
      ∧ r.2.mem ((c.tc : Thread Cert.FfnWeightsIdeal.nD Cert.FfnWeightsIdeal.τ).loc Cert.FfnWeightsIdeal.main_arg1) = m ((c.tc : Thread Cert.FfnWeightsIdeal.nD Cert.FfnWeightsIdeal.τ).loc Cert.FfnWeightsIdeal.main_arg1)
      ∧ r.2.mem ((c.tc : Thread Cert.FfnWeightsIdeal.nD Cert.FfnWeightsIdeal.τ).loc Cert.FfnWeightsIdeal.main_arg2) = m ((c.tc : Thread Cert.FfnWeightsIdeal.nD Cert.FfnWeightsIdeal.τ).loc Cert.FfnWeightsIdeal.main_arg2)
      ∧ r.2.mem ((c.tc : Thread Cert.FfnWeightsIdeal.nD Cert.FfnWeightsIdeal.τ).loc Cert.FfnWeightsIdeal.main_arg3) = m ((c.tc : Thread Cert.FfnWeightsIdeal.nD Cert.FfnWeightsIdeal.τ).loc Cert.FfnWeightsIdeal.main_arg3)
      ∧ r.2.mem ((c.tc : Thread Cert.FfnWeightsIdeal.nD Cert.FfnWeightsIdeal.τ).loc Cert.FfnWeightsIdeal.main_arg4) = m ((c.tc : Thread Cert.FfnWeightsIdeal.nD Cert.FfnWeightsIdeal.τ).loc Cert.FfnWeightsIdeal.main_arg4)
      ∧ r.2.mem ((c.tc : Thread Cert.FfnWeightsIdeal.nD Cert.FfnWeightsIdeal.τ).loc Cert.FfnWeightsIdeal.main_arg5) = m ((c.tc : Thread Cert.FfnWeightsIdeal.nD Cert.FfnWeightsIdeal.τ).loc Cert.FfnWeightsIdeal.main_arg5))
      ∧ r.2.sem = fun _ => 0)

def quiescent_FfnWeightsGradientIdeal [hFfnWeightsGradientIdeal : Cert.FfnWeightsGradientIdeal.Facts] : Prop :=
  ∀ (m : (ℓ : Loc Cert.FfnWeightsGradientIdeal.nD Cert.FfnWeightsGradientIdeal.τ Cert.FfnWeightsGradientIdeal.sig) → Buf (Elt Ideal) ℓ) (g : Dev Cert.FfnWeightsGradientIdeal.nD → PrngReg), Pre_FfnWeightsGradientIdeal m →
    θ_run (Cert.FfnWeightsGradientIdeal.defs (F := Ideal)) (onTc (τ := Cert.FfnWeightsGradientIdeal.τ) (Cert.FfnWeightsGradientIdeal.main (F := Ideal))) ⟨m, fun _ => 0, g⟩ (fun r => (∀ c : Dev Cert.FfnWeightsGradientIdeal.nD,
      r.2.mem ((c.tc : Thread Cert.FfnWeightsGradientIdeal.nD Cert.FfnWeightsGradientIdeal.τ).loc Cert.FfnWeightsGradientIdeal.main_arg0) = m ((c.tc : Thread Cert.FfnWeightsGradientIdeal.nD Cert.FfnWeightsGradientIdeal.τ).loc Cert.FfnWeightsGradientIdeal.main_arg0)
      ∧ r.2.mem ((c.tc : Thread Cert.FfnWeightsGradientIdeal.nD Cert.FfnWeightsGradientIdeal.τ).loc Cert.FfnWeightsGradientIdeal.main_arg1) = m ((c.tc : Thread Cert.FfnWeightsGradientIdeal.nD Cert.FfnWeightsGradientIdeal.τ).loc Cert.FfnWeightsGradientIdeal.main_arg1)
      ∧ r.2.mem ((c.tc : Thread Cert.FfnWeightsGradientIdeal.nD Cert.FfnWeightsGradientIdeal.τ).loc Cert.FfnWeightsGradientIdeal.main_arg2) = m ((c.tc : Thread Cert.FfnWeightsGradientIdeal.nD Cert.FfnWeightsGradientIdeal.τ).loc Cert.FfnWeightsGradientIdeal.main_arg2)
      ∧ r.2.mem ((c.tc : Thread Cert.FfnWeightsGradientIdeal.nD Cert.FfnWeightsGradientIdeal.τ).loc Cert.FfnWeightsGradientIdeal.main_arg3) = m ((c.tc : Thread Cert.FfnWeightsGradientIdeal.nD Cert.FfnWeightsGradientIdeal.τ).loc Cert.FfnWeightsGradientIdeal.main_arg3)
      ∧ r.2.mem ((c.tc : Thread Cert.FfnWeightsGradientIdeal.nD Cert.FfnWeightsGradientIdeal.τ).loc Cert.FfnWeightsGradientIdeal.main_arg4) = m ((c.tc : Thread Cert.FfnWeightsGradientIdeal.nD Cert.FfnWeightsGradientIdeal.τ).loc Cert.FfnWeightsGradientIdeal.main_arg4)
      ∧ r.2.mem ((c.tc : Thread Cert.FfnWeightsGradientIdeal.nD Cert.FfnWeightsGradientIdeal.τ).loc Cert.FfnWeightsGradientIdeal.main_arg5) = m ((c.tc : Thread Cert.FfnWeightsGradientIdeal.nD Cert.FfnWeightsGradientIdeal.τ).loc Cert.FfnWeightsGradientIdeal.main_arg5))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownGradientIdeal [hFfnDownGradientIdeal : Cert.FfnDownGradientIdeal.Facts] : Prop :=
  ∀ (m : (ℓ : Loc Cert.FfnDownGradientIdeal.nD Cert.FfnDownGradientIdeal.τ Cert.FfnDownGradientIdeal.sig) → Buf (Elt Ideal) ℓ) (g : Dev Cert.FfnDownGradientIdeal.nD → PrngReg), Pre_FfnDownGradientIdeal m →
    θ_run (Cert.FfnDownGradientIdeal.defs (F := Ideal)) (onTc (τ := Cert.FfnDownGradientIdeal.τ) (Cert.FfnDownGradientIdeal.main (F := Ideal))) ⟨m, fun _ => 0, g⟩ (fun r => (∀ c : Dev Cert.FfnDownGradientIdeal.nD,
      r.2.mem ((c.tc : Thread Cert.FfnDownGradientIdeal.nD Cert.FfnDownGradientIdeal.τ).loc Cert.FfnDownGradientIdeal.main_arg0) = m ((c.tc : Thread Cert.FfnDownGradientIdeal.nD Cert.FfnDownGradientIdeal.τ).loc Cert.FfnDownGradientIdeal.main_arg0)
      ∧ r.2.mem ((c.tc : Thread Cert.FfnDownGradientIdeal.nD Cert.FfnDownGradientIdeal.τ).loc Cert.FfnDownGradientIdeal.main_arg1) = m ((c.tc : Thread Cert.FfnDownGradientIdeal.nD Cert.FfnDownGradientIdeal.τ).loc Cert.FfnDownGradientIdeal.main_arg1)
      ∧ r.2.mem ((c.tc : Thread Cert.FfnDownGradientIdeal.nD Cert.FfnDownGradientIdeal.τ).loc Cert.FfnDownGradientIdeal.main_arg2) = m ((c.tc : Thread Cert.FfnDownGradientIdeal.nD Cert.FfnDownGradientIdeal.τ).loc Cert.FfnDownGradientIdeal.main_arg2)
      ∧ r.2.mem ((c.tc : Thread Cert.FfnDownGradientIdeal.nD Cert.FfnDownGradientIdeal.τ).loc Cert.FfnDownGradientIdeal.main_arg3) = m ((c.tc : Thread Cert.FfnDownGradientIdeal.nD Cert.FfnDownGradientIdeal.τ).loc Cert.FfnDownGradientIdeal.main_arg3)
      ∧ r.2.mem ((c.tc : Thread Cert.FfnDownGradientIdeal.nD Cert.FfnDownGradientIdeal.τ).loc Cert.FfnDownGradientIdeal.main_arg4) = m ((c.tc : Thread Cert.FfnDownGradientIdeal.nD Cert.FfnDownGradientIdeal.τ).loc Cert.FfnDownGradientIdeal.main_arg4))
      ∧ r.2.sem = fun _ => 0)

def quiescent_FfnForward [hFfnForward : Cert.FfnForward.Facts] : Prop :=
  ∀ (m : (ℓ : Loc Cert.FfnForward.nD Cert.FfnForward.τ Cert.FfnForward.sig) → Buf (Elt Bits) ℓ) (g : Dev Cert.FfnForward.nD → PrngReg), Pre_FfnForward m →
    θ_run (Cert.FfnForward.defs (F := Bits)) (onTc (τ := Cert.FfnForward.τ) (Cert.FfnForward.main (F := Bits))) ⟨m, fun _ => 0, g⟩ (fun r => (∀ c : Dev Cert.FfnForward.nD,
      r.2.mem ((c.tc : Thread Cert.FfnForward.nD Cert.FfnForward.τ).loc Cert.FfnForward.main_arg0) = m ((c.tc : Thread Cert.FfnForward.nD Cert.FfnForward.τ).loc Cert.FfnForward.main_arg0)
      ∧ r.2.mem ((c.tc : Thread Cert.FfnForward.nD Cert.FfnForward.τ).loc Cert.FfnForward.main_arg1) = m ((c.tc : Thread Cert.FfnForward.nD Cert.FfnForward.τ).loc Cert.FfnForward.main_arg1)
      ∧ r.2.mem ((c.tc : Thread Cert.FfnForward.nD Cert.FfnForward.τ).loc Cert.FfnForward.main_arg2) = m ((c.tc : Thread Cert.FfnForward.nD Cert.FfnForward.τ).loc Cert.FfnForward.main_arg2)
      ∧ r.2.mem ((c.tc : Thread Cert.FfnForward.nD Cert.FfnForward.τ).loc Cert.FfnForward.main_arg3) = m ((c.tc : Thread Cert.FfnForward.nD Cert.FfnForward.τ).loc Cert.FfnForward.main_arg3)
      ∧ r.2.mem ((c.tc : Thread Cert.FfnForward.nD Cert.FfnForward.τ).loc Cert.FfnForward.main_arg4) = m ((c.tc : Thread Cert.FfnForward.nD Cert.FfnForward.τ).loc Cert.FfnForward.main_arg4))
      ∧ r.2.sem = fun _ => 0)

def quiescent_FfnForwardIdeal [hFfnForwardIdeal : Cert.FfnForwardIdeal.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg), Pre_FfnForwardIdeal m →
    θ_run (Cert.FfnForwardIdeal.defs (F := Ideal)) (onTc (τ := Cert.FfnForwardIdeal.τ) (Cert.FfnForwardIdeal.main (F := Ideal))) ⟨m, fun _ => 0, g⟩ (fun r => (∀ c : Dev Cert.FfnForwardIdeal.nD,
      r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
      ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
      ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
      ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
      ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4))
      ∧ r.2.sem = fun _ => 0)

def quiescent_FfnLayerIdeal [hFfnLayerIdeal : Cert.FfnLayerIdeal.Facts] : Prop :=
  ∀ (m : (ℓ : Loc Cert.FfnLayerIdeal.nD Cert.FfnLayerIdeal.τ Cert.FfnLayerIdeal.sig) → Buf (Elt Ideal) ℓ) (g : Dev Cert.FfnLayerIdeal.nD → PrngReg), Pre_FfnLayerIdeal m →
    θ_run (Cert.FfnLayerIdeal.defs (F := Ideal)) (onTc (τ := Cert.FfnLayerIdeal.τ) (Cert.FfnLayerIdeal.main (F := Ideal))) ⟨m, fun _ => 0, g⟩ (fun r => (∀ c : Dev Cert.FfnLayerIdeal.nD,
      r.2.mem ((c.tc : Thread Cert.FfnLayerIdeal.nD Cert.FfnLayerIdeal.τ).loc Cert.FfnLayerIdeal.main_arg0) = m ((c.tc : Thread Cert.FfnLayerIdeal.nD Cert.FfnLayerIdeal.τ).loc Cert.FfnLayerIdeal.main_arg0)
      ∧ r.2.mem ((c.tc : Thread Cert.FfnLayerIdeal.nD Cert.FfnLayerIdeal.τ).loc Cert.FfnLayerIdeal.main_arg1) = m ((c.tc : Thread Cert.FfnLayerIdeal.nD Cert.FfnLayerIdeal.τ).loc Cert.FfnLayerIdeal.main_arg1)
      ∧ r.2.mem ((c.tc : Thread Cert.FfnLayerIdeal.nD Cert.FfnLayerIdeal.τ).loc Cert.FfnLayerIdeal.main_arg2) = m ((c.tc : Thread Cert.FfnLayerIdeal.nD Cert.FfnLayerIdeal.τ).loc Cert.FfnLayerIdeal.main_arg2)
      ∧ r.2.mem ((c.tc : Thread Cert.FfnLayerIdeal.nD Cert.FfnLayerIdeal.τ).loc Cert.FfnLayerIdeal.main_arg3) = m ((c.tc : Thread Cert.FfnLayerIdeal.nD Cert.FfnLayerIdeal.τ).loc Cert.FfnLayerIdeal.main_arg3)
      ∧ r.2.mem ((c.tc : Thread Cert.FfnLayerIdeal.nD Cert.FfnLayerIdeal.τ).loc Cert.FfnLayerIdeal.main_arg4) = m ((c.tc : Thread Cert.FfnLayerIdeal.nD Cert.FfnLayerIdeal.τ).loc Cert.FfnLayerIdeal.main_arg4))
      ∧ r.2.sem = fun _ => 0)

def quiescent_FfnWeight [hFfnWeight : Cert.FfnWeight.Facts] : Prop :=
  ∀ (m : (ℓ : Loc Cert.FfnWeight.nD Cert.FfnWeight.τ Cert.FfnWeight.sig) → Buf (Elt Bits) ℓ) (g : Dev Cert.FfnWeight.nD → PrngReg), Pre_FfnWeight m →
    θ_run (Cert.FfnWeight.defs (F := Bits)) (onTc (τ := Cert.FfnWeight.τ) (Cert.FfnWeight.main (F := Bits))) ⟨m, fun _ => 0, g⟩ (fun r => (∀ c : Dev Cert.FfnWeight.nD,
      r.2.mem ((c.tc : Thread Cert.FfnWeight.nD Cert.FfnWeight.τ).loc Cert.FfnWeight.main_arg0) = m ((c.tc : Thread Cert.FfnWeight.nD Cert.FfnWeight.τ).loc Cert.FfnWeight.main_arg0)
      ∧ r.2.mem ((c.tc : Thread Cert.FfnWeight.nD Cert.FfnWeight.τ).loc Cert.FfnWeight.main_arg1) = m ((c.tc : Thread Cert.FfnWeight.nD Cert.FfnWeight.τ).loc Cert.FfnWeight.main_arg1)
      ∧ r.2.mem ((c.tc : Thread Cert.FfnWeight.nD Cert.FfnWeight.τ).loc Cert.FfnWeight.main_arg2) = m ((c.tc : Thread Cert.FfnWeight.nD Cert.FfnWeight.τ).loc Cert.FfnWeight.main_arg2)
      ∧ r.2.mem ((c.tc : Thread Cert.FfnWeight.nD Cert.FfnWeight.τ).loc Cert.FfnWeight.main_arg3) = m ((c.tc : Thread Cert.FfnWeight.nD Cert.FfnWeight.τ).loc Cert.FfnWeight.main_arg3))
      ∧ r.2.sem = fun _ => 0)

def quiescent_FfnWeightIdeal [hFfnWeightIdeal : Cert.FfnWeightIdeal.Facts] : Prop :=
  ∀ (m : (ℓ : Loc Cert.FfnWeightIdeal.nD Cert.FfnWeightIdeal.τ Cert.FfnWeightIdeal.sig) → Buf (Elt Ideal) ℓ) (g : Dev Cert.FfnWeightIdeal.nD → PrngReg), Pre_FfnWeightIdeal m →
    θ_run (Cert.FfnWeightIdeal.defs (F := Ideal)) (onTc (τ := Cert.FfnWeightIdeal.τ) (Cert.FfnWeightIdeal.main (F := Ideal))) ⟨m, fun _ => 0, g⟩ (fun r => (∀ c : Dev Cert.FfnWeightIdeal.nD,
      r.2.mem ((c.tc : Thread Cert.FfnWeightIdeal.nD Cert.FfnWeightIdeal.τ).loc Cert.FfnWeightIdeal.main_arg0) = m ((c.tc : Thread Cert.FfnWeightIdeal.nD Cert.FfnWeightIdeal.τ).loc Cert.FfnWeightIdeal.main_arg0)
      ∧ r.2.mem ((c.tc : Thread Cert.FfnWeightIdeal.nD Cert.FfnWeightIdeal.τ).loc Cert.FfnWeightIdeal.main_arg1) = m ((c.tc : Thread Cert.FfnWeightIdeal.nD Cert.FfnWeightIdeal.τ).loc Cert.FfnWeightIdeal.main_arg1)
      ∧ r.2.mem ((c.tc : Thread Cert.FfnWeightIdeal.nD Cert.FfnWeightIdeal.τ).loc Cert.FfnWeightIdeal.main_arg2) = m ((c.tc : Thread Cert.FfnWeightIdeal.nD Cert.FfnWeightIdeal.τ).loc Cert.FfnWeightIdeal.main_arg2)
      ∧ r.2.mem ((c.tc : Thread Cert.FfnWeightIdeal.nD Cert.FfnWeightIdeal.τ).loc Cert.FfnWeightIdeal.main_arg3) = m ((c.tc : Thread Cert.FfnWeightIdeal.nD Cert.FfnWeightIdeal.τ).loc Cert.FfnWeightIdeal.main_arg3))
      ∧ r.2.sem = fun _ => 0)

def quiescent_FfnWeightGradientIdeal [hFfnWeightGradientIdeal : Cert.FfnWeightGradientIdeal.Facts] : Prop :=
  ∀ (m : (ℓ : Loc Cert.FfnWeightGradientIdeal.nD Cert.FfnWeightGradientIdeal.τ Cert.FfnWeightGradientIdeal.sig) → Buf (Elt Ideal) ℓ) (g : Dev Cert.FfnWeightGradientIdeal.nD → PrngReg), Pre_FfnWeightGradientIdeal m →
    θ_run (Cert.FfnWeightGradientIdeal.defs (F := Ideal)) (onTc (τ := Cert.FfnWeightGradientIdeal.τ) (Cert.FfnWeightGradientIdeal.main (F := Ideal))) ⟨m, fun _ => 0, g⟩ (fun r => (∀ c : Dev Cert.FfnWeightGradientIdeal.nD,
      r.2.mem ((c.tc : Thread Cert.FfnWeightGradientIdeal.nD Cert.FfnWeightGradientIdeal.τ).loc Cert.FfnWeightGradientIdeal.main_arg0) = m ((c.tc : Thread Cert.FfnWeightGradientIdeal.nD Cert.FfnWeightGradientIdeal.τ).loc Cert.FfnWeightGradientIdeal.main_arg0)
      ∧ r.2.mem ((c.tc : Thread Cert.FfnWeightGradientIdeal.nD Cert.FfnWeightGradientIdeal.τ).loc Cert.FfnWeightGradientIdeal.main_arg1) = m ((c.tc : Thread Cert.FfnWeightGradientIdeal.nD Cert.FfnWeightGradientIdeal.τ).loc Cert.FfnWeightGradientIdeal.main_arg1)
      ∧ r.2.mem ((c.tc : Thread Cert.FfnWeightGradientIdeal.nD Cert.FfnWeightGradientIdeal.τ).loc Cert.FfnWeightGradientIdeal.main_arg2) = m ((c.tc : Thread Cert.FfnWeightGradientIdeal.nD Cert.FfnWeightGradientIdeal.τ).loc Cert.FfnWeightGradientIdeal.main_arg2)
      ∧ r.2.mem ((c.tc : Thread Cert.FfnWeightGradientIdeal.nD Cert.FfnWeightGradientIdeal.τ).loc Cert.FfnWeightGradientIdeal.main_arg3) = m ((c.tc : Thread Cert.FfnWeightGradientIdeal.nD Cert.FfnWeightGradientIdeal.τ).loc Cert.FfnWeightGradientIdeal.main_arg3))
      ∧ r.2.sem = fun _ => 0)

def quiescent_InWeights [hInWeights : Cert.InWeights.Facts] : Prop :=
  ∀ (m : (ℓ : Loc Cert.InWeights.nD Cert.InWeights.τ Cert.InWeights.sig) → Buf (Elt Bits) ℓ) (g : Dev Cert.InWeights.nD → PrngReg), Pre_InWeights m →
    θ_run (Cert.InWeights.defs (F := Bits)) (onTc (τ := Cert.InWeights.τ) (Cert.InWeights.main (F := Bits))) ⟨m, fun _ => 0, g⟩ (fun r => (∀ c : Dev Cert.InWeights.nD,
      r.2.mem ((c.tc : Thread Cert.InWeights.nD Cert.InWeights.τ).loc Cert.InWeights.main_arg0) = m ((c.tc : Thread Cert.InWeights.nD Cert.InWeights.τ).loc Cert.InWeights.main_arg0)
      ∧ r.2.mem ((c.tc : Thread Cert.InWeights.nD Cert.InWeights.τ).loc Cert.InWeights.main_arg1) = m ((c.tc : Thread Cert.InWeights.nD Cert.InWeights.τ).loc Cert.InWeights.main_arg1)
      ∧ r.2.mem ((c.tc : Thread Cert.InWeights.nD Cert.InWeights.τ).loc Cert.InWeights.main_arg2) = m ((c.tc : Thread Cert.InWeights.nD Cert.InWeights.τ).loc Cert.InWeights.main_arg2)
      ∧ r.2.mem ((c.tc : Thread Cert.InWeights.nD Cert.InWeights.τ).loc Cert.InWeights.main_arg3) = m ((c.tc : Thread Cert.InWeights.nD Cert.InWeights.τ).loc Cert.InWeights.main_arg3))
      ∧ r.2.sem = fun _ => 0)

def quiescent_InWeightsIdeal [hInWeightsIdeal : Cert.InWeightsIdeal.Facts] : Prop :=
  ∀ (m : (ℓ : Loc Cert.InWeightsIdeal.nD Cert.InWeightsIdeal.τ Cert.InWeightsIdeal.sig) → Buf (Elt Ideal) ℓ) (g : Dev Cert.InWeightsIdeal.nD → PrngReg), Pre_InWeightsIdeal m →
    θ_run (Cert.InWeightsIdeal.defs (F := Ideal)) (onTc (τ := Cert.InWeightsIdeal.τ) (Cert.InWeightsIdeal.main (F := Ideal))) ⟨m, fun _ => 0, g⟩ (fun r => (∀ c : Dev Cert.InWeightsIdeal.nD,
      r.2.mem ((c.tc : Thread Cert.InWeightsIdeal.nD Cert.InWeightsIdeal.τ).loc Cert.InWeightsIdeal.main_arg0) = m ((c.tc : Thread Cert.InWeightsIdeal.nD Cert.InWeightsIdeal.τ).loc Cert.InWeightsIdeal.main_arg0)
      ∧ r.2.mem ((c.tc : Thread Cert.InWeightsIdeal.nD Cert.InWeightsIdeal.τ).loc Cert.InWeightsIdeal.main_arg1) = m ((c.tc : Thread Cert.InWeightsIdeal.nD Cert.InWeightsIdeal.τ).loc Cert.InWeightsIdeal.main_arg1)
      ∧ r.2.mem ((c.tc : Thread Cert.InWeightsIdeal.nD Cert.InWeightsIdeal.τ).loc Cert.InWeightsIdeal.main_arg2) = m ((c.tc : Thread Cert.InWeightsIdeal.nD Cert.InWeightsIdeal.τ).loc Cert.InWeightsIdeal.main_arg2)
      ∧ r.2.mem ((c.tc : Thread Cert.InWeightsIdeal.nD Cert.InWeightsIdeal.τ).loc Cert.InWeightsIdeal.main_arg3) = m ((c.tc : Thread Cert.InWeightsIdeal.nD Cert.InWeightsIdeal.τ).loc Cert.InWeightsIdeal.main_arg3))
      ∧ r.2.sem = fun _ => 0)

def quiescent_InWeightsGradientIdeal [hInWeightsGradientIdeal : Cert.InWeightsGradientIdeal.Facts] : Prop :=
  ∀ (m : (ℓ : Loc Cert.InWeightsGradientIdeal.nD Cert.InWeightsGradientIdeal.τ Cert.InWeightsGradientIdeal.sig) → Buf (Elt Ideal) ℓ) (g : Dev Cert.InWeightsGradientIdeal.nD → PrngReg), Pre_InWeightsGradientIdeal m →
    θ_run (Cert.InWeightsGradientIdeal.defs (F := Ideal)) (onTc (τ := Cert.InWeightsGradientIdeal.τ) (Cert.InWeightsGradientIdeal.main (F := Ideal))) ⟨m, fun _ => 0, g⟩ (fun r => (∀ c : Dev Cert.InWeightsGradientIdeal.nD,
      r.2.mem ((c.tc : Thread Cert.InWeightsGradientIdeal.nD Cert.InWeightsGradientIdeal.τ).loc Cert.InWeightsGradientIdeal.main_arg0) = m ((c.tc : Thread Cert.InWeightsGradientIdeal.nD Cert.InWeightsGradientIdeal.τ).loc Cert.InWeightsGradientIdeal.main_arg0)
      ∧ r.2.mem ((c.tc : Thread Cert.InWeightsGradientIdeal.nD Cert.InWeightsGradientIdeal.τ).loc Cert.InWeightsGradientIdeal.main_arg1) = m ((c.tc : Thread Cert.InWeightsGradientIdeal.nD Cert.InWeightsGradientIdeal.τ).loc Cert.InWeightsGradientIdeal.main_arg1)
      ∧ r.2.mem ((c.tc : Thread Cert.InWeightsGradientIdeal.nD Cert.InWeightsGradientIdeal.τ).loc Cert.InWeightsGradientIdeal.main_arg2) = m ((c.tc : Thread Cert.InWeightsGradientIdeal.nD Cert.InWeightsGradientIdeal.τ).loc Cert.InWeightsGradientIdeal.main_arg2)
      ∧ r.2.mem ((c.tc : Thread Cert.InWeightsGradientIdeal.nD Cert.InWeightsGradientIdeal.τ).loc Cert.InWeightsGradientIdeal.main_arg3) = m ((c.tc : Thread Cert.InWeightsGradientIdeal.nD Cert.InWeightsGradientIdeal.τ).loc Cert.InWeightsGradientIdeal.main_arg3))
      ∧ r.2.sem = fun _ => 0)

def quiescent_OutForward [hOutForward : Cert.OutForward.Facts] : Prop :=
  ∀ (m : (ℓ : Loc Cert.OutForward.nD Cert.OutForward.τ Cert.OutForward.sig) → Buf (Elt Bits) ℓ) (g : Dev Cert.OutForward.nD → PrngReg), Pre_OutForward m →
    θ_run (Cert.OutForward.defs (F := Bits)) (onTc (τ := Cert.OutForward.τ) (Cert.OutForward.main (F := Bits))) ⟨m, fun _ => 0, g⟩ (fun r => (∀ c : Dev Cert.OutForward.nD,
      r.2.mem ((c.tc : Thread Cert.OutForward.nD Cert.OutForward.τ).loc Cert.OutForward.main_arg0) = m ((c.tc : Thread Cert.OutForward.nD Cert.OutForward.τ).loc Cert.OutForward.main_arg0)
      ∧ r.2.mem ((c.tc : Thread Cert.OutForward.nD Cert.OutForward.τ).loc Cert.OutForward.main_arg1) = m ((c.tc : Thread Cert.OutForward.nD Cert.OutForward.τ).loc Cert.OutForward.main_arg1)
      ∧ r.2.mem ((c.tc : Thread Cert.OutForward.nD Cert.OutForward.τ).loc Cert.OutForward.main_arg2) = m ((c.tc : Thread Cert.OutForward.nD Cert.OutForward.τ).loc Cert.OutForward.main_arg2)
      ∧ r.2.mem ((c.tc : Thread Cert.OutForward.nD Cert.OutForward.τ).loc Cert.OutForward.main_arg3) = m ((c.tc : Thread Cert.OutForward.nD Cert.OutForward.τ).loc Cert.OutForward.main_arg3))
      ∧ r.2.sem = fun _ => 0)

def quiescent_OutForwardIdeal [hOutForwardIdeal : Cert.OutForwardIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg), Pre_OutForwardIdeal m →
    θ_run (Cert.OutForwardIdeal.defs (F := Ideal)) (onTc (τ := Cert.OutForwardIdeal.τ) (Cert.OutForwardIdeal.main (F := Ideal))) ⟨m, fun _ => 0, g⟩ (fun r => (∀ c : Dev Cert.OutForwardIdeal.nD,
      r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
      ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1)
      ∧ r.2.mem ((c.tc : Thread Cert.OutForwardIdeal.nD Cert.OutForwardIdeal.τ).loc Cert.OutForwardIdeal.main_arg2) = m ((c.tc : Thread Cert.OutForwardIdeal.nD Cert.OutForwardIdeal.τ).loc Cert.OutForwardIdeal.main_arg2)
      ∧ r.2.mem ((c.tc : Thread Cert.OutForwardIdeal.nD Cert.OutForwardIdeal.τ).loc Cert.OutForwardIdeal.main_arg3) = m ((c.tc : Thread Cert.OutForwardIdeal.nD Cert.OutForwardIdeal.τ).loc Cert.OutForwardIdeal.main_arg3))
      ∧ r.2.sem = fun _ => 0)

def quiescent_OutLayerIdeal [hOutLayerIdeal : Cert.OutLayerIdeal.Facts] : Prop :=
  ∀ (m : (ℓ : Loc Cert.OutLayerIdeal.nD Cert.OutLayerIdeal.τ Cert.OutLayerIdeal.sig) → Buf (Elt Ideal) ℓ) (g : Dev Cert.OutLayerIdeal.nD → PrngReg), Pre_OutLayerIdeal m →
    θ_run (Cert.OutLayerIdeal.defs (F := Ideal)) (onTc (τ := Cert.OutLayerIdeal.τ) (Cert.OutLayerIdeal.main (F := Ideal))) ⟨m, fun _ => 0, g⟩ (fun r => (∀ c : Dev Cert.OutLayerIdeal.nD,
      r.2.mem ((c.tc : Thread Cert.OutLayerIdeal.nD Cert.OutLayerIdeal.τ).loc Cert.OutLayerIdeal.main_arg0) = m ((c.tc : Thread Cert.OutLayerIdeal.nD Cert.OutLayerIdeal.τ).loc Cert.OutLayerIdeal.main_arg0)
      ∧ r.2.mem ((c.tc : Thread Cert.OutLayerIdeal.nD Cert.OutLayerIdeal.τ).loc Cert.OutLayerIdeal.main_arg1) = m ((c.tc : Thread Cert.OutLayerIdeal.nD Cert.OutLayerIdeal.τ).loc Cert.OutLayerIdeal.main_arg1)
      ∧ r.2.mem ((c.tc : Thread Cert.OutLayerIdeal.nD Cert.OutLayerIdeal.τ).loc Cert.OutLayerIdeal.main_arg2) = m ((c.tc : Thread Cert.OutLayerIdeal.nD Cert.OutLayerIdeal.τ).loc Cert.OutLayerIdeal.main_arg2)
      ∧ r.2.mem ((c.tc : Thread Cert.OutLayerIdeal.nD Cert.OutLayerIdeal.τ).loc Cert.OutLayerIdeal.main_arg3) = m ((c.tc : Thread Cert.OutLayerIdeal.nD Cert.OutLayerIdeal.τ).loc Cert.OutLayerIdeal.main_arg3))
      ∧ r.2.sem = fun _ => 0)

def quiescent_OutBackward [hOutBackward : Cert.OutBackward.Facts] : Prop :=
  ∀ (m : (ℓ : Loc Cert.OutBackward.nD Cert.OutBackward.τ Cert.OutBackward.sig) → Buf (Elt Bits) ℓ) (g : Dev Cert.OutBackward.nD → PrngReg), Pre_OutBackward m →
    θ_run (Cert.OutBackward.defs (F := Bits)) (onTc (τ := Cert.OutBackward.τ) (Cert.OutBackward.main (F := Bits))) ⟨m, fun _ => 0, g⟩ (fun r => (∀ c : Dev Cert.OutBackward.nD,
      r.2.mem ((c.tc : Thread Cert.OutBackward.nD Cert.OutBackward.τ).loc Cert.OutBackward.main_arg0) = m ((c.tc : Thread Cert.OutBackward.nD Cert.OutBackward.τ).loc Cert.OutBackward.main_arg0)
      ∧ r.2.mem ((c.tc : Thread Cert.OutBackward.nD Cert.OutBackward.τ).loc Cert.OutBackward.main_arg1) = m ((c.tc : Thread Cert.OutBackward.nD Cert.OutBackward.τ).loc Cert.OutBackward.main_arg1)
      ∧ r.2.mem ((c.tc : Thread Cert.OutBackward.nD Cert.OutBackward.τ).loc Cert.OutBackward.main_arg2) = m ((c.tc : Thread Cert.OutBackward.nD Cert.OutBackward.τ).loc Cert.OutBackward.main_arg2)
      ∧ r.2.mem ((c.tc : Thread Cert.OutBackward.nD Cert.OutBackward.τ).loc Cert.OutBackward.main_arg3) = m ((c.tc : Thread Cert.OutBackward.nD Cert.OutBackward.τ).loc Cert.OutBackward.main_arg3)
      ∧ r.2.mem ((c.tc : Thread Cert.OutBackward.nD Cert.OutBackward.τ).loc Cert.OutBackward.main_arg4) = m ((c.tc : Thread Cert.OutBackward.nD Cert.OutBackward.τ).loc Cert.OutBackward.main_arg4))
      ∧ r.2.sem = fun _ => 0)

def quiescent_OutBackwardIdeal [hOutBackwardIdeal : Cert.OutBackwardIdeal.Facts] : Prop :=
  ∀ (m : (ℓ : Loc Cert.OutBackwardIdeal.nD Cert.OutBackwardIdeal.τ Cert.OutBackwardIdeal.sig) → Buf (Elt Ideal) ℓ) (g : Dev Cert.OutBackwardIdeal.nD → PrngReg), Pre_OutBackwardIdeal m →
    θ_run (Cert.OutBackwardIdeal.defs (F := Ideal)) (onTc (τ := Cert.OutBackwardIdeal.τ) (Cert.OutBackwardIdeal.main (F := Ideal))) ⟨m, fun _ => 0, g⟩ (fun r => (∀ c : Dev Cert.OutBackwardIdeal.nD,
      r.2.mem ((c.tc : Thread Cert.OutBackwardIdeal.nD Cert.OutBackwardIdeal.τ).loc Cert.OutBackwardIdeal.main_arg0) = m ((c.tc : Thread Cert.OutBackwardIdeal.nD Cert.OutBackwardIdeal.τ).loc Cert.OutBackwardIdeal.main_arg0)
      ∧ r.2.mem ((c.tc : Thread Cert.OutBackwardIdeal.nD Cert.OutBackwardIdeal.τ).loc Cert.OutBackwardIdeal.main_arg1) = m ((c.tc : Thread Cert.OutBackwardIdeal.nD Cert.OutBackwardIdeal.τ).loc Cert.OutBackwardIdeal.main_arg1)
      ∧ r.2.mem ((c.tc : Thread Cert.OutBackwardIdeal.nD Cert.OutBackwardIdeal.τ).loc Cert.OutBackwardIdeal.main_arg2) = m ((c.tc : Thread Cert.OutBackwardIdeal.nD Cert.OutBackwardIdeal.τ).loc Cert.OutBackwardIdeal.main_arg2)
      ∧ r.2.mem ((c.tc : Thread Cert.OutBackwardIdeal.nD Cert.OutBackwardIdeal.τ).loc Cert.OutBackwardIdeal.main_arg3) = m ((c.tc : Thread Cert.OutBackwardIdeal.nD Cert.OutBackwardIdeal.τ).loc Cert.OutBackwardIdeal.main_arg3)
      ∧ r.2.mem ((c.tc : Thread Cert.OutBackwardIdeal.nD Cert.OutBackwardIdeal.τ).loc Cert.OutBackwardIdeal.main_arg4) = m ((c.tc : Thread Cert.OutBackwardIdeal.nD Cert.OutBackwardIdeal.τ).loc Cert.OutBackwardIdeal.main_arg4))
      ∧ r.2.sem = fun _ => 0)

def quiescent_OutGradientIdeal [hOutGradientIdeal : Cert.OutGradientIdeal.Facts] : Prop :=
  ∀ (m : (ℓ : Loc Cert.OutGradientIdeal.nD Cert.OutGradientIdeal.τ Cert.OutGradientIdeal.sig) → Buf (Elt Ideal) ℓ) (g : Dev Cert.OutGradientIdeal.nD → PrngReg), Pre_OutGradientIdeal m →
    θ_run (Cert.OutGradientIdeal.defs (F := Ideal)) (onTc (τ := Cert.OutGradientIdeal.τ) (Cert.OutGradientIdeal.main (F := Ideal))) ⟨m, fun _ => 0, g⟩ (fun r => (∀ c : Dev Cert.OutGradientIdeal.nD,
      r.2.mem ((c.tc : Thread Cert.OutGradientIdeal.nD Cert.OutGradientIdeal.τ).loc Cert.OutGradientIdeal.main_arg0) = m ((c.tc : Thread Cert.OutGradientIdeal.nD Cert.OutGradientIdeal.τ).loc Cert.OutGradientIdeal.main_arg0)
      ∧ r.2.mem ((c.tc : Thread Cert.OutGradientIdeal.nD Cert.OutGradientIdeal.τ).loc Cert.OutGradientIdeal.main_arg1) = m ((c.tc : Thread Cert.OutGradientIdeal.nD Cert.OutGradientIdeal.τ).loc Cert.OutGradientIdeal.main_arg1)
      ∧ r.2.mem ((c.tc : Thread Cert.OutGradientIdeal.nD Cert.OutGradientIdeal.τ).loc Cert.OutGradientIdeal.main_arg2) = m ((c.tc : Thread Cert.OutGradientIdeal.nD Cert.OutGradientIdeal.τ).loc Cert.OutGradientIdeal.main_arg2)
      ∧ r.2.mem ((c.tc : Thread Cert.OutGradientIdeal.nD Cert.OutGradientIdeal.τ).loc Cert.OutGradientIdeal.main_arg3) = m ((c.tc : Thread Cert.OutGradientIdeal.nD Cert.OutGradientIdeal.τ).loc Cert.OutGradientIdeal.main_arg3)
      ∧ r.2.mem ((c.tc : Thread Cert.OutGradientIdeal.nD Cert.OutGradientIdeal.τ).loc Cert.OutGradientIdeal.main_arg4) = m ((c.tc : Thread Cert.OutGradientIdeal.nD Cert.OutGradientIdeal.τ).loc Cert.OutGradientIdeal.main_arg4))
      ∧ r.2.sem = fun _ => 0)

def quiescent_OutWeights [hOutWeights : Cert.OutWeights.Facts] : Prop :=
  ∀ (m : (ℓ : Loc Cert.OutWeights.nD Cert.OutWeights.τ Cert.OutWeights.sig) → Buf (Elt Bits) ℓ) (g : Dev Cert.OutWeights.nD → PrngReg), Pre_OutWeights m →
    θ_run (Cert.OutWeights.defs (F := Bits)) (onTc (τ := Cert.OutWeights.τ) (Cert.OutWeights.main (F := Bits))) ⟨m, fun _ => 0, g⟩ (fun r => (∀ c : Dev Cert.OutWeights.nD,
      r.2.mem ((c.tc : Thread Cert.OutWeights.nD Cert.OutWeights.τ).loc Cert.OutWeights.main_arg0) = m ((c.tc : Thread Cert.OutWeights.nD Cert.OutWeights.τ).loc Cert.OutWeights.main_arg0)
      ∧ r.2.mem ((c.tc : Thread Cert.OutWeights.nD Cert.OutWeights.τ).loc Cert.OutWeights.main_arg1) = m ((c.tc : Thread Cert.OutWeights.nD Cert.OutWeights.τ).loc Cert.OutWeights.main_arg1)
      ∧ r.2.mem ((c.tc : Thread Cert.OutWeights.nD Cert.OutWeights.τ).loc Cert.OutWeights.main_arg2) = m ((c.tc : Thread Cert.OutWeights.nD Cert.OutWeights.τ).loc Cert.OutWeights.main_arg2)
      ∧ r.2.mem ((c.tc : Thread Cert.OutWeights.nD Cert.OutWeights.τ).loc Cert.OutWeights.main_arg3) = m ((c.tc : Thread Cert.OutWeights.nD Cert.OutWeights.τ).loc Cert.OutWeights.main_arg3)
      ∧ r.2.mem ((c.tc : Thread Cert.OutWeights.nD Cert.OutWeights.τ).loc Cert.OutWeights.main_arg4) = m ((c.tc : Thread Cert.OutWeights.nD Cert.OutWeights.τ).loc Cert.OutWeights.main_arg4))
      ∧ r.2.sem = fun _ => 0)

def quiescent_OutWeightsIdeal [hOutWeightsIdeal : Cert.OutWeightsIdeal.Facts] : Prop :=
  ∀ (m : (ℓ : Loc Cert.OutWeightsIdeal.nD Cert.OutWeightsIdeal.τ Cert.OutWeightsIdeal.sig) → Buf (Elt Ideal) ℓ) (g : Dev Cert.OutWeightsIdeal.nD → PrngReg), Pre_OutWeightsIdeal m →
    θ_run (Cert.OutWeightsIdeal.defs (F := Ideal)) (onTc (τ := Cert.OutWeightsIdeal.τ) (Cert.OutWeightsIdeal.main (F := Ideal))) ⟨m, fun _ => 0, g⟩ (fun r => (∀ c : Dev Cert.OutWeightsIdeal.nD,
      r.2.mem ((c.tc : Thread Cert.OutWeightsIdeal.nD Cert.OutWeightsIdeal.τ).loc Cert.OutWeightsIdeal.main_arg0) = m ((c.tc : Thread Cert.OutWeightsIdeal.nD Cert.OutWeightsIdeal.τ).loc Cert.OutWeightsIdeal.main_arg0)
      ∧ r.2.mem ((c.tc : Thread Cert.OutWeightsIdeal.nD Cert.OutWeightsIdeal.τ).loc Cert.OutWeightsIdeal.main_arg1) = m ((c.tc : Thread Cert.OutWeightsIdeal.nD Cert.OutWeightsIdeal.τ).loc Cert.OutWeightsIdeal.main_arg1)
      ∧ r.2.mem ((c.tc : Thread Cert.OutWeightsIdeal.nD Cert.OutWeightsIdeal.τ).loc Cert.OutWeightsIdeal.main_arg2) = m ((c.tc : Thread Cert.OutWeightsIdeal.nD Cert.OutWeightsIdeal.τ).loc Cert.OutWeightsIdeal.main_arg2)
      ∧ r.2.mem ((c.tc : Thread Cert.OutWeightsIdeal.nD Cert.OutWeightsIdeal.τ).loc Cert.OutWeightsIdeal.main_arg3) = m ((c.tc : Thread Cert.OutWeightsIdeal.nD Cert.OutWeightsIdeal.τ).loc Cert.OutWeightsIdeal.main_arg3)
      ∧ r.2.mem ((c.tc : Thread Cert.OutWeightsIdeal.nD Cert.OutWeightsIdeal.τ).loc Cert.OutWeightsIdeal.main_arg4) = m ((c.tc : Thread Cert.OutWeightsIdeal.nD Cert.OutWeightsIdeal.τ).loc Cert.OutWeightsIdeal.main_arg4))
      ∧ r.2.sem = fun _ => 0)

def quiescent_OutWeightsGradientIdeal [hOutWeightsGradientIdeal : Cert.OutWeightsGradientIdeal.Facts] : Prop :=
  ∀ (m : (ℓ : Loc Cert.OutWeightsGradientIdeal.nD Cert.OutWeightsGradientIdeal.τ Cert.OutWeightsGradientIdeal.sig) → Buf (Elt Ideal) ℓ) (g : Dev Cert.OutWeightsGradientIdeal.nD → PrngReg), Pre_OutWeightsGradientIdeal m →
    θ_run (Cert.OutWeightsGradientIdeal.defs (F := Ideal)) (onTc (τ := Cert.OutWeightsGradientIdeal.τ) (Cert.OutWeightsGradientIdeal.main (F := Ideal))) ⟨m, fun _ => 0, g⟩ (fun r => (∀ c : Dev Cert.OutWeightsGradientIdeal.nD,
      r.2.mem ((c.tc : Thread Cert.OutWeightsGradientIdeal.nD Cert.OutWeightsGradientIdeal.τ).loc Cert.OutWeightsGradientIdeal.main_arg0) = m ((c.tc : Thread Cert.OutWeightsGradientIdeal.nD Cert.OutWeightsGradientIdeal.τ).loc Cert.OutWeightsGradientIdeal.main_arg0)
      ∧ r.2.mem ((c.tc : Thread Cert.OutWeightsGradientIdeal.nD Cert.OutWeightsGradientIdeal.τ).loc Cert.OutWeightsGradientIdeal.main_arg1) = m ((c.tc : Thread Cert.OutWeightsGradientIdeal.nD Cert.OutWeightsGradientIdeal.τ).loc Cert.OutWeightsGradientIdeal.main_arg1)
      ∧ r.2.mem ((c.tc : Thread Cert.OutWeightsGradientIdeal.nD Cert.OutWeightsGradientIdeal.τ).loc Cert.OutWeightsGradientIdeal.main_arg2) = m ((c.tc : Thread Cert.OutWeightsGradientIdeal.nD Cert.OutWeightsGradientIdeal.τ).loc Cert.OutWeightsGradientIdeal.main_arg2)
      ∧ r.2.mem ((c.tc : Thread Cert.OutWeightsGradientIdeal.nD Cert.OutWeightsGradientIdeal.τ).loc Cert.OutWeightsGradientIdeal.main_arg3) = m ((c.tc : Thread Cert.OutWeightsGradientIdeal.nD Cert.OutWeightsGradientIdeal.τ).loc Cert.OutWeightsGradientIdeal.main_arg3)
      ∧ r.2.mem ((c.tc : Thread Cert.OutWeightsGradientIdeal.nD Cert.OutWeightsGradientIdeal.τ).loc Cert.OutWeightsGradientIdeal.main_arg4) = m ((c.tc : Thread Cert.OutWeightsGradientIdeal.nD Cert.OutWeightsGradientIdeal.τ).loc Cert.OutWeightsGradientIdeal.main_arg4))
      ∧ r.2.sem = fun _ => 0)

def quiescent_HeadForward [hHeadForward : Cert.HeadForward.Facts] : Prop :=
  ∀ (m : (ℓ : Loc Cert.HeadForward.nD Cert.HeadForward.τ Cert.HeadForward.sig) → Buf (Elt Bits) ℓ) (g : Dev Cert.HeadForward.nD → PrngReg), Pre_HeadForward m →
    θ_run (Cert.HeadForward.defs (F := Bits)) (onTc (τ := Cert.HeadForward.τ) (Cert.HeadForward.main (F := Bits))) ⟨m, fun _ => 0, g⟩ (fun r => (∀ c : Dev Cert.HeadForward.nD,
      r.2.mem ((c.tc : Thread Cert.HeadForward.nD Cert.HeadForward.τ).loc Cert.HeadForward.main_arg0) = m ((c.tc : Thread Cert.HeadForward.nD Cert.HeadForward.τ).loc Cert.HeadForward.main_arg0)
      ∧ r.2.mem ((c.tc : Thread Cert.HeadForward.nD Cert.HeadForward.τ).loc Cert.HeadForward.main_arg1) = m ((c.tc : Thread Cert.HeadForward.nD Cert.HeadForward.τ).loc Cert.HeadForward.main_arg1)
      ∧ r.2.mem ((c.tc : Thread Cert.HeadForward.nD Cert.HeadForward.τ).loc Cert.HeadForward.main_arg2) = m ((c.tc : Thread Cert.HeadForward.nD Cert.HeadForward.τ).loc Cert.HeadForward.main_arg2)
      ∧ r.2.mem ((c.tc : Thread Cert.HeadForward.nD Cert.HeadForward.τ).loc Cert.HeadForward.main_arg3) = m ((c.tc : Thread Cert.HeadForward.nD Cert.HeadForward.τ).loc Cert.HeadForward.main_arg3)
      ∧ r.2.mem ((c.tc : Thread Cert.HeadForward.nD Cert.HeadForward.τ).loc Cert.HeadForward.main_arg4) = m ((c.tc : Thread Cert.HeadForward.nD Cert.HeadForward.τ).loc Cert.HeadForward.main_arg4)
      ∧ r.2.mem ((c.tc : Thread Cert.HeadForward.nD Cert.HeadForward.τ).loc Cert.HeadForward.main_arg5) = m ((c.tc : Thread Cert.HeadForward.nD Cert.HeadForward.τ).loc Cert.HeadForward.main_arg5)
      ∧ r.2.mem ((c.tc : Thread Cert.HeadForward.nD Cert.HeadForward.τ).loc Cert.HeadForward.main_arg6) = m ((c.tc : Thread Cert.HeadForward.nD Cert.HeadForward.τ).loc Cert.HeadForward.main_arg6))
      ∧ r.2.sem = fun _ => 0)

def quiescent_HeadForwardIdeal [hHeadForwardIdeal : Cert.HeadForwardIdeal.Facts] : Prop :=
  ∀ (m : (ℓ : Loc Cert.HeadForwardIdeal.nD Cert.HeadForwardIdeal.τ Cert.HeadForwardIdeal.sig) → Buf (Elt Ideal) ℓ) (g : Dev Cert.HeadForwardIdeal.nD → PrngReg), Pre_HeadForwardIdeal m →
    θ_run (Cert.HeadForwardIdeal.defs (F := Ideal)) (onTc (τ := Cert.HeadForwardIdeal.τ) (Cert.HeadForwardIdeal.main (F := Ideal))) ⟨m, fun _ => 0, g⟩ (fun r => (∀ c : Dev Cert.HeadForwardIdeal.nD,
      r.2.mem ((c.tc : Thread Cert.HeadForwardIdeal.nD Cert.HeadForwardIdeal.τ).loc Cert.HeadForwardIdeal.main_arg0) = m ((c.tc : Thread Cert.HeadForwardIdeal.nD Cert.HeadForwardIdeal.τ).loc Cert.HeadForwardIdeal.main_arg0)
      ∧ r.2.mem ((c.tc : Thread Cert.HeadForwardIdeal.nD Cert.HeadForwardIdeal.τ).loc Cert.HeadForwardIdeal.main_arg1) = m ((c.tc : Thread Cert.HeadForwardIdeal.nD Cert.HeadForwardIdeal.τ).loc Cert.HeadForwardIdeal.main_arg1)
      ∧ r.2.mem ((c.tc : Thread Cert.HeadForwardIdeal.nD Cert.HeadForwardIdeal.τ).loc Cert.HeadForwardIdeal.main_arg2) = m ((c.tc : Thread Cert.HeadForwardIdeal.nD Cert.HeadForwardIdeal.τ).loc Cert.HeadForwardIdeal.main_arg2)
      ∧ r.2.mem ((c.tc : Thread Cert.HeadForwardIdeal.nD Cert.HeadForwardIdeal.τ).loc Cert.HeadForwardIdeal.main_arg3) = m ((c.tc : Thread Cert.HeadForwardIdeal.nD Cert.HeadForwardIdeal.τ).loc Cert.HeadForwardIdeal.main_arg3)
      ∧ r.2.mem ((c.tc : Thread Cert.HeadForwardIdeal.nD Cert.HeadForwardIdeal.τ).loc Cert.HeadForwardIdeal.main_arg4) = m ((c.tc : Thread Cert.HeadForwardIdeal.nD Cert.HeadForwardIdeal.τ).loc Cert.HeadForwardIdeal.main_arg4)
      ∧ r.2.mem ((c.tc : Thread Cert.HeadForwardIdeal.nD Cert.HeadForwardIdeal.τ).loc Cert.HeadForwardIdeal.main_arg5) = m ((c.tc : Thread Cert.HeadForwardIdeal.nD Cert.HeadForwardIdeal.τ).loc Cert.HeadForwardIdeal.main_arg5)
      ∧ r.2.mem ((c.tc : Thread Cert.HeadForwardIdeal.nD Cert.HeadForwardIdeal.τ).loc Cert.HeadForwardIdeal.main_arg6) = m ((c.tc : Thread Cert.HeadForwardIdeal.nD Cert.HeadForwardIdeal.τ).loc Cert.HeadForwardIdeal.main_arg6))
      ∧ r.2.sem = fun _ => 0)

def quiescent_HeadGradientIdeal [hHeadGradientIdeal : Cert.HeadGradientIdeal.Facts] : Prop :=
  ∀ (m : (ℓ : Loc Cert.HeadGradientIdeal.nD Cert.HeadGradientIdeal.τ Cert.HeadGradientIdeal.sig) → Buf (Elt Ideal) ℓ) (g : Dev Cert.HeadGradientIdeal.nD → PrngReg), Pre_HeadGradientIdeal m →
    θ_run (Cert.HeadGradientIdeal.defs (F := Ideal)) (onTc (τ := Cert.HeadGradientIdeal.τ) (Cert.HeadGradientIdeal.main (F := Ideal))) ⟨m, fun _ => 0, g⟩ (fun r => (∀ c : Dev Cert.HeadGradientIdeal.nD,
      r.2.mem ((c.tc : Thread Cert.HeadGradientIdeal.nD Cert.HeadGradientIdeal.τ).loc Cert.HeadGradientIdeal.main_arg0) = m ((c.tc : Thread Cert.HeadGradientIdeal.nD Cert.HeadGradientIdeal.τ).loc Cert.HeadGradientIdeal.main_arg0)
      ∧ r.2.mem ((c.tc : Thread Cert.HeadGradientIdeal.nD Cert.HeadGradientIdeal.τ).loc Cert.HeadGradientIdeal.main_arg1) = m ((c.tc : Thread Cert.HeadGradientIdeal.nD Cert.HeadGradientIdeal.τ).loc Cert.HeadGradientIdeal.main_arg1)
      ∧ r.2.mem ((c.tc : Thread Cert.HeadGradientIdeal.nD Cert.HeadGradientIdeal.τ).loc Cert.HeadGradientIdeal.main_arg2) = m ((c.tc : Thread Cert.HeadGradientIdeal.nD Cert.HeadGradientIdeal.τ).loc Cert.HeadGradientIdeal.main_arg2)
      ∧ r.2.mem ((c.tc : Thread Cert.HeadGradientIdeal.nD Cert.HeadGradientIdeal.τ).loc Cert.HeadGradientIdeal.main_arg3) = m ((c.tc : Thread Cert.HeadGradientIdeal.nD Cert.HeadGradientIdeal.τ).loc Cert.HeadGradientIdeal.main_arg3)
      ∧ r.2.mem ((c.tc : Thread Cert.HeadGradientIdeal.nD Cert.HeadGradientIdeal.τ).loc Cert.HeadGradientIdeal.main_arg4) = m ((c.tc : Thread Cert.HeadGradientIdeal.nD Cert.HeadGradientIdeal.τ).loc Cert.HeadGradientIdeal.main_arg4)
      ∧ r.2.mem ((c.tc : Thread Cert.HeadGradientIdeal.nD Cert.HeadGradientIdeal.τ).loc Cert.HeadGradientIdeal.main_arg5) = m ((c.tc : Thread Cert.HeadGradientIdeal.nD Cert.HeadGradientIdeal.τ).loc Cert.HeadGradientIdeal.main_arg5)
      ∧ r.2.mem ((c.tc : Thread Cert.HeadGradientIdeal.nD Cert.HeadGradientIdeal.τ).loc Cert.HeadGradientIdeal.main_arg6) = m ((c.tc : Thread Cert.HeadGradientIdeal.nD Cert.HeadGradientIdeal.τ).loc Cert.HeadGradientIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v68_0)) (v1 : (c : Dev Cert.KernelIdeal.nD) → Buf (Elt Ideal) ((c.tc : Thread Cert.KernelIdeal.nD Cert.KernelIdeal.τ).loc Cert.KernelIdeal.main_v68_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68_0) = v0 c
          ∧ r.2.mem ((c.tc : Thread Cert.KernelIdeal.nD Cert.KernelIdeal.τ).loc Cert.KernelIdeal.main_v68_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfnBackward_FfnBackwardIdeal : Prop :=
  True

def algebraic_FfnBackwardIdeal_FfnGradientIdeal_pre_finite [hFfnBackwardIdeal : Cert.FfnBackwardIdeal.Facts] [hFfnGradientIdeal : Cert.FfnGradientIdeal.Facts] [hPre_finite : Cert.Pre_finite.Facts] : Prop :=
  ∀ (m : (ℓ : Loc Cert.FfnBackwardIdeal.nD Cert.FfnBackwardIdeal.τ Cert.FfnBackwardIdeal.sig) → Buf (Elt Ideal) ℓ) (g : Dev Cert.FfnBackwardIdeal.nD → PrngReg)
    (m' : (ℓ : Loc Cert.FfnGradientIdeal.nD Cert.FfnGradientIdeal.τ Cert.FfnGradientIdeal.sig) → Buf (Elt Ideal) ℓ) (g' : Dev Cert.FfnGradientIdeal.nD → PrngReg), Pre_FfnBackwardIdeal_finite m →
    (∀ c : Dev Cert.FfnBackwardIdeal.nD,
      m' ((c.tc : Thread Cert.FfnGradientIdeal.nD Cert.FfnGradientIdeal.τ).loc Cert.FfnGradientIdeal.main_arg0) = m ((c.tc : Thread Cert.FfnBackwardIdeal.nD Cert.FfnBackwardIdeal.τ).loc Cert.FfnBackwardIdeal.main_arg0)
      ∧ m' ((c.tc : Thread Cert.FfnGradientIdeal.nD Cert.FfnGradientIdeal.τ).loc Cert.FfnGradientIdeal.main_arg1) = m ((c.tc : Thread Cert.FfnBackwardIdeal.nD Cert.FfnBackwardIdeal.τ).loc Cert.FfnBackwardIdeal.main_arg1)
      ∧ m' ((c.tc : Thread Cert.FfnGradientIdeal.nD Cert.FfnGradientIdeal.τ).loc Cert.FfnGradientIdeal.main_arg2) = m ((c.tc : Thread Cert.FfnBackwardIdeal.nD Cert.FfnBackwardIdeal.τ).loc Cert.FfnBackwardIdeal.main_arg2)
      ∧ m' ((c.tc : Thread Cert.FfnGradientIdeal.nD Cert.FfnGradientIdeal.τ).loc Cert.FfnGradientIdeal.main_arg3) = m ((c.tc : Thread Cert.FfnBackwardIdeal.nD Cert.FfnBackwardIdeal.τ).loc Cert.FfnBackwardIdeal.main_arg3)
      ∧ m' ((c.tc : Thread Cert.FfnGradientIdeal.nD Cert.FfnGradientIdeal.τ).loc Cert.FfnGradientIdeal.main_arg4) = m ((c.tc : Thread Cert.FfnBackwardIdeal.nD Cert.FfnBackwardIdeal.τ).loc Cert.FfnBackwardIdeal.main_arg4)
      ∧ m' ((c.tc : Thread Cert.FfnGradientIdeal.nD Cert.FfnGradientIdeal.τ).loc Cert.FfnGradientIdeal.main_arg5) = m ((c.tc : Thread Cert.FfnBackwardIdeal.nD Cert.FfnBackwardIdeal.τ).loc Cert.FfnBackwardIdeal.main_arg5)) →
    ∃ (v0 : (c : Dev Cert.FfnBackwardIdeal.nD) → Buf (Elt Ideal) ((c.tc : Thread Cert.FfnBackwardIdeal.nD Cert.FfnBackwardIdeal.τ).loc Cert.FfnBackwardIdeal.main_v27_0)) (v1 : (c : Dev Cert.FfnBackwardIdeal.nD) → Buf (Elt Ideal) ((c.tc : Thread Cert.FfnBackwardIdeal.nD Cert.FfnBackwardIdeal.τ).loc Cert.FfnBackwardIdeal.main_v27_1)) (v2 : (c : Dev Cert.FfnBackwardIdeal.nD) → Buf (Elt Ideal) ((c.tc : Thread Cert.FfnBackwardIdeal.nD Cert.FfnBackwardIdeal.τ).loc Cert.FfnBackwardIdeal.main_v27_2)),
      θ_run (Cert.FfnBackwardIdeal.defs (F := Ideal)) (onTc (τ := Cert.FfnBackwardIdeal.τ) (Cert.FfnBackwardIdeal.main (F := Ideal))) ⟨m, fun _ => 0, g⟩ (fun r => ∀ c : Dev Cert.FfnBackwardIdeal.nD,
          r.2.mem ((c.tc : Thread Cert.FfnBackwardIdeal.nD Cert.FfnBackwardIdeal.τ).loc Cert.FfnBackwardIdeal.main_v27_0) = v0 c
          ∧ r.2.mem ((c.tc : Thread Cert.FfnBackwardIdeal.nD Cert.FfnBackwardIdeal.τ).loc Cert.FfnBackwardIdeal.main_v27_1) = v1 c
          ∧ r.2.mem ((c.tc : Thread Cert.FfnBackwardIdeal.nD Cert.FfnBackwardIdeal.τ).loc Cert.FfnBackwardIdeal.main_v27_2) = v2 c
          ∧ r.2.mem ((c.tc : Thread Cert.FfnBackwardIdeal.nD Cert.FfnBackwardIdeal.τ).loc Cert.FfnBackwardIdeal.main_arg0) = m ((c.tc : Thread Cert.FfnBackwardIdeal.nD Cert.FfnBackwardIdeal.τ).loc Cert.FfnBackwardIdeal.main_arg0)
          ∧ r.2.mem ((c.tc : Thread Cert.FfnBackwardIdeal.nD Cert.FfnBackwardIdeal.τ).loc Cert.FfnBackwardIdeal.main_arg1) = m ((c.tc : Thread Cert.FfnBackwardIdeal.nD Cert.FfnBackwardIdeal.τ).loc Cert.FfnBackwardIdeal.main_arg1)
          ∧ r.2.mem ((c.tc : Thread Cert.FfnBackwardIdeal.nD Cert.FfnBackwardIdeal.τ).loc Cert.FfnBackwardIdeal.main_arg2) = m ((c.tc : Thread Cert.FfnBackwardIdeal.nD Cert.FfnBackwardIdeal.τ).loc Cert.FfnBackwardIdeal.main_arg2)
          ∧ r.2.mem ((c.tc : Thread Cert.FfnBackwardIdeal.nD Cert.FfnBackwardIdeal.τ).loc Cert.FfnBackwardIdeal.main_arg3) = m ((c.tc : Thread Cert.FfnBackwardIdeal.nD Cert.FfnBackwardIdeal.τ).loc Cert.FfnBackwardIdeal.main_arg3)
          ∧ r.2.mem ((c.tc : Thread Cert.FfnBackwardIdeal.nD Cert.FfnBackwardIdeal.τ).loc Cert.FfnBackwardIdeal.main_arg4) = m ((c.tc : Thread Cert.FfnBackwardIdeal.nD Cert.FfnBackwardIdeal.τ).loc Cert.FfnBackwardIdeal.main_arg4)
          ∧ r.2.mem ((c.tc : Thread Cert.FfnBackwardIdeal.nD Cert.FfnBackwardIdeal.τ).loc Cert.FfnBackwardIdeal.main_arg5) = m ((c.tc : Thread Cert.FfnBackwardIdeal.nD Cert.FfnBackwardIdeal.τ).loc Cert.FfnBackwardIdeal.main_arg5))
      ∧ θ_run (Cert.FfnGradientIdeal.defs (F := Ideal)) (onTc (τ := Cert.FfnGradientIdeal.τ) (Cert.FfnGradientIdeal.main (F := Ideal))) ⟨m', fun _ => 0, g'⟩ (fun r => ∀ c : Dev Cert.FfnGradientIdeal.nD,
          r.2.mem ((c.tc : Thread Cert.FfnGradientIdeal.nD Cert.FfnGradientIdeal.τ).loc Cert.FfnGradientIdeal.main_v49) = v0 c
          ∧ r.2.mem ((c.tc : Thread Cert.FfnGradientIdeal.nD Cert.FfnGradientIdeal.τ).loc Cert.FfnGradientIdeal.main_v50) = v1 c
          ∧ r.2.mem ((c.tc : Thread Cert.FfnGradientIdeal.nD Cert.FfnGradientIdeal.τ).loc Cert.FfnGradientIdeal.main_v51) = v2 c
          ∧ r.2.mem ((c.tc : Thread Cert.FfnGradientIdeal.nD Cert.FfnGradientIdeal.τ).loc Cert.FfnGradientIdeal.main_arg0) = m' ((c.tc : Thread Cert.FfnGradientIdeal.nD Cert.FfnGradientIdeal.τ).loc Cert.FfnGradientIdeal.main_arg0)
          ∧ r.2.mem ((c.tc : Thread Cert.FfnGradientIdeal.nD Cert.FfnGradientIdeal.τ).loc Cert.FfnGradientIdeal.main_arg1) = m' ((c.tc : Thread Cert.FfnGradientIdeal.nD Cert.FfnGradientIdeal.τ).loc Cert.FfnGradientIdeal.main_arg1)
          ∧ r.2.mem ((c.tc : Thread Cert.FfnGradientIdeal.nD Cert.FfnGradientIdeal.τ).loc Cert.FfnGradientIdeal.main_arg2) = m' ((c.tc : Thread Cert.FfnGradientIdeal.nD Cert.FfnGradientIdeal.τ).loc Cert.FfnGradientIdeal.main_arg2)
          ∧ r.2.mem ((c.tc : Thread Cert.FfnGradientIdeal.nD Cert.FfnGradientIdeal.τ).loc Cert.FfnGradientIdeal.main_arg3) = m' ((c.tc : Thread Cert.FfnGradientIdeal.nD Cert.FfnGradientIdeal.τ).loc Cert.FfnGradientIdeal.main_arg3)
          ∧ r.2.mem ((c.tc : Thread Cert.FfnGradientIdeal.nD Cert.FfnGradientIdeal.τ).loc Cert.FfnGradientIdeal.main_arg4) = m' ((c.tc : Thread Cert.FfnGradientIdeal.nD Cert.FfnGradientIdeal.τ).loc Cert.FfnGradientIdeal.main_arg4)
          ∧ r.2.mem ((c.tc : Thread Cert.FfnGradientIdeal.nD Cert.FfnGradientIdeal.τ).loc Cert.FfnGradientIdeal.main_arg5) = m' ((c.tc : Thread Cert.FfnGradientIdeal.nD Cert.FfnGradientIdeal.τ).loc Cert.FfnGradientIdeal.main_arg5))

def preserves_FfnWeights_FfnWeightsIdeal : Prop :=
  True

def algebraic_FfnWeightsIdeal_FfnWeightsGradientIdeal [hFfnWeightsIdeal : Cert.FfnWeightsIdeal.Facts] [hFfnWeightsGradientIdeal : Cert.FfnWeightsGradientIdeal.Facts] : Prop :=
  ∀ (m : (ℓ : Loc Cert.FfnWeightsIdeal.nD Cert.FfnWeightsIdeal.τ Cert.FfnWeightsIdeal.sig) → Buf (Elt Ideal) ℓ) (g : Dev Cert.FfnWeightsIdeal.nD → PrngReg)
    (m' : (ℓ : Loc Cert.FfnWeightsGradientIdeal.nD Cert.FfnWeightsGradientIdeal.τ Cert.FfnWeightsGradientIdeal.sig) → Buf (Elt Ideal) ℓ) (g' : Dev Cert.FfnWeightsGradientIdeal.nD → PrngReg), Pre_FfnWeightsIdeal m →
    (∀ c : Dev Cert.FfnWeightsIdeal.nD,
      m' ((c.tc : Thread Cert.FfnWeightsGradientIdeal.nD Cert.FfnWeightsGradientIdeal.τ).loc Cert.FfnWeightsGradientIdeal.main_arg0) = m ((c.tc : Thread Cert.FfnWeightsIdeal.nD Cert.FfnWeightsIdeal.τ).loc Cert.FfnWeightsIdeal.main_arg0)
      ∧ m' ((c.tc : Thread Cert.FfnWeightsGradientIdeal.nD Cert.FfnWeightsGradientIdeal.τ).loc Cert.FfnWeightsGradientIdeal.main_arg1) = m ((c.tc : Thread Cert.FfnWeightsIdeal.nD Cert.FfnWeightsIdeal.τ).loc Cert.FfnWeightsIdeal.main_arg1)
      ∧ m' ((c.tc : Thread Cert.FfnWeightsGradientIdeal.nD Cert.FfnWeightsGradientIdeal.τ).loc Cert.FfnWeightsGradientIdeal.main_arg2) = m ((c.tc : Thread Cert.FfnWeightsIdeal.nD Cert.FfnWeightsIdeal.τ).loc Cert.FfnWeightsIdeal.main_arg2)
      ∧ m' ((c.tc : Thread Cert.FfnWeightsGradientIdeal.nD Cert.FfnWeightsGradientIdeal.τ).loc Cert.FfnWeightsGradientIdeal.main_arg3) = m ((c.tc : Thread Cert.FfnWeightsIdeal.nD Cert.FfnWeightsIdeal.τ).loc Cert.FfnWeightsIdeal.main_arg3)
      ∧ m' ((c.tc : Thread Cert.FfnWeightsGradientIdeal.nD Cert.FfnWeightsGradientIdeal.τ).loc Cert.FfnWeightsGradientIdeal.main_arg4) = m ((c.tc : Thread Cert.FfnWeightsIdeal.nD Cert.FfnWeightsIdeal.τ).loc Cert.FfnWeightsIdeal.main_arg4)
      ∧ m' ((c.tc : Thread Cert.FfnWeightsGradientIdeal.nD Cert.FfnWeightsGradientIdeal.τ).loc Cert.FfnWeightsGradientIdeal.main_arg5) = m ((c.tc : Thread Cert.FfnWeightsIdeal.nD Cert.FfnWeightsIdeal.τ).loc Cert.FfnWeightsIdeal.main_arg5)) →
    ∃ (v0 : (c : Dev Cert.FfnWeightsIdeal.nD) → Buf (Elt Ideal) ((c.tc : Thread Cert.FfnWeightsIdeal.nD Cert.FfnWeightsIdeal.τ).loc Cert.FfnWeightsIdeal.main_v13_0)) (v1 : (c : Dev Cert.FfnWeightsIdeal.nD) → Buf (Elt Ideal) ((c.tc : Thread Cert.FfnWeightsIdeal.nD Cert.FfnWeightsIdeal.τ).loc Cert.FfnWeightsIdeal.main_v13_1)),
      θ_run (Cert.FfnWeightsIdeal.defs (F := Ideal)) (onTc (τ := Cert.FfnWeightsIdeal.τ) (Cert.FfnWeightsIdeal.main (F := Ideal))) ⟨m, fun _ => 0, g⟩ (fun r => ∀ c : Dev Cert.FfnWeightsIdeal.nD,
          r.2.mem ((c.tc : Thread Cert.FfnWeightsIdeal.nD Cert.FfnWeightsIdeal.τ).loc Cert.FfnWeightsIdeal.main_v13_0) = v0 c
          ∧ r.2.mem ((c.tc : Thread Cert.FfnWeightsIdeal.nD Cert.FfnWeightsIdeal.τ).loc Cert.FfnWeightsIdeal.main_v13_1) = v1 c
          ∧ r.2.mem ((c.tc : Thread Cert.FfnWeightsIdeal.nD Cert.FfnWeightsIdeal.τ).loc Cert.FfnWeightsIdeal.main_arg0) = m ((c.tc : Thread Cert.FfnWeightsIdeal.nD Cert.FfnWeightsIdeal.τ).loc Cert.FfnWeightsIdeal.main_arg0)
          ∧ r.2.mem ((c.tc : Thread Cert.FfnWeightsIdeal.nD Cert.FfnWeightsIdeal.τ).loc Cert.FfnWeightsIdeal.main_arg1) = m ((c.tc : Thread Cert.FfnWeightsIdeal.nD Cert.FfnWeightsIdeal.τ).loc Cert.FfnWeightsIdeal.main_arg1)
          ∧ r.2.mem ((c.tc : Thread Cert.FfnWeightsIdeal.nD Cert.FfnWeightsIdeal.τ).loc Cert.FfnWeightsIdeal.main_arg2) = m ((c.tc : Thread Cert.FfnWeightsIdeal.nD Cert.FfnWeightsIdeal.τ).loc Cert.FfnWeightsIdeal.main_arg2)
          ∧ r.2.mem ((c.tc : Thread Cert.FfnWeightsIdeal.nD Cert.FfnWeightsIdeal.τ).loc Cert.FfnWeightsIdeal.main_arg3) = m ((c.tc : Thread Cert.FfnWeightsIdeal.nD Cert.FfnWeightsIdeal.τ).loc Cert.FfnWeightsIdeal.main_arg3)
          ∧ r.2.mem ((c.tc : Thread Cert.FfnWeightsIdeal.nD Cert.FfnWeightsIdeal.τ).loc Cert.FfnWeightsIdeal.main_arg4) = m ((c.tc : Thread Cert.FfnWeightsIdeal.nD Cert.FfnWeightsIdeal.τ).loc Cert.FfnWeightsIdeal.main_arg4)
          ∧ r.2.mem ((c.tc : Thread Cert.FfnWeightsIdeal.nD Cert.FfnWeightsIdeal.τ).loc Cert.FfnWeightsIdeal.main_arg5) = m ((c.tc : Thread Cert.FfnWeightsIdeal.nD Cert.FfnWeightsIdeal.τ).loc Cert.FfnWeightsIdeal.main_arg5))
      ∧ θ_run (Cert.FfnWeightsGradientIdeal.defs (F := Ideal)) (onTc (τ := Cert.FfnWeightsGradientIdeal.τ) (Cert.FfnWeightsGradientIdeal.main (F := Ideal))) ⟨m', fun _ => 0, g'⟩ (fun r => ∀ c : Dev Cert.FfnWeightsGradientIdeal.nD,
          r.2.mem ((c.tc : Thread Cert.FfnWeightsGradientIdeal.nD Cert.FfnWeightsGradientIdeal.τ).loc Cert.FfnWeightsGradientIdeal.main_v20) = v0 c
          ∧ r.2.mem ((c.tc : Thread Cert.FfnWeightsGradientIdeal.nD Cert.FfnWeightsGradientIdeal.τ).loc Cert.FfnWeightsGradientIdeal.main_v21) = v1 c
          ∧ r.2.mem ((c.tc : Thread Cert.FfnWeightsGradientIdeal.nD Cert.FfnWeightsGradientIdeal.τ).loc Cert.FfnWeightsGradientIdeal.main_arg0) = m' ((c.tc : Thread Cert.FfnWeightsGradientIdeal.nD Cert.FfnWeightsGradientIdeal.τ).loc Cert.FfnWeightsGradientIdeal.main_arg0)
          ∧ r.2.mem ((c.tc : Thread Cert.FfnWeightsGradientIdeal.nD Cert.FfnWeightsGradientIdeal.τ).loc Cert.FfnWeightsGradientIdeal.main_arg1) = m' ((c.tc : Thread Cert.FfnWeightsGradientIdeal.nD Cert.FfnWeightsGradientIdeal.τ).loc Cert.FfnWeightsGradientIdeal.main_arg1)
          ∧ r.2.mem ((c.tc : Thread Cert.FfnWeightsGradientIdeal.nD Cert.FfnWeightsGradientIdeal.τ).loc Cert.FfnWeightsGradientIdeal.main_arg2) = m' ((c.tc : Thread Cert.FfnWeightsGradientIdeal.nD Cert.FfnWeightsGradientIdeal.τ).loc Cert.FfnWeightsGradientIdeal.main_arg2)
          ∧ r.2.mem ((c.tc : Thread Cert.FfnWeightsGradientIdeal.nD Cert.FfnWeightsGradientIdeal.τ).loc Cert.FfnWeightsGradientIdeal.main_arg3) = m' ((c.tc : Thread Cert.FfnWeightsGradientIdeal.nD Cert.FfnWeightsGradientIdeal.τ).loc Cert.FfnWeightsGradientIdeal.main_arg3)
          ∧ r.2.mem ((c.tc : Thread Cert.FfnWeightsGradientIdeal.nD Cert.FfnWeightsGradientIdeal.τ).loc Cert.FfnWeightsGradientIdeal.main_arg4) = m' ((c.tc : Thread Cert.FfnWeightsGradientIdeal.nD Cert.FfnWeightsGradientIdeal.τ).loc Cert.FfnWeightsGradientIdeal.main_arg4)
          ∧ r.2.mem ((c.tc : Thread Cert.FfnWeightsGradientIdeal.nD Cert.FfnWeightsGradientIdeal.τ).loc Cert.FfnWeightsGradientIdeal.main_arg5) = m' ((c.tc : Thread Cert.FfnWeightsGradientIdeal.nD Cert.FfnWeightsGradientIdeal.τ).loc Cert.FfnWeightsGradientIdeal.main_arg5))

def preserves_FfnDown_FfnDownIdeal : Prop :=
  True

def algebraic_FfnDownIdeal_FfnDownGradientIdeal [hFfnDownIdeal : Cert.FfnDownIdeal.Facts] [hFfnDownGradientIdeal : Cert.FfnDownGradientIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownGradientIdeal.nD Cert.FfnDownGradientIdeal.τ Cert.FfnDownGradientIdeal.sig) → Buf (Elt Ideal) ℓ) (g' : Dev Cert.FfnDownGradientIdeal.nD → PrngReg), Pre_FfnDownIdeal m →
    (∀ c : Dev Cert.FfnDownIdeal.nD,
      m' ((c.tc : Thread Cert.FfnDownGradientIdeal.nD Cert.FfnDownGradientIdeal.τ).loc Cert.FfnDownGradientIdeal.main_arg0) = m ((c.tc : Thread Cert.FfnDownIdeal.nD Cert.FfnDownIdeal.τ).loc Cert.FfnDownIdeal.main_arg0)
      ∧ m' ((c.tc : Thread Cert.FfnDownGradientIdeal.nD Cert.FfnDownGradientIdeal.τ).loc Cert.FfnDownGradientIdeal.main_arg1) = m ((c.tc : Thread Cert.FfnDownIdeal.nD Cert.FfnDownIdeal.τ).loc Cert.FfnDownIdeal.main_arg1)
      ∧ m' ((c.tc : Thread Cert.FfnDownGradientIdeal.nD Cert.FfnDownGradientIdeal.τ).loc Cert.FfnDownGradientIdeal.main_arg2) = m ((c.tc : Thread Cert.FfnDownIdeal.nD Cert.FfnDownIdeal.τ).loc Cert.FfnDownIdeal.main_arg2)
      ∧ m' ((c.tc : Thread Cert.FfnDownGradientIdeal.nD Cert.FfnDownGradientIdeal.τ).loc Cert.FfnDownGradientIdeal.main_arg3) = m ((c.tc : Thread Cert.FfnDownIdeal.nD Cert.FfnDownIdeal.τ).loc Cert.FfnDownIdeal.main_arg3)
      ∧ m' ((c.tc : Thread Cert.FfnDownGradientIdeal.nD Cert.FfnDownGradientIdeal.τ).loc Cert.FfnDownGradientIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownGradientIdeal.defs (F := Ideal)) (onTc (τ := Cert.FfnDownGradientIdeal.τ) (Cert.FfnDownGradientIdeal.main (F := Ideal))) ⟨m', fun _ => 0, g'⟩ (fun r => ∀ c : Dev Cert.FfnDownGradientIdeal.nD,
          r.2.mem ((c.tc : Thread Cert.FfnDownGradientIdeal.nD Cert.FfnDownGradientIdeal.τ).loc Cert.FfnDownGradientIdeal.main_v9) = v0 c
          ∧ r.2.mem ((c.tc : Thread Cert.FfnDownGradientIdeal.nD Cert.FfnDownGradientIdeal.τ).loc Cert.FfnDownGradientIdeal.main_arg0) = m' ((c.tc : Thread Cert.FfnDownGradientIdeal.nD Cert.FfnDownGradientIdeal.τ).loc Cert.FfnDownGradientIdeal.main_arg0)
          ∧ r.2.mem ((c.tc : Thread Cert.FfnDownGradientIdeal.nD Cert.FfnDownGradientIdeal.τ).loc Cert.FfnDownGradientIdeal.main_arg1) = m' ((c.tc : Thread Cert.FfnDownGradientIdeal.nD Cert.FfnDownGradientIdeal.τ).loc Cert.FfnDownGradientIdeal.main_arg1)
          ∧ r.2.mem ((c.tc : Thread Cert.FfnDownGradientIdeal.nD Cert.FfnDownGradientIdeal.τ).loc Cert.FfnDownGradientIdeal.main_arg2) = m' ((c.tc : Thread Cert.FfnDownGradientIdeal.nD Cert.FfnDownGradientIdeal.τ).loc Cert.FfnDownGradientIdeal.main_arg2)
          ∧ r.2.mem ((c.tc : Thread Cert.FfnDownGradientIdeal.nD Cert.FfnDownGradientIdeal.τ).loc Cert.FfnDownGradientIdeal.main_arg3) = m' ((c.tc : Thread Cert.FfnDownGradientIdeal.nD Cert.FfnDownGradientIdeal.τ).loc Cert.FfnDownGradientIdeal.main_arg3)
          ∧ r.2.mem ((c.tc : Thread Cert.FfnDownGradientIdeal.nD Cert.FfnDownGradientIdeal.τ).loc Cert.FfnDownGradientIdeal.main_arg4) = m' ((c.tc : Thread Cert.FfnDownGradientIdeal.nD Cert.FfnDownGradientIdeal.τ).loc Cert.FfnDownGradientIdeal.main_arg4))

def preserves_FfnForward_FfnForwardIdeal : Prop :=
  True

def algebraic_FfnForwardIdeal_FfnLayerIdeal [hFfnForwardIdeal : Cert.FfnForwardIdeal.Facts] [hFfnLayerIdeal : Cert.FfnLayerIdeal.Facts] : Prop :=
  ∀ (m : (ℓ : Loc Cert.FfnForwardIdeal.nD Cert.FfnForwardIdeal.τ Cert.FfnForwardIdeal.sig) → Buf (Elt Ideal) ℓ) (g : Dev Cert.FfnForwardIdeal.nD → PrngReg)
    (m' : (ℓ : Loc Cert.FfnLayerIdeal.nD Cert.FfnLayerIdeal.τ Cert.FfnLayerIdeal.sig) → Buf (Elt Ideal) ℓ) (g' : Dev Cert.FfnLayerIdeal.nD → PrngReg), Pre_FfnForwardIdeal m →
    (∀ c : Dev Cert.FfnForwardIdeal.nD,
      m' ((c.tc : Thread Cert.FfnLayerIdeal.nD Cert.FfnLayerIdeal.τ).loc Cert.FfnLayerIdeal.main_arg0) = m ((c.tc : Thread Cert.FfnForwardIdeal.nD Cert.FfnForwardIdeal.τ).loc Cert.FfnForwardIdeal.main_arg0)
      ∧ m' ((c.tc : Thread Cert.FfnLayerIdeal.nD Cert.FfnLayerIdeal.τ).loc Cert.FfnLayerIdeal.main_arg1) = m ((c.tc : Thread Cert.FfnForwardIdeal.nD Cert.FfnForwardIdeal.τ).loc Cert.FfnForwardIdeal.main_arg1)
      ∧ m' ((c.tc : Thread Cert.FfnLayerIdeal.nD Cert.FfnLayerIdeal.τ).loc Cert.FfnLayerIdeal.main_arg2) = m ((c.tc : Thread Cert.FfnForwardIdeal.nD Cert.FfnForwardIdeal.τ).loc Cert.FfnForwardIdeal.main_arg2)
      ∧ m' ((c.tc : Thread Cert.FfnLayerIdeal.nD Cert.FfnLayerIdeal.τ).loc Cert.FfnLayerIdeal.main_arg3) = m ((c.tc : Thread Cert.FfnForwardIdeal.nD Cert.FfnForwardIdeal.τ).loc Cert.FfnForwardIdeal.main_arg3)
      ∧ m' ((c.tc : Thread Cert.FfnLayerIdeal.nD Cert.FfnLayerIdeal.τ).loc Cert.FfnLayerIdeal.main_arg4) = m ((c.tc : Thread Cert.FfnForwardIdeal.nD Cert.FfnForwardIdeal.τ).loc Cert.FfnForwardIdeal.main_arg4)) →
    ∃ (v0 : (c : Dev Cert.FfnForwardIdeal.nD) → Buf (Elt Ideal) ((c.tc : Thread Cert.FfnForwardIdeal.nD Cert.FfnForwardIdeal.τ).loc Cert.FfnForwardIdeal.main_v11_0)) (v1 : (c : Dev Cert.FfnForwardIdeal.nD) → Buf (Elt Ideal) ((c.tc : Thread Cert.FfnForwardIdeal.nD Cert.FfnForwardIdeal.τ).loc Cert.FfnForwardIdeal.main_v11_1)) (v2 : (c : Dev Cert.FfnForwardIdeal.nD) → Buf (Elt Ideal) ((c.tc : Thread Cert.FfnForwardIdeal.nD Cert.FfnForwardIdeal.τ).loc Cert.FfnForwardIdeal.main_v11_2)) (v3 : (c : Dev Cert.FfnForwardIdeal.nD) → Buf (Elt Ideal) ((c.tc : Thread Cert.FfnForwardIdeal.nD Cert.FfnForwardIdeal.τ).loc Cert.FfnForwardIdeal.main_v11_3)) (v4 : (c : Dev Cert.FfnForwardIdeal.nD) → Buf (Elt Ideal) ((c.tc : Thread Cert.FfnForwardIdeal.nD Cert.FfnForwardIdeal.τ).loc Cert.FfnForwardIdeal.main_v11_4)),
      θ_run (Cert.FfnForwardIdeal.defs (F := Ideal)) (onTc (τ := Cert.FfnForwardIdeal.τ) (Cert.FfnForwardIdeal.main (F := Ideal))) ⟨m, fun _ => 0, g⟩ (fun r => ∀ c : Dev Cert.FfnForwardIdeal.nD,
          r.2.mem ((c.tc : Thread Cert.FfnForwardIdeal.nD Cert.FfnForwardIdeal.τ).loc Cert.FfnForwardIdeal.main_v11_0) = v0 c
          ∧ r.2.mem ((c.tc : Thread Cert.FfnForwardIdeal.nD Cert.FfnForwardIdeal.τ).loc Cert.FfnForwardIdeal.main_v11_1) = v1 c
          ∧ r.2.mem ((c.tc : Thread Cert.FfnForwardIdeal.nD Cert.FfnForwardIdeal.τ).loc Cert.FfnForwardIdeal.main_v11_2) = v2 c
          ∧ r.2.mem ((c.tc : Thread Cert.FfnForwardIdeal.nD Cert.FfnForwardIdeal.τ).loc Cert.FfnForwardIdeal.main_v11_3) = v3 c
          ∧ r.2.mem ((c.tc : Thread Cert.FfnForwardIdeal.nD Cert.FfnForwardIdeal.τ).loc Cert.FfnForwardIdeal.main_v11_4) = v4 c
          ∧ r.2.mem ((c.tc : Thread Cert.FfnForwardIdeal.nD Cert.FfnForwardIdeal.τ).loc Cert.FfnForwardIdeal.main_arg0) = m ((c.tc : Thread Cert.FfnForwardIdeal.nD Cert.FfnForwardIdeal.τ).loc Cert.FfnForwardIdeal.main_arg0)
          ∧ r.2.mem ((c.tc : Thread Cert.FfnForwardIdeal.nD Cert.FfnForwardIdeal.τ).loc Cert.FfnForwardIdeal.main_arg1) = m ((c.tc : Thread Cert.FfnForwardIdeal.nD Cert.FfnForwardIdeal.τ).loc Cert.FfnForwardIdeal.main_arg1)
          ∧ r.2.mem ((c.tc : Thread Cert.FfnForwardIdeal.nD Cert.FfnForwardIdeal.τ).loc Cert.FfnForwardIdeal.main_arg2) = m ((c.tc : Thread Cert.FfnForwardIdeal.nD Cert.FfnForwardIdeal.τ).loc Cert.FfnForwardIdeal.main_arg2)
          ∧ r.2.mem ((c.tc : Thread Cert.FfnForwardIdeal.nD Cert.FfnForwardIdeal.τ).loc Cert.FfnForwardIdeal.main_arg3) = m ((c.tc : Thread Cert.FfnForwardIdeal.nD Cert.FfnForwardIdeal.τ).loc Cert.FfnForwardIdeal.main_arg3)
          ∧ r.2.mem ((c.tc : Thread Cert.FfnForwardIdeal.nD Cert.FfnForwardIdeal.τ).loc Cert.FfnForwardIdeal.main_arg4) = m ((c.tc : Thread Cert.FfnForwardIdeal.nD Cert.FfnForwardIdeal.τ).loc Cert.FfnForwardIdeal.main_arg4))
      ∧ θ_run (Cert.FfnLayerIdeal.defs (F := Ideal)) (onTc (τ := Cert.FfnLayerIdeal.τ) (Cert.FfnLayerIdeal.main (F := Ideal))) ⟨m', fun _ => 0, g'⟩ (fun r => ∀ c : Dev Cert.FfnLayerIdeal.nD,
          r.2.mem ((c.tc : Thread Cert.FfnLayerIdeal.nD Cert.FfnLayerIdeal.τ).loc Cert.FfnLayerIdeal.main_v31) = v0 c
          ∧ r.2.mem ((c.tc : Thread Cert.FfnLayerIdeal.nD Cert.FfnLayerIdeal.τ).loc Cert.FfnLayerIdeal.main_v32) = v1 c
          ∧ r.2.mem ((c.tc : Thread Cert.FfnLayerIdeal.nD Cert.FfnLayerIdeal.τ).loc Cert.FfnLayerIdeal.main_v33) = v2 c
          ∧ r.2.mem ((c.tc : Thread Cert.FfnLayerIdeal.nD Cert.FfnLayerIdeal.τ).loc Cert.FfnLayerIdeal.main_v34) = v3 c
          ∧ r.2.mem ((c.tc : Thread Cert.FfnLayerIdeal.nD Cert.FfnLayerIdeal.τ).loc Cert.FfnLayerIdeal.main_v37) = v4 c
          ∧ r.2.mem ((c.tc : Thread Cert.FfnLayerIdeal.nD Cert.FfnLayerIdeal.τ).loc Cert.FfnLayerIdeal.main_arg0) = m' ((c.tc : Thread Cert.FfnLayerIdeal.nD Cert.FfnLayerIdeal.τ).loc Cert.FfnLayerIdeal.main_arg0)
          ∧ r.2.mem ((c.tc : Thread Cert.FfnLayerIdeal.nD Cert.FfnLayerIdeal.τ).loc Cert.FfnLayerIdeal.main_arg1) = m' ((c.tc : Thread Cert.FfnLayerIdeal.nD Cert.FfnLayerIdeal.τ).loc Cert.FfnLayerIdeal.main_arg1)
          ∧ r.2.mem ((c.tc : Thread Cert.FfnLayerIdeal.nD Cert.FfnLayerIdeal.τ).loc Cert.FfnLayerIdeal.main_arg2) = m' ((c.tc : Thread Cert.FfnLayerIdeal.nD Cert.FfnLayerIdeal.τ).loc Cert.FfnLayerIdeal.main_arg2)
          ∧ r.2.mem ((c.tc : Thread Cert.FfnLayerIdeal.nD Cert.FfnLayerIdeal.τ).loc Cert.FfnLayerIdeal.main_arg3) = m' ((c.tc : Thread Cert.FfnLayerIdeal.nD Cert.FfnLayerIdeal.τ).loc Cert.FfnLayerIdeal.main_arg3)
          ∧ r.2.mem ((c.tc : Thread Cert.FfnLayerIdeal.nD Cert.FfnLayerIdeal.τ).loc Cert.FfnLayerIdeal.main_arg4) = m' ((c.tc : Thread Cert.FfnLayerIdeal.nD Cert.FfnLayerIdeal.τ).loc Cert.FfnLayerIdeal.main_arg4))

def preserves_FfnWeight_FfnWeightIdeal : Prop :=
  True

def algebraic_FfnWeightIdeal_FfnWeightGradientIdeal [hFfnWeightIdeal : Cert.FfnWeightIdeal.Facts] [hFfnWeightGradientIdeal : Cert.FfnWeightGradientIdeal.Facts] : Prop :=
  ∀ (m : (ℓ : Loc Cert.FfnWeightIdeal.nD Cert.FfnWeightIdeal.τ Cert.FfnWeightIdeal.sig) → Buf (Elt Ideal) ℓ) (g : Dev Cert.FfnWeightIdeal.nD → PrngReg)
    (m' : (ℓ : Loc Cert.FfnWeightGradientIdeal.nD Cert.FfnWeightGradientIdeal.τ Cert.FfnWeightGradientIdeal.sig) → Buf (Elt Ideal) ℓ) (g' : Dev Cert.FfnWeightGradientIdeal.nD → PrngReg), Pre_FfnWeightIdeal m →
    (∀ c : Dev Cert.FfnWeightIdeal.nD,
      m' ((c.tc : Thread Cert.FfnWeightGradientIdeal.nD Cert.FfnWeightGradientIdeal.τ).loc Cert.FfnWeightGradientIdeal.main_arg0) = m ((c.tc : Thread Cert.FfnWeightIdeal.nD Cert.FfnWeightIdeal.τ).loc Cert.FfnWeightIdeal.main_arg0)
      ∧ m' ((c.tc : Thread Cert.FfnWeightGradientIdeal.nD Cert.FfnWeightGradientIdeal.τ).loc Cert.FfnWeightGradientIdeal.main_arg1) = m ((c.tc : Thread Cert.FfnWeightIdeal.nD Cert.FfnWeightIdeal.τ).loc Cert.FfnWeightIdeal.main_arg1)
      ∧ m' ((c.tc : Thread Cert.FfnWeightGradientIdeal.nD Cert.FfnWeightGradientIdeal.τ).loc Cert.FfnWeightGradientIdeal.main_arg2) = m ((c.tc : Thread Cert.FfnWeightIdeal.nD Cert.FfnWeightIdeal.τ).loc Cert.FfnWeightIdeal.main_arg2)
      ∧ m' ((c.tc : Thread Cert.FfnWeightGradientIdeal.nD Cert.FfnWeightGradientIdeal.τ).loc Cert.FfnWeightGradientIdeal.main_arg3) = m ((c.tc : Thread Cert.FfnWeightIdeal.nD Cert.FfnWeightIdeal.τ).loc Cert.FfnWeightIdeal.main_arg3)) →
    ∃ (v0 : (c : Dev Cert.FfnWeightIdeal.nD) → Buf (Elt Ideal) ((c.tc : Thread Cert.FfnWeightIdeal.nD Cert.FfnWeightIdeal.τ).loc Cert.FfnWeightIdeal.main_v13)),
      θ_run (Cert.FfnWeightIdeal.defs (F := Ideal)) (onTc (τ := Cert.FfnWeightIdeal.τ) (Cert.FfnWeightIdeal.main (F := Ideal))) ⟨m, fun _ => 0, g⟩ (fun r => ∀ c : Dev Cert.FfnWeightIdeal.nD,
          r.2.mem ((c.tc : Thread Cert.FfnWeightIdeal.nD Cert.FfnWeightIdeal.τ).loc Cert.FfnWeightIdeal.main_v13) = v0 c
          ∧ r.2.mem ((c.tc : Thread Cert.FfnWeightIdeal.nD Cert.FfnWeightIdeal.τ).loc Cert.FfnWeightIdeal.main_arg0) = m ((c.tc : Thread Cert.FfnWeightIdeal.nD Cert.FfnWeightIdeal.τ).loc Cert.FfnWeightIdeal.main_arg0)
          ∧ r.2.mem ((c.tc : Thread Cert.FfnWeightIdeal.nD Cert.FfnWeightIdeal.τ).loc Cert.FfnWeightIdeal.main_arg1) = m ((c.tc : Thread Cert.FfnWeightIdeal.nD Cert.FfnWeightIdeal.τ).loc Cert.FfnWeightIdeal.main_arg1)
          ∧ r.2.mem ((c.tc : Thread Cert.FfnWeightIdeal.nD Cert.FfnWeightIdeal.τ).loc Cert.FfnWeightIdeal.main_arg2) = m ((c.tc : Thread Cert.FfnWeightIdeal.nD Cert.FfnWeightIdeal.τ).loc Cert.FfnWeightIdeal.main_arg2)
          ∧ r.2.mem ((c.tc : Thread Cert.FfnWeightIdeal.nD Cert.FfnWeightIdeal.τ).loc Cert.FfnWeightIdeal.main_arg3) = m ((c.tc : Thread Cert.FfnWeightIdeal.nD Cert.FfnWeightIdeal.τ).loc Cert.FfnWeightIdeal.main_arg3))
      ∧ θ_run (Cert.FfnWeightGradientIdeal.defs (F := Ideal)) (onTc (τ := Cert.FfnWeightGradientIdeal.τ) (Cert.FfnWeightGradientIdeal.main (F := Ideal))) ⟨m', fun _ => 0, g'⟩ (fun r => ∀ c : Dev Cert.FfnWeightGradientIdeal.nD,
          r.2.mem ((c.tc : Thread Cert.FfnWeightGradientIdeal.nD Cert.FfnWeightGradientIdeal.τ).loc Cert.FfnWeightGradientIdeal.main_v16) = v0 c
          ∧ r.2.mem ((c.tc : Thread Cert.FfnWeightGradientIdeal.nD Cert.FfnWeightGradientIdeal.τ).loc Cert.FfnWeightGradientIdeal.main_arg0) = m' ((c.tc : Thread Cert.FfnWeightGradientIdeal.nD Cert.FfnWeightGradientIdeal.τ).loc Cert.FfnWeightGradientIdeal.main_arg0)
          ∧ r.2.mem ((c.tc : Thread Cert.FfnWeightGradientIdeal.nD Cert.FfnWeightGradientIdeal.τ).loc Cert.FfnWeightGradientIdeal.main_arg1) = m' ((c.tc : Thread Cert.FfnWeightGradientIdeal.nD Cert.FfnWeightGradientIdeal.τ).loc Cert.FfnWeightGradientIdeal.main_arg1)
          ∧ r.2.mem ((c.tc : Thread Cert.FfnWeightGradientIdeal.nD Cert.FfnWeightGradientIdeal.τ).loc Cert.FfnWeightGradientIdeal.main_arg2) = m' ((c.tc : Thread Cert.FfnWeightGradientIdeal.nD Cert.FfnWeightGradientIdeal.τ).loc Cert.FfnWeightGradientIdeal.main_arg2)
          ∧ r.2.mem ((c.tc : Thread Cert.FfnWeightGradientIdeal.nD Cert.FfnWeightGradientIdeal.τ).loc Cert.FfnWeightGradientIdeal.main_arg3) = m' ((c.tc : Thread Cert.FfnWeightGradientIdeal.nD Cert.FfnWeightGradientIdeal.τ).loc Cert.FfnWeightGradientIdeal.main_arg3))

def preserves_InWeights_InWeightsIdeal : Prop :=
  True

def algebraic_InWeightsIdeal_InWeightsGradientIdeal [hInWeightsIdeal : Cert.InWeightsIdeal.Facts] [hInWeightsGradientIdeal : Cert.InWeightsGradientIdeal.Facts] : Prop :=
  ∀ (m : (ℓ : Loc Cert.InWeightsIdeal.nD Cert.InWeightsIdeal.τ Cert.InWeightsIdeal.sig) → Buf (Elt Ideal) ℓ) (g : Dev Cert.InWeightsIdeal.nD → PrngReg)
    (m' : (ℓ : Loc Cert.InWeightsGradientIdeal.nD Cert.InWeightsGradientIdeal.τ Cert.InWeightsGradientIdeal.sig) → Buf (Elt Ideal) ℓ) (g' : Dev Cert.InWeightsGradientIdeal.nD → PrngReg), Pre_InWeightsIdeal m →
    (∀ c : Dev Cert.InWeightsIdeal.nD,
      m' ((c.tc : Thread Cert.InWeightsGradientIdeal.nD Cert.InWeightsGradientIdeal.τ).loc Cert.InWeightsGradientIdeal.main_arg0) = m ((c.tc : Thread Cert.InWeightsIdeal.nD Cert.InWeightsIdeal.τ).loc Cert.InWeightsIdeal.main_arg0)
      ∧ m' ((c.tc : Thread Cert.InWeightsGradientIdeal.nD Cert.InWeightsGradientIdeal.τ).loc Cert.InWeightsGradientIdeal.main_arg1) = m ((c.tc : Thread Cert.InWeightsIdeal.nD Cert.InWeightsIdeal.τ).loc Cert.InWeightsIdeal.main_arg1)
      ∧ m' ((c.tc : Thread Cert.InWeightsGradientIdeal.nD Cert.InWeightsGradientIdeal.τ).loc Cert.InWeightsGradientIdeal.main_arg2) = m ((c.tc : Thread Cert.InWeightsIdeal.nD Cert.InWeightsIdeal.τ).loc Cert.InWeightsIdeal.main_arg2)
      ∧ m' ((c.tc : Thread Cert.InWeightsGradientIdeal.nD Cert.InWeightsGradientIdeal.τ).loc Cert.InWeightsGradientIdeal.main_arg3) = m ((c.tc : Thread Cert.InWeightsIdeal.nD Cert.InWeightsIdeal.τ).loc Cert.InWeightsIdeal.main_arg3)) →
    ∃ (v0 : (c : Dev Cert.InWeightsIdeal.nD) → Buf (Elt Ideal) ((c.tc : Thread Cert.InWeightsIdeal.nD Cert.InWeightsIdeal.τ).loc Cert.InWeightsIdeal.main_v13)),
      θ_run (Cert.InWeightsIdeal.defs (F := Ideal)) (onTc (τ := Cert.InWeightsIdeal.τ) (Cert.InWeightsIdeal.main (F := Ideal))) ⟨m, fun _ => 0, g⟩ (fun r => ∀ c : Dev Cert.InWeightsIdeal.nD,
          r.2.mem ((c.tc : Thread Cert.InWeightsIdeal.nD Cert.InWeightsIdeal.τ).loc Cert.InWeightsIdeal.main_v13) = v0 c
          ∧ r.2.mem ((c.tc : Thread Cert.InWeightsIdeal.nD Cert.InWeightsIdeal.τ).loc Cert.InWeightsIdeal.main_arg0) = m ((c.tc : Thread Cert.InWeightsIdeal.nD Cert.InWeightsIdeal.τ).loc Cert.InWeightsIdeal.main_arg0)
          ∧ r.2.mem ((c.tc : Thread Cert.InWeightsIdeal.nD Cert.InWeightsIdeal.τ).loc Cert.InWeightsIdeal.main_arg1) = m ((c.tc : Thread Cert.InWeightsIdeal.nD Cert.InWeightsIdeal.τ).loc Cert.InWeightsIdeal.main_arg1)
          ∧ r.2.mem ((c.tc : Thread Cert.InWeightsIdeal.nD Cert.InWeightsIdeal.τ).loc Cert.InWeightsIdeal.main_arg2) = m ((c.tc : Thread Cert.InWeightsIdeal.nD Cert.InWeightsIdeal.τ).loc Cert.InWeightsIdeal.main_arg2)
          ∧ r.2.mem ((c.tc : Thread Cert.InWeightsIdeal.nD Cert.InWeightsIdeal.τ).loc Cert.InWeightsIdeal.main_arg3) = m ((c.tc : Thread Cert.InWeightsIdeal.nD Cert.InWeightsIdeal.τ).loc Cert.InWeightsIdeal.main_arg3))
      ∧ θ_run (Cert.InWeightsGradientIdeal.defs (F := Ideal)) (onTc (τ := Cert.InWeightsGradientIdeal.τ) (Cert.InWeightsGradientIdeal.main (F := Ideal))) ⟨m', fun _ => 0, g'⟩ (fun r => ∀ c : Dev Cert.InWeightsGradientIdeal.nD,
          r.2.mem ((c.tc : Thread Cert.InWeightsGradientIdeal.nD Cert.InWeightsGradientIdeal.τ).loc Cert.InWeightsGradientIdeal.main_v17) = v0 c
          ∧ r.2.mem ((c.tc : Thread Cert.InWeightsGradientIdeal.nD Cert.InWeightsGradientIdeal.τ).loc Cert.InWeightsGradientIdeal.main_arg0) = m' ((c.tc : Thread Cert.InWeightsGradientIdeal.nD Cert.InWeightsGradientIdeal.τ).loc Cert.InWeightsGradientIdeal.main_arg0)
          ∧ r.2.mem ((c.tc : Thread Cert.InWeightsGradientIdeal.nD Cert.InWeightsGradientIdeal.τ).loc Cert.InWeightsGradientIdeal.main_arg1) = m' ((c.tc : Thread Cert.InWeightsGradientIdeal.nD Cert.InWeightsGradientIdeal.τ).loc Cert.InWeightsGradientIdeal.main_arg1)
          ∧ r.2.mem ((c.tc : Thread Cert.InWeightsGradientIdeal.nD Cert.InWeightsGradientIdeal.τ).loc Cert.InWeightsGradientIdeal.main_arg2) = m' ((c.tc : Thread Cert.InWeightsGradientIdeal.nD Cert.InWeightsGradientIdeal.τ).loc Cert.InWeightsGradientIdeal.main_arg2)
          ∧ r.2.mem ((c.tc : Thread Cert.InWeightsGradientIdeal.nD Cert.InWeightsGradientIdeal.τ).loc Cert.InWeightsGradientIdeal.main_arg3) = m' ((c.tc : Thread Cert.InWeightsGradientIdeal.nD Cert.InWeightsGradientIdeal.τ).loc Cert.InWeightsGradientIdeal.main_arg3))

def preserves_OutForward_OutForwardIdeal : Prop :=
  True

def algebraic_OutForwardIdeal_OutLayerIdeal [hOutForwardIdeal : Cert.OutForwardIdeal.Facts] [hOutLayerIdeal : Cert.OutLayerIdeal.Facts] : Prop :=
  ∀ (m : (ℓ : Loc Cert.OutForwardIdeal.nD Cert.OutForwardIdeal.τ Cert.OutForwardIdeal.sig) → Buf (Elt Ideal) ℓ) (g : Dev Cert.OutForwardIdeal.nD → PrngReg)
    (m' : (ℓ : Loc Cert.OutLayerIdeal.nD Cert.OutLayerIdeal.τ Cert.OutLayerIdeal.sig) → Buf (Elt Ideal) ℓ) (g' : Dev Cert.OutLayerIdeal.nD → PrngReg), Pre_OutForwardIdeal m →
    (∀ c : Dev Cert.OutForwardIdeal.nD,
      m' ((c.tc : Thread Cert.OutLayerIdeal.nD Cert.OutLayerIdeal.τ).loc Cert.OutLayerIdeal.main_arg0) = m ((c.tc : Thread Cert.OutForwardIdeal.nD Cert.OutForwardIdeal.τ).loc Cert.OutForwardIdeal.main_arg0)
      ∧ m' ((c.tc : Thread Cert.OutLayerIdeal.nD Cert.OutLayerIdeal.τ).loc Cert.OutLayerIdeal.main_arg1) = m ((c.tc : Thread Cert.OutForwardIdeal.nD Cert.OutForwardIdeal.τ).loc Cert.OutForwardIdeal.main_arg1)
      ∧ m' ((c.tc : Thread Cert.OutLayerIdeal.nD Cert.OutLayerIdeal.τ).loc Cert.OutLayerIdeal.main_arg2) = m ((c.tc : Thread Cert.OutForwardIdeal.nD Cert.OutForwardIdeal.τ).loc Cert.OutForwardIdeal.main_arg2)
      ∧ m' ((c.tc : Thread Cert.OutLayerIdeal.nD Cert.OutLayerIdeal.τ).loc Cert.OutLayerIdeal.main_arg3) = m ((c.tc : Thread Cert.OutForwardIdeal.nD Cert.OutForwardIdeal.τ).loc Cert.OutForwardIdeal.main_arg3)) →
    ∃ (v0 : (c : Dev Cert.OutForwardIdeal.nD) → Buf (Elt Ideal) ((c.tc : Thread Cert.OutForwardIdeal.nD Cert.OutForwardIdeal.τ).loc Cert.OutForwardIdeal.main_v3)),
      θ_run (Cert.OutForwardIdeal.defs (F := Ideal)) (onTc (τ := Cert.OutForwardIdeal.τ) (Cert.OutForwardIdeal.main (F := Ideal))) ⟨m, fun _ => 0, g⟩ (fun r => ∀ c : Dev Cert.OutForwardIdeal.nD,
          r.2.mem ((c.tc : Thread Cert.OutForwardIdeal.nD Cert.OutForwardIdeal.τ).loc Cert.OutForwardIdeal.main_v3) = v0 c
          ∧ r.2.mem ((c.tc : Thread Cert.OutForwardIdeal.nD Cert.OutForwardIdeal.τ).loc Cert.OutForwardIdeal.main_arg0) = m ((c.tc : Thread Cert.OutForwardIdeal.nD Cert.OutForwardIdeal.τ).loc Cert.OutForwardIdeal.main_arg0)
          ∧ r.2.mem ((c.tc : Thread Cert.OutForwardIdeal.nD Cert.OutForwardIdeal.τ).loc Cert.OutForwardIdeal.main_arg1) = m ((c.tc : Thread Cert.OutForwardIdeal.nD Cert.OutForwardIdeal.τ).loc Cert.OutForwardIdeal.main_arg1)
          ∧ r.2.mem ((c.tc : Thread Cert.OutForwardIdeal.nD Cert.OutForwardIdeal.τ).loc Cert.OutForwardIdeal.main_arg2) = m ((c.tc : Thread Cert.OutForwardIdeal.nD Cert.OutForwardIdeal.τ).loc Cert.OutForwardIdeal.main_arg2)
          ∧ r.2.mem ((c.tc : Thread Cert.OutForwardIdeal.nD Cert.OutForwardIdeal.τ).loc Cert.OutForwardIdeal.main_arg3) = m ((c.tc : Thread Cert.OutForwardIdeal.nD Cert.OutForwardIdeal.τ).loc Cert.OutForwardIdeal.main_arg3))
      ∧ θ_run (Cert.OutLayerIdeal.defs (F := Ideal)) (onTc (τ := Cert.OutLayerIdeal.τ) (Cert.OutLayerIdeal.main (F := Ideal))) ⟨m', fun _ => 0, g'⟩ (fun r => ∀ c : Dev Cert.OutLayerIdeal.nD,
          r.2.mem ((c.tc : Thread Cert.OutLayerIdeal.nD Cert.OutLayerIdeal.τ).loc Cert.OutLayerIdeal.main_v2) = v0 c
          ∧ r.2.mem ((c.tc : Thread Cert.OutLayerIdeal.nD Cert.OutLayerIdeal.τ).loc Cert.OutLayerIdeal.main_arg0) = m' ((c.tc : Thread Cert.OutLayerIdeal.nD Cert.OutLayerIdeal.τ).loc Cert.OutLayerIdeal.main_arg0)
          ∧ r.2.mem ((c.tc : Thread Cert.OutLayerIdeal.nD Cert.OutLayerIdeal.τ).loc Cert.OutLayerIdeal.main_arg1) = m' ((c.tc : Thread Cert.OutLayerIdeal.nD Cert.OutLayerIdeal.τ).loc Cert.OutLayerIdeal.main_arg1)
          ∧ r.2.mem ((c.tc : Thread Cert.OutLayerIdeal.nD Cert.OutLayerIdeal.τ).loc Cert.OutLayerIdeal.main_arg2) = m' ((c.tc : Thread Cert.OutLayerIdeal.nD Cert.OutLayerIdeal.τ).loc Cert.OutLayerIdeal.main_arg2)
          ∧ r.2.mem ((c.tc : Thread Cert.OutLayerIdeal.nD Cert.OutLayerIdeal.τ).loc Cert.OutLayerIdeal.main_arg3) = m' ((c.tc : Thread Cert.OutLayerIdeal.nD Cert.OutLayerIdeal.τ).loc Cert.OutLayerIdeal.main_arg3))

def preserves_OutBackward_OutBackwardIdeal : Prop :=
  True

def algebraic_OutBackwardIdeal_OutGradientIdeal [hOutBackwardIdeal : Cert.OutBackwardIdeal.Facts] [hOutGradientIdeal : Cert.OutGradientIdeal.Facts] : Prop :=
  ∀ (m : (ℓ : Loc Cert.OutBackwardIdeal.nD Cert.OutBackwardIdeal.τ Cert.OutBackwardIdeal.sig) → Buf (Elt Ideal) ℓ) (g : Dev Cert.OutBackwardIdeal.nD → PrngReg)
    (m' : (ℓ : Loc Cert.OutGradientIdeal.nD Cert.OutGradientIdeal.τ Cert.OutGradientIdeal.sig) → Buf (Elt Ideal) ℓ) (g' : Dev Cert.OutGradientIdeal.nD → PrngReg), Pre_OutBackwardIdeal m →
    (∀ c : Dev Cert.OutBackwardIdeal.nD,
      m' ((c.tc : Thread Cert.OutGradientIdeal.nD Cert.OutGradientIdeal.τ).loc Cert.OutGradientIdeal.main_arg0) = m ((c.tc : Thread Cert.OutBackwardIdeal.nD Cert.OutBackwardIdeal.τ).loc Cert.OutBackwardIdeal.main_arg0)
      ∧ m' ((c.tc : Thread Cert.OutGradientIdeal.nD Cert.OutGradientIdeal.τ).loc Cert.OutGradientIdeal.main_arg1) = m ((c.tc : Thread Cert.OutBackwardIdeal.nD Cert.OutBackwardIdeal.τ).loc Cert.OutBackwardIdeal.main_arg1)
      ∧ m' ((c.tc : Thread Cert.OutGradientIdeal.nD Cert.OutGradientIdeal.τ).loc Cert.OutGradientIdeal.main_arg2) = m ((c.tc : Thread Cert.OutBackwardIdeal.nD Cert.OutBackwardIdeal.τ).loc Cert.OutBackwardIdeal.main_arg2)
      ∧ m' ((c.tc : Thread Cert.OutGradientIdeal.nD Cert.OutGradientIdeal.τ).loc Cert.OutGradientIdeal.main_arg3) = m ((c.tc : Thread Cert.OutBackwardIdeal.nD Cert.OutBackwardIdeal.τ).loc Cert.OutBackwardIdeal.main_arg3)
      ∧ m' ((c.tc : Thread Cert.OutGradientIdeal.nD Cert.OutGradientIdeal.τ).loc Cert.OutGradientIdeal.main_arg4) = m ((c.tc : Thread Cert.OutBackwardIdeal.nD Cert.OutBackwardIdeal.τ).loc Cert.OutBackwardIdeal.main_arg4)) →
    ∃ (v0 : (c : Dev Cert.OutBackwardIdeal.nD) → Buf (Elt Ideal) ((c.tc : Thread Cert.OutBackwardIdeal.nD Cert.OutBackwardIdeal.τ).loc Cert.OutBackwardIdeal.main_v1_0)) (v1 : (c : Dev Cert.OutBackwardIdeal.nD) → Buf (Elt Ideal) ((c.tc : Thread Cert.OutBackwardIdeal.nD Cert.OutBackwardIdeal.τ).loc Cert.OutBackwardIdeal.main_v1_1)),
      θ_run (Cert.OutBackwardIdeal.defs (F := Ideal)) (onTc (τ := Cert.OutBackwardIdeal.τ) (Cert.OutBackwardIdeal.main (F := Ideal))) ⟨m, fun _ => 0, g⟩ (fun r => ∀ c : Dev Cert.OutBackwardIdeal.nD,
          r.2.mem ((c.tc : Thread Cert.OutBackwardIdeal.nD Cert.OutBackwardIdeal.τ).loc Cert.OutBackwardIdeal.main_v1_0) = v0 c
          ∧ r.2.mem ((c.tc : Thread Cert.OutBackwardIdeal.nD Cert.OutBackwardIdeal.τ).loc Cert.OutBackwardIdeal.main_v1_1) = v1 c
          ∧ r.2.mem ((c.tc : Thread Cert.OutBackwardIdeal.nD Cert.OutBackwardIdeal.τ).loc Cert.OutBackwardIdeal.main_arg0) = m ((c.tc : Thread Cert.OutBackwardIdeal.nD Cert.OutBackwardIdeal.τ).loc Cert.OutBackwardIdeal.main_arg0)
          ∧ r.2.mem ((c.tc : Thread Cert.OutBackwardIdeal.nD Cert.OutBackwardIdeal.τ).loc Cert.OutBackwardIdeal.main_arg1) = m ((c.tc : Thread Cert.OutBackwardIdeal.nD Cert.OutBackwardIdeal.τ).loc Cert.OutBackwardIdeal.main_arg1)
          ∧ r.2.mem ((c.tc : Thread Cert.OutBackwardIdeal.nD Cert.OutBackwardIdeal.τ).loc Cert.OutBackwardIdeal.main_arg2) = m ((c.tc : Thread Cert.OutBackwardIdeal.nD Cert.OutBackwardIdeal.τ).loc Cert.OutBackwardIdeal.main_arg2)
          ∧ r.2.mem ((c.tc : Thread Cert.OutBackwardIdeal.nD Cert.OutBackwardIdeal.τ).loc Cert.OutBackwardIdeal.main_arg3) = m ((c.tc : Thread Cert.OutBackwardIdeal.nD Cert.OutBackwardIdeal.τ).loc Cert.OutBackwardIdeal.main_arg3)
          ∧ r.2.mem ((c.tc : Thread Cert.OutBackwardIdeal.nD Cert.OutBackwardIdeal.τ).loc Cert.OutBackwardIdeal.main_arg4) = m ((c.tc : Thread Cert.OutBackwardIdeal.nD Cert.OutBackwardIdeal.τ).loc Cert.OutBackwardIdeal.main_arg4))
      ∧ θ_run (Cert.OutGradientIdeal.defs (F := Ideal)) (onTc (τ := Cert.OutGradientIdeal.τ) (Cert.OutGradientIdeal.main (F := Ideal))) ⟨m', fun _ => 0, g'⟩ (fun r => ∀ c : Dev Cert.OutGradientIdeal.nD,
          r.2.mem ((c.tc : Thread Cert.OutGradientIdeal.nD Cert.OutGradientIdeal.τ).loc Cert.OutGradientIdeal.main_v4) = v0 c
          ∧ r.2.mem ((c.tc : Thread Cert.OutGradientIdeal.nD Cert.OutGradientIdeal.τ).loc Cert.OutGradientIdeal.main_v5) = v1 c
          ∧ r.2.mem ((c.tc : Thread Cert.OutGradientIdeal.nD Cert.OutGradientIdeal.τ).loc Cert.OutGradientIdeal.main_arg0) = m' ((c.tc : Thread Cert.OutGradientIdeal.nD Cert.OutGradientIdeal.τ).loc Cert.OutGradientIdeal.main_arg0)
          ∧ r.2.mem ((c.tc : Thread Cert.OutGradientIdeal.nD Cert.OutGradientIdeal.τ).loc Cert.OutGradientIdeal.main_arg1) = m' ((c.tc : Thread Cert.OutGradientIdeal.nD Cert.OutGradientIdeal.τ).loc Cert.OutGradientIdeal.main_arg1)
          ∧ r.2.mem ((c.tc : Thread Cert.OutGradientIdeal.nD Cert.OutGradientIdeal.τ).loc Cert.OutGradientIdeal.main_arg2) = m' ((c.tc : Thread Cert.OutGradientIdeal.nD Cert.OutGradientIdeal.τ).loc Cert.OutGradientIdeal.main_arg2)
          ∧ r.2.mem ((c.tc : Thread Cert.OutGradientIdeal.nD Cert.OutGradientIdeal.τ).loc Cert.OutGradientIdeal.main_arg3) = m' ((c.tc : Thread Cert.OutGradientIdeal.nD Cert.OutGradientIdeal.τ).loc Cert.OutGradientIdeal.main_arg3)
          ∧ r.2.mem ((c.tc : Thread Cert.OutGradientIdeal.nD Cert.OutGradientIdeal.τ).loc Cert.OutGradientIdeal.main_arg4) = m' ((c.tc : Thread Cert.OutGradientIdeal.nD Cert.OutGradientIdeal.τ).loc Cert.OutGradientIdeal.main_arg4))

def preserves_OutWeights_OutWeightsIdeal : Prop :=
  True

def algebraic_OutWeightsIdeal_OutWeightsGradientIdeal [hOutWeightsIdeal : Cert.OutWeightsIdeal.Facts] [hOutWeightsGradientIdeal : Cert.OutWeightsGradientIdeal.Facts] : Prop :=
  ∀ (m : (ℓ : Loc Cert.OutWeightsIdeal.nD Cert.OutWeightsIdeal.τ Cert.OutWeightsIdeal.sig) → Buf (Elt Ideal) ℓ) (g : Dev Cert.OutWeightsIdeal.nD → PrngReg)
    (m' : (ℓ : Loc Cert.OutWeightsGradientIdeal.nD Cert.OutWeightsGradientIdeal.τ Cert.OutWeightsGradientIdeal.sig) → Buf (Elt Ideal) ℓ) (g' : Dev Cert.OutWeightsGradientIdeal.nD → PrngReg), Pre_OutWeightsIdeal m →
    (∀ c : Dev Cert.OutWeightsIdeal.nD,
      m' ((c.tc : Thread Cert.OutWeightsGradientIdeal.nD Cert.OutWeightsGradientIdeal.τ).loc Cert.OutWeightsGradientIdeal.main_arg0) = m ((c.tc : Thread Cert.OutWeightsIdeal.nD Cert.OutWeightsIdeal.τ).loc Cert.OutWeightsIdeal.main_arg0)
      ∧ m' ((c.tc : Thread Cert.OutWeightsGradientIdeal.nD Cert.OutWeightsGradientIdeal.τ).loc Cert.OutWeightsGradientIdeal.main_arg1) = m ((c.tc : Thread Cert.OutWeightsIdeal.nD Cert.OutWeightsIdeal.τ).loc Cert.OutWeightsIdeal.main_arg1)
      ∧ m' ((c.tc : Thread Cert.OutWeightsGradientIdeal.nD Cert.OutWeightsGradientIdeal.τ).loc Cert.OutWeightsGradientIdeal.main_arg2) = m ((c.tc : Thread Cert.OutWeightsIdeal.nD Cert.OutWeightsIdeal.τ).loc Cert.OutWeightsIdeal.main_arg2)
      ∧ m' ((c.tc : Thread Cert.OutWeightsGradientIdeal.nD Cert.OutWeightsGradientIdeal.τ).loc Cert.OutWeightsGradientIdeal.main_arg3) = m ((c.tc : Thread Cert.OutWeightsIdeal.nD Cert.OutWeightsIdeal.τ).loc Cert.OutWeightsIdeal.main_arg3)
      ∧ m' ((c.tc : Thread Cert.OutWeightsGradientIdeal.nD Cert.OutWeightsGradientIdeal.τ).loc Cert.OutWeightsGradientIdeal.main_arg4) = m ((c.tc : Thread Cert.OutWeightsIdeal.nD Cert.OutWeightsIdeal.τ).loc Cert.OutWeightsIdeal.main_arg4)) →
    ∃ (v0 : (c : Dev Cert.OutWeightsIdeal.nD) → Buf (Elt Ideal) ((c.tc : Thread Cert.OutWeightsIdeal.nD Cert.OutWeightsIdeal.τ).loc Cert.OutWeightsIdeal.main_v2)),
      θ_run (Cert.OutWeightsIdeal.defs (F := Ideal)) (onTc (τ := Cert.OutWeightsIdeal.τ) (Cert.OutWeightsIdeal.main (F := Ideal))) ⟨m, fun _ => 0, g⟩ (fun r => ∀ c : Dev Cert.OutWeightsIdeal.nD,
          r.2.mem ((c.tc : Thread Cert.OutWeightsIdeal.nD Cert.OutWeightsIdeal.τ).loc Cert.OutWeightsIdeal.main_v2) = v0 c
          ∧ r.2.mem ((c.tc : Thread Cert.OutWeightsIdeal.nD Cert.OutWeightsIdeal.τ).loc Cert.OutWeightsIdeal.main_arg0) = m ((c.tc : Thread Cert.OutWeightsIdeal.nD Cert.OutWeightsIdeal.τ).loc Cert.OutWeightsIdeal.main_arg0)
          ∧ r.2.mem ((c.tc : Thread Cert.OutWeightsIdeal.nD Cert.OutWeightsIdeal.τ).loc Cert.OutWeightsIdeal.main_arg1) = m ((c.tc : Thread Cert.OutWeightsIdeal.nD Cert.OutWeightsIdeal.τ).loc Cert.OutWeightsIdeal.main_arg1)
          ∧ r.2.mem ((c.tc : Thread Cert.OutWeightsIdeal.nD Cert.OutWeightsIdeal.τ).loc Cert.OutWeightsIdeal.main_arg2) = m ((c.tc : Thread Cert.OutWeightsIdeal.nD Cert.OutWeightsIdeal.τ).loc Cert.OutWeightsIdeal.main_arg2)
          ∧ r.2.mem ((c.tc : Thread Cert.OutWeightsIdeal.nD Cert.OutWeightsIdeal.τ).loc Cert.OutWeightsIdeal.main_arg3) = m ((c.tc : Thread Cert.OutWeightsIdeal.nD Cert.OutWeightsIdeal.τ).loc Cert.OutWeightsIdeal.main_arg3)
          ∧ r.2.mem ((c.tc : Thread Cert.OutWeightsIdeal.nD Cert.OutWeightsIdeal.τ).loc Cert.OutWeightsIdeal.main_arg4) = m ((c.tc : Thread Cert.OutWeightsIdeal.nD Cert.OutWeightsIdeal.τ).loc Cert.OutWeightsIdeal.main_arg4))
      ∧ θ_run (Cert.OutWeightsGradientIdeal.defs (F := Ideal)) (onTc (τ := Cert.OutWeightsGradientIdeal.τ) (Cert.OutWeightsGradientIdeal.main (F := Ideal))) ⟨m', fun _ => 0, g'⟩ (fun r => ∀ c : Dev Cert.OutWeightsGradientIdeal.nD,
          r.2.mem ((c.tc : Thread Cert.OutWeightsGradientIdeal.nD Cert.OutWeightsGradientIdeal.τ).loc Cert.OutWeightsGradientIdeal.main_v5) = v0 c
          ∧ r.2.mem ((c.tc : Thread Cert.OutWeightsGradientIdeal.nD Cert.OutWeightsGradientIdeal.τ).loc Cert.OutWeightsGradientIdeal.main_arg0) = m' ((c.tc : Thread Cert.OutWeightsGradientIdeal.nD Cert.OutWeightsGradientIdeal.τ).loc Cert.OutWeightsGradientIdeal.main_arg0)
          ∧ r.2.mem ((c.tc : Thread Cert.OutWeightsGradientIdeal.nD Cert.OutWeightsGradientIdeal.τ).loc Cert.OutWeightsGradientIdeal.main_arg1) = m' ((c.tc : Thread Cert.OutWeightsGradientIdeal.nD Cert.OutWeightsGradientIdeal.τ).loc Cert.OutWeightsGradientIdeal.main_arg1)
          ∧ r.2.mem ((c.tc : Thread Cert.OutWeightsGradientIdeal.nD Cert.OutWeightsGradientIdeal.τ).loc Cert.OutWeightsGradientIdeal.main_arg2) = m' ((c.tc : Thread Cert.OutWeightsGradientIdeal.nD Cert.OutWeightsGradientIdeal.τ).loc Cert.OutWeightsGradientIdeal.main_arg2)
          ∧ r.2.mem ((c.tc : Thread Cert.OutWeightsGradientIdeal.nD Cert.OutWeightsGradientIdeal.τ).loc Cert.OutWeightsGradientIdeal.main_arg3) = m' ((c.tc : Thread Cert.OutWeightsGradientIdeal.nD Cert.OutWeightsGradientIdeal.τ).loc Cert.OutWeightsGradientIdeal.main_arg3)
          ∧ r.2.mem ((c.tc : Thread Cert.OutWeightsGradientIdeal.nD Cert.OutWeightsGradientIdeal.τ).loc Cert.OutWeightsGradientIdeal.main_arg4) = m' ((c.tc : Thread Cert.OutWeightsGradientIdeal.nD Cert.OutWeightsGradientIdeal.τ).loc Cert.OutWeightsGradientIdeal.main_arg4))

def preserves_HeadForward_HeadForwardIdeal : Prop :=
  True

def algebraic_HeadForwardIdeal_HeadGradientIdeal [hHeadForwardIdeal : Cert.HeadForwardIdeal.Facts] [hHeadGradientIdeal : Cert.HeadGradientIdeal.Facts] : Prop :=
  ∀ (m : (ℓ : Loc Cert.HeadForwardIdeal.nD Cert.HeadForwardIdeal.τ Cert.HeadForwardIdeal.sig) → Buf (Elt Ideal) ℓ) (g : Dev Cert.HeadForwardIdeal.nD → PrngReg)
    (m' : (ℓ : Loc Cert.HeadGradientIdeal.nD Cert.HeadGradientIdeal.τ Cert.HeadGradientIdeal.sig) → Buf (Elt Ideal) ℓ) (g' : Dev Cert.HeadGradientIdeal.nD → PrngReg), Pre_HeadForwardIdeal m →
    (∀ c : Dev Cert.HeadForwardIdeal.nD,
      m' ((c.tc : Thread Cert.HeadGradientIdeal.nD Cert.HeadGradientIdeal.τ).loc Cert.HeadGradientIdeal.main_arg0) = m ((c.tc : Thread Cert.HeadForwardIdeal.nD Cert.HeadForwardIdeal.τ).loc Cert.HeadForwardIdeal.main_arg0)
      ∧ m' ((c.tc : Thread Cert.HeadGradientIdeal.nD Cert.HeadGradientIdeal.τ).loc Cert.HeadGradientIdeal.main_arg1) = m ((c.tc : Thread Cert.HeadForwardIdeal.nD Cert.HeadForwardIdeal.τ).loc Cert.HeadForwardIdeal.main_arg1)
      ∧ m' ((c.tc : Thread Cert.HeadGradientIdeal.nD Cert.HeadGradientIdeal.τ).loc Cert.HeadGradientIdeal.main_arg2) = m ((c.tc : Thread Cert.HeadForwardIdeal.nD Cert.HeadForwardIdeal.τ).loc Cert.HeadForwardIdeal.main_arg2)
      ∧ m' ((c.tc : Thread Cert.HeadGradientIdeal.nD Cert.HeadGradientIdeal.τ).loc Cert.HeadGradientIdeal.main_arg3) = m ((c.tc : Thread Cert.HeadForwardIdeal.nD Cert.HeadForwardIdeal.τ).loc Cert.HeadForwardIdeal.main_arg3)
      ∧ m' ((c.tc : Thread Cert.HeadGradientIdeal.nD Cert.HeadGradientIdeal.τ).loc Cert.HeadGradientIdeal.main_arg4) = m ((c.tc : Thread Cert.HeadForwardIdeal.nD Cert.HeadForwardIdeal.τ).loc Cert.HeadForwardIdeal.main_arg4)
      ∧ m' ((c.tc : Thread Cert.HeadGradientIdeal.nD Cert.HeadGradientIdeal.τ).loc Cert.HeadGradientIdeal.main_arg5) = m ((c.tc : Thread Cert.HeadForwardIdeal.nD Cert.HeadForwardIdeal.τ).loc Cert.HeadForwardIdeal.main_arg5)
      ∧ m' ((c.tc : Thread Cert.HeadGradientIdeal.nD Cert.HeadGradientIdeal.τ).loc Cert.HeadGradientIdeal.main_arg6) = m ((c.tc : Thread Cert.HeadForwardIdeal.nD Cert.HeadForwardIdeal.τ).loc Cert.HeadForwardIdeal.main_arg6)) →
    ∃ (v0 : (c : Dev Cert.HeadForwardIdeal.nD) → Buf (Elt Ideal) ((c.tc : Thread Cert.HeadForwardIdeal.nD Cert.HeadForwardIdeal.τ).loc Cert.HeadForwardIdeal.main_v11_0)) (v1 : (c : Dev Cert.HeadForwardIdeal.nD) → Buf (Elt Ideal) ((c.tc : Thread Cert.HeadForwardIdeal.nD Cert.HeadForwardIdeal.τ).loc Cert.HeadForwardIdeal.main_v11_1)) (v2 : (c : Dev Cert.HeadForwardIdeal.nD) → Buf (Elt Ideal) ((c.tc : Thread Cert.HeadForwardIdeal.nD Cert.HeadForwardIdeal.τ).loc Cert.HeadForwardIdeal.main_v11_2)) (v3 : (c : Dev Cert.HeadForwardIdeal.nD) → Buf (Elt Ideal) ((c.tc : Thread Cert.HeadForwardIdeal.nD Cert.HeadForwardIdeal.τ).loc Cert.HeadForwardIdeal.main_v11_3)) (v4 : (c : Dev Cert.HeadForwardIdeal.nD) → Buf (Elt Ideal) ((c.tc : Thread Cert.HeadForwardIdeal.nD Cert.HeadForwardIdeal.τ).loc Cert.HeadForwardIdeal.main_v11_4)),
      θ_run (Cert.HeadForwardIdeal.defs (F := Ideal)) (onTc (τ := Cert.HeadForwardIdeal.τ) (Cert.HeadForwardIdeal.main (F := Ideal))) ⟨m, fun _ => 0, g⟩ (fun r => ∀ c : Dev Cert.HeadForwardIdeal.nD,
          r.2.mem ((c.tc : Thread Cert.HeadForwardIdeal.nD Cert.HeadForwardIdeal.τ).loc Cert.HeadForwardIdeal.main_v11_0) = v0 c
          ∧ r.2.mem ((c.tc : Thread Cert.HeadForwardIdeal.nD Cert.HeadForwardIdeal.τ).loc Cert.HeadForwardIdeal.main_v11_1) = v1 c
          ∧ r.2.mem ((c.tc : Thread Cert.HeadForwardIdeal.nD Cert.HeadForwardIdeal.τ).loc Cert.HeadForwardIdeal.main_v11_2) = v2 c
          ∧ r.2.mem ((c.tc : Thread Cert.HeadForwardIdeal.nD Cert.HeadForwardIdeal.τ).loc Cert.HeadForwardIdeal.main_v11_3) = v3 c
          ∧ r.2.mem ((c.tc : Thread Cert.HeadForwardIdeal.nD Cert.HeadForwardIdeal.τ).loc Cert.HeadForwardIdeal.main_v11_4) = v4 c
          ∧ r.2.mem ((c.tc : Thread Cert.HeadForwardIdeal.nD Cert.HeadForwardIdeal.τ).loc Cert.HeadForwardIdeal.main_arg0) = m ((c.tc : Thread Cert.HeadForwardIdeal.nD Cert.HeadForwardIdeal.τ).loc Cert.HeadForwardIdeal.main_arg0)
          ∧ r.2.mem ((c.tc : Thread Cert.HeadForwardIdeal.nD Cert.HeadForwardIdeal.τ).loc Cert.HeadForwardIdeal.main_arg1) = m ((c.tc : Thread Cert.HeadForwardIdeal.nD Cert.HeadForwardIdeal.τ).loc Cert.HeadForwardIdeal.main_arg1)
          ∧ r.2.mem ((c.tc : Thread Cert.HeadForwardIdeal.nD Cert.HeadForwardIdeal.τ).loc Cert.HeadForwardIdeal.main_arg2) = m ((c.tc : Thread Cert.HeadForwardIdeal.nD Cert.HeadForwardIdeal.τ).loc Cert.HeadForwardIdeal.main_arg2)
          ∧ r.2.mem ((c.tc : Thread Cert.HeadForwardIdeal.nD Cert.HeadForwardIdeal.τ).loc Cert.HeadForwardIdeal.main_arg3) = m ((c.tc : Thread Cert.HeadForwardIdeal.nD Cert.HeadForwardIdeal.τ).loc Cert.HeadForwardIdeal.main_arg3)
          ∧ r.2.mem ((c.tc : Thread Cert.HeadForwardIdeal.nD Cert.HeadForwardIdeal.τ).loc Cert.HeadForwardIdeal.main_arg4) = m ((c.tc : Thread Cert.HeadForwardIdeal.nD Cert.HeadForwardIdeal.τ).loc Cert.HeadForwardIdeal.main_arg4)
          ∧ r.2.mem ((c.tc : Thread Cert.HeadForwardIdeal.nD Cert.HeadForwardIdeal.τ).loc Cert.HeadForwardIdeal.main_arg5) = m ((c.tc : Thread Cert.HeadForwardIdeal.nD Cert.HeadForwardIdeal.τ).loc Cert.HeadForwardIdeal.main_arg5)
          ∧ r.2.mem ((c.tc : Thread Cert.HeadForwardIdeal.nD Cert.HeadForwardIdeal.τ).loc Cert.HeadForwardIdeal.main_arg6) = m ((c.tc : Thread Cert.HeadForwardIdeal.nD Cert.HeadForwardIdeal.τ).loc Cert.HeadForwardIdeal.main_arg6))
      ∧ θ_run (Cert.HeadGradientIdeal.defs (F := Ideal)) (onTc (τ := Cert.HeadGradientIdeal.τ) (Cert.HeadGradientIdeal.main (F := Ideal))) ⟨m', fun _ => 0, g'⟩ (fun r => ∀ c : Dev Cert.HeadGradientIdeal.nD,
          r.2.mem ((c.tc : Thread Cert.HeadGradientIdeal.nD Cert.HeadGradientIdeal.τ).loc Cert.HeadGradientIdeal.main_v77) = v0 c
          ∧ r.2.mem ((c.tc : Thread Cert.HeadGradientIdeal.nD Cert.HeadGradientIdeal.τ).loc Cert.HeadGradientIdeal.main_v32) = v1 c
          ∧ r.2.mem ((c.tc : Thread Cert.HeadGradientIdeal.nD Cert.HeadGradientIdeal.τ).loc Cert.HeadGradientIdeal.main_v33) = v2 c
          ∧ r.2.mem ((c.tc : Thread Cert.HeadGradientIdeal.nD Cert.HeadGradientIdeal.τ).loc Cert.HeadGradientIdeal.main_v34) = v3 c
          ∧ r.2.mem ((c.tc : Thread Cert.HeadGradientIdeal.nD Cert.HeadGradientIdeal.τ).loc Cert.HeadGradientIdeal.main_v37) = v4 c
          ∧ r.2.mem ((c.tc : Thread Cert.HeadGradientIdeal.nD Cert.HeadGradientIdeal.τ).loc Cert.HeadGradientIdeal.main_arg0) = m' ((c.tc : Thread Cert.HeadGradientIdeal.nD Cert.HeadGradientIdeal.τ).loc Cert.HeadGradientIdeal.main_arg0)
          ∧ r.2.mem ((c.tc : Thread Cert.HeadGradientIdeal.nD Cert.HeadGradientIdeal.τ).loc Cert.HeadGradientIdeal.main_arg1) = m' ((c.tc : Thread Cert.HeadGradientIdeal.nD Cert.HeadGradientIdeal.τ).loc Cert.HeadGradientIdeal.main_arg1)
          ∧ r.2.mem ((c.tc : Thread Cert.HeadGradientIdeal.nD Cert.HeadGradientIdeal.τ).loc Cert.HeadGradientIdeal.main_arg2) = m' ((c.tc : Thread Cert.HeadGradientIdeal.nD Cert.HeadGradientIdeal.τ).loc Cert.HeadGradientIdeal.main_arg2)
          ∧ r.2.mem ((c.tc : Thread Cert.HeadGradientIdeal.nD Cert.HeadGradientIdeal.τ).loc Cert.HeadGradientIdeal.main_arg3) = m' ((c.tc : Thread Cert.HeadGradientIdeal.nD Cert.HeadGradientIdeal.τ).loc Cert.HeadGradientIdeal.main_arg3)
          ∧ r.2.mem ((c.tc : Thread Cert.HeadGradientIdeal.nD Cert.HeadGradientIdeal.τ).loc Cert.HeadGradientIdeal.main_arg4) = m' ((c.tc : Thread Cert.HeadGradientIdeal.nD Cert.HeadGradientIdeal.τ).loc Cert.HeadGradientIdeal.main_arg4)
          ∧ r.2.mem ((c.tc : Thread Cert.HeadGradientIdeal.nD Cert.HeadGradientIdeal.τ).loc Cert.HeadGradientIdeal.main_arg5) = m' ((c.tc : Thread Cert.HeadGradientIdeal.nD Cert.HeadGradientIdeal.τ).loc Cert.HeadGradientIdeal.main_arg5)
          ∧ r.2.mem ((c.tc : Thread Cert.HeadGradientIdeal.nD Cert.HeadGradientIdeal.τ).loc Cert.HeadGradientIdeal.main_arg6) = m' ((c.tc : Thread Cert.HeadGradientIdeal.nD Cert.HeadGradientIdeal.τ).loc Cert.HeadGradientIdeal.main_arg6))

def Claim : Prop :=
  ∃ (hKernel : Cert.Kernel.Facts) (hKernelIdeal : Cert.KernelIdeal.Facts) (hReferenceIdeal : Cert.ReferenceIdeal.Facts) (hFfnBackward : Cert.FfnBackward.Facts) (hFfnBackwardIdeal : Cert.FfnBackwardIdeal.Facts) (hFfnGradientIdeal : Cert.FfnGradientIdeal.Facts) (hFfnWeights : Cert.FfnWeights.Facts) (hFfnWeightsIdeal : Cert.FfnWeightsIdeal.Facts) (hFfnWeightsGradientIdeal : Cert.FfnWeightsGradientIdeal.Facts) (hFfnDown : Cert.FfnDown.Facts) (hFfnDownIdeal : Cert.FfnDownIdeal.Facts) (hFfnDownGradientIdeal : Cert.FfnDownGradientIdeal.Facts) (hFfnForward : Cert.FfnForward.Facts) (hFfnForwardIdeal : Cert.FfnForwardIdeal.Facts) (hFfnLayerIdeal : Cert.FfnLayerIdeal.Facts) (hFfnWeight : Cert.FfnWeight.Facts) (hFfnWeightIdeal : Cert.FfnWeightIdeal.Facts) (hFfnWeightGradientIdeal : Cert.FfnWeightGradientIdeal.Facts) (hInWeights : Cert.InWeights.Facts) (hInWeightsIdeal : Cert.InWeightsIdeal.Facts) (hInWeightsGradientIdeal : Cert.InWeightsGradientIdeal.Facts) (hOutForward : Cert.OutForward.Facts) (hOutForwardIdeal : Cert.OutForwardIdeal.Facts) (hOutLayerIdeal : Cert.OutLayerIdeal.Facts) (hOutBackward : Cert.OutBackward.Facts) (hOutBackwardIdeal : Cert.OutBackwardIdeal.Facts) (hOutGradientIdeal : Cert.OutGradientIdeal.Facts) (hOutWeights : Cert.OutWeights.Facts) (hOutWeightsIdeal : Cert.OutWeightsIdeal.Facts) (hOutWeightsGradientIdeal : Cert.OutWeightsGradientIdeal.Facts) (hHeadForward : Cert.HeadForward.Facts) (hHeadForwardIdeal : Cert.HeadForwardIdeal.Facts) (hHeadGradientIdeal : Cert.HeadGradientIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_FfnBackward (hFfnBackward := hFfnBackward)
    ∧ quiescent_FfnBackwardIdeal (hFfnBackwardIdeal := hFfnBackwardIdeal)
    ∧ quiescent_FfnBackwardIdeal_pre_finite (hFfnBackwardIdeal := hFfnBackwardIdeal) (hPre_finite := hPre_finite)
    ∧ quiescent_FfnGradientIdeal (hFfnGradientIdeal := hFfnGradientIdeal)
    ∧ quiescent_FfnGradientIdeal_pre_finite (hFfnGradientIdeal := hFfnGradientIdeal) (hPre_finite := hPre_finite)
    ∧ quiescent_FfnWeights (hFfnWeights := hFfnWeights)
    ∧ quiescent_FfnWeightsIdeal (hFfnWeightsIdeal := hFfnWeightsIdeal)
    ∧ quiescent_FfnWeightsGradientIdeal (hFfnWeightsGradientIdeal := hFfnWeightsGradientIdeal)
    ∧ quiescent_FfnDown (hFfnDown := hFfnDown)
    ∧ quiescent_FfnDownIdeal (hFfnDownIdeal := hFfnDownIdeal)
    ∧ quiescent_FfnDownGradientIdeal (hFfnDownGradientIdeal := hFfnDownGradientIdeal)
    ∧ quiescent_FfnForward (hFfnForward := hFfnForward)
    ∧ quiescent_FfnForwardIdeal (hFfnForwardIdeal := hFfnForwardIdeal)
    ∧ quiescent_FfnLayerIdeal (hFfnLayerIdeal := hFfnLayerIdeal)
    ∧ quiescent_FfnWeight (hFfnWeight := hFfnWeight)
    ∧ quiescent_FfnWeightIdeal (hFfnWeightIdeal := hFfnWeightIdeal)
    ∧ quiescent_FfnWeightGradientIdeal (hFfnWeightGradientIdeal := hFfnWeightGradientIdeal)
    ∧ quiescent_InWeights (hInWeights := hInWeights)
    ∧ quiescent_InWeightsIdeal (hInWeightsIdeal := hInWeightsIdeal)
    ∧ quiescent_InWeightsGradientIdeal (hInWeightsGradientIdeal := hInWeightsGradientIdeal)
    ∧ quiescent_OutForward (hOutForward := hOutForward)
    ∧ quiescent_OutForwardIdeal (hOutForwardIdeal := hOutForwardIdeal)
    ∧ quiescent_OutLayerIdeal (hOutLayerIdeal := hOutLayerIdeal)
    ∧ quiescent_OutBackward (hOutBackward := hOutBackward)
    ∧ quiescent_OutBackwardIdeal (hOutBackwardIdeal := hOutBackwardIdeal)
    ∧ quiescent_OutGradientIdeal (hOutGradientIdeal := hOutGradientIdeal)
    ∧ quiescent_OutWeights (hOutWeights := hOutWeights)
    ∧ quiescent_OutWeightsIdeal (hOutWeightsIdeal := hOutWeightsIdeal)
    ∧ quiescent_OutWeightsGradientIdeal (hOutWeightsGradientIdeal := hOutWeightsGradientIdeal)
    ∧ quiescent_HeadForward (hHeadForward := hHeadForward)
    ∧ quiescent_HeadForwardIdeal (hHeadForwardIdeal := hHeadForwardIdeal)
    ∧ quiescent_HeadGradientIdeal (hHeadGradientIdeal := hHeadGradientIdeal)
    ∧ preserves_Kernel_KernelIdeal
    ∧ algebraic_KernelIdeal_ReferenceIdeal (hKernelIdeal := hKernelIdeal) (hReferenceIdeal := hReferenceIdeal)
    ∧ preserves_FfnBackward_FfnBackwardIdeal
    ∧ algebraic_FfnBackwardIdeal_FfnGradientIdeal_pre_finite (hFfnBackwardIdeal := hFfnBackwardIdeal) (hFfnGradientIdeal := hFfnGradientIdeal) (hPre_finite := hPre_finite)
    ∧ preserves_FfnWeights_FfnWeightsIdeal
    ∧ algebraic_FfnWeightsIdeal_FfnWeightsGradientIdeal (hFfnWeightsIdeal := hFfnWeightsIdeal) (hFfnWeightsGradientIdeal := hFfnWeightsGradientIdeal)
    ∧ preserves_FfnDown_FfnDownIdeal
    ∧ algebraic_FfnDownIdeal_FfnDownGradientIdeal (hFfnDownIdeal := hFfnDownIdeal) (hFfnDownGradientIdeal := hFfnDownGradientIdeal)
    ∧ preserves_FfnForward_FfnForwardIdeal
    ∧ algebraic_FfnForwardIdeal_FfnLayerIdeal (hFfnForwardIdeal := hFfnForwardIdeal) (hFfnLayerIdeal := hFfnLayerIdeal)
    ∧ preserves_FfnWeight_FfnWeightIdeal
    ∧ algebraic_FfnWeightIdeal_FfnWeightGradientIdeal (hFfnWeightIdeal := hFfnWeightIdeal) (hFfnWeightGradientIdeal := hFfnWeightGradientIdeal)
    ∧ preserves_InWeights_InWeightsIdeal
    ∧ algebraic_InWeightsIdeal_InWeightsGradientIdeal (hInWeightsIdeal := hInWeightsIdeal) (hInWeightsGradientIdeal := hInWeightsGradientIdeal)
    ∧ preserves_OutForward_OutForwardIdeal
    ∧ algebraic_OutForwardIdeal_OutLayerIdeal (hOutForwardIdeal := hOutForwardIdeal) (hOutLayerIdeal := hOutLayerIdeal)
    ∧ preserves_OutBackward_OutBackwardIdeal
    ∧ algebraic_OutBackwardIdeal_OutGradientIdeal (hOutBackwardIdeal := hOutBackwardIdeal) (hOutGradientIdeal := hOutGradientIdeal)
    ∧ preserves_OutWeights_OutWeightsIdeal
    ∧ algebraic_OutWeightsIdeal_OutWeightsGradientIdeal (hOutWeightsIdeal := hOutWeightsIdeal) (hOutWeightsGradientIdeal := hOutWeightsGradientIdeal)
    ∧ preserves_HeadForward_HeadForwardIdeal
    ∧ algebraic_HeadForwardIdeal_HeadGradientIdeal (hHeadForwardIdeal := hHeadForwardIdeal) (hHeadGradientIdeal := hHeadGradientIdeal)
-- ==== Pre_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S8192x1024 1 × IVec S8192x1024 1 × IVec S1x1024 1 × IVec S1024x2816 1 × IVec S1024x2816 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kernel.lean ====
abbrev S8192x512 : Shape := ⟨2, ![8192, 512]⟩
abbrev S8192x2048 : Shape := ⟨2, ![8192, 2048]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S4 : Shape := ⟨1, ![4]⟩
abbrev S128x1 : Shape := ⟨2, ![128, 1]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S512x512 : Shape := ⟨2, ![512, 512]⟩
abbrev S512x128 : Shape := ⟨2, ![512, 128]⟩

abbrev nBuf : Space → Nat
  | .hbm => 104
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S8192, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S128, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i1⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i1⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .f32⟩
  | .hbm, ⟨26, _⟩ => ⟨S8192x1, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S128, .f32⟩
  | .hbm, ⟨50, _⟩ => ⟨S128x1, .f32⟩
  | .hbm, ⟨51, _⟩ => ⟨S1x128, .f32⟩
  | .hbm, ⟨52, _⟩ => ⟨S128x128, .f32⟩
  | .hbm, ⟨53, _⟩ => ⟨S128x128, .f32⟩
  | .hbm, ⟨54, _⟩ => ⟨S128x128, .f32⟩
  | .hbm, ⟨55, _⟩ => ⟨S_, .f32⟩
  | .hbm, ⟨56, _⟩ => ⟨S128x128, .f32⟩
  | .hbm, ⟨57, _⟩ => ⟨S128x128, .i1⟩
  | .hbm, ⟨58, _⟩ => ⟨S4x1x1, .f32⟩
  | .hbm, ⟨59, _⟩ => ⟨S_, .f32⟩
  | .hbm, ⟨60, _⟩ => ⟨S128x128, .f32⟩
  | .hbm, ⟨61, _⟩ => ⟨S128x128, .f32⟩
  | .hbm, ⟨62, _⟩ => ⟨S1x128x128, .f32⟩
  | .hbm, ⟨63, _⟩ => ⟨S4x128x128, .f32⟩
  | .hbm, ⟨64, _⟩ => ⟨S4x128x128, .f32⟩
  | .hbm, ⟨65, _⟩ => ⟨S4x128x128, .f32⟩
  | .hbm, ⟨66, _⟩ => ⟨S4x128x128, .f32⟩
  | .hbm, ⟨67, _⟩ => ⟨S_, .f32⟩
  | .hbm, ⟨68, _⟩ => ⟨S_, .f32⟩
  | .hbm, ⟨69, _⟩ => ⟨S4x128x128, .i1⟩
  | .hbm, ⟨70, _⟩ => ⟨S4x128x128, .f32⟩
  | .hbm, ⟨71, _⟩ => ⟨S4x128x128, .f32⟩
  | .hbm, ⟨72, _⟩ => ⟨S4x1, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S4x128, .f32⟩
  | .hbm, ⟨78, _⟩ => ⟨S4x128, .f32⟩
  | .hbm, ⟨79, _⟩ => ⟨S4x128, .f32⟩
  | .hbm, ⟨80, _⟩ => ⟨S4x128, .f32⟩
  | .hbm, ⟨81, _⟩ => ⟨S4x1, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S4x128, .f32⟩
  | .hbm, ⟨87, _⟩ => ⟨S4x128, .f32⟩
  | .hbm, ⟨88, _⟩ => ⟨S4x128, .f32⟩
  | .hbm, ⟨89, _⟩ => ⟨S4x128, .f32⟩
  | .hbm, ⟨90, _⟩ => ⟨S_, .f32⟩
  | .hbm, ⟨91, _⟩ => ⟨S4, .f32⟩
  | .hbm, ⟨92, _⟩ => ⟨S4, .f32⟩
  | .hbm, ⟨93, _⟩ => ⟨S4, .f32⟩
  | .hbm, ⟨94, _⟩ => ⟨S8192x128, .f32⟩
  | .hbm, ⟨95, _⟩ => ⟨S8192x128, .f32⟩
  | .hbm, ⟨96, _⟩ => ⟨S4x128x1, .f32⟩
  | .hbm, ⟨97, _⟩ => ⟨S4x128x128, .f32⟩
  | .hbm, ⟨98, _⟩ => ⟨S4x128x1, .f32⟩
  | .hbm, ⟨99, _⟩ => ⟨S4x128x128, .f32⟩
  | .hbm, ⟨100, _⟩ => ⟨S4x1x1, .f32⟩
  | .hbm, ⟨101, _⟩ => ⟨S4x128x128, .f32⟩
  | .hbm, ⟨102, _⟩ => ⟨S8192x512, .bf16⟩
  | .hbm, ⟨103, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S4x128x128, .f32⟩
  | .local _ .vmem, ⟨13, _⟩ => ⟨S4x128x128, .f32⟩
  | .local _ .vmem, ⟨14, _⟩ => ⟨S4x128x128, .f32⟩
  | .local _ .vmem, ⟨15, _⟩ => ⟨S4x128x128, .f32⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S4x128x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_1 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v40 : Ref sig .tc := ⟨.hbm, 71, rfl⟩
abbrev main_v41 : Ref sig .tc := ⟨.hbm, 72, rfl⟩
abbrev main_cst_8 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68_0 : Ref sig .tc := ⟨.hbm, 102, rfl⟩
abbrev main_v68_1 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x512 : Shape := ⟨2, ![8192, 512]⟩
abbrev S8192x2048 : Shape := ⟨2, ![8192, 2048]⟩
abbrev S1x8192x512 : Shape := ⟨3, ![1, 8192, 512]⟩
abbrev S1x8192x4x128 : Shape := ⟨4, ![1, 8192, 4, 128]⟩
abbrev S1x4x8192x128 : Shape := ⟨4, ![1, 4, 8192, 128]⟩
abbrev S8192 : Shape := ⟨1, ![8192]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S8192x64x2 : Shape := ⟨3, ![8192, 64, 2]⟩
abbrev S8192x128 : Shape := ⟨2, ![8192, 128]⟩
abbrev S1x1x8192x128 : Shape := ⟨4, ![1, 1, 8192, 128]⟩
abbrev S1x4x8192x64 : Shape := ⟨4, ![1, 4, 8192, 64]⟩
abbrev S1x4x8192x64x1 : Shape := ⟨5, ![1, 4, 8192, 64, 1]⟩
abbrev S1x4x8192x64x2 : Shape := ⟨5, ![1, 4, 8192, 64, 2]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S1x4x64x128x128 : Shape := ⟨5, ![1, 4, 64, 128, 128]⟩
abbrev S1x4x1x128x128 : Shape := ⟨5, ![1, 4, 1, 128, 128]⟩
abbrev S1x4x1x128x1 : Shape := ⟨5, ![1, 4, 1, 128, 1]⟩
abbrev S1x4x1x1 : Shape := ⟨4, ![1, 4, 1, 1]⟩
abbrev S64x1x4x128x128 : Shape := ⟨5, ![64, 1, 4, 128, 128]⟩
abbrev S1x4x128x128 : Shape := ⟨4, ![1, 4, 128, 128]⟩
abbrev S1x1x4x128x128 : Shape := ⟨5, ![1, 1, 4, 128, 128]⟩

abbrev nBuf : Space → Nat
  | .hbm => 246
  | .vmem => 0
  | .smem => 0
  | _ => 0

abbrev hbmTy0_0 (i : Nat) : BufTy := match i % 128 with
  | 0 => ⟨S8192x512, .f32⟩
  | 1 => ⟨S8192x2048, .f32⟩
  | 2 => ⟨S8192x512, .f32⟩
  | 3 => ⟨S8192x512, .f32⟩
  | 4 => ⟨S8192x512, .f32⟩
  | 5 => ⟨S1x8192x512, .f32⟩
  | 6 => ⟨S1x8192x4x128, .f32⟩
  | 7 => ⟨S1x4x8192x128, .f32⟩
  | 8 => ⟨S8192, .f32⟩
  | 9 => ⟨S64, .f32⟩
  | 10 => ⟨S_, .f32⟩
  | 11 => ⟨S64, .f32⟩
  | 12 => ⟨S64, .f32⟩
  | 13 => ⟨S_, .f32⟩
  | 14 => ⟨S64, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S8192x1, .f32⟩
  | 24 => ⟨S1x64, .f32⟩
  | 25 => ⟨S8192x64, .f32⟩
  | 26 => ⟨S8192x64, .f32⟩
  | 27 => ⟨S8192x64, .f32⟩
  | 28 => ⟨S8192x64x2, .f32⟩
  | 29 => ⟨S8192x128, .f32⟩
  | 30 => ⟨S8192x128, .f32⟩
  | 31 => ⟨S8192x128, .f32⟩
  | 32 => ⟨S1x1x8192x128, .f32⟩
  | 33 => ⟨S1x4x8192x128, .f32⟩
  | 34 => ⟨S1x4x8192x128, .f32⟩
  | 35 => ⟨S1x4x8192x64, .f32⟩
  | 36 => ⟨S1x4x8192x64, .f32⟩
  | 37 => ⟨S1x4x8192x64, .f32⟩
  | 38 => ⟨S1x4x8192x64x1, .f32⟩
  | 39 => ⟨S1x4x8192x64x1, .f32⟩
  | 40 => ⟨S1x4x8192x64x2, .f32⟩
  | 41 => ⟨S1x4x8192x128, .f32⟩
  | 42 => ⟨S1x1x8192x128, .f32⟩
  | 43 => ⟨S1x4x8192x128, .f32⟩
  | 44 => ⟨S1x4x8192x128, .f32⟩
  | 45 => ⟨S1x4x8192x128, .f32⟩
  | 46 => ⟨S1x8192x512, .f32⟩
  | 47 => ⟨S1x8192x4x128, .f32⟩
  | 48 => ⟨S1x4x8192x128, .f32⟩
  | 49 => ⟨S8192, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S64, .f32⟩
  | 58 => ⟨S_, .f32⟩
  | 59 => ⟨S64, .f32⟩
  | 60 => ⟨S64, .f32⟩
  | 61 => ⟨S_, .f32⟩
  | 62 => ⟨S64, .f32⟩
  | 63 => ⟨S64, .f32⟩
  | 64 => ⟨S8192x1, .f32⟩
  | 65 => ⟨S1x64, .f32⟩
  | 66 => ⟨S8192x64, .f32⟩
  | 67 => ⟨S8192x64, .f32⟩
  | 68 => ⟨S8192x64, .f32⟩
  | 69 => ⟨S8192x64x2, .f32⟩
  | 70 => ⟨S8192x128, .f32⟩
  | 71 => ⟨S8192x128, .f32⟩
  | 72 => ⟨S8192x128, .f32⟩
  | 73 => ⟨S1x1x8192x128, .f32⟩
  | 74 => ⟨S1x4x8192x128, .f32⟩
  | 75 => ⟨S1x4x8192x128, .f32⟩
  | 76 => ⟨S1x4x8192x64, .f32⟩
  | 77 => ⟨S1x4x8192x64, .f32⟩
  | 78 => ⟨S1x4x8192x64, .f32⟩
  | 79 => ⟨S1x4x8192x64x1, .f32⟩
  | 80 => ⟨S1x4x8192x64x1, .f32⟩
  | 81 => ⟨S1x4x8192x64x2, .f32⟩
  | 82 => ⟨S1x4x8192x128, .f32⟩
  | 83 => ⟨S1x1x8192x128, .f32⟩
  | 84 => ⟨S1x4x8192x128, .f32⟩
  | 85 => ⟨S1x4x8192x128, .f32⟩
  | 86 => ⟨S1x4x8192x128, .f32⟩
  | 87 => ⟨S_, .f32⟩
  | 88 => ⟨S1x4x8192x128, .f32⟩
  | 89 => ⟨S1x4x8192x128, .f32⟩
  | 90 => ⟨S1x8192x512, .f32⟩
  | 91 => ⟨S1x8192x4x128, .f32⟩
  | 92 => ⟨S1x4x8192x128, .f32⟩
  | 93 => ⟨S4, .f32⟩
  | 94 => ⟨S_, .f32⟩
  | 95 => ⟨S4, .f32⟩
  | 96 => ⟨S4, .f32⟩
  | 97 => ⟨S_, .f32⟩
  | 98 => ⟨S4, .f32⟩
  | 99 => ⟨S4, .f32⟩
  | 100 => ⟨S_, .f32⟩
  | 101 => ⟨S4, .f32⟩
  | 102 => ⟨S4, .f32⟩
  | 103 => ⟨S4, .f32⟩
  | 104 => ⟨S128, .f32⟩
  | 105 => ⟨S128x1, .f32⟩
  | 106 => ⟨S1x128, .f32⟩
  | 107 => ⟨S128x128, .f32⟩
  | 108 => ⟨S128x128, .f32⟩
  | 109 => ⟨S128x128, .f32⟩
  | 110 => ⟨S_, .f32⟩
  | 111 => ⟨S128x128, .f32⟩
  | 112 => ⟨S128x128, .i1⟩
  | 113 => ⟨S4x1x1, .f32⟩
  | 114 => ⟨S_, .f32⟩
  | 115 => ⟨S128x128, .f32⟩
  | 116 => ⟨S128x128, .f32⟩
  | 117 => ⟨S1x128x128, .f32⟩
  | 118 => ⟨S4x128x128, .f32⟩
  | 119 => ⟨S4x128x128, .f32⟩
  | 120 => ⟨S4x128x128, .f32⟩
  | 121 => ⟨S4x128x128, .f32⟩
  | 122 => ⟨S_, .f32⟩
  | 123 => ⟨S_, .f32⟩
  | 124 => ⟨S4x128x128, .i1⟩
  | 125 => ⟨S4x128x128, .f32⟩
  | 126 => ⟨S4x128x128, .f32⟩
  | 127 => ⟨S4x1, .f32⟩
  | _ => ⟨S8192x512, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S4x128, .f32⟩
  | 5 => ⟨S4x128, .f32⟩
  | 6 => ⟨S4x128, .f32⟩
  | 7 => ⟨S4x128, .f32⟩
  | 8 => ⟨S4x1, .f32⟩
  | 9 => ⟨S_, .f32⟩
  | 10 => ⟨S128, .f32⟩
  | 11 => ⟨S128, .f32⟩
  | 12 => ⟨S1x128, .f32⟩
  | 13 => ⟨S4x128, .f32⟩
  | 14 => ⟨S4x128, .f32⟩
  | 15 => ⟨S4x128, .f32⟩
  | 16 => ⟨S4x128, .f32⟩
  | 17 => ⟨S_, .f32⟩
  | 18 => ⟨S4, .f32⟩
  | 19 => ⟨S4, .f32⟩
  | 20 => ⟨S4, .f32⟩
  | 21 => ⟨S1x4x64x128x128, .f32⟩
  | 22 => ⟨S1x4x64x128x128, .f32⟩
  | 23 => ⟨S1x4x64x128x128, .f32⟩
  | 24 => ⟨S1x4x64x128x128, .f32⟩
  | 25 => ⟨S1x4x1x128x128, .f32⟩
  | 26 => ⟨S1x4x64x128x128, .f32⟩
  | 27 => ⟨S1x4x64x128x128, .f32⟩
  | 28 => ⟨S1x4x1x128x1, .f32⟩
  | 29 => ⟨S1x4x64x128x128, .f32⟩
  | 30 => ⟨S1x4x64x128x128, .f32⟩
  | 31 => ⟨S1x4x1x1, .f32⟩
  | 32 => ⟨S1x4x1x128x1, .f32⟩
  | 33 => ⟨S1x8192x4x128, .f32⟩
  | 34 => ⟨S1x4x8192x128, .f32⟩
  | 35 => ⟨S1x4x64x128x128, .f32⟩
  | 36 => ⟨S1x4x64x128x128, .f32⟩
  | 37 => ⟨S1x4x64x128x128, .f32⟩
  | 38 => ⟨S1x4x64x128x128, .f32⟩
  | 39 => ⟨S64x1x4x128x128, .f32⟩
  | 40 => ⟨S_, .f32⟩
  | 41 => ⟨S1x4x128x128, .f32⟩
  | 42 => ⟨S_, .f32⟩
  | 43 => ⟨S64x1x4x128x128, .f32⟩
  | 44 => ⟨S_, .i32⟩
  | 45 => ⟨S64x1x4x128x128, .f32⟩
  | 46 => ⟨S1x4x1x1, .f32⟩
  | 47 => ⟨S_, .i32⟩
  | 48 => ⟨S1x4x128x128, .f32⟩
  | 49 => ⟨S64x1x4x128x128, .f32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S1x1x4x128x128, .f32⟩
  | 61 => ⟨S1x4x128x128, .f32⟩
  | 62 => ⟨S1x4x128x128, .f32⟩
  | 63 => ⟨S1x4x128x128, .f32⟩
  | 64 => ⟨S1x4x128x128, .f32⟩
  | 65 => ⟨S1x1x4x128x128, .f32⟩
  | 66 => ⟨S_, .i32⟩
  | 67 => ⟨S_, .i32⟩
  | 68 => ⟨S_, .i32⟩
  | 69 => ⟨S_, .i32⟩
  | 70 => ⟨S64x1x4x128x128, .f32⟩
  | 71 => ⟨S_, .i32⟩
  | 72 => ⟨S_, .i32⟩
  | 73 => ⟨S64x1x4x128x128, .f32⟩
  | 74 => ⟨S1x4x64x128x128, .f32⟩
  | 75 => ⟨S64x1x4x128x128, .f32⟩
  | 76 => ⟨S1x4x64x128x128, .f32⟩
  | 77 => ⟨S1x4x64x128x128, .f32⟩
  | 78 => ⟨S1x4x64x128x128, .f32⟩
  | 79 => ⟨S1x4x64x128x128, .f32⟩
  | 80 => ⟨S1x4x64x128x128, .f32⟩
  | 81 => ⟨S1x4x64x128x128, .f32⟩
  | 82 => ⟨S1x4x64x128x128, .f32⟩
  | 83 => ⟨S1x4x64x128x128, .f32⟩
  | 84 => ⟨S1x4x64x128x128, .f32⟩
  | 85 => ⟨S1x4x64x128x128, .f32⟩
  | 86 => ⟨S1x4x64x128x128, .f32⟩
  | 87 => ⟨S1x4x8192x128, .f32⟩
  | 88 => ⟨S1x4x8192x128, .f32⟩
  | 89 => ⟨S1x8192x4x128, .f32⟩
  | 90 => ⟨S1x8192x512, .f32⟩
  | 91 => ⟨S_, .f32⟩
  | 92 => ⟨S8192x512, .f32⟩
  | 93 => ⟨S_, .f32⟩
  | 94 => ⟨S1x4x8192x128, .f32⟩
  | 95 => ⟨S1x4x8192x128, .f32⟩
  | 96 => ⟨S1x4x8192x128, .f32⟩
  | 97 => ⟨S1x4x8192x128, .f32⟩
  | 98 => ⟨S1x4x8192x64x2, .f32⟩
  | 99 => ⟨S1x4x8192x64x1, .f32⟩
  | 100 => ⟨S1x4x8192x64, .f32⟩
  | 101 => ⟨S1x4x8192x64x1, .f32⟩
  | 102 => ⟨S1x4x8192x64, .f32⟩
  | 103 => ⟨S1x4x8192x64, .f32⟩
  | 104 => ⟨S_, .f32⟩
  | 105 => ⟨S1x4x8192x128, .f32⟩
  | 106 => ⟨S_, .f32⟩
  | 107 => ⟨S1x4x8192x128, .f32⟩
  | 108 => ⟨S1x4x8192x128, .f32⟩
  | 109 => ⟨S1x4x8192x128, .f32⟩
  | 110 => ⟨S1x4x8192x128, .f32⟩
  | 111 => ⟨S1x4x8192x128, .f32⟩
  | 112 => ⟨S1x8192x4x128, .f32⟩
  | 113 => ⟨S1x8192x512, .f32⟩
  | 114 => ⟨S_, .f32⟩
  | 115 => ⟨S8192x512, .f32⟩
  | 116 => ⟨S8192x512, .bf16⟩
  | 117 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_cst_4 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_5 : Ref sig .tc := ⟨.hbm, 58, rfl⟩
abbrev main_v50 : Ref sig .tc := ⟨.hbm, 59, rfl⟩
abbrev main_v51 : Ref sig .tc := ⟨.hbm, 60, rfl⟩
abbrev main_cst_6 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_7 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_8 : Ref sig .tc := ⟨.hbm, 94, rfl⟩
abbrev main_v83 : Ref sig .tc := ⟨.hbm, 95, rfl⟩
abbrev main_v84 : Ref sig .tc := ⟨.hbm, 96, rfl⟩
abbrev main_cst_9 : Ref sig .tc := ⟨.hbm, 97, rfl⟩
abbrev main_v85 : Ref sig .tc := ⟨.hbm, 98, rfl⟩
abbrev main_v86 : Ref sig .tc := ⟨.hbm, 99, rfl⟩
abbrev main_cst_10 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_11 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_cst_12 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_13 : Ref sig .tc := ⟨.hbm, 122, rfl⟩
abbrev main_call0_v0 : Ref sig .tc := ⟨.hbm, 123, rfl⟩
abbrev main_call0_v1 : Ref sig .tc := ⟨.hbm, 124, rfl⟩
abbrev main_call0_v2 : Ref sig .tc := ⟨.hbm, 125, rfl⟩
abbrev main_v106 : Ref sig .tc := ⟨.hbm, 126, rfl⟩
abbrev main_v107 : Ref sig .tc := ⟨.hbm, 127, rfl⟩
abbrev main_cst_14 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_cst_15 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_cst_16 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_cst_17 : Ref sig .tc := ⟨.hbm, 168, rfl⟩
abbrev main_v145 : Ref sig .tc := ⟨.hbm, 169, rfl⟩
abbrev main_cst_18 : Ref sig .tc := ⟨.hbm, 170, rfl⟩
abbrev main_v146 : Ref sig .tc := ⟨.hbm, 171, rfl⟩
abbrev main_c : Ref sig .tc := ⟨.hbm, 172, rfl⟩
abbrev main_v147_0 : Ref sig .tc := ⟨.hbm, 173, rfl⟩
abbrev main_v147_1 : Ref sig .tc := ⟨.hbm, 174, rfl⟩
abbrev main_v147_2 : Ref sig .tc := ⟨.hbm, 175, rfl⟩
abbrev main_v147_3 : Ref sig .tc := ⟨.hbm, 176, rfl⟩
abbrev main_v147_4 : Ref sig .tc := ⟨.hbm, 177, rfl⟩
abbrev main_while0c_c_28 : Ref sig .tc := ⟨.hbm, 178, rfl⟩
abbrev main_while0c_v188 : Ref sig .tc := ⟨.hbm, 179, rfl⟩
abbrev main_while0b_c_28 : Ref sig .tc := ⟨.hbm, 180, rfl⟩
abbrev main_while0b_v188 : Ref sig .tc := ⟨.hbm, 181, rfl⟩
abbrev main_while0b_c_29 : Ref sig .tc := ⟨.hbm, 182, rfl⟩
abbrev main_while0b_v189 : Ref sig .tc := ⟨.hbm, 183, rfl⟩
abbrev main_while0b_call1_c : Ref sig .tc := ⟨.hbm, 184, rfl⟩
abbrev main_while0b_call1_c_0 : Ref sig .tc := ⟨.hbm, 185, rfl⟩
abbrev main_while0b_call1_c_1 : Ref sig .tc := ⟨.hbm, 186, rfl⟩
abbrev main_while0b_call1_c_2 : Ref sig .tc := ⟨.hbm, 187, rfl⟩
abbrev main_while0b_call1_v0 : Ref sig .tc := ⟨.hbm, 188, rfl⟩
abbrev main_while0b_v190 : Ref sig .tc := ⟨.hbm, 189, rfl⟩
abbrev main_while0b_v191 : Ref sig .tc := ⟨.hbm, 190, rfl⟩
abbrev main_while0b_v192 : Ref sig .tc := ⟨.hbm, 191, rfl⟩
abbrev main_while0b_v193 : Ref sig .tc := ⟨.hbm, 192, rfl⟩
abbrev main_while0b_call2_v0 : Ref sig .tc := ⟨.hbm, 193, rfl⟩
abbrev main_while0b_call2_c : Ref sig .tc := ⟨.hbm, 194, rfl⟩
abbrev main_while0b_call2_c_0 : Ref sig .tc := ⟨.hbm, 195, rfl⟩
abbrev main_while0b_call2_c_1 : Ref sig .tc := ⟨.hbm, 196, rfl⟩
abbrev main_while0b_call2_c_2 : Ref sig .tc := ⟨.hbm, 197, rfl⟩
abbrev main_while0b_v194 : Ref sig .tc := ⟨.hbm, 198, rfl⟩
abbrev main_while0b_c_30 : Ref sig .tc := ⟨.hbm, 199, rfl⟩
abbrev main_while0b_v195 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_cst_19 : Ref sig .tc := ⟨.hbm, 219, rfl⟩
abbrev main_v166 : Ref sig .tc := ⟨.hbm, 220, rfl⟩
abbrev main_cst_20 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_21 : Ref sig .tc := ⟨.hbm, 232, rfl⟩
abbrev main_v177 : Ref sig .tc := ⟨.hbm, 233, rfl⟩
abbrev main_cst_22 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_cst_23 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩

abbrev nD : Nat := 1
abbrev τ : Topo := Topo.v7x

variable {F : FTy → Type} [FloatOps F]

abbrev main_while0_count : Scf.Loop 32 := ⟨0#32, 64#32, 1#32⟩
-- ==== FfnBackward.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S4x704x1024 : Shape := ⟨3, ![4, 704, 1024]⟩
abbrev S8x1024 : Shape := ⟨2, ![8, 1024]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩
abbrev S32x8x1024 : Shape := ⟨3, ![32, 8, 1024]⟩

abbrev nBuf : Space → Nat
  | .hbm => 40
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .bf16⟩
  | .hbm, ⟨24, _⟩ => ⟨S8192x2816, .bf16⟩
  | .hbm, ⟨25, _⟩ => ⟨S2816x1024, .f32⟩
  | .hbm, ⟨26, _⟩ => ⟨S4x704x1024, .f32⟩
  | .hbm, ⟨27, _⟩ => ⟨S4x704x1024, .bf16⟩
  | .hbm, ⟨28, _⟩ => ⟨S2816x1024, .f32⟩
  | .hbm, ⟨29, _⟩ => ⟨S4x704x1024, .f32⟩
  | .hbm, ⟨30, _⟩ => ⟨S4x704x1024, .bf16⟩
  | .hbm, ⟨31, _⟩ => ⟨S4x704x1024, .f32⟩
  | .hbm, ⟨32, _⟩ => ⟨S4x704x1024, .bf16⟩
  | .hbm, ⟨33, _⟩ => ⟨S2816x1024, .bf16⟩
  | .hbm, ⟨34, _⟩ => ⟨S2816x1024, .bf16⟩
  | .hbm, ⟨35, _⟩ => ⟨S2816x1024, .bf16⟩
  | .hbm, ⟨36, _⟩ => ⟨S8192x1024, .f32⟩
  | .hbm, ⟨37, _⟩ => ⟨S8192x2816, .bf16⟩
  | .hbm, ⟨38, _⟩ => ⟨S8192x2816, .bf16⟩
  | .hbm, ⟨39, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S8x1024, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnGradientIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 82
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x2816, .bf16⟩
  | .hbm, ⟨81, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== FfnWeights.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S1024x1024 : Shape := ⟨2, ![1024, 1024]⟩
abbrev S1024x1408 : Shape := ⟨2, ![1024, 1408]⟩
abbrev S1408x1024 : Shape := ⟨2, ![1408, 1024]⟩

abbrev nBuf : Space → Nat
  | .hbm => 24
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S8192x2816, .bf16⟩
  | .hbm, ⟨5, _⟩ => ⟨S8192x2816, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S2816x1024, .f32⟩
  | .hbm, ⟨23, _⟩ => ⟨S2816x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | .local _ .vmem, ⟨9, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnWeightsGradientIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S8192x2816, .bf16⟩
  | .hbm, ⟨5, _⟩ => ⟨S8192x2816, .bf16⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S2816x1024, .f32⟩
  | .hbm, ⟨26, _⟩ => ⟨S1024x2816, .f32⟩
  | .hbm, ⟨27, _⟩ => ⟨S2816x1024, .f32⟩
  | .hbm, ⟨28, _⟩ => ⟨S1024x2816, .f32⟩
  | .hbm, ⟨29, _⟩ => ⟨S2816x1024, .f32⟩
  | .hbm, ⟨30, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== FfnDown.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩
abbrev S2048x1024 : Shape := ⟨2, ![2048, 1024]⟩
abbrev S2048x1408 : Shape := ⟨2, ![2048, 1408]⟩
abbrev S1408x1024 : Shape := ⟨2, ![1408, 1024]⟩

abbrev nBuf : Space → Nat
  | .hbm => 17
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .bf16⟩
  | .hbm, ⟨16, _⟩ => ⟨S2816x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1408, .bf16⟩
  | .local _ .vmem, ⟨3, _⟩ => ⟨S2048x1408, .bf16⟩
  | .local _ .vmem, ⟨4, _⟩ => ⟨S1408x1024, .f32⟩
  | .local _ .vmem, ⟨5, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownGradientIdeal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩
abbrev S1024x2816 : Shape := ⟨2, ![1024, 2816]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2816, .f32⟩
  | .hbm, ⟨3, _⟩ => ⟨S8192x2816, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S1024x2816, .f32⟩
  | .hbm, ⟨24, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩

abbrev nD : Nat := 1
abbrev τ : Topo := Topo.v7x

variable {F : FTy → Type} [FloatOps F]
-- ==== FfnForward.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S8192x2816 : Shape := ⟨2, ![8192, 2816]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 21
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x704x1024, .f32⟩
  | .hbm, ⟨12, _⟩ => ⟨S4x704x1024, .bf16⟩
  | .hbm, ⟨13, _⟩ => ⟨S2816x1024, .bf16⟩
  | .hbm, ⟨14, _⟩ => ⟨S2816x1024, .bf16⟩
  | .hbm, ⟨15, _⟩ => ⟨S2816x1024, .bf16⟩
  | .hbm, ⟨16, _⟩ => ⟨S8192x1024, .f32⟩
  | .hbm, ⟨17, _⟩ => ⟨S8192x1024, .bf16⟩
  | .hbm, ⟨18, _⟩ => ⟨S8192x2816, .bf16⟩
  | .hbm, ⟨19, _⟩ => ⟨S8192x2816, .bf16⟩
  | .hbm, ⟨20, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S2816x1024, .bf16⟩
  | .local _ .vmem, ⟨14, _⟩ => ⟨S2816x1024, .bf16⟩
  | .local _ .vmem, ⟨15, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLayerIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | .hbm, ⟨53, _⟩ => ⟨S8192x2816, .bf16⟩
  | .hbm, ⟨54, _⟩ => ⟨S8192x2816, .bf16⟩
  | .hbm, ⟨55, _⟩ => ⟨S8192x2816, .f32⟩
  | .hbm, ⟨56, _⟩ => ⟨S8192x2816, .f32⟩
  | .hbm, ⟨57, _⟩ => ⟨S_, .f32⟩
  | .hbm, ⟨58, _⟩ => ⟨S8192x2816, .f32⟩
  | .hbm, ⟨59, _⟩ => ⟨S8192x2816, .f32⟩
  | .hbm, ⟨60, _⟩ => ⟨S_, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩

abbrev nD : Nat := 1
abbrev τ : Topo := Topo.v7x

variable {F : FTy → Type} [FloatOps F]
-- ==== FfnWeight.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S2048x1024 : Shape := ⟨2, ![2048, 1024]⟩
abbrev S2048x1408 : Shape := ⟨2, ![2048, 1408]⟩
abbrev S1408x1024 : Shape := ⟨2, ![1408, 1024]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S2816x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1408x1024, .f32⟩
  | .local _ .vmem, ⟨5, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnWeightGradientIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S2816x1024, .f32⟩
  | .hbm, ⟨22, _⟩ => ⟨S1024x2816, .f32⟩
  | .hbm, ⟨23, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== InWeights.lean ====
abbrev S8192x1024 : Shape := ⟨2, ![8192, 1024]⟩
abbrev S1x1024 : Shape := ⟨2, ![1, 1024]⟩
abbrev S1024x3584 : Shape := ⟨2, ![1024, 3584]⟩
abbrev S8192x3584 : Shape := ⟨2, ![8192, 3584]⟩
abbrev S_ : Shape := ⟨0, ![]⟩
abbrev S8192 : Shape := ⟨1, ![8192]⟩
abbrev S8192x1 : Shape := ⟨2, ![8192, 1]⟩
abbrev S4x1024x896 : Shape := ⟨3, ![4, 1024, 896]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 21
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3584, .f32⟩
  | .hbm, ⟨3, _⟩ => ⟨S8192x3584, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x896, .f32⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .f32⟩
  | .local _ .vmem, ⟨5, _⟩ => ⟨S1x1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InWeightsGradientIdeal.lean ====
abbrev S8192x1024 : Shape := ⟨2, ![8192, 1024]⟩
abbrev S1x1024 : Shape := ⟨2, ![1, 1024]⟩
abbrev S1024x3584 : Shape := ⟨2, ![1024, 3584]⟩
abbrev S8192x3584 : Shape := ⟨2, ![8192, 3584]⟩
abbrev S_ : Shape := ⟨0, ![]⟩
abbrev S8192 : Shape := ⟨1, ![8192]⟩
abbrev S8192x1 : Shape := ⟨2, ![8192, 1]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3584, .f32⟩
  | .hbm, ⟨3, _⟩ => ⟨S8192x3584, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x3584, .f32⟩
  | .hbm, ⟨20, _⟩ => ⟨S8192x3584, .f32⟩
  | .hbm, ⟨21, _⟩ => ⟨S3584x1024, .f32⟩
  | .hbm, ⟨22, _⟩ => ⟨S1024x3584, .f32⟩
  | .hbm, ⟨23, _⟩ => ⟨S1024x4x896, .f32⟩
  | .hbm, ⟨24, _⟩ => ⟨S4x1024x896, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== OutForward.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x512, .bf16⟩
  | .hbm, ⟨5, _⟩ => ⟨S8192x512, .bf16⟩
  | .hbm, ⟨6, _⟩ => ⟨S1024x1024, .bf16⟩
  | .hbm, ⟨7, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutLayerIdeal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== OutBackward.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S1024x1024, .f32⟩
  | .hbm, ⟨5, _⟩ => ⟨S1024x1024, .bf16⟩
  | .hbm, ⟨6, _⟩ => ⟨S8192x512, .f32⟩
  | .hbm, ⟨7, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutGradientIdeal.lean ====
abbrev S8192x1024 : Shape := ⟨2, ![8192, 1024]⟩
abbrev S8192x512 : Shape := ⟨2, ![8192, 512]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x512, .f32⟩
  | .hbm, ⟨10, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OutWeights.lean ====
abbrev S8192x1024 : Shape := ⟨2, ![8192, 1024]⟩
abbrev S8192x512 : Shape := ⟨2, ![8192, 512]⟩
abbrev S1024x1024 : Shape := ⟨2, ![1024, 1024]⟩
abbrev S2x512x1024 : Shape := ⟨3, ![2, 512, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S1024x1024, .f32⟩
  | .hbm, ⟨5, _⟩ => ⟨S8192x512, .bf16⟩
  | .hbm, ⟨6, _⟩ => ⟨S8192x512, .bf16⟩
  | .hbm, ⟨7, _⟩ => ⟨S2x512x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .f32⟩
  | .local _ .vmem, ⟨5, _⟩ => ⟨S2048x1024, .f32⟩
  | .local _ .vmem, ⟨6, _⟩ => ⟨S2x512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== OutWeightsGradientIdeal.lean ====
abbrev S8192x1024 : Shape := ⟨2, ![8192, 1024]⟩
abbrev S8192x512 : Shape := ⟨2, ![8192, 512]⟩
abbrev S1024x1024 : Shape := ⟨2, ![1024, 1024]⟩
abbrev S2x512x1024 : Shape := ⟨3, ![2, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x512, .f32⟩
  | .hbm, ⟨3, _⟩ => ⟨S8192x512, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S2x512x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== HeadForward.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S8192x2816 : Shape := ⟨2, ![8192, 2816]⟩
abbrev S8x128 : Shape := ⟨2, ![8, 128]⟩
abbrev S8x1024 : Shape := ⟨2, ![8, 1024]⟩
abbrev S512x1024 : Shape := ⟨2, ![512, 1024]⟩
abbrev S512x2816 : Shape := ⟨2, ![512, 2816]⟩
abbrev S3 : Shape := ⟨1, ![3]⟩
abbrev S1 : Shape := ⟨1, ![1]⟩
abbrev S_ : Shape := ⟨0, ![]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩
abbrev S64x8x1024 : Shape := ⟨3, ![64, 8, 1024]⟩

abbrev nBuf : Space → Nat
  | .hbm => 25
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S2816x1024, .f32⟩
  | .hbm, ⟨11, _⟩ => ⟨S4x704x1024, .f32⟩
  | .hbm, ⟨12, _⟩ => ⟨S4x704x1024, .bf16⟩
  | .hbm, ⟨13, _⟩ => ⟨S4x704x1024, .f32⟩
  | .hbm, ⟨14, _⟩ => ⟨S4x704x1024, .bf16⟩
  | .hbm, ⟨15, _⟩ => ⟨S2816x1024, .bf16⟩
  | .hbm, ⟨16, _⟩ => ⟨S2816x1024, .bf16⟩
  | .hbm, ⟨17, _⟩ => ⟨S2816x1024, .bf16⟩
  | .hbm, ⟨18, _⟩ => ⟨S8192x1024, .f32⟩
  | .hbm, ⟨19, _⟩ => ⟨S8192x1024, .bf16⟩
  | .hbm, ⟨20, _⟩ => ⟨S8192x2816, .bf16⟩
  | .hbm, ⟨21, _⟩ => ⟨S8192x2816, .bf16⟩
  | .hbm, ⟨22, _⟩ => ⟨S8192x2816, .bf16⟩
  | .hbm, ⟨23, _⟩ => ⟨S8x128, .f32⟩
  | .hbm, ⟨24, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S8x128, .f32⟩
  | .local _ .vmem, ⟨17, _⟩ => ⟨S8x1024, .f32⟩
  | .local _ .vmem, ⟨18, _⟩ => ⟨S2816x1024, .bf16⟩
  | .local _ .vmem, ⟨19, _⟩ => ⟨S2816x1024, .bf16⟩
  | .local _ .vmem, ⟨20, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== HeadGradientIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S8192x2816, .bf16⟩
  | .hbm, ⟨56, _⟩ => ⟨S8192x2816, .bf16⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S8192x2816, .f32⟩
  | .hbm, ⟨67, _⟩ => ⟨S8192x2816, .bf16⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S_, .f32⟩
  | .hbm, ⟨73, _⟩ => ⟨S8192x1, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S8192, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S8192, .f32⟩
  | .hbm, ⟨105, _⟩ => ⟨S8192x1, .f32⟩
  | .hbm, ⟨106, _⟩ => ⟨S8192x1024, .f32⟩
  | .hbm, ⟨107, _⟩ => ⟨S8192x1024, .f32⟩
  | .hbm, ⟨108, _⟩ => ⟨S8192x1, .f32⟩
  | .hbm, ⟨109, _⟩ => ⟨S_, .f32⟩
  | .hbm, ⟨110, _⟩ => ⟨S8192x1, .f32⟩
  | .hbm, ⟨111, _⟩ => ⟨S8192x1, .f32⟩
  | .hbm, ⟨112, _⟩ => ⟨S_, .f32⟩
  | .hbm, ⟨113, _⟩ => ⟨S8192, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_6 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_cst_8 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_9 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_10 : Ref sig .tc := ⟨.hbm, 88, rfl⟩
abbrev main_v54 : Ref sig .tc := ⟨.hbm, 89, rfl⟩
abbrev main_v55 : Ref sig .tc := ⟨.hbm, 90, rfl⟩
abbrev main_cst_11 : Ref sig .tc := ⟨.hbm, 91, rfl⟩
abbrev main_cst_12 : Ref sig .tc := ⟨.hbm, 92, rfl⟩
abbrev main_v56 : Ref sig .tc := ⟨.hbm, 93, rfl⟩
abbrev main_v57 : Ref sig .tc := ⟨.hbm, 94, rfl⟩
abbrev main_cst_13 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_14 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_15 : Ref sig .tc := ⟨.hbm, 109, rfl⟩
abbrev main_v70 : Ref sig .tc := ⟨.hbm, 110, rfl⟩
abbrev main_v71 : Ref sig .tc := ⟨.hbm, 111, rfl⟩
abbrev main_cst_16 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩

abbrev nD : Nat := 1
abbrev τ : Topo := Topo.v7x

variable {F : FTy → Type} [FloatOps F]
-- ==== Proof.Spec.lean ====
/- The gradient of a chunkwise retention in its keys and values, as sums over extended reals: four heads of 128 lanes,
   8192 rows in 64 chunks of 128. Both programs are shown to compute these. -/
module

public import Idealize.ShloMosaic.Lib.Pointwise

@[expose] public section

noncomputable section

namespace Cert.Spec

open Idealize.ShloMosaic

/-- Row `i` of chunk `n`. -/
def row (n : Fin 64) (i : Fin 128) : Fin 8192 := ⟨n.val * 128 + i.val, by omega⟩

/-- Lane `d` of head `h`. -/
def lane (h : Fin 4) (d : Fin 128) : Fin 512 := ⟨h.val * 128 + d.val, by omega⟩

/-- What the gradient is a function of: queries, keys, values and the output's gradient by head, row and lane, and the tables. -/
structure Inp where
  /-- The queries before their rotation. -/
  q : Fin 4 → Fin 8192 → Fin 128 → EReal
  /-- The keys before their rotation. -/
  k : Fin 4 → Fin 8192 → Fin 128 → EReal
  /-- The values. -/
  v : Fin 4 → Fin 8192 → Fin 128 → EReal
  /-- The gradient of the output. -/
  o : Fin 4 → Fin 8192 → Fin 128 → EReal
  /-- The rotation's cosines. -/
  cs : Fin 8192 → Fin 128 → EReal
  /-- The rotation's sines. -/
  sn : Fin 8192 → Fin 128 → EReal
  /-- The decay inside a chunk. -/
  dec : Fin 4 → Fin 128 → Fin 128 → EReal
  /-- The keys' decay to their chunk's end. -/
  ze : Fin 4 → Fin 128 → EReal
  /-- The queries' decay from their chunk's start. -/
  xi : Fin 4 → Fin 128 → EReal
  /-- The decay over a chunk. -/
  gc : Fin 4 → EReal
  /-- The scale of the keys. -/
  scale : EReal

/-- Neighbouring lanes turned by a quarter: `(a, b)` becomes `(-b, a)`. -/
def rot (x : Fin 128 → EReal) (d : Fin 128) : EReal :=
  if d.val % 2 = 0 then -(x ⟨(d.val + 1) % 128, Nat.mod_lt _ (by decide)⟩) else x ⟨(d.val + 127) % 128, Nat.mod_lt _ (by decide)⟩

namespace Inp

variable (I : Inp)

/-- The rotated queries. -/
def Q (h : Fin 4) (r : Fin 8192) (d : Fin 128) : EReal := I.q h r d * I.cs r d + rot (I.q h r) d * I.sn r d

/-- The rotated and scaled keys. -/
def K (h : Fin 4) (r : Fin 8192) (d : Fin 128) : EReal := (I.k h r d * I.cs r d + rot (I.k h r) d * I.sn r d) * I.scale

/-- What chunk `n` adds to the gradient of the state. -/
def step (h : Fin 4) (n : Fin 64) (d e : Fin 128) : EReal :=
  ∑ i : Fin 128, I.Q h (row n i) d * (I.o h (row n i) e * I.xi h i)

/-- The gradient of the state after the last `k` chunks. -/
def S (h : Fin 4) : ℕ → Fin 128 → Fin 128 → EReal
  | 0, _, _ => 0
  | k + 1, d, e => S h k d e * I.gc h + I.step h ⟨63 - k, by omega⟩ d e

/-- The gradient of the values. -/
def DV (h : Fin 4) (n : Fin 64) (j e : Fin 128) : EReal :=
  (∑ i : Fin 128, ((∑ d : Fin 128, I.Q h (row n i) d * I.K h (row n j) d) * I.dec h i j) * I.o h (row n i) e)
    + ∑ d : Fin 128, (I.K h (row n j) d * I.ze h j) * I.S h (63 - n.val) d e

/-- The gradient of the rotated keys. -/
def DKR (h : Fin 4) (n : Fin 64) (j d : Fin 128) : EReal :=
  ((∑ i : Fin 128, ((∑ e : Fin 128, I.o h (row n i) e * I.v h (row n j) e) * I.dec h i j) * I.Q h (row n i) d)
    + (∑ e : Fin 128, I.v h (row n j) e * I.S h (63 - n.val) d e) * I.ze h j) * I.scale

/-- The gradient of the keys. -/
def DK (h : Fin 4) (n : Fin 64) (j d : Fin 128) : EReal :=
  I.DKR h n j d * I.cs (row n j) d - rot (fun d => I.DKR h n j d * I.sn (row n j) d) d

end Inp

end Cert.Spec

end
-- ==== Proof.Tables.lean ====
/- The tables of the retention by position: the rotation's cosines and sines, the decays, and the gradient's inputs read from
   the two argument arrays. -/
module

public import proofs.«01_k».proof.Proof.Spec

@[expose] public section

noncomputable section

namespace Cert.Spec

open Idealize.ShloMosaic

/-- A natural number as the conversion of its 32-bit word. -/
def num (n : ℕ) : EReal := FloatOps.sitofp (F := Ideal) .f32 (BitVec.ofNat 32 n)

/-- The rotation's angle at row `r`, lane `d`: both lanes of a pair have the pair's frequency. -/
def angle (r : Fin 8192) (d : Fin 128) : EReal :=
  num r.val * Ideal.pow (Ideal.ofBits .f32 0x461C4000#32) (Ideal.div (-num (d.val / 2 * 2)) (Ideal.ofBits .f32 0x43000000#32))

/-- The logarithm of head `h`'s decay. -/
def logDecay (h : Fin 4) : EReal :=
  Ideal.log (1 - Ideal.pow (Ideal.ofBits .f32 0x40000000#32) (Ideal.ofBits .f32 0xC0A00000#32 - num h.val))

/-- The decay between rows `i` and `j` of a chunk. -/
def decay (h : Fin 4) (i j : Fin 128) : EReal :=
  if 0 ≤ num i.val - num j.val then Ideal.exp (logDecay h * max (num i.val - num j.val) 0) else 0

/-- The decay from row `j` to its chunk's end. -/
def toEnd (h : Fin 4) (j : Fin 128) : EReal := Ideal.exp (logDecay h * (Ideal.ofBits .f32 0x42FE0000#32 - num j.val))

/-- The decay from a chunk's start to its row `i`. -/
def fromStart (h : Fin 4) (i : Fin 128) : EReal := Ideal.exp (logDecay h * (num i.val + 1))

/-- The decay over a chunk. -/
def overChunk (h : Fin 4) : EReal := Ideal.exp (logDecay h * Ideal.ofBits .f32 0x43000000#32)

/-- The gradient's inputs: the output's gradient is the first array; queries, keys and values are column blocks of the second. -/
def inp (a0 : Fin 8192 → Fin 512 → EReal) (a1 : Fin 8192 → Fin 2048 → EReal) : Inp where
  q h r d := a1 r ⟨h.val * 128 + d.val, by omega⟩
  k h r d := a1 r ⟨512 + (h.val * 128 + d.val), by omega⟩
  v h r d := a1 r ⟨1024 + (h.val * 128 + d.val), by omega⟩
  o h r d := a0 r (lane h d)
  cs r d := Ideal.cos (angle r d)
  sn r d := Ideal.sin (angle r d)
  dec := decay
  ze := toEnd
  xi := fromStart
  gc := overChunk
  scale := Ideal.ofBits .f32 0x3DB504F3#32

end Cert.Spec

end
-- ==== Proof.RefEntry.lean ====
/- The reference's arrays when its loop starts, entry by entry. -/
module

public import proofs.«01_k».proof.Proof.Gen.ReferenceIdeal.Run
public import proofs.«01_k».proof.Proof.Tables
public import Idealize.ShloMosaic.Lib.Pipeline.ValueKit

@[expose] public section

set_option maxRecDepth 16384

noncomputable section

namespace Cert.ReferenceIdeal.Value

open Cert.ReferenceIdeal Cert.ReferenceIdeal.Gen Cert.Spec Idealize.ShloMosaic Idealize.ShloMosaic.TcCoe Idealize.SL.Sem
open Idealize.ShloMosaic.StableHlo

variable (m : (ℓ : Loc nD τ sig) → Buf (Elt Ideal) ℓ)

/-- The contents when the loop starts. -/
abbrev E (c : Dev nD) (r : Ref sig .tc) : Buf (Elt Ideal) ((c : Thread nD τ).loc r) := entryContents preI m c (Proc.devRef .tc r)

/-- The gradient's inputs in this memory. -/
abbrev I (c : Dev nD) : Inp :=
  inp (fun r l => (m ((c : Thread nD τ).loc main_arg0) : FVec Ideal S8192x512 .f32) (ix2 r l))
    (fun r l => (m ((c : Thread nD τ).loc main_arg1) : FVec Ideal S8192x2048 .f32) (ix2 r l))

theorem num_double (n : ℕ) (h : n < 64) : Ideal.ofBits .f32 0x40000000#32 * num n = num (n * 2) := by
  have e2 : Ideal.ofBits .f32 0x40000000#32 = ((2 : ℝ) : EReal) := by
    simp [Ideal.ofBits, Ideal.ieee, -EReal.coe_mul]; norm_num
  have en : ∀ k : ℕ, k < 128 → num k = ((k : ℝ) : EReal) := by
    intro k hk
    show ((((BitVec.ofNat 32 k).toInt : ℤ) : ℝ) : EReal) = _
    have e : (BitVec.ofNat 32 k).toInt = (k : ℤ) := by
      rw [BitVec.toInt_eq_toNat_cond, BitVec.toNat_ofNat]
      norm_num
      omega
    rw [e]
    simp
  rw [e2, en n (by omega), en (n * 2) (by omega), ← EReal.coe_mul]
  push_cast
  rw [mul_comm]

theorem E_angle (c : Dev nD) (r : Fin 8192) (d : Fin 128) : (E m c main_v23 : FVec Ideal S8192x128 .f32) (ix2 r d) = angle r d := by
  unfold E entryContents; rw [afterL_eq_after_flatten]; unfold preI
  after_reads_simp
  pointwise
  exact congrArg (fun w => num r.val * Ideal.pow (Ideal.ofBits .f32 0x461C4000#32)
    (Ideal.div (-w) (Ideal.ofBits .f32 0x43000000#32))) (num_double (d.val / 2) (by omega))

theorem E_angle' (c : Dev nD) (r : Fin 8192) (d : Fin 128) : (E m c main_v60 : FVec Ideal S8192x128 .f32) (ix2 r d) = angle r d := by
  unfold E entryContents; rw [afterL_eq_after_flatten]; unfold preI
  after_reads_simp
  pointwise
  exact congrArg (fun w => num r.val * Ideal.pow (Ideal.ofBits .f32 0x461C4000#32)
    (Ideal.div (-w) (Ideal.ofBits .f32 0x43000000#32))) (num_double (d.val / 2) (by omega))

theorem E_q (c : Dev nD) (h : Fin 4) (r : Fin 8192) (d : Fin 128) : (E m c main_v5 : FVec Ideal S1x4x8192x128 .f32) (ix4 0 h r d) = (I m c).q h r d := by
  unfold E entryContents; rw [afterL_eq_after_flatten]; unfold preI
  after_reads_simp
  pointwise
  rfl

theorem E_k (c : Dev nD) (h : Fin 4) (r : Fin 8192) (d : Fin 128) : (E m c main_v42 : FVec Ideal S1x4x8192x128 .f32) (ix4 0 h r d) = (I m c).k h r d := by
  unfold E entryContents; rw [afterL_eq_after_flatten]; unfold preI
  after_reads_simp
  pointwise
  rfl

/-- The turned lane, by the parity of the lane. -/
theorem rot_pair (g : Fin 128 → EReal) (d : Fin 128) :
    (if _ : d.val % 2 < 1 then -g ⟨1 + 2 * (d.val / 2), by omega⟩ else g ⟨2 * (d.val / 2), by omega⟩) = rot g d := by
  unfold rot
  by_cases hd : d.val % 2 = 0
  · rw [dif_pos (by omega), if_pos hd]
    exact congrArg (fun t : Fin 128 => -g t) (Fin.ext (by show 1 + 2 * (d.val / 2) = (d.val + 1) % 128; omega))
  · rw [dif_neg (by omega), if_neg hd]
    exact congrArg g (Fin.ext (by show 2 * (d.val / 2) = (d.val + 127) % 128; omega))

theorem E_rot (c : Dev nD) (h : Fin 4) (r : Fin 8192) (d : Fin 128) : (E m c main_v35 : FVec Ideal S1x4x8192x128 .f32) (ix4 0 h r d) = rot (fun d => (I m c).q h r d) d := by
  unfold E entryContents; rw [afterL_eq_after_flatten]; unfold preI
  after_reads_simp
  pointwise
  after_reads_simp
  pointwise
  exact rot_pair (fun t => launchContents m c (Proc.devRef .tc main_arg1) (ix2 r ⟨h.val * 128 + t.val, by omega⟩)) d

theorem E_rot_k (c : Dev nD) (h : Fin 4) (r : Fin 8192) (d : Fin 128) : (E m c main_v72 : FVec Ideal S1x4x8192x128 .f32) (ix4 0 h r d) = rot (fun d => (I m c).k h r d) d := by
  unfold E entryContents; rw [afterL_eq_after_flatten]; unfold preI
  after_reads_simp
  pointwise
  after_reads_simp
  pointwise
  exact rot_pair (fun t => launchContents m c (Proc.devRef .tc main_arg1) (ix2 r ⟨512 + (h.val * 128 + t.val), by omega⟩)) d

theorem E_v (c : Dev nD) (h : Fin 4) (n : Fin 64) (j e : Fin 128) : (E m c main_v128 : FVec Ideal S1x4x64x128x128 .f32) (ix5 0 h n j e) = (I m c).v h (row n j) e := by
  unfold E entryContents; rw [afterL_eq_after_flatten]; unfold preI
  after_reads_simp
  pointwise
  rfl

theorem E_o (c : Dev nD) (h : Fin 4) (n : Fin 64) (j e : Fin 128) : (E m c main_v140 : FVec Ideal S1x4x64x128x128 .f32) (ix5 0 h n j e) = (I m c).o h (row n j) e := by
  unfold E entryContents; rw [afterL_eq_after_flatten]; unfold preI
  after_reads_simp
  pointwise
  rfl

theorem E_ze (c : Dev nD) (h : Fin 4) (j : Fin 128) : (E m c main_v133 : FVec Ideal S1x4x1x128x1 .f32) (ix5 0 h 0 j 0) = (I m c).ze h j := by
  unfold E entryContents; rw [afterL_eq_after_flatten]; unfold preI
  after_reads_simp
  pointwise
  rfl

theorem E_xi (c : Dev nD) (h : Fin 4) (i : Fin 128) : (E m c main_v137 : FVec Ideal S1x4x1x128x1 .f32) (ix5 0 h 0 i 0) = (I m c).xi h i := by
  unfold E entryContents; rw [afterL_eq_after_flatten]; unfold preI
  after_reads_simp
  pointwise
  rfl

theorem E_gc (c : Dev nD) (h : Fin 4) : (E m c main_v136 : FVec Ideal S1x4x1x1 .f32) (ix4 0 h 0 0) = (I m c).gc h := by
  unfold E entryContents; rw [afterL_eq_after_flatten]; unfold preI
  after_reads_simp
  pointwise
  rfl

theorem E_dec (c : Dev nD) (h : Fin 4) (i j : Fin 128) : (E m c main_v130 : FVec Ideal S1x4x1x128x128 .f32) (ix5 0 h 0 i j) = (I m c).dec h i j := by
  unfold E entryContents; rw [afterL_eq_after_flatten]; unfold preI
  after_reads_simp
  simp only [TRef.ofBuf, TRef.toBuf, cast_eq, id]
  pointwise
  rfl

end Cert.ReferenceIdeal.Value
end
-- ==== Proof.RefChunks.lean ====
/- The reference's arrays built from the rotated queries and keys. -/
module

public import proofs.«01_k».proof.Proof.Gen.ReferenceIdeal.Run
public import proofs.«01_k».proof.Proof.RefEntry
public import Idealize.ShloMosaic.Lib.Pipeline.ValueKit

@[expose] public section

set_option maxRecDepth 16384

noncomputable section

namespace Cert.ReferenceIdeal.Value

open Cert.ReferenceIdeal Cert.ReferenceIdeal.Gen Cert.Spec Idealize.ShloMosaic Idealize.ShloMosaic.TcCoe Idealize.SL.Sem
open Idealize.ShloMosaic.StableHlo

variable (m : (ℓ : Loc nD τ sig) → Buf (Elt Ideal) ℓ)

theorem E_cos (c : Dev nD) (r : Fin 8192) (d : Fin 128) : (E m c main_v63 : FVec Ideal S1x1x8192x128 .f32) (ix4 0 0 r d) = (I m c).cs r d := by
  refine Eq.trans ?_ (congrArg Ideal.cos (E_angle' m c r d))
  unfold E entryContents; rw [afterL_eq_after_flatten]; unfold preI
  after_reads_simp
  pointwise

theorem E_sin (c : Dev nD) (r : Fin 8192) (d : Fin 128) : (E m c main_v73 : FVec Ideal S1x1x8192x128 .f32) (ix4 0 0 r d) = (I m c).sn r d := by
  refine Eq.trans ?_ (congrArg Ideal.sin (E_angle' m c r d))
  unfold E entryContents; rw [afterL_eq_after_flatten]; unfold preI
  after_reads_simp
  pointwise

theorem E_Q (c : Dev nD) (h : Fin 4) (n : Fin 64) (i d : Fin 128) : (E m c main_v126 : FVec Ideal S1x4x64x128x128 .f32) (ix5 0 h n i d) = (I m c).Q h (row n i) d := by
  show _ = (I m c).q h (row n i) d * Ideal.cos (angle (row n i) d) + rot (fun d => (I m c).q h (row n i) d) d * Ideal.sin (angle (row n i) d)
  rw [← E_q, ← E_rot, ← E_angle m c]
  unfold E entryContents; rw [afterL_eq_after_flatten]; unfold preI
  after_reads_simp
  pointwise
  rfl

theorem E_K (c : Dev nD) (h : Fin 4) (n : Fin 64) (i d : Fin 128) : (E m c main_v127 : FVec Ideal S1x4x64x128x128 .f32) (ix5 0 h n i d) = (I m c).K h (row n i) d := by
  show _ = ((I m c).k h (row n i) d * Ideal.cos (angle (row n i) d) + rot (fun d => (I m c).k h (row n i) d) d * Ideal.sin (angle (row n i) d)) * (I m c).scale
  rw [← E_k, ← E_rot_k, ← E_angle' m c]
  unfold E entryContents; rw [afterL_eq_after_flatten]; unfold preI
  after_reads_simp
  pointwise
  rfl

theorem E_KZ (c : Dev nD) (h : Fin 4) (n : Fin 64) (j d : Fin 128) : (E m c main_v135 : FVec Ideal S1x4x64x128x128 .f32) (ix5 0 h n j d) = (I m c).K h (row n j) d * (I m c).ze h j := by
  rw [← E_K, ← E_ze]
  unfold E entryContents; rw [afterL_eq_after_flatten]; unfold preI
  after_reads_simp
  pointwise

theorem E_A (c : Dev nD) (h : Fin 4) (n : Fin 64) (i j : Fin 128) : (E m c main_v132 : FVec Ideal S1x4x64x128x128 .f32) (ix5 0 h n i j) =
    (∑ d : Fin 128, (I m c).Q h (row n i) d * (I m c).K h (row n j) d) * (I m c).dec h i j := by
  simp only [← E_K, ← E_Q]
  rw [← E_dec]
  unfold E entryContents; rw [afterL_eq_after_flatten]; unfold preI
  after_reads_simp
  pointwise

theorem E_step (c : Dev nD) (h : Fin 4) (n : Fin 64) (d e : Fin 128) : (E m c main_v144 : FVec Ideal S64x1x4x128x128 .f32) (ix5 n 0 h d e) = (I m c).step h n d e := by
  unfold Inp.step
  simp only [← E_Q, ← E_o, ← E_xi]
  unfold E entryContents; rw [afterL_eq_after_flatten]; unfold preI
  after_reads_simp
  pointwise
  exact Finset.sum_congr (M := EReal) rfl fun i _ => EReal.mul_comm _ _

theorem E_counter (c : Dev nD) : (E m c main_v147_2 : IVec S_ 32) = constantI S_ 32 0#32 := by
  unfold E entryContents; rw [afterL_eq_after_flatten]; unfold preI
  after_reads_simp
  rfl

theorem E_state (c : Dev nD) (h : Fin 4) (d e : Fin 128) : (E m c main_v147_3 : FVec Ideal S1x4x128x128 .f32) (ix4 0 h d e) = (0 : EReal) := by
  unfold E entryContents; rw [afterL_eq_after_flatten]; unfold preI
  after_reads_simp
  simp only [id]
  pointwise

theorem E_carried_step (c : Dev nD) (h : Fin 4) (n : Fin 64) (d e : Fin 128) : (E m c main_v147_0 : FVec Ideal S64x1x4x128x128 .f32) (ix5 n 0 h d e) = (I m c).step h n d e := by
  refine Eq.trans (congrFun (a := ix5 n 0 h d e) ?_) (E_step m c h n d e)
  unfold E entryContents; rw [afterL_eq_after_flatten]; unfold preI
  after_reads_simp
  rfl

theorem E_carried_gc (c : Dev nD) (h : Fin 4) : (E m c main_v147_1 : FVec Ideal S1x4x1x1 .f32) (ix4 0 h 0 0) = (I m c).gc h := by
  refine Eq.trans (congrFun (a := ix4 0 h 0 0) ?_) (E_gc m c h)
  unfold E entryContents; rw [afterL_eq_after_flatten]; unfold preI
  after_reads_simp
  rfl

end Cert.ReferenceIdeal.Value

end
-- ==== Proof.RefLoop.lean ====
/- The reference's loop: the gradient of the state after every chunk, last chunk first. -/
module

public import proofs.«01_k».proof.Proof.Gen.ReferenceIdeal.Run
public import proofs.«01_k».proof.Proof.RefChunks
public import Idealize.ShloMosaic.Lib.Pipeline.ValueKit
public import Idealize.ShloMosaic.Lib.WordCmp

@[expose] public section

set_option maxRecDepth 16384

noncomputable section

namespace Cert.ReferenceIdeal.Value

open Cert.ReferenceIdeal Cert.ReferenceIdeal.Gen Cert.Spec Idealize.ShloMosaic Idealize.ShloMosaic.TcCoe Idealize.SL.Sem
open Idealize.ShloMosaic.StableHlo

variable (m : (ℓ : Loc nD τ sig) → Buf (Elt Ideal) ℓ)

theorem slices_chunk (n : Fin 64) : S64x1x4x128x128.Slices ![n.val, 0, 0, 0, 0] S1x1x4x128x128 :=
  ⟨rfl, fun a => by fin_cases a; exacts [(by show n.val + 1 ≤ 64; omega), (by show 0 + 1 ≤ 1; omega), (by show 0 + 4 ≤ 4; omega), (by show 0 + 128 ≤ 128; omega), (by show 0 + 128 ≤ 128; omega)]⟩

/-- The starts of chunk `n`, read from words. -/
theorem starts_chunk (w : IVec S_ 32) (n : Fin 64) (hw : w = constantI S_ 32 (BitVec.ofNat 32 n.val)) (a : Fin 5) :
    ((((![w, constantI S_ 32 0#32, constantI S_ 32 0#32, constantI S_ 32 0#32, constantI S_ 32 0#32] : Fin 5 → IVec S_ 32)) a (Shape.Idx.first h_S_)).toInt)
      = ((![n.val, 0, 0, 0, 0] : Fin 5 → ℕ) a : ℤ) := by
  subst hw
  fin_cases a
  · show (BitVec.ofNat 32 n.val).toInt = (n.val : ℤ)
    rw [BitVec.toInt_eq_toNat_cond, BitVec.toNat_ofNat]
    norm_num
    omega
  all_goals rfl

/-- One chunk cut out of the stack. -/
theorem slice_at (x : FVec Ideal S64x1x4x128x128 .f32) (st : Fin 5 → ℤ) (n : Fin 64) (hst : ∀ a, st a = ((![n.val, 0, 0, 0, 0] : Fin 5 → ℕ) a : ℤ))
    (h : Fin 4) (d e : Fin 128) :
    shapeCast S1x4x128x128 (Host.dynamicSlice S1x1x4x128x128 x st sliceFits_S64x1x4x128x128_S1x1x4x128x128) shapeCasts_S1x1x4x128x128_S1x4x128x128 (ix4 0 h d e)
      = x (ix5 n 0 h d e) := by
  rw [WordCmp.dynamicSlice_eq_extract _ _ _ _ _ (slices_chunk n) hst]
  pointwise

/-- One chunk written into the stack. -/
theorem update_at (x : FVec Ideal S64x1x4x128x128 .f32) (u : FVec Ideal S1x4x128x128 .f32) (st : Fin 5 → ℤ) (n n' : Fin 64) (hst : ∀ a, st a = ((![n.val, 0, 0, 0, 0] : Fin 5 → ℕ) a : ℤ))
    (h : Fin 4) (d e : Fin 128) :
    Host.dynamicUpdateSlice x (broadcastInDim S1x1x4x128x128 ![1, 2, 3, 4] bcast_S1x4x128x128_S1x1x4x128x128_1_2_3_4 u) st updateFits_S64x1x4x128x128_S1x1x4x128x128 (ix5 n' 0 h d e)
      = if n'.val = n.val then u (ix4 0 h d e) else x (ix5 n' 0 h d e) := by
  rw [WordCmp.dynamicUpdateSlice_eq_update _ _ _ _ _ (slices_chunk n) hst]
  unfold updateSlice
  by_cases hn : n'.val = n.val
  · rw [dif_pos (by
      intro a
      fin_cases a
      · show n.val ≤ n'.val ∧ n'.val < n.val + 1
        omega
      · exact ⟨Nat.zero_le _, (ix5 n' 0 h d e : S64x1x4x128x128.Idx) 1 |>.isLt⟩
      · exact ⟨Nat.zero_le _, by show h.val < 0 + 4; omega⟩
      · exact ⟨Nat.zero_le _, by show d.val < 0 + 128; omega⟩
      · exact ⟨Nat.zero_le _, by show e.val < 0 + 128; omega⟩), if_pos hn]
    pointwise
  · rw [dif_neg (by
      intro hall
      have := hall 0
      exact hn (by have h1 : n.val ≤ n'.val ∧ n'.val < n.val + 1 := this; omega)), if_neg hn]

/-- The carried contents after `k` trips. -/
abbrev W (c : Dev nD) (k : ℕ) : Valuation τ sig (Elt Ideal) := STEP^[k] (entryContents preI m c)

theorem W_succ (c : Dev nD) (k : ℕ) : W m c (k + 1) = STEP (W m c k) := Function.iterate_succ_apply' ..

theorem W_steps (c : Dev nD) : ∀ k, W m c k (Proc.devRef .tc main_v147_0) = E m c main_v147_0
  | 0 => rfl
  | k + 1 => by rw [W_succ, STEP_main_v147_0]; exact W_steps c k

theorem W_gc (c : Dev nD) : ∀ k, W m c k (Proc.devRef .tc main_v147_1) = E m c main_v147_1
  | 0 => rfl
  | k + 1 => by rw [W_succ, STEP_main_v147_1]; exact W_gc c k

theorem W_counter (c : Dev nD) : ∀ k, (W m c k (Proc.devRef .tc main_v147_2) : IVec S_ 32) = constantI S_ 32 (BitVec.ofNat 32 k)
  | 0 => E_counter m c
  | k + 1 => by
    rw [W_succ, STEP_main_v147_2]
    unfold step_main_v147_2
    rw [W_counter c k]
    funext i
    show BitVec.ofNat 32 k + 1#32 = BitVec.ofNat 32 (k + 1)
    rw [BitVec.ofNat_add]

/-- The chunk taken up at trip `k`. -/
theorem W_chunk (c : Dev nD) (k : ℕ) (hk : k < 64) :
    (res_main_while0b_v189 (W m c k) : IVec S_ 32) = constantI S_ 32 (BitVec.ofNat 32 (⟨63 - k, by omega⟩ : Fin 64).val) := by
  unfold res_main_while0b_v189
  rw [W_counter m c k]
  funext i
  show 64#32 - BitVec.ofNat 32 k - 1#32 = BitVec.ofNat 32 (63 - k)
  have : ∀ k : Fin 64, 64#32 - BitVec.ofNat 32 k.val - 1#32 = BitVec.ofNat 32 (63 - k.val) := by decide +kernel
  exact this ⟨k, hk⟩

theorem W_state (c : Dev nD) (h : Fin 4) (d e : Fin 128) : ∀ k, k ≤ 64 →
    (W m c k (Proc.devRef .tc main_v147_3) : FVec Ideal S1x4x128x128 .f32) (ix4 0 h d e) = (I m c).S h k d e
  | 0, _ => E_state m c h d e
  | k + 1, hk => by
    rw [W_succ, STEP_main_v147_3]
    unfold step_main_v147_3
    show shapeCast S1x4x128x128 (Host.dynamicSlice S1x1x4x128x128 _ _ _) _ (ix4 0 h d e) + _ * broadcastInDim (s := S1x4x1x1) S1x4x128x128 ![0, 1, 2, 3] bcast_S1x4x1x1_S1x4x128x128_0_1_2_3 _ (ix4 0 h d e) = (I m c).S h k d e * (I m c).gc h + (I m c).step h ⟨63 - k, by omega⟩ d e
    refine (add_comm (_ : EReal) (_ : EReal)).trans (congrArg₂ (fun a b : EReal => a + b) (congrArg₂ (fun a b : EReal => a * b) (W_state c h d e k (by omega)) ?_)
      ((slice_at _ _ ⟨63 - k, by omega⟩ (starts_chunk _ _ (W_chunk m c k (by omega))) h d e).trans ?_))
    · rw [W_gc]
      refine Eq.trans ?_ (E_carried_gc m c h)
      pointwise
    · rw [W_steps]
      exact E_carried_step m c h _ d e

theorem W_stack (c : Dev nD) (h : Fin 4) (n : Fin 64) (d e : Fin 128) : ∀ k, k ≤ 64 → 64 ≤ n.val + k →
    (W m c k (Proc.devRef .tc main_v147_4) : FVec Ideal S64x1x4x128x128 .f32) (ix5 n 0 h d e) = (I m c).S h (63 - n.val) d e
  | 0, _, hn => absurd hn (by omega)
  | k + 1, hk, hn => by
    rw [W_succ, STEP_main_v147_4]
    unfold step_main_v147_4
    refine (update_at _ _ _ ⟨63 - k, by omega⟩ n (starts_chunk _ _ (W_chunk m c k (by omega))) h d e).trans ?_
    by_cases e1 : n.val = 63 - k
    · rw [if_pos e1]
      rw [W_state m c h d e k (by omega)]
      rw [show 63 - n.val = k by omega]
    · rw [if_neg e1]
      exact W_stack c h n d e k (by omega) (by omega)

end Cert.ReferenceIdeal.Value

end
-- ==== Proof.RefResult.lean ====
/- The reference's results, entry by entry, from the contents after its loop. -/
module

public import proofs.«01_k».proof.Proof.Gen.ReferenceIdeal.Run
public import proofs.«01_k».proof.Proof.RefLoop
public import Idealize.ShloMosaic.Lib.Pipeline.ValueKit
public import Idealize.ShloMosaic.Lib.WordCmp

@[expose] public section

set_option maxRecDepth 16384

noncomputable section

namespace Cert.ReferenceIdeal.Value

open Cert.ReferenceIdeal Cert.ReferenceIdeal.Gen Cert.Spec Idealize.ShloMosaic Idealize.ShloMosaic.TcCoe Idealize.SL.Sem
open Idealize.ShloMosaic.StableHlo

variable (m : (ℓ : Loc nD τ sig) → Buf (Elt Ideal) ℓ)

/-- The contents after the loop's last test. -/
abbrev X (c : Dev nD) : Valuation τ sig (Elt Ideal) := after condOps (atK m 64 c)

/-- What neither the loop's test nor its body writes is as it was. -/
theorem X_keep (c : Dev nD) (r : Ref sig .tc) (h : r ∉ condOps_W ++ while0Ops0_W ++ while0Ops0_1_W ++ while0Ops0_2_W ++ while0Ops0_3_W ++ while0Ops0_4_W) :
    X m c (Proc.devRef .tc r) = E m c r := by
  simp only [List.mem_append, not_or] at h
  obtain ⟨⟨⟨⟨⟨h0, h1⟩, h2⟩, h3⟩, h4⟩, h5⟩ := h
  have hk : ∀ k, atK m k c (Proc.devRef .tc r) = E m c r := by
    intro k
    induction k with
    | zero => rfl
    | succ k ih =>
      show afterL bodyI (after condOps (atK m k c)) _ = _
      simp only [bodyI, afterL_cons, afterL_nil]
      rw [after_of_writes_sub _ _ while0Ops0_4_writes h5, after_of_writes_sub _ _ while0Ops0_3_writes h4, after_of_writes_sub _ _ while0Ops0_2_writes h3,
        after_of_writes_sub _ _ while0Ops0_1_writes h2, after_of_writes_sub _ _ while0Ops0_writes h1, after_of_writes_sub _ _ condOps_writes h0]
      exact ih
  exact (after_of_writes_sub _ _ condOps_writes h0).trans (hk 64)

theorem X_stack (c : Dev nD) (h : Fin 4) (n : Fin 64) (d e : Fin 128) :
    (X m c (Proc.devRef .tc main_v147_4) : FVec Ideal S64x1x4x128x128 .f32) (ix5 n 0 h d e) = (I m c).S h (63 - n.val) d e := by
  have e1 := (cond_keeps (atK m 64 c) main_v147_4 (by decide)).trans (atK_agree m c 64 main_v147_4 (by decide))
  exact (congrFun e1 (ix5 n 0 h d e)).trans (W_stack m c h n d e 64 le_rfl (by omega))

theorem X_Q (c : Dev nD) (h : Fin 4) (n : Fin 64) (i d : Fin 128) : (X m c (Proc.devRef .tc main_v126) : FVec Ideal S1x4x64x128x128 .f32) (ix5 0 h n i d) = (I m c).Q h (row n i) d :=
  (congrFun (X_keep m c main_v126 (by decide +kernel)) (ix5 0 h n i d)).trans (E_Q m c h n i d)

theorem X_v (c : Dev nD) (h : Fin 4) (n : Fin 64) (i d : Fin 128) : (X m c (Proc.devRef .tc main_v128) : FVec Ideal S1x4x64x128x128 .f32) (ix5 0 h n i d) = (I m c).v h (row n i) d :=
  (congrFun (X_keep m c main_v128 (by decide +kernel)) (ix5 0 h n i d)).trans (E_v m c h n i d)

theorem X_o (c : Dev nD) (h : Fin 4) (n : Fin 64) (i d : Fin 128) : (X m c (Proc.devRef .tc main_v140) : FVec Ideal S1x4x64x128x128 .f32) (ix5 0 h n i d) = (I m c).o h (row n i) d :=
  (congrFun (X_keep m c main_v140 (by decide +kernel)) (ix5 0 h n i d)).trans (E_o m c h n i d)

theorem X_KZ (c : Dev nD) (h : Fin 4) (n : Fin 64) (i d : Fin 128) : (X m c (Proc.devRef .tc main_v135) : FVec Ideal S1x4x64x128x128 .f32) (ix5 0 h n i d) = (I m c).K h (row n i) d * (I m c).ze h i :=
  (congrFun (X_keep m c main_v135 (by decide +kernel)) (ix5 0 h n i d)).trans (E_KZ m c h n i d)

theorem X_A (c : Dev nD) (h : Fin 4) (n : Fin 64) (i d : Fin 128) : (X m c (Proc.devRef .tc main_v132) : FVec Ideal S1x4x64x128x128 .f32) (ix5 0 h n i d) = (∑ d' : Fin 128, (I m c).Q h (row n i) d' * (I m c).K h (row n d) d') * (I m c).dec h i d :=
  (congrFun (X_keep m c main_v132 (by decide +kernel)) (ix5 0 h n i d)).trans (E_A m c h n i d)

theorem X_ze (c : Dev nD) (h : Fin 4) (i : Fin 128) : (X m c (Proc.devRef .tc main_v133) : FVec Ideal S1x4x1x128x1 .f32) (ix5 0 h 0 i 0) = (I m c).ze h i :=
  (congrFun (X_keep m c main_v133 (by decide +kernel)) (ix5 0 h 0 i 0)).trans (E_ze m c h i)

theorem X_dec (c : Dev nD) (h : Fin 4) (i d : Fin 128) : (X m c (Proc.devRef .tc main_v130) : FVec Ideal S1x4x1x128x128 .f32) (ix5 0 h 0 i d) = (I m c).dec h i d :=
  (congrFun (X_keep m c main_v130 (by decide +kernel)) (ix5 0 h 0 i d)).trans (E_dec m c h i d)

theorem X_cos (c : Dev nD) (r : Fin 8192) (d : Fin 128) : (X m c (Proc.devRef .tc main_v63) : FVec Ideal S1x1x8192x128 .f32) (ix4 0 0 r d) = (I m c).cs r d :=
  (congrFun (X_keep m c main_v63 (by decide +kernel)) (ix4 0 0 r d)).trans (E_cos m c r d)

theorem X_sin (c : Dev nD) (r : Fin 8192) (d : Fin 128) : (X m c (Proc.devRef .tc main_v73) : FVec Ideal S1x1x8192x128 .f32) (ix4 0 0 r d) = (I m c).sn r d :=
  (congrFun (X_keep m c main_v73 (by decide +kernel)) (ix4 0 0 r d)).trans (E_sin m c r d)

/-- The chunk of a row, the row in its chunk, the head of a column, the lane in its head. -/
abbrev ch (r : Fin 8192) : Fin 64 := ⟨r.val / 128, by omega⟩
abbrev posn (r : Fin 8192) : Fin 128 := ⟨r.val % 128, by omega⟩
abbrev hd (l : Fin 512) : Fin 4 := ⟨l.val / 128, by omega⟩
abbrev ln (l : Fin 512) : Fin 128 := ⟨l.val % 128, by omega⟩

theorem row_ch (r : Fin 8192) : row (ch r) (posn r) = r := Fin.ext (by show r.val / 128 * 128 + r.val % 128 = r.val; omega)

/-- The quarter turn, subtracted: what the two strided halves, put back between zeros, add up to. -/
theorem rot_pads (g : Fin 128 → EReal) (l : Fin 512) :
    ((if h : l.val / 128 < 4 ∧ 1 ≤ l.val % 128 ∧ (l.val % 128 - 1) % 2 = 0 ∧ (l.val % 128 - 1) / 2 < 64 then -(g ⟨(l.val % 128 - 1) / 2 * 2, by omega⟩) else 0)
      + (if h : l.val / 128 < 4 ∧ l.val % 128 % 2 = 0 ∧ l.val % 128 / 2 < 64 then g ⟨l.val % 128 / 2 * 2 + 1, by omega⟩ else 0) : EReal) = -(rot g (ln l)) := by
  unfold rot
  by_cases h : l.val % 128 % 2 = 0
  · rw [dif_neg (by omega), dif_pos (by omega), if_pos (show (ln l).val % 2 = 0 from h), zero_add, neg_neg]
    exact congrArg g (Fin.ext (by show l.val % 128 / 2 * 2 + 1 = (l.val % 128 + 1) % 128; omega))
  · rw [dif_pos (by omega), dif_neg (by omega), if_neg (show ¬ (ln l).val % 2 = 0 from h), add_zero]
    exact congrArg (fun t : Fin 128 => -(g t)) (Fin.ext (by show (l.val % 128 - 1) / 2 * 2 = (l.val % 128 + 127) % 128; omega))

section
variable (J : Inp) (V0 : Valuation τ sig (Elt Ideal))

/-- The gradient of the values, from what the loop and the operations before it left. -/
theorem post_dv
    (hS : ∀ (h : Fin 4) (n : Fin 64) (d e : Fin 128), (V0 (Proc.devRef .tc main_v147_4) : FVec Ideal S64x1x4x128x128 .f32) (ix5 n 0 h d e) = J.S h (63 - n.val) d e)
    (hKZ : ∀ (h : Fin 4) (n : Fin 64) (i d : Fin 128), (V0 (Proc.devRef .tc main_v135) : FVec Ideal S1x4x64x128x128 .f32) (ix5 0 h n i d) = J.K h (row n i) d * J.ze h i)
    (ho : ∀ (h : Fin 4) (n : Fin 64) (i d : Fin 128), (V0 (Proc.devRef .tc main_v140) : FVec Ideal S1x4x64x128x128 .f32) (ix5 0 h n i d) = J.o h (row n i) d)
    (hA : ∀ (h : Fin 4) (n : Fin 64) (i d : Fin 128), (V0 (Proc.devRef .tc main_v132) : FVec Ideal S1x4x64x128x128 .f32) (ix5 0 h n i d) = (∑ d' : Fin 128, J.Q h (row n i) d' * J.K h (row n d) d') * J.dec h i d)
    (r : Fin 8192) (l : Fin 512) :
    (afterL postI V0 (Proc.devRef .tc main_v187) : FVec Ideal S8192x512 .bf16) (ix2 r l) = J.DV (hd l) (ch r) (posn r) (ln l) := by
  rw [afterL_eq_after_flatten]; unfold postI
  after_reads_simp
  pointwise
  refine (Fin.sum_univ_one (M := EReal) _).trans ?_
  refine (congrArg₂ (fun a b : EReal => a + b)
    (Finset.sum_congr (M := EReal) rfl fun x _ => congrArg₂ (fun a b : EReal => a * b) (hS (hd l) (ch r) x (ln l)) (hKZ (hd l) (ch r) (posn r) x))
    (Finset.sum_congr (M := EReal) rfl fun x _ => congrArg₂ (fun a b : EReal => a * b) (ho (hd l) (ch r) x (ln l)) (hA (hd l) (ch r) x (posn r)))).trans ?_
  unfold Inp.DV
  refine (add_comm (_ : EReal) (_ : EReal)).trans ?_
  refine congrArg₂ (fun a b : EReal => a + b) (Finset.sum_congr (M := EReal) rfl fun x _ => EReal.mul_comm _ _) (Finset.sum_congr (M := EReal) rfl fun x _ => EReal.mul_comm _ _)

/-- The gradient of the rotated keys, as the operations after the loop spell it. -/
def dkrOf (h : Fin 4) (n : Fin 64) (j d : Fin 128) : EReal :=
  let sS : S64x1x4x128x128.Idx → EReal := V0 (Proc.devRef .tc main_v147_4)
  let sv : S1x4x64x128x128.Idx → EReal := V0 (Proc.devRef .tc main_v128)
  let so : S1x4x64x128x128.Idx → EReal := V0 (Proc.devRef .tc main_v140)
  let sQ : S1x4x64x128x128.Idx → EReal := V0 (Proc.devRef .tc main_v126)
  let sz : S1x4x1x128x1.Idx → EReal := V0 (Proc.devRef .tc main_v133)
  let sd : S1x4x1x128x128.Idx → EReal := V0 (Proc.devRef .tc main_v130)
  ((∑ e : Fin 128, sS (ix5 n 0 h d e) * sv (ix5 0 h n j e)) * sz (ix5 0 h 0 j 0)
    + ∑ i : Fin 128, (∑ e : Fin 128, so (ix5 0 h n i e) * sv (ix5 0 h n j e)) * sd (ix5 0 h 0 i j) * sQ (ix5 0 h n i d))
    * Ideal.ofBits .f32 0x3DB504F3#32

theorem dkrOf_eq (hsc : J.scale = Ideal.ofBits .f32 0x3DB504F3#32)
    (hS : ∀ (h : Fin 4) (n : Fin 64) (d e : Fin 128), (V0 (Proc.devRef .tc main_v147_4) : FVec Ideal S64x1x4x128x128 .f32) (ix5 n 0 h d e) = J.S h (63 - n.val) d e)
    (hQ : ∀ (h : Fin 4) (n : Fin 64) (i d : Fin 128), (V0 (Proc.devRef .tc main_v126) : FVec Ideal S1x4x64x128x128 .f32) (ix5 0 h n i d) = J.Q h (row n i) d)
    (hv : ∀ (h : Fin 4) (n : Fin 64) (i d : Fin 128), (V0 (Proc.devRef .tc main_v128) : FVec Ideal S1x4x64x128x128 .f32) (ix5 0 h n i d) = J.v h (row n i) d)
    (ho : ∀ (h : Fin 4) (n : Fin 64) (i d : Fin 128), (V0 (Proc.devRef .tc main_v140) : FVec Ideal S1x4x64x128x128 .f32) (ix5 0 h n i d) = J.o h (row n i) d)
    (hze : ∀ (h : Fin 4) (i : Fin 128), (V0 (Proc.devRef .tc main_v133) : FVec Ideal S1x4x1x128x1 .f32) (ix5 0 h 0 i 0) = J.ze h i)
    (hdec : ∀ (h : Fin 4) (i d : Fin 128), (V0 (Proc.devRef .tc main_v130) : FVec Ideal S1x4x1x128x128 .f32) (ix5 0 h 0 i d) = J.dec h i d)
    (h : Fin 4) (n : Fin 64) (j d : Fin 128) : dkrOf V0 h n j d = J.DKR h n j d := by
  unfold dkrOf Inp.DKR
  refine (congrArg₂ (fun a b : EReal => a * b) (congrArg₂ (fun a b : EReal => a + b)
    (congrArg₂ (fun a b : EReal => a * b) (Finset.sum_congr (M := EReal) rfl fun e _ => (congrArg₂ (fun a b : EReal => a * b) (hS h n d e) (hv h n j e)).trans (EReal.mul_comm _ _)) (hze h j))
    (Finset.sum_congr (M := EReal) rfl fun i _ => congrArg₂ (fun a b : EReal => a * b)
      (congrArg₂ (fun a b : EReal => a * b) (Finset.sum_congr (M := EReal) rfl fun e _ => congrArg₂ (fun a b : EReal => a * b) (ho h n i e) (hv h n j e)) (hdec h i j)) (hQ h n i d))) hsc.symm).trans ?_
  exact congrArg (fun t : EReal => t * J.scale) (add_comm (_ : EReal) (_ : EReal))

/-- The gradient of the keys, from what the loop and the operations before it left. -/
theorem post_dk (hsc : J.scale = Ideal.ofBits .f32 0x3DB504F3#32)
    (hS : ∀ (h : Fin 4) (n : Fin 64) (d e : Fin 128), (V0 (Proc.devRef .tc main_v147_4) : FVec Ideal S64x1x4x128x128 .f32) (ix5 n 0 h d e) = J.S h (63 - n.val) d e)
    (hQ : ∀ (h : Fin 4) (n : Fin 64) (i d : Fin 128), (V0 (Proc.devRef .tc main_v126) : FVec Ideal S1x4x64x128x128 .f32) (ix5 0 h n i d) = J.Q h (row n i) d)
    (hv : ∀ (h : Fin 4) (n : Fin 64) (i d : Fin 128), (V0 (Proc.devRef .tc main_v128) : FVec Ideal S1x4x64x128x128 .f32) (ix5 0 h n i d) = J.v h (row n i) d)
    (ho : ∀ (h : Fin 4) (n : Fin 64) (i d : Fin 128), (V0 (Proc.devRef .tc main_v140) : FVec Ideal S1x4x64x128x128 .f32) (ix5 0 h n i d) = J.o h (row n i) d)
    (hze : ∀ (h : Fin 4) (i : Fin 128), (V0 (Proc.devRef .tc main_v133) : FVec Ideal S1x4x1x128x1 .f32) (ix5 0 h 0 i 0) = J.ze h i)
    (hdec : ∀ (h : Fin 4) (i d : Fin 128), (V0 (Proc.devRef .tc main_v130) : FVec Ideal S1x4x1x128x128 .f32) (ix5 0 h 0 i d) = J.dec h i d)
    (hcos : ∀ (r : Fin 8192) (d : Fin 128), (V0 (Proc.devRef .tc main_v63) : FVec Ideal S1x1x8192x128 .f32) (ix4 0 0 r d) = J.cs r d)
    (hsin : ∀ (r : Fin 8192) (d : Fin 128), (V0 (Proc.devRef .tc main_v73) : FVec Ideal S1x1x8192x128 .f32) (ix4 0 0 r d) = J.sn r d)
    (r : Fin 8192) (l : Fin 512) :
    (afterL postI V0 (Proc.devRef .tc main_v186) : FVec Ideal S8192x512 .bf16) (ix2 r l) = J.DK (hd l) (ch r) (posn r) (ln l) := by
  rw [afterL_eq_after_flatten]; unfold postI
  after_reads_simp
  pointwise
  refine (Fin.sum_univ_one (M := EReal) _).trans ?_
  have hD : ∀ d, dkrOf V0 (hd l) (ch r) (posn r) d = J.DKR (hd l) (ch r) (posn r) d := dkrOf_eq J V0 hsc hS hQ hv ho hze hdec (hd l) (ch r) (posn r)
  refine (congrArg₂ (fun a b : EReal => a + b)
    (rot_pads (fun d => dkrOf V0 (hd l) (ch r) (posn r) d * (V0 (Proc.devRef .tc main_v73) : FVec Ideal S1x1x8192x128 .f32) (ix4 0 0 r d)) l)
    (congrArg₂ (fun a b : EReal => a * b) (hD (ln l)) (hcos r (ln l)))).trans ?_
  have e : (fun d => dkrOf V0 (hd l) (ch r) (posn r) d * (V0 (Proc.devRef .tc main_v73) : FVec Ideal S1x1x8192x128 .f32) (ix4 0 0 r d))
      = fun d => J.DKR (hd l) (ch r) (posn r) d * J.sn (row (ch r) (posn r)) d :=
    funext fun d => congrArg₂ (fun a b : EReal => a * b) (hD d) ((hsin r d).trans (congrArg (fun t => J.sn t d) (row_ch r).symm))
  unfold Inp.DK
  refine (congrArg₂ (fun a b : EReal => a + b) (congrArg (fun g : Fin 128 → EReal => -(rot g (ln l))) e)
    (congrArg (fun t => J.DKR (hd l) (ch r) (posn r) (ln l) * J.cs t (ln l)) (row_ch r).symm)).trans ?_
  rw [sub_eq_add_neg, add_comm]

end

theorem result_dv (c : Dev nD) (r : Fin 8192) (l : Fin 512) :
    (finalContents condOps preI bodyI postI 64 m c (Proc.devRef .tc main_v187) : FVec Ideal S8192x512 .bf16) (ix2 r l) = (I m c).DV (hd l) (ch r) (posn r) (ln l) :=
  post_dv (I m c) (X m c) (X_stack m c) (X_KZ m c) (X_o m c) (X_A m c) r l

theorem result_dk (c : Dev nD) (r : Fin 8192) (l : Fin 512) :
    (finalContents condOps preI bodyI postI 64 m c (Proc.devRef .tc main_v186) : FVec Ideal S8192x512 .bf16) (ix2 r l) = (I m c).DK (hd l) (ch r) (posn r) (ln l) :=
  post_dk (I m c) (X m c) rfl (X_stack m c) (X_Q m c) (X_v m c) (X_o m c) (X_ze m c) (X_dec m c) (X_cos m c) (X_sin m c) r l

theorem result_arg0 (c : Dev nD) : finalContents condOps preI bodyI postI 64 m c (Proc.devRef .tc main_arg0) = m ((c : Thread nD τ).loc main_arg0) := by
  have h1 : X m c (Proc.devRef .tc main_arg0) = E m c main_arg0 := X_keep m c main_arg0 (by decide +kernel)
  show afterL postI (X m c) (Proc.devRef .tc main_arg0) = _
  generalize X m c = Y at h1 ⊢
  rw [afterL_eq_after_flatten]; unfold postI
  after_reads_simp
  rw [h1]
  unfold E entryContents
  rw [afterL_eq_after_flatten]; unfold preI
  after_reads_simp

theorem result_arg1 (c : Dev nD) : finalContents condOps preI bodyI postI 64 m c (Proc.devRef .tc main_arg1) = m ((c : Thread nD τ).loc main_arg1) := by
  have h1 : X m c (Proc.devRef .tc main_arg1) = E m c main_arg1 := X_keep m c main_arg1 (by decide +kernel)
  show afterL postI (X m c) (Proc.devRef .tc main_arg1) = _
  generalize X m c = Y at h1 ⊢
  rw [afterL_eq_after_flatten]; unfold postI
  after_reads_simp
  rw [h1]
  unfold E entryContents
  rw [afterL_eq_after_flatten]; unfold preI
  after_reads_simp

/-- Both results and both arguments after the run, and every counter at zero: the program has no semaphore. -/
theorem run_results (ρ : Dev nD → PrngReg) : θ_run (defs (F := Ideal)) (onTc (τ := τ) (main (F := Ideal))) ⟨m, fun _ => 0, ρ⟩ (fun r => (∀ c : Dev nD,
      r.2.mem ((c.tc : Thread nD τ).loc main_v186) = finalContents condOps preI bodyI postI 64 m c (Proc.devRef .tc main_v186)
      ∧ r.2.mem ((c.tc : Thread nD τ).loc main_v187) = finalContents condOps preI bodyI postI 64 m c (Proc.devRef .tc main_v187)
      ∧ r.2.mem ((c.tc : Thread nD τ).loc main_arg0) = m ((c : Thread nD τ).loc main_arg0)
      ∧ r.2.mem ((c.tc : Thread nD τ).loc main_arg1) = m ((c : Thread nD τ).loc main_arg1)) ∧ r.2.sem = fun _ => 0) :=
  (θ_run defs _ _).mono (fun r h => ⟨fun c => ⟨h c main_v186 rfl, h c main_v187 rfl,
    (h c main_arg0 rfl).trans (result_arg0 m c), (h c main_arg1 rfl).trans (result_arg1 m c)⟩, sem_eq_zero_of_no_sems (by decide) r.2⟩) (run_fold m ρ)

end Cert.ReferenceIdeal.Value

end
-- ==== Proof.KernelEntry.lean ====
/- The tables in the kernel's memory when the region starts. -/
module

public import proofs.«01_k».proof.Proof.Gen.KernelIdeal.Value
public import proofs.«01_k».proof.Proof.Tables
public import Idealize.ShloMosaic.Lib.Pipeline.ValueKit
public import Idealize.ShloMosaic.Lib.StableHlo.RunRead

@[expose] public section

set_option maxRecDepth 16384

noncomputable section

namespace Cert.KernelIdeal.Value

open Cert.KernelIdeal Cert.KernelIdeal.Gen Cert.Spec Idealize.ShloMosaic Idealize.ShloMosaic.TcCoe Idealize.SL.Sem

variable (m : (ℓ : Loc nD τ sig) → Buf (Elt Ideal) ℓ)

/-- Twice the integer half of a lane. -/
theorem pair_word (d : Fin 128) :
    IntOp.muli
      (Scalar.select
        (IntOp.andi
          (IntOp.cmpi CmpIPredicate.ne
            (if BitVec.ofNat 32 d.val = 0 then 0 else if (BitVec.ofNat 32 d.val).msb = true then -1 else 1 : BitVec 32)
            (if 2#32 = 0 then 0 else if (2#32).msb = true then -1 else 1))
          (IntOp.cmpi CmpIPredicate.ne (IntOp.remsi ArithUnit.host (BitVec.ofNat 32 d.val) 2#32) 0#32))
        (IntOp.subi (IntOp.divsi ArithUnit.host (BitVec.ofNat 32 d.val) 2#32) 1#32)
        (IntOp.divsi ArithUnit.host (BitVec.ofNat 32 d.val) 2#32))
      2#32 = BitVec.ofNat 32 (d.val / 2 * 2) := by
  revert d
  decide +kernel

theorem V_angle (c : Dev nD) (r : Fin 8192) (d : Fin 128) : (V m c main_v15 : FVec Ideal S8192x128 .f32) (ix2 r d) = angle r d := by
  unfold V; after_reads_simp
  simp only [StableHlo.TRef.ofBuf, StableHlo.TRef.toBuf, cast_eq, id]
  pointwise
  exact congrArg (fun w : BitVec 32 => num r.val * Ideal.pow (Ideal.ofBits .f32 0x461C4000#32)
    (Ideal.div (-FloatOps.sitofp (F := Ideal) .f32 w) (Ideal.ofBits .f32 0x43000000#32))) (pair_word d)

theorem V_cos (c : Dev nD) (r : Fin 8192) (d : Fin 128) : (V m c main_v60 : FVec Ideal S8192x128 .f32) (ix2 r d) = Ideal.cos (angle r d) := by
  rw [← V_angle m c r d]
  unfold V; after_reads_simp
  rfl

theorem V_sin (c : Dev nD) (r : Fin 8192) (d : Fin 128) : (V m c main_v61 : FVec Ideal S8192x128 .f32) (ix2 r d) = Ideal.sin (angle r d) := by
  rw [← V_angle m c r d]
  unfold V; after_reads_simp
  rfl

theorem V_dec (c : Dev nD) (h : Fin 4) (i j : Fin 128) : (V m c main_v40 : FVec Ideal S4x128x128 .f32) (ix3 h i j) = decay h i j := by
  unfold V; after_reads_simp
  simp only [StableHlo.TRef.ofBuf, StableHlo.TRef.toBuf, cast_eq, id]
  pointwise
  rfl

theorem V_ze (c : Dev nD) (h : Fin 4) (j d : Fin 128) : (V m c main_v63 : FVec Ideal S4x128x128 .f32) (ix3 h j d) = toEnd h j := by
  unfold V; after_reads_simp
  pointwise
  rfl

theorem V_xi (c : Dev nD) (h : Fin 4) (i d : Fin 128) : (V m c main_v65 : FVec Ideal S4x128x128 .f32) (ix3 h i d) = fromStart h i := by
  unfold V; after_reads_simp
  pointwise
  rfl

theorem V_gc (c : Dev nD) (h : Fin 4) (i d : Fin 128) : (V m c main_v67 : FVec Ideal S4x128x128 .f32) (ix3 h i d) = overChunk h := by
  unfold V; after_reads_simp
  pointwise
  rfl

end Cert.KernelIdeal.Value
end
-- ==== Proof.Tile.lean ====
/- The arithmetic of one 128 by 128 tile of the retention's backward pass, over any floats: what the kernel computes for
   one head and one chunk, each function one of the kernel's own lines. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem

variable {F : FTy → Type} [FloatOps F]

/-- The lanes whose number is even. -/
def evenT : IVec S128x128 1 :=
  let two : BitVec 32 := Scalar.select (Scalar.cmpi .eq 2#32 0#32) 1#32 2#32
  let r : IVec S128x128 32 := remsi (iota .tc S128x128 32 [1] iota_S128x128_d1_w32) (broadcast S128x128 two)
  let s : IVec S128x128 1 := andi
    (xori (cmpi .slt r (broadcast S128x128 0#32))
      (broadcastTo S128x128 (broadcast S128x128 (Scalar.cmpi .slt two 0#32)) broadcasts_S128x128_S128x128))
    (cmpi .ne r (broadcast S128x128 0#32))
  cmpi .eq (select s (addi r (broadcast S128x128 two)) r) (broadcast S128x128 0#32)

/-- Every pair of neighbouring lanes turned by a quarter: `(a, b)` becomes `(-b, a)`. -/
def rotT (x : FVec F S128x128 .f32) : FVec F S128x128 .f32 :=
  select evenT
    (subf (broadcast S128x128 (Scalar.ofBits .f32 0x00000000#32)) (dynamicRotate 1 127#32 none x rotates_S128x128_d1))
    (dynamicRotate 1 1#32 none x rotates_S128x128_d1)

/-- A tile read from a table of rows. -/
def rowT (x : Vec F S128x128 .f32) : FVec F S128x128 .f32 := shapeCast S128x128 x shapeCasts_S128x128_S128x128

/-- A tile read from a table of heads. -/
def headT (x : Vec F S1x128x128 .f32) : FVec F S128x128 .f32 := shapeCast S128x128 x shapeCasts_S1x128x128_S128x128

/-- The rotary embedding of a tile. -/
def ropeT (x cs sn : Vec F S128x128 .f32) : FVec F S128x128 .f32 :=
  addf (mulf x (rowT cs)) (mulf (rotT x) (rowT sn))

/-- The scale of the keys. -/
def scaleT : FVec F S128x128 .f32 := broadcast S128x128 (Scalar.ofBits .f32 0x3DB504F3#32)

/-- The rotated and scaled keys. -/
def krT (k cs sn : Vec F S128x128 .f32) : FVec F S128x128 .f32 := mulf (ropeT k cs sn) scaleT

/-- A tile's narrowing. -/
def nar (x : FVec F S128x128 .f32) : FVec F S128x128 .bf16 := truncf .bf16 x bitsLt_bf16_f32

/-- The product contracting both operands' lanes. -/
def dotNT (a b : FVec F S128x128 .bf16) : FVec F S128x128 .f32 :=
  matmul dot_S128x128_S128x128_S128x128_1_1_0_0_n_n none a b (constant S128x128 .f32 0x00000000#32)

/-- The product contracting both operands' rows. -/
def dotTN (a b : FVec F S128x128 .bf16) : FVec F S128x128 .f32 :=
  matmul dot_S128x128_S128x128_S128x128_0_0_1_1_n_n none a b (constant S128x128 .f32 0x00000000#32)

/-- The plain product. -/
def dotNN (a b : FVec F S128x128 .bf16) : FVec F S128x128 .f32 :=
  matmul dot_S128x128_S128x128_S128x128_1_0_0_1_n_n none a b (constant S128x128 .f32 0x00000000#32)

/-- What one chunk adds to the gradient of the state. -/
def stepT (o q cs sn : Vec F S128x128 .f32) (xi : Vec F S1x128x128 .f32) : FVec F S128x128 .f32 :=
  dotTN (nar (ropeT q cs sn)) (nar (mulf o (headT xi)))

/-- The gradient of the state, carried over one chunk. -/
def advT (s : FVec F S128x128 .f32) (gc : Vec F S1x128x128 .f32) (step : FVec F S128x128 .f32) : FVec F S128x128 .f32 :=
  addf (mulf s (headT gc)) step

/-- The gradient of the values of one chunk. -/
def dvT (o q k cs sn : Vec F S128x128 .f32) (dec zeta : Vec F S1x128x128 .f32) (s : FVec F S128x128 .f32) :
    FVec F S128x128 .bf16 :=
  nar (addf
    (dotTN (nar (mulf (dotNT (nar (ropeT q cs sn)) (nar (krT k cs sn))) (headT dec))) (nar o))
    (dotNN (nar (mulf (krT k cs sn) (headT zeta))) (nar s)))

/-- The gradient of the rotated keys of one chunk. -/
def dkrT (o q v cs sn : Vec F S128x128 .f32) (dec zeta : Vec F S1x128x128 .f32) (s : FVec F S128x128 .f32) :
    FVec F S128x128 .f32 :=
  mulf (addf
    (dotTN (nar (mulf (dotNT (nar o) (nar v)) (headT dec))) (nar (ropeT q cs sn)))
    (mulf (dotNT (nar v) (nar s)) (headT zeta))) scaleT

/-- The gradient of the keys of one chunk. -/
def dkT (o q v cs sn : Vec F S128x128 .f32) (dec zeta : Vec F S1x128x128 .f32) (s : FVec F S128x128 .f32) :
    FVec F S128x128 .bf16 :=
  nar (subf (mulf (dkrT o q v cs sn dec zeta s) (rowT cs)) (rotT (mulf (dkrT o q v cs sn dec zeta s) (rowT sn))))

/-- The tile of chunk `ci` and head `h` of a block of 512 rows and 512 lanes. -/
def ldB (x : Vec F S512x512 .f32) (h ci : Fin 4) : Vec F S128x128 .f32 :=
  View.ld x (Rect.unit (s := S512x512) ![128 * ci.val, 128 * h.val] ![128, 128]
    (by have := ci.isLt; have := h.isLt; intro k; fin_cases k <;> simp <;> omega))

/-- The tile of chunk `ci` of a table of 512 rows. -/
def ldR (x : Vec F S512x128 .f32) (ci : Fin 4) : Vec F S128x128 .f32 :=
  View.ld x (Rect.unit (s := S512x128) ![128 * ci.val, 0] ![128, 128]
    (by have := ci.isLt; intro k; fin_cases k <;> simp <;> omega))

/-- The tile of head `h` of a table of four heads. -/
def ldH (x : Vec F S4x128x128 .f32) (h : Fin 4) : Vec F S1x128x128 .f32 :=
  View.ld x (Rect.unit (s := S4x128x128) ![h.val, 0, 0] ![1, 128, 128]
    (by have := h.isLt; intro k; fin_cases k <;> simp <;> omega))

/-- The chunk a block reaches `n` steps after its first: the chunks go backwards. -/
def revC (n : ℕ) : Fin 4 := ⟨3 - n, by omega⟩

/-- The gradient of head `h`'s state after `n` chunks of a block. -/
def stT (x0 x1 : Vec F S512x512 .f32) (x4 x5 : Vec F S512x128 .f32) (x8 x9 : Vec F S4x128x128 .f32)
    (s0 : Fin 4 → FVec F S128x128 .f32) (h : Fin 4) : ℕ → FVec F S128x128 .f32
  | 0 => s0 h
  | n + 1 => advT (stT x0 x1 x4 x5 x8 x9 s0 h n) (ldH x9 h)
      (stepT (ldB x0 h (revC n)) (ldB x1 h (revC n)) (ldR x4 (revC n)) (ldR x5 (revC n)) (ldH x8 h))

/-- The block of the values' gradient, tile by tile. -/
def dvF (x0 x1 x2 x3 : Vec F S512x512 .f32) (x4 x5 : Vec F S512x128 .f32) (x6 x7 x8 x9 : Vec F S4x128x128 .f32)
    (s0 : Fin 4 → FVec F S128x128 .f32) (h ci : Fin 4) : FVec F S128x128 .bf16 :=
  dvT (ldB x0 h ci) (ldB x1 h ci) (ldB x2 h ci) (ldR x4 ci) (ldR x5 ci) (ldH x6 h) (ldH x7 h)
    (stT x0 x1 x4 x5 x8 x9 s0 h (3 - ci.val))

/-- The block of the keys' gradient, tile by tile. -/
def dkF (x0 x1 x2 x3 : Vec F S512x512 .f32) (x4 x5 : Vec F S512x128 .f32) (x6 x7 x8 x9 : Vec F S4x128x128 .f32)
    (s0 : Fin 4 → FVec F S128x128 .f32) (h ci : Fin 4) : FVec F S128x128 .bf16 :=
  dkT (ldB x0 h ci) (ldB x1 h ci) (ldB x3 h ci) (ldR x4 ci) (ldR x5 ci) (ldH x6 h) (ldH x7 h)
    (stT x0 x1 x4 x5 x8 x9 s0 h (3 - ci.val))

/-- A block put together from its tiles. -/
def blkT (f : Fin 4 → Fin 4 → FVec F S128x128 .bf16) : Vec F S512x512 .bf16 := fun y =>
  f ⟨(y 1 : ℕ) / 128, Nat.div_lt_of_lt_mul (y 1).isLt⟩ ⟨(y 0 : ℕ) / 128, Nat.div_lt_of_lt_mul (y 0).isLt⟩
    (ix2 ⟨(y 0 : ℕ) % 128, Nat.mod_lt _ (by decide)⟩ ⟨(y 1 : ℕ) % 128, Nat.mod_lt _ (by decide)⟩)

/-- A table put together from its heads. -/
def headsT (f : Fin 4 → FVec F S128x128 .f32) : Vec F S4x128x128 .f32 := fun y => f (y 0) (ix2 (y 1) (y 2))

theorem blkT_emb (f : Fin 4 → Fin 4 → FVec F S128x128 .bf16) (h ci : Fin 4)
    (hb : ∀ a, (![128 * ci.val, 128 * h.val] : Fin 2 → ℕ) a + S128x128.size a ≤ S512x512.size a) (x : S128x128.Idx) :
    f h ci x = blkT f ((Rect.unit (s := S512x512) ![128 * ci.val, 128 * h.val] S128x128.size hb).emb x) := by
  have e0 : (((Rect.unit (s := S512x512) ![128 * ci.val, 128 * h.val] S128x128.size hb).emb x) 0 : ℕ) = 128 * ci.val + (x 0 : ℕ) := by
    simp [Rect.emb, Rect.unit]
  have e1 : (((Rect.unit (s := S512x512) ![128 * ci.val, 128 * h.val] S128x128.size hb).emb x) 1 : ℕ) = 128 * h.val + (x 1 : ℕ) := by
    simp [Rect.emb, Rect.unit]
  have l0 : (x 0 : ℕ) < 128 := (x 0).isLt
  have l1 : (x 1 : ℕ) < 128 := (x 1).isLt
  unfold blkT
  have a1 : ∀ hlt, (⟨(((Rect.unit (s := S512x512) ![128 * ci.val, 128 * h.val] S128x128.size hb).emb x) 1 : ℕ) / 128, hlt⟩ : Fin 4) = h :=
    fun _ => Fin.ext (by show _ / 128 = _; rw [e1]; omega)
  have a0 : ∀ hlt, (⟨(((Rect.unit (s := S512x512) ![128 * ci.val, 128 * h.val] S128x128.size hb).emb x) 0 : ℕ) / 128, hlt⟩ : Fin 4) = ci :=
    fun _ => Fin.ext (by show _ / 128 = _; rw [e0]; omega)
  rw [a0, a1]
  congr 1
  funext a
  fin_cases a
  · exact Fin.ext (by show (x 0 : ℕ) = (_ : ℕ) % 128; rw [e0]; omega)
  · exact Fin.ext (by show (x 1 : ℕ) = (_ : ℕ) % 128; rw [e1]; omega)

theorem headsT_emb (f : Fin 4 → FVec F S128x128 .f32) (h : Fin 4)
    (hb : ∀ a, (![h.val, 0, 0] : Fin 3 → ℕ) a + S1x128x128.size a ≤ S4x128x128.size a) (x : S1x128x128.Idx) :
    shapeCast S1x128x128 (f h) shapeCasts_S128x128_S1x128x128 x =
      headsT f ((Rect.unit (s := S4x128x128) ![h.val, 0, 0] S1x128x128.size hb).emb x) := by
  idx_vars x
  pointwise
  unfold headsT
  have e0 : ((Rect.unit (s := S4x128x128) ![h.val, 0, 0] S1x128x128.size hb).emb (ix3 x0 x1 x2)) 0 = h :=
    Fin.ext (by simp [Rect.emb, Rect.unit])
  have e1 : ((Rect.unit (s := S4x128x128) ![h.val, 0, 0] S1x128x128.size hb).emb (ix3 x0 x1 x2)) 1 = x1 :=
    Fin.ext (by simp [Rect.emb, Rect.unit])
  have e2 : ((Rect.unit (s := S4x128x128) ![h.val, 0, 0] S1x128x128.size hb).emb (ix3 x0 x1 x2)) 2 = x2 :=
    Fin.ext (by simp [Rect.emb, Rect.unit])
  show _ = f (((Rect.unit (s := S4x128x128) ![h.val, 0, 0] S1x128x128.size hb).emb (ix3 x0 x1 x2)) 0) (ix2 (((Rect.unit (s := S4x128x128) ![h.val, 0, 0] S1x128x128.size hb).emb (ix3 x0 x1 x2)) 1) (((Rect.unit (s := S4x128x128) ![h.val, 0, 0] S1x128x128.size hb).emb (ix3 x0 x1 x2)) 2))
  rw [e0, e1, e2]

end Cert.KernelIdeal.Tile

end
-- ==== Proof.TileIdeal.lean ====
/- The tile functions over the extended reals, entry by entry. -/
module

public import proofs.«01_k».proof.Proof.Tile
public import proofs.«01_k».proof.Proof.Spec

@[expose] public section

set_option maxRecDepth 16384

noncomputable section

namespace Cert.KernelIdeal.Tile

open Cert.KernelIdeal Cert.KernelIdeal.Gen Cert.Spec Idealize.ShloMosaic Idealize.ShloMosaic.TcCoe Idealize.SL.Sem

theorem evenT_at (i d : Fin 128) : evenT (ix2 i d) = if d.val % 2 = 0 then 1#1 else 0#1 := by
  unfold evenT
  pointwise
  clear i
  revert d
  decide +kernel

theorem rotT_at (x : FVec Ideal S128x128 .f32) (i d : Fin 128) : rotT x (ix2 i d) = rot (fun d => x (ix2 i d)) d := by
  unfold rotT
  pointwise [evenT_at]
  unfold rot
  by_cases h : d.val % 2 = 0
  · simp only [h, if_true, zero_sub, Scalar.select]
    refine Eq.trans (if_pos rfl) ?_
    exact congrArg (fun t : Fin 128 => -(x (ix2 i t)))
      (Fin.ext (by show (d.val + 128 - 127) % 128 = (d.val + 1) % 128; omega))
  · simp only [h, if_false, Scalar.select]
    refine Eq.trans (if_neg (by decide)) ?_
    exact congrArg (fun t : Fin 128 => x (ix2 i t))
      (Fin.ext (by show (d.val + 128 - 1) % 128 = (d.val + 127) % 128; omega))

theorem ropeT_at (x cs sn : Vec Ideal S128x128 .f32) (i d : Fin 128) :
    ropeT x cs sn (ix2 i d) = x (ix2 i d) * cs (ix2 i d) + rot (fun d => x (ix2 i d)) d * sn (ix2 i d) := by
  unfold ropeT rowT
  pointwise [rotT_at]

theorem dotNT_at (a b : FVec Ideal S128x128 .bf16) (i j : Fin 128) :
    dotNT a b (ix2 i j) = ∑ k : Fin 128, a (ix2 i k) * b (ix2 j k) := by
  unfold dotNT
  pointwise

theorem dotTN_at (a b : FVec Ideal S128x128 .bf16) (i j : Fin 128) :
    dotTN a b (ix2 i j) = ∑ k : Fin 128, a (ix2 k i) * b (ix2 k j) := by
  unfold dotTN
  pointwise

theorem dotNN_at (a b : FVec Ideal S128x128 .bf16) (i j : Fin 128) :
    dotNN a b (ix2 i j) = ∑ k : Fin 128, a (ix2 i k) * b (ix2 k j) := by
  unfold dotNN
  pointwise

theorem headT_at (x : Vec Ideal S1x128x128 .f32) (i j : Fin 128) : headT x (ix2 i j) = x (ix3 0 i j) := by
  unfold headT
  pointwise

theorem rowT_at (x : Vec Ideal S128x128 .f32) (i j : Fin 128) : rowT x (ix2 i j) = x (ix2 i j) := by
  unfold rowT
  pointwise

theorem nar_at (x : FVec Ideal S128x128 .f32) (i j : Fin 128) : nar x (ix2 i j) = x (ix2 i j) := by
  unfold nar
  pointwise

theorem scaleT_at (i j : Fin 128) : (scaleT : FVec Ideal S128x128 .f32) (ix2 i j) = Scalar.ofBits (F := Ideal) .f32 0x3DB504F3#32 := rfl

theorem krT_at (k cs sn : Vec Ideal S128x128 .f32) (i d : Fin 128) :
    krT k cs sn (ix2 i d) = (k (ix2 i d) * cs (ix2 i d) + rot (fun d => k (ix2 i d)) d * sn (ix2 i d)) * Scalar.ofBits (F := Ideal) .f32 0x3DB504F3#32 := by
  unfold krT
  pointwise [ropeT_at, scaleT_at]

theorem stepT_at (o q cs sn : Vec Ideal S128x128 .f32) (xi : Vec Ideal S1x128x128 .f32) (d e : Fin 128) :
    stepT o q cs sn xi (ix2 d e) = ∑ i : Fin 128, ropeT q cs sn (ix2 i d) * (o (ix2 i e) * xi (ix3 0 i e)) := by
  unfold stepT
  simp only [dotTN_at, nar_at]
  pointwise [headT_at]

theorem advT_at (s : FVec Ideal S128x128 .f32) (gc : Vec Ideal S1x128x128 .f32) (st : FVec Ideal S128x128 .f32) (d e : Fin 128) :
    advT s gc st (ix2 d e) = s (ix2 d e) * gc (ix3 0 d e) + st (ix2 d e) := by
  unfold advT
  pointwise [headT_at]

theorem dvT_at (o q k cs sn : Vec Ideal S128x128 .f32) (dec zeta : Vec Ideal S1x128x128 .f32) (s : FVec Ideal S128x128 .f32) (j e : Fin 128) :
    dvT o q k cs sn dec zeta s (ix2 j e) =
      (∑ i : Fin 128, ((∑ d : Fin 128, ropeT q cs sn (ix2 i d) * krT k cs sn (ix2 j d)) * dec (ix3 0 i j)) * o (ix2 i e))
        + ∑ d : Fin 128, (krT k cs sn (ix2 j d) * zeta (ix3 0 j d)) * s (ix2 d e) := by
  unfold dvT
  rw [nar_at]
  refine Eq.trans (b := dotTN _ _ (ix2 j e) + dotNN _ _ (ix2 j e)) rfl ?_
  simp only [dotTN_at, dotNN_at, nar_at]
  pointwise [headT_at, dotNT_at, nar_at]

theorem dkrT_at (o q v cs sn : Vec Ideal S128x128 .f32) (dec zeta : Vec Ideal S1x128x128 .f32) (s : FVec Ideal S128x128 .f32) (j d : Fin 128) :
    dkrT o q v cs sn dec zeta s (ix2 j d) =
      ((∑ i : Fin 128, ((∑ e : Fin 128, o (ix2 i e) * v (ix2 j e)) * dec (ix3 0 i j)) * ropeT q cs sn (ix2 i d))
        + (∑ e : Fin 128, v (ix2 j e) * s (ix2 d e)) * zeta (ix3 0 j d)) * Scalar.ofBits (F := Ideal) .f32 0x3DB504F3#32 := by
  unfold dkrT
  refine Eq.trans (b := (dotTN _ _ (ix2 j d) + dotNT _ _ (ix2 j d) * headT zeta (ix2 j d)) * scaleT (F := Ideal) (ix2 j d)) rfl ?_
  simp only [dotTN_at, dotNT_at, nar_at, headT_at, scaleT_at]
  pointwise [headT_at, dotNT_at, nar_at]

theorem dkT_at (o q v cs sn : Vec Ideal S128x128 .f32) (dec zeta : Vec Ideal S1x128x128 .f32) (s : FVec Ideal S128x128 .f32) (j d : Fin 128) :
    dkT o q v cs sn dec zeta s (ix2 j d) =
      dkrT o q v cs sn dec zeta s (ix2 j d) * cs (ix2 j d)
        - rot (fun d => dkrT o q v cs sn dec zeta s (ix2 j d) * sn (ix2 j d)) d := by
  unfold dkT
  rw [nar_at]
  pointwise [rotT_at, rowT_at]

end Cert.KernelIdeal.Tile

end
-- ==== Proof.TileSpec.lean ====
/- The tiles of one block, entry by entry, are the gradients' own formulas. -/
module

public import proofs.«01_k».proof.Proof.TileIdeal
public import proofs.«01_k».proof.Proof.Tables

@[expose] public section

set_option maxRecDepth 16384

noncomputable section

namespace Cert.KernelIdeal.Tile

open Cert.KernelIdeal Cert.KernelIdeal.Gen Cert.Spec Idealize.ShloMosaic Idealize.ShloMosaic.TcCoe Idealize.SL.Sem

/-- Chunk `ci` of block `b`. -/
def chunk (b : Fin 16) (ci : Fin 4) : Fin 64 := ⟨4 * b.val + ci.val, by omega⟩

/-- What the ten blocks of block row `b` hold. -/
structure Holds (I : Inp) (b : Fin 16) (x0 x1 x2 x3 : Vec Ideal S512x512 .f32) (x4 x5 : Vec Ideal S512x128 .f32)
    (x6 x7 x8 x9 : Vec Ideal S4x128x128 .f32) : Prop where
  o : ∀ (h ci : Fin 4) (i d : Fin 128), ldB x0 h ci (ix2 i d) = I.o h (row (chunk b ci) i) d
  q : ∀ (h ci : Fin 4) (i d : Fin 128), ldB x1 h ci (ix2 i d) = I.q h (row (chunk b ci) i) d
  k : ∀ (h ci : Fin 4) (i d : Fin 128), ldB x2 h ci (ix2 i d) = I.k h (row (chunk b ci) i) d
  v : ∀ (h ci : Fin 4) (i d : Fin 128), ldB x3 h ci (ix2 i d) = I.v h (row (chunk b ci) i) d
  cs : ∀ (ci : Fin 4) (i d : Fin 128), ldR x4 ci (ix2 i d) = I.cs (row (chunk b ci) i) d
  sn : ∀ (ci : Fin 4) (i d : Fin 128), ldR x5 ci (ix2 i d) = I.sn (row (chunk b ci) i) d
  dec : ∀ (h : Fin 4) (i j : Fin 128), ldH x6 h (ix3 0 i j) = I.dec h i j
  ze : ∀ (h : Fin 4) (i j : Fin 128), ldH x7 h (ix3 0 i j) = I.ze h i
  xi : ∀ (h : Fin 4) (i j : Fin 128), ldH x8 h (ix3 0 i j) = I.xi h i
  gc : ∀ (h : Fin 4) (i j : Fin 128), ldH x9 h (ix3 0 i j) = I.gc h
  scale : I.scale = Scalar.ofBits (F := Ideal) .f32 0x3DB504F3#32

section
variable {I : Inp} {b : Fin 16} {x0 x1 x2 x3 : Vec Ideal S512x512 .f32} {x4 x5 : Vec Ideal S512x128 .f32}
  {x6 x7 x8 x9 : Vec Ideal S4x128x128 .f32} (H : Holds I b x0 x1 x2 x3 x4 x5 x6 x7 x8 x9)

include H

theorem rope_eq (h ci : Fin 4) (i d : Fin 128) : ropeT (ldB x1 h ci) (ldR x4 ci) (ldR x5 ci) (ix2 i d) = I.Q h (row (chunk b ci) i) d := by
  rw [ropeT_at]
  simp only [H.q, H.cs, H.sn]
  rfl

theorem kr_eq (h ci : Fin 4) (i d : Fin 128) : krT (ldB x2 h ci) (ldR x4 ci) (ldR x5 ci) (ix2 i d) = I.K h (row (chunk b ci) i) d := by
  rw [krT_at]
  simp only [H.k, H.cs, H.sn, ← H.scale]
  rfl

theorem step_eq (h ci : Fin 4) (d e : Fin 128) :
    stepT (ldB x0 h ci) (ldB x1 h ci) (ldR x4 ci) (ldR x5 ci) (ldH x8 h) (ix2 d e) = I.step h (chunk b ci) d e := by
  rw [stepT_at]
  simp only [rope_eq H, H.o, H.xi]
  rfl

theorem st_eq (s0 : Fin 4 → FVec Ideal S128x128 .f32) (hs : ∀ (h : Fin 4) (d e : Fin 128), s0 h (ix2 d e) = I.S h (4 * (15 - b.val)) d e)
    (h : Fin 4) (n : ℕ) (hn : n ≤ 4) (d e : Fin 128) : stT x0 x1 x4 x5 x8 x9 s0 h n (ix2 d e) = I.S h (4 * (15 - b.val) + n) d e := by
  induction n with
  | zero => exact hs h d e
  | succ n ih =>
    have hc : chunk b (revC n) = ⟨63 - (4 * (15 - b.val) + n), by omega⟩ := Fin.ext (by show 4 * b.val + (3 - n) = 63 - (4 * (15 - b.val) + n); omega)
    show advT (stT x0 x1 x4 x5 x8 x9 s0 h n) (ldH x9 h) (stepT (ldB x0 h (revC n)) (ldB x1 h (revC n)) (ldR x4 (revC n)) (ldR x5 (revC n)) (ldH x8 h)) (ix2 d e)
      = I.S h (4 * (15 - b.val) + n) d e * I.gc h + I.step h ⟨63 - (4 * (15 - b.val) + n), by omega⟩ d e
    rw [advT_at, ih (by omega), H.gc, step_eq H, hc]

theorem dv_eq (s0 : Fin 4 → FVec Ideal S128x128 .f32) (hs : ∀ (h : Fin 4) (d e : Fin 128), s0 h (ix2 d e) = I.S h (4 * (15 - b.val)) d e)
    (h ci : Fin 4) (j e : Fin 128) : dvF x0 x1 x2 x3 x4 x5 x6 x7 x8 x9 s0 h ci (ix2 j e) = I.DV h (chunk b ci) j e := by
  have hk : 4 * (15 - b.val) + (3 - ci.val) = 63 - (chunk b ci).val := by show _ = 63 - (4 * b.val + ci.val); omega
  unfold dvF
  rw [dvT_at]
  simp only [rope_eq H, kr_eq H, H.o, H.dec, H.ze, st_eq H s0 hs h (3 - ci.val) (by omega), hk]
  rfl

theorem dkr_eq (s0 : Fin 4 → FVec Ideal S128x128 .f32) (hs : ∀ (h : Fin 4) (d e : Fin 128), s0 h (ix2 d e) = I.S h (4 * (15 - b.val)) d e)
    (h ci : Fin 4) (j d : Fin 128) :
    dkrT (ldB x0 h ci) (ldB x1 h ci) (ldB x3 h ci) (ldR x4 ci) (ldR x5 ci) (ldH x6 h) (ldH x7 h) (stT x0 x1 x4 x5 x8 x9 s0 h (3 - ci.val)) (ix2 j d)
      = I.DKR h (chunk b ci) j d := by
  have hk : 4 * (15 - b.val) + (3 - ci.val) = 63 - (chunk b ci).val := by show _ = 63 - (4 * b.val + ci.val); omega
  rw [dkrT_at]
  simp only [rope_eq H, H.v, H.o, H.dec, H.ze, ← H.scale, st_eq H s0 hs h (3 - ci.val) (by omega), hk]
  rfl

theorem dk_eq (s0 : Fin 4 → FVec Ideal S128x128 .f32) (hs : ∀ (h : Fin 4) (d e : Fin 128), s0 h (ix2 d e) = I.S h (4 * (15 - b.val)) d e)
    (h ci : Fin 4) (j d : Fin 128) : dkF x0 x1 x2 x3 x4 x5 x6 x7 x8 x9 s0 h ci (ix2 j d) = I.DK h (chunk b ci) j d := by
  unfold dkF
  rw [dkT_at]
  simp only [dkr_eq H s0 hs, H.cs, H.sn]
  rfl

end

end Cert.KernelIdeal.Tile

end
-- ==== Proof.KernelBlocks.lean ====
/- The blocks the kernel reads at a grid point, entry by entry, in terms of the two arguments. -/
module

public import proofs.«01_k».proof.Proof.KernelEntry
public import proofs.«01_k».proof.Proof.TileSpec

@[expose] public section

set_option maxRecDepth 16384

noncomputable section

namespace Cert.KernelIdeal.Value

open Cert.KernelIdeal Cert.KernelIdeal.Gen Cert.KernelIdeal.Tile Cert.Spec Idealize.ShloMosaic Idealize.ShloMosaic.TcCoe Idealize.SL.Sem

variable (m : (ℓ : Loc nD τ sig) → Buf (Elt Ideal) ℓ)

/-- The gradient's inputs, read from the kernel's arguments. -/
abbrev I (c : Dev nD) : Inp :=
  inp (fun r l => (m ((c : Thread nD τ).loc main_arg0) : FVec Ideal S8192x512 .f32) (ix2 r l))
    (fun r l => (m ((c : Thread nD τ).loc main_arg1) : FVec Ideal S8192x2048 .f32) (ix2 r l))

/-- The block row of a grid point: the blocks go backwards. -/
def brow (t : Fin cfg0.N) : Fin 16 := ⟨15 - t.val, by omega⟩

theorem idx : ∀ t : Fin cfg0.N, win0_0.index t = ![15 - t.val, 0] ∧ win0_1.index t = ![15 - t.val, 0] ∧ win0_2.index t = ![15 - t.val, 1]
    ∧ win0_3.index t = ![15 - t.val, 2] ∧ win0_4.index t = ![15 - t.val, 0] ∧ win0_5.index t = ![15 - t.val, 0]
    ∧ win0_6.index t = ![0, 0, 0] ∧ win0_7.index t = ![0, 0, 0] ∧ win0_8.index t = ![0, 0, 0] ∧ win0_9.index t = ![0, 0, 0]
    ∧ win0_10.index t = ![15 - t.val, 0] ∧ win0_11.index t = ![15 - t.val, 0] :=
  (by decide +kernel : ∀ t : Fin grid0.N, _)

theorem ldB_at (x : Vec Ideal S512x512 .f32) (h ci : Fin 4) (i d : Fin 128) :
    ldB x h ci (ix2 i d) = x (ix2 ⟨128 * ci.val + i.val, by omega⟩ ⟨128 * h.val + d.val, by omega⟩) := by
  unfold ldB
  pointwise

theorem ldR_at (x : Vec Ideal S512x128 .f32) (ci : Fin 4) (i d : Fin 128) :
    ldR x ci (ix2 i d) = x (ix2 ⟨128 * ci.val + i.val, by omega⟩ d) := by
  unfold ldR
  pointwise

theorem ldH_at (x : Vec Ideal S4x128x128 .f32) (h : Fin 4) (i d : Fin 128) :
    ldH x h (ix3 0 i d) = x (ix3 h i d) := by
  unfold ldH
  pointwise

theorem blk0 (c : Dev nD) (t : Fin cfg0.N) (a b : Fin 512) :
    (iblk m c 0 t : Vec Ideal S512x512 .f32) (ix2 a b)
      = (m ((c : Thread nD τ).loc main_arg0) : FVec Ideal S8192x512 .f32) (ix2 ⟨(15 - t.val) * 512 + a.val, by omega⟩ b) := by
  blk_ext [iblk, V, idx t]

theorem blk1 (c : Dev nD) (t : Fin cfg0.N) (a b : Fin 512) :
    (iblk m c 1 t : Vec Ideal S512x512 .f32) (ix2 a b)
      = (m ((c : Thread nD τ).loc main_arg1) : FVec Ideal S8192x2048 .f32) (ix2 ⟨(15 - t.val) * 512 + a.val, by omega⟩ ⟨b.val, by omega⟩) := by
  blk_ext [iblk, V, idx t]

theorem blk4 (c : Dev nD) (t : Fin cfg0.N) (a : Fin 512) (b : Fin 128) :
    (iblk m c 4 t : Vec Ideal S512x128 .f32) (ix2 a b)
      = (V m c main_v60 : FVec Ideal S8192x128 .f32) (ix2 ⟨(15 - t.val) * 512 + a.val, by omega⟩ b) := by
  blk_ext [iblk, idx t]

theorem blk6 (c : Dev nD) (t : Fin cfg0.N) (h : Fin 4) (a b : Fin 128) :
    (iblk m c 6 t : Vec Ideal S4x128x128 .f32) (ix3 h a b)
      = (V m c main_v40 : FVec Ideal S4x128x128 .f32) (ix3 h a b) := by
  blk_ext [iblk, idx t]

theorem blk2 (c : Dev nD) (t : Fin cfg0.N) (a b : Fin 512) :
    (iblk m c 2 t : Vec Ideal S512x512 .f32) (ix2 a b)
      = (m ((c : Thread nD τ).loc main_arg1) : FVec Ideal S8192x2048 .f32) (ix2 ⟨(15 - t.val) * 512 + a.val, by omega⟩ ⟨512 + b.val, by omega⟩) := by
  blk_ext [iblk, V, idx t]

theorem blk3 (c : Dev nD) (t : Fin cfg0.N) (a b : Fin 512) :
    (iblk m c 3 t : Vec Ideal S512x512 .f32) (ix2 a b)
      = (m ((c : Thread nD τ).loc main_arg1) : FVec Ideal S8192x2048 .f32) (ix2 ⟨(15 - t.val) * 512 + a.val, by omega⟩ ⟨1024 + b.val, by omega⟩) := by
  blk_ext [iblk, V, idx t]

theorem blk5 (c : Dev nD) (t : Fin cfg0.N) (a : Fin 512) (b : Fin 128) :
    (iblk m c 5 t : Vec Ideal S512x128 .f32) (ix2 a b)
      = (V m c main_v61 : FVec Ideal S8192x128 .f32) (ix2 ⟨(15 - t.val) * 512 + a.val, by omega⟩ b) := by
  blk_ext [iblk, idx t]

theorem blk7 (c : Dev nD) (t : Fin cfg0.N) (h : Fin 4) (a b : Fin 128) :
    (iblk m c 7 t : Vec Ideal S4x128x128 .f32) (ix3 h a b)
      = (V m c main_v63 : FVec Ideal S4x128x128 .f32) (ix3 h a b) := by
  blk_ext [iblk, idx t]

theorem blk8 (c : Dev nD) (t : Fin cfg0.N) (h : Fin 4) (a b : Fin 128) :
    (iblk m c 8 t : Vec Ideal S4x128x128 .f32) (ix3 h a b)
      = (V m c main_v65 : FVec Ideal S4x128x128 .f32) (ix3 h a b) := by
  blk_ext [iblk, idx t]

theorem blk9 (c : Dev nD) (t : Fin cfg0.N) (h : Fin 4) (a b : Fin 128) :
    (iblk m c 9 t : Vec Ideal S4x128x128 .f32) (ix3 h a b)
      = (V m c main_v67 : FVec Ideal S4x128x128 .f32) (ix3 h a b) := by
  blk_ext [iblk, idx t]

/-- The rows of a block. -/
theorem brow_row (t : Fin cfg0.N) (ci : Fin 4) (i : Fin 128) (hlt : (15 - t.val) * 512 + (128 * ci.val + i.val) < 8192) :
    (⟨(15 - t.val) * 512 + (128 * ci.val + i.val), hlt⟩ : Fin 8192) = row (chunk (brow t) ci) i :=
  Fin.ext (by have := t.isLt; show (15 - t.val) * 512 + (128 * ci.val + i.val) = (4 * (15 - t.val) + ci.val) * 128 + i.val; omega)

/-- The blocks of a grid point hold the gradient's inputs at its block row. -/
theorem holds (c : Dev nD) (t : Fin cfg0.N) :
    Holds (I m c) (brow t) (iblk m c 0 t) (iblk m c 1 t) (iblk m c 2 t) (iblk m c 3 t) (iblk m c 4 t) (iblk m c 5 t) (iblk m c 6 t) (iblk m c 7 t)
      (iblk m c 8 t) (iblk m c 9 t) where
  o h ci i d := (ldB_at _ h ci i d).trans ((blk0 m c t _ _).trans
    (congrArg₂ (fun a b => (m ((c : Thread nD τ).loc main_arg0) : FVec Ideal S8192x512 .f32) (ix2 a b)) (brow_row t ci i _)
      (Fin.ext (by show 128 * h.val + d.val = h.val * 128 + d.val; omega))))
  q h ci i d := (ldB_at _ h ci i d).trans ((blk1 m c t _ _).trans
    (congrArg₂ (fun a b => (m ((c : Thread nD τ).loc main_arg1) : FVec Ideal S8192x2048 .f32) (ix2 a b)) (brow_row t ci i _)
      (Fin.ext (by show 128 * h.val + d.val = h.val * 128 + d.val; omega))))
  k h ci i d := (ldB_at _ h ci i d).trans ((blk2 m c t _ _).trans
    (congrArg₂ (fun a b => (m ((c : Thread nD τ).loc main_arg1) : FVec Ideal S8192x2048 .f32) (ix2 a b)) (brow_row t ci i _)
      (Fin.ext (by show 512 + (128 * h.val + d.val) = 512 + (h.val * 128 + d.val); omega))))
  v h ci i d := (ldB_at _ h ci i d).trans ((blk3 m c t _ _).trans
    (congrArg₂ (fun a b => (m ((c : Thread nD τ).loc main_arg1) : FVec Ideal S8192x2048 .f32) (ix2 a b)) (brow_row t ci i _)
      (Fin.ext (by show 1024 + (128 * h.val + d.val) = 1024 + (h.val * 128 + d.val); omega))))
  cs ci i d := (ldR_at _ ci i d).trans ((blk4 m c t _ _).trans ((V_cos m c _ _).trans (congrArg (fun r => Ideal.cos (angle r d)) (brow_row t ci i _))))
  sn ci i d := (ldR_at _ ci i d).trans ((blk5 m c t _ _).trans ((V_sin m c _ _).trans (congrArg (fun r => Ideal.sin (angle r d)) (brow_row t ci i _))))
  dec h i j := (ldH_at _ h i j).trans ((blk6 m c t _ _ _).trans (V_dec m c h i j))
  ze h i j := (ldH_at _ h i j).trans ((blk7 m c t _ _ _).trans (V_ze m c h i j))
  xi h i j := (ldH_at _ h i j).trans ((blk8 m c t _ _ _).trans (V_xi m c h i j))
  gc h i j := (ldH_at _ h i j).trans ((blk9 m c t _ _ _).trans (V_gc m c h i j))
  scale := rfl

end Cert.KernelIdeal.Value

end
-- ==== Proof.OpenA.lean ====
/- The blocks a grid point of the retention's backward pass leaves, tile by tile: the pieces its run found are the tiles
   of `Tile.lean`, in the order the kernel stores them (a first point). -/
module

public import proofs.«01_k».proof.Proof.Tile
public import Idealize.ShloMosaic.Lib.Pipeline.ReadBack

@[expose] public section

set_option maxRecDepth 16384

noncomputable section

namespace Cert.KernelIdeal.Tile

open Cert.KernelIdeal Cert.KernelIdeal.Gen Idealize.ShloMosaic Idealize.ShloMosaic.TcCoe Idealize.SL.Sem Idealize.ShloMosaic.Tactic

variable {F : FTy → Type} [FloatOps F]

/-- A load of the state after its zero fill reads the fill. -/
theorem readCov_zero {sig : RefSig} {κ : Kind} {sp : Space} (v : View sig κ sp S4x128x128 .f32) (Z : S4x128x128.Idx → Elt F .f32)
    (r : Rect S4x128x128) :
    v.readCov [⟨Rect.unit (s := S4x128x128) ![0, 0, 0] ![4, 128, 128] inb_S4x128x128_S4x128x128_0_0_0, Z⟩] r.toLoadRect = View.ld Z r :=
  View.readCov_fill v (s := S4x128x128) inb_S4x128x128_S4x128x128_0_0_0 Z [] r (by intro a; fin_cases a <;> rfl)

set_option maxHeartbeats 4000000 in
/-- Output window 10's block is its tiles. -/
theorem out0_A_10_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S4x128x128 .f32) (harg13 : arg13.IsWhole) (hc0 : cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x128x128 .f32) (x7 : Vec F S4x128x128 .f32) (x8 : Vec F S4x128x128 .f32) (x9 : Vec F S4x128x128 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = blkT (dkF x0 x1 x2 x3 x4 x5 x6 x7 x8 x9 (fun h => headT (ldH (k0_pay2 (F := F)) h))) := by
  have hp : View.PiecesOf (blkT (dkF x0 x1 x2 x3 x4 x5 x6 x7 x8 x9 (fun h => headT (ldH (k0_pay2 (F := F)) h)))) (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 := by
    unfold kernelRun0_A
    dsimp only
    sl_unfold_words
    simp only [View.readAt_eq_ld, harg1.read_unread, harg2.read_unread, harg3.read_unread, harg4.read_unread, harg5.read_unread, harg6.read_unread, harg7.read_unread, harg8.read_unread, harg9.read_unread, harg10.read_unread]
    simp only [readCov_zero]
    exact ⟨fun x => Eq.trans (by rfl) (blkT_emb (dkF x0 x1 x2 x3 x4 x5 x6 x7 x8 x9 (fun h => headT (ldH (k0_pay2 (F := F)) h))) 3 0 (by intro a; fin_cases a <;> decide) x),
      fun x => Eq.trans (by rfl) (blkT_emb (dkF x0 x1 x2 x3 x4 x5 x6 x7 x8 x9 (fun h => headT (ldH (k0_pay2 (F := F)) h))) 3 1 (by intro a; fin_cases a <;> decide) x),
      fun x => Eq.trans (by rfl) (blkT_emb (dkF x0 x1 x2 x3 x4 x5 x6 x7 x8 x9 (fun h => headT (ldH (k0_pay2 (F := F)) h))) 3 2 (by intro a; fin_cases a <;> decide) x),
      fun x => Eq.trans (by rfl) (blkT_emb (dkF x0 x1 x2 x3 x4 x5 x6 x7 x8 x9 (fun h => headT (ldH (k0_pay2 (F := F)) h))) 3 3 (by intro a; fin_cases a <;> decide) x),
      fun x => Eq.trans (by rfl) (blkT_emb (dkF x0 x1 x2 x3 x4 x5 x6 x7 x8 x9 (fun h => headT (ldH (k0_pay2 (F := F)) h))) 2 0 (by intro a; fin_cases a <;> decide) x),
      fun x => Eq.trans (by rfl) (blkT_emb (dkF x0 x1 x2 x3 x4 x5 x6 x7 x8 x9 (fun h => headT (ldH (k0_pay2 (F := F)) h))) 2 1 (by intro a; fin_cases a <;> decide) x),
      fun x => Eq.trans (by rfl) (blkT_emb (dkF x0 x1 x2 x3 x4 x5 x6 x7 x8 x9 (fun h => headT (ldH (k0_pay2 (F := F)) h))) 2 2 (by intro a; fin_cases a <;> decide) x),
      fun x => Eq.trans (by rfl) (blkT_emb (dkF x0 x1 x2 x3 x4 x5 x6 x7 x8 x9 (fun h => headT (ldH (k0_pay2 (F := F)) h))) 2 3 (by intro a; fin_cases a <;> decide) x),
      fun x => Eq.trans (by rfl) (blkT_emb (dkF x0 x1 x2 x3 x4 x5 x6 x7 x8 x9 (fun h => headT (ldH (k0_pay2 (F := F)) h))) 1 0 (by intro a; fin_cases a <;> decide) x),
      fun x => Eq.trans (by rfl) (blkT_emb (dkF x0 x1 x2 x3 x4 x5 x6 x7 x8 x9 (fun h => headT (ldH (k0_pay2 (F := F)) h))) 1 1 (by intro a; fin_cases a <;> decide) x),
      fun x => Eq.trans (by rfl) (blkT_emb (dkF x0 x1 x2 x3 x4 x5 x6 x7 x8 x9 (fun h => headT (ldH (k0_pay2 (F := F)) h))) 1 2 (by intro a; fin_cases a <;> decide) x),
      fun x => Eq.trans (by rfl) (blkT_emb (dkF x0 x1 x2 x3 x4 x5 x6 x7 x8 x9 (fun h => headT (ldH (k0_pay2 (F := F)) h))) 1 3 (by intro a; fin_cases a <;> decide) x),
      fun x => Eq.trans (by rfl) (blkT_emb (dkF x0 x1 x2 x3 x4 x5 x6 x7 x8 x9 (fun h => headT (ldH (k0_pay2 (F := F)) h))) 0 0 (by intro a; fin_cases a <;> decide) x),
      fun x => Eq.trans (by rfl) (blkT_emb (dkF x0 x1 x2 x3 x4 x5 x6 x7 x8 x9 (fun h => headT (ldH (k0_pay2 (F := F)) h))) 0 1 (by intro a; fin_cases a <;> decide) x),
      fun x => Eq.trans (by rfl) (blkT_emb (dkF x0 x1 x2 x3 x4 x5 x6 x7 x8 x9 (fun h => headT (ldH (k0_pay2 (F := F)) h))) 0 2 (by intro a; fin_cases a <;> decide) x),
      fun x => Eq.trans (by rfl) (blkT_emb (dkF x0 x1 x2 x3 x4 x5 x6 x7 x8 x9 (fun h => headT (ldH (k0_pay2 (F := F)) h))) 0 3 (by intro a; fin_cases a <;> decide) x), trivial⟩
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  funext y
  have h := View.canon_append_of_piecesOf (blkT (dkF x0 x1 x2 x3 x4 x5 x6 x7 x8 x9 (fun h => headT (ldH (k0_pay2 (F := F)) h)))) [] _ hp y (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 y)
  rwa [List.append_nil] at h

set_option maxHeartbeats 4000000 in
/-- Output window 11's block is its tiles. -/
theorem out0_A_11_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S4x128x128 .f32) (harg13 : arg13.IsWhole) (hc0 : cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x128x128 .f32) (x7 : Vec F S4x128x128 .f32) (x8 : Vec F S4x128x128 .f32) (x9 : Vec F S4x128x128 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = blkT (dvF x0 x1 x2 x3 x4 x5 x6 x7 x8 x9 (fun h => headT (ldH (k0_pay2 (F := F)) h))) := by
  have hp : View.PiecesOf (blkT (dvF x0 x1 x2 x3 x4 x5 x6 x7 x8 x9 (fun h => headT (ldH (k0_pay2 (F := F)) h)))) (kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 := by
    unfold kernelRun0_A
    dsimp only
    sl_unfold_words
    simp only [View.readAt_eq_ld, harg1.read_unread, harg2.read_unread, harg3.read_unread, harg4.read_unread, harg5.read_unread, harg6.read_unread, harg7.read_unread, harg8.read_unread, harg9.read_unread, harg10.read_unread]
    simp only [readCov_zero]
    exact ⟨fun x => Eq.trans (by rfl) (blkT_emb (dvF x0 x1 x2 x3 x4 x5 x6 x7 x8 x9 (fun h => headT (ldH (k0_pay2 (F := F)) h))) 3 0 (by intro a; fin_cases a <;> decide) x),
      fun x => Eq.trans (by rfl) (blkT_emb (dvF x0 x1 x2 x3 x4 x5 x6 x7 x8 x9 (fun h => headT (ldH (k0_pay2 (F := F)) h))) 3 1 (by intro a; fin_cases a <;> decide) x),
      fun x => Eq.trans (by rfl) (blkT_emb (dvF x0 x1 x2 x3 x4 x5 x6 x7 x8 x9 (fun h => headT (ldH (k0_pay2 (F := F)) h))) 3 2 (by intro a; fin_cases a <;> decide) x),
      fun x => Eq.trans (by rfl) (blkT_emb (dvF x0 x1 x2 x3 x4 x5 x6 x7 x8 x9 (fun h => headT (ldH (k0_pay2 (F := F)) h))) 3 3 (by intro a; fin_cases a <;> decide) x),
      fun x => Eq.trans (by rfl) (blkT_emb (dvF x0 x1 x2 x3 x4 x5 x6 x7 x8 x9 (fun h => headT (ldH (k0_pay2 (F := F)) h))) 2 0 (by intro a; fin_cases a <;> decide) x),
      fun x => Eq.trans (by rfl) (blkT_emb (dvF x0 x1 x2 x3 x4 x5 x6 x7 x8 x9 (fun h => headT (ldH (k0_pay2 (F := F)) h))) 2 1 (by intro a; fin_cases a <;> decide) x),
      fun x => Eq.trans (by rfl) (blkT_emb (dvF x0 x1 x2 x3 x4 x5 x6 x7 x8 x9 (fun h => headT (ldH (k0_pay2 (F := F)) h))) 2 2 (by intro a; fin_cases a <;> decide) x),
      fun x => Eq.trans (by rfl) (blkT_emb (dvF x0 x1 x2 x3 x4 x5 x6 x7 x8 x9 (fun h => headT (ldH (k0_pay2 (F := F)) h))) 2 3 (by intro a; fin_cases a <;> decide) x),
      fun x => Eq.trans (by rfl) (blkT_emb (dvF x0 x1 x2 x3 x4 x5 x6 x7 x8 x9 (fun h => headT (ldH (k0_pay2 (F := F)) h))) 1 0 (by intro a; fin_cases a <;> decide) x),
      fun x => Eq.trans (by rfl) (blkT_emb (dvF x0 x1 x2 x3 x4 x5 x6 x7 x8 x9 (fun h => headT (ldH (k0_pay2 (F := F)) h))) 1 1 (by intro a; fin_cases a <;> decide) x),
      fun x => Eq.trans (by rfl) (blkT_emb (dvF x0 x1 x2 x3 x4 x5 x6 x7 x8 x9 (fun h => headT (ldH (k0_pay2 (F := F)) h))) 1 2 (by intro a; fin_cases a <;> decide) x),
      fun x => Eq.trans (by rfl) (blkT_emb (dvF x0 x1 x2 x3 x4 x5 x6 x7 x8 x9 (fun h => headT (ldH (k0_pay2 (F := F)) h))) 1 3 (by intro a; fin_cases a <;> decide) x),
      fun x => Eq.trans (by rfl) (blkT_emb (dvF x0 x1 x2 x3 x4 x5 x6 x7 x8 x9 (fun h => headT (ldH (k0_pay2 (F := F)) h))) 0 0 (by intro a; fin_cases a <;> decide) x),
      fun x => Eq.trans (by rfl) (blkT_emb (dvF x0 x1 x2 x3 x4 x5 x6 x7 x8 x9 (fun h => headT (ldH (k0_pay2 (F := F)) h))) 0 1 (by intro a; fin_cases a <;> decide) x),
      fun x => Eq.trans (by rfl) (blkT_emb (dvF x0 x1 x2 x3 x4 x5 x6 x7 x8 x9 (fun h => headT (ldH (k0_pay2 (F := F)) h))) 0 2 (by intro a; fin_cases a <;> decide) x),
      fun x => Eq.trans (by rfl) (blkT_emb (dvF x0 x1 x2 x3 x4 x5 x6 x7 x8 x9 (fun h => headT (ldH (k0_pay2 (F := F)) h))) 0 3 (by intro a; fin_cases a <;> decide) x), trivial⟩
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  funext y
  have h := View.canon_append_of_piecesOf (blkT (dvF x0 x1 x2 x3 x4 x5 x6 x7 x8 x9 (fun h => headT (ldH (k0_pay2 (F := F)) h)))) [] _ hp y (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 y)
  rwa [List.append_nil] at h

set_option maxHeartbeats 4000000 in
/-- The state's gradient a point leaves is its four heads. -/
theorem sout0_A_0_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S4x128x128 .f32) (harg13 : arg13.IsWhole) (hc0 : cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x128x128 .f32) (x7 : Vec F S4x128x128 .f32) (x8 : Vec F S4x128x128 .f32) (x9 : Vec F S4x128x128 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = headsT fun h => stT x0 x1 x4 x5 x8 x9 (fun h => headT (ldH (k0_pay2 (F := F)) h)) h 4 := by
  have hp : View.PiecesOf (headsT fun h => stT x0 x1 x4 x5 x8 x9 (fun h => headT (ldH (k0_pay2 (F := F)) h)) h 4) ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1.take 4) := by
    unfold kernelRun0_A
    dsimp only
    sl_unfold_words
    simp only [View.readAt_eq_ld, harg1.read_unread, harg2.read_unread, harg3.read_unread, harg4.read_unread, harg5.read_unread, harg6.read_unread, harg7.read_unread, harg8.read_unread, harg9.read_unread, harg10.read_unread]
    simp only [readCov_zero, List.take_succ_cons, List.take_zero]
    exact ⟨fun x => Eq.trans (by rfl) (headsT_emb (fun h => stT x0 x1 x4 x5 x8 x9 (fun h => headT (ldH (k0_pay2 (F := F)) h)) h 4) 3 (by intro a; fin_cases a <;> decide) x),
      fun x => Eq.trans (by rfl) (headsT_emb (fun h => stT x0 x1 x4 x5 x8 x9 (fun h => headT (ldH (k0_pay2 (F := F)) h)) h 4) 2 (by intro a; fin_cases a <;> decide) x),
      fun x => Eq.trans (by rfl) (headsT_emb (fun h => stT x0 x1 x4 x5 x8 x9 (fun h => headT (ldH (k0_pay2 (F := F)) h)) h 4) 1 (by intro a; fin_cases a <;> decide) x),
      fun x => Eq.trans (by rfl) (headsT_emb (fun h => stT x0 x1 x4 x5 x8 x9 (fun h => headT (ldH (k0_pay2 (F := F)) h)) h 4) 0 (by intro a; fin_cases a <;> decide) x), trivial⟩
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  funext y
  have h := View.canon_append_of_piecesOf (headsT fun h => stT x0 x1 x4 x5 x8 x9 (fun h => headT (ldH (k0_pay2 (F := F)) h)) h 4) ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1.drop 4) _ hp y
    (View.cover_of_tiledL ((kernelRun0_A c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.2.1.take 4) S1x128x128.size (by sl_kernel_rfl) y)
  rwa [List.take_append_drop] at h

end Cert.KernelIdeal.Tile

end
-- ==== Proof.OpenB.lean ====
/- The blocks a grid point of the retention's backward pass leaves, tile by tile: the pieces its run found are the tiles
   of `Tile.lean`, in the order the kernel stores them (a later point). -/
module

public import proofs.«01_k».proof.Proof.Tile
public import Idealize.ShloMosaic.Lib.Pipeline.ReadBack

@[expose] public section

set_option maxRecDepth 16384

noncomputable section

namespace Cert.KernelIdeal.Tile

open Cert.KernelIdeal Cert.KernelIdeal.Gen Idealize.ShloMosaic Idealize.ShloMosaic.TcCoe Idealize.SL.Sem Idealize.ShloMosaic.Tactic

variable {F : FTy → Type} [FloatOps F]

set_option maxHeartbeats 4000000 in
/-- Output window 10's block is its tiles. -/
theorem out0_B_10_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S4x128x128 .f32) (harg13 : arg13.IsWhole) (hc0 : ¬cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x128x128 .f32) (x7 : Vec F S4x128x128 .f32) (x8 : Vec F S4x128x128 .f32) (x9 : Vec F S4x128x128 .f32) (xs0 : Vec F S4x128x128 .f32) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = blkT (dkF x0 x1 x2 x3 x4 x5 x6 x7 x8 x9 (fun h => headT (ldH xs0 h))) := by
  have hp : View.PiecesOf (blkT (dkF x0 x1 x2 x3 x4 x5 x6 x7 x8 x9 (fun h => headT (ldH xs0 h)))) (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).1 := by
    unfold kernelRun0_B
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg13.read_unread]
    exact ⟨fun x => Eq.trans (by rfl) (blkT_emb (dkF x0 x1 x2 x3 x4 x5 x6 x7 x8 x9 (fun h => headT (ldH xs0 h))) 3 0 (by intro a; fin_cases a <;> decide) x),
      fun x => Eq.trans (by rfl) (blkT_emb (dkF x0 x1 x2 x3 x4 x5 x6 x7 x8 x9 (fun h => headT (ldH xs0 h))) 3 1 (by intro a; fin_cases a <;> decide) x),
      fun x => Eq.trans (by rfl) (blkT_emb (dkF x0 x1 x2 x3 x4 x5 x6 x7 x8 x9 (fun h => headT (ldH xs0 h))) 3 2 (by intro a; fin_cases a <;> decide) x),
      fun x => Eq.trans (by rfl) (blkT_emb (dkF x0 x1 x2 x3 x4 x5 x6 x7 x8 x9 (fun h => headT (ldH xs0 h))) 3 3 (by intro a; fin_cases a <;> decide) x),
      fun x => Eq.trans (by rfl) (blkT_emb (dkF x0 x1 x2 x3 x4 x5 x6 x7 x8 x9 (fun h => headT (ldH xs0 h))) 2 0 (by intro a; fin_cases a <;> decide) x),
      fun x => Eq.trans (by rfl) (blkT_emb (dkF x0 x1 x2 x3 x4 x5 x6 x7 x8 x9 (fun h => headT (ldH xs0 h))) 2 1 (by intro a; fin_cases a <;> decide) x),
      fun x => Eq.trans (by rfl) (blkT_emb (dkF x0 x1 x2 x3 x4 x5 x6 x7 x8 x9 (fun h => headT (ldH xs0 h))) 2 2 (by intro a; fin_cases a <;> decide) x),
      fun x => Eq.trans (by rfl) (blkT_emb (dkF x0 x1 x2 x3 x4 x5 x6 x7 x8 x9 (fun h => headT (ldH xs0 h))) 2 3 (by intro a; fin_cases a <;> decide) x),
      fun x => Eq.trans (by rfl) (blkT_emb (dkF x0 x1 x2 x3 x4 x5 x6 x7 x8 x9 (fun h => headT (ldH xs0 h))) 1 0 (by intro a; fin_cases a <;> decide) x),
      fun x => Eq.trans (by rfl) (blkT_emb (dkF x0 x1 x2 x3 x4 x5 x6 x7 x8 x9 (fun h => headT (ldH xs0 h))) 1 1 (by intro a; fin_cases a <;> decide) x),
      fun x => Eq.trans (by rfl) (blkT_emb (dkF x0 x1 x2 x3 x4 x5 x6 x7 x8 x9 (fun h => headT (ldH xs0 h))) 1 2 (by intro a; fin_cases a <;> decide) x),
      fun x => Eq.trans (by rfl) (blkT_emb (dkF x0 x1 x2 x3 x4 x5 x6 x7 x8 x9 (fun h => headT (ldH xs0 h))) 1 3 (by intro a; fin_cases a <;> decide) x),
      fun x => Eq.trans (by rfl) (blkT_emb (dkF x0 x1 x2 x3 x4 x5 x6 x7 x8 x9 (fun h => headT (ldH xs0 h))) 0 0 (by intro a; fin_cases a <;> decide) x),
      fun x => Eq.trans (by rfl) (blkT_emb (dkF x0 x1 x2 x3 x4 x5 x6 x7 x8 x9 (fun h => headT (ldH xs0 h))) 0 1 (by intro a; fin_cases a <;> decide) x),
      fun x => Eq.trans (by rfl) (blkT_emb (dkF x0 x1 x2 x3 x4 x5 x6 x7 x8 x9 (fun h => headT (ldH xs0 h))) 0 2 (by intro a; fin_cases a <;> decide) x),
      fun x => Eq.trans (by rfl) (blkT_emb (dkF x0 x1 x2 x3 x4 x5 x6 x7 x8 x9 (fun h => headT (ldH xs0 h))) 0 3 (by intro a; fin_cases a <;> decide) x), trivial⟩
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  funext y
  have h := View.canon_append_of_piecesOf (blkT (dkF x0 x1 x2 x3 x4 x5 x6 x7 x8 x9 (fun h => headT (ldH xs0 h)))) [] _ hp y (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 y)
  rwa [List.append_nil] at h

set_option maxHeartbeats 4000000 in
/-- Output window 11's block is its tiles. -/
theorem out0_B_11_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S4x128x128 .f32) (harg13 : arg13.IsWhole) (hc0 : ¬cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x128x128 .f32) (x7 : Vec F S4x128x128 .f32) (x8 : Vec F S4x128x128 .f32) (x9 : Vec F S4x128x128 .f32) (xs0 : Vec F S4x128x128 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = blkT (dvF x0 x1 x2 x3 x4 x5 x6 x7 x8 x9 (fun h => headT (ldH xs0 h))) := by
  have hp : View.PiecesOf (blkT (dvF x0 x1 x2 x3 x4 x5 x6 x7 x8 x9 (fun h => headT (ldH xs0 h)))) (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.1 := by
    unfold kernelRun0_B
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg13.read_unread]
    exact ⟨fun x => Eq.trans (by rfl) (blkT_emb (dvF x0 x1 x2 x3 x4 x5 x6 x7 x8 x9 (fun h => headT (ldH xs0 h))) 3 0 (by intro a; fin_cases a <;> decide) x),
      fun x => Eq.trans (by rfl) (blkT_emb (dvF x0 x1 x2 x3 x4 x5 x6 x7 x8 x9 (fun h => headT (ldH xs0 h))) 3 1 (by intro a; fin_cases a <;> decide) x),
      fun x => Eq.trans (by rfl) (blkT_emb (dvF x0 x1 x2 x3 x4 x5 x6 x7 x8 x9 (fun h => headT (ldH xs0 h))) 3 2 (by intro a; fin_cases a <;> decide) x),
      fun x => Eq.trans (by rfl) (blkT_emb (dvF x0 x1 x2 x3 x4 x5 x6 x7 x8 x9 (fun h => headT (ldH xs0 h))) 3 3 (by intro a; fin_cases a <;> decide) x),
      fun x => Eq.trans (by rfl) (blkT_emb (dvF x0 x1 x2 x3 x4 x5 x6 x7 x8 x9 (fun h => headT (ldH xs0 h))) 2 0 (by intro a; fin_cases a <;> decide) x),
      fun x => Eq.trans (by rfl) (blkT_emb (dvF x0 x1 x2 x3 x4 x5 x6 x7 x8 x9 (fun h => headT (ldH xs0 h))) 2 1 (by intro a; fin_cases a <;> decide) x),
      fun x => Eq.trans (by rfl) (blkT_emb (dvF x0 x1 x2 x3 x4 x5 x6 x7 x8 x9 (fun h => headT (ldH xs0 h))) 2 2 (by intro a; fin_cases a <;> decide) x),
      fun x => Eq.trans (by rfl) (blkT_emb (dvF x0 x1 x2 x3 x4 x5 x6 x7 x8 x9 (fun h => headT (ldH xs0 h))) 2 3 (by intro a; fin_cases a <;> decide) x),
      fun x => Eq.trans (by rfl) (blkT_emb (dvF x0 x1 x2 x3 x4 x5 x6 x7 x8 x9 (fun h => headT (ldH xs0 h))) 1 0 (by intro a; fin_cases a <;> decide) x),
      fun x => Eq.trans (by rfl) (blkT_emb (dvF x0 x1 x2 x3 x4 x5 x6 x7 x8 x9 (fun h => headT (ldH xs0 h))) 1 1 (by intro a; fin_cases a <;> decide) x),
      fun x => Eq.trans (by rfl) (blkT_emb (dvF x0 x1 x2 x3 x4 x5 x6 x7 x8 x9 (fun h => headT (ldH xs0 h))) 1 2 (by intro a; fin_cases a <;> decide) x),
      fun x => Eq.trans (by rfl) (blkT_emb (dvF x0 x1 x2 x3 x4 x5 x6 x7 x8 x9 (fun h => headT (ldH xs0 h))) 1 3 (by intro a; fin_cases a <;> decide) x),
      fun x => Eq.trans (by rfl) (blkT_emb (dvF x0 x1 x2 x3 x4 x5 x6 x7 x8 x9 (fun h => headT (ldH xs0 h))) 0 0 (by intro a; fin_cases a <;> decide) x),
      fun x => Eq.trans (by rfl) (blkT_emb (dvF x0 x1 x2 x3 x4 x5 x6 x7 x8 x9 (fun h => headT (ldH xs0 h))) 0 1 (by intro a; fin_cases a <;> decide) x),
      fun x => Eq.trans (by rfl) (blkT_emb (dvF x0 x1 x2 x3 x4 x5 x6 x7 x8 x9 (fun h => headT (ldH xs0 h))) 0 2 (by intro a; fin_cases a <;> decide) x),
      fun x => Eq.trans (by rfl) (blkT_emb (dvF x0 x1 x2 x3 x4 x5 x6 x7 x8 x9 (fun h => headT (ldH xs0 h))) 0 3 (by intro a; fin_cases a <;> decide) x), trivial⟩
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  funext y
  have h := View.canon_append_of_piecesOf (blkT (dvF x0 x1 x2 x3 x4 x5 x6 x7 x8 x9 (fun h => headT (ldH xs0 h)))) [] _ hp y (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 y)
  rwa [List.append_nil] at h

set_option maxHeartbeats 4000000 in
/-- The state's gradient a point leaves is its four heads. -/
theorem sout0_B_0_eq (c : Dev nD) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x128x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S4x128x128 .f32) (harg13 : arg13.IsWhole) (hc0 : ¬cond0_0 i)
    (x0 : Vec F S512x512 .f32) (x1 : Vec F S512x512 .f32) (x2 : Vec F S512x512 .f32) (x3 : Vec F S512x512 .f32) (x4 : Vec F S512x128 .f32) (x5 : Vec F S512x128 .f32) (x6 : Vec F S4x128x128 .f32) (x7 : Vec F S4x128x128 .f32) (x8 : Vec F S4x128x128 .f32) (x9 : Vec F S4x128x128 .f32) (xs0 : Vec F S4x128x128 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 = headsT fun h => stT x0 x1 x4 x5 x8 x9 (fun h => headT (ldH xs0 h)) h 4 := by
  have hp : View.PiecesOf (headsT fun h => stT x0 x1 x4 x5 x8 x9 (fun h => headT (ldH xs0 h)) h 4) (kernelRun0_B c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.2.1 := by
    unfold kernelRun0_B
    dsimp only
    sl_unfold_words
    simp only [View.readAt_eq_ld, harg1.read_unread, harg2.read_unread, harg3.read_unread, harg4.read_unread, harg5.read_unread, harg6.read_unread, harg7.read_unread, harg8.read_unread, harg9.read_unread, harg10.read_unread, harg13.read_unread]
    exact ⟨fun x => Eq.trans (by rfl) (headsT_emb (fun h => stT x0 x1 x4 x5 x8 x9 (fun h => headT (ldH xs0 h)) h 4) 3 (by intro a; fin_cases a <;> decide) x),
      fun x => Eq.trans (by rfl) (headsT_emb (fun h => stT x0 x1 x4 x5 x8 x9 (fun h => headT (ldH xs0 h)) h 4) 2 (by intro a; fin_cases a <;> decide) x),
      fun x => Eq.trans (by rfl) (headsT_emb (fun h => stT x0 x1 x4 x5 x8 x9 (fun h => headT (ldH xs0 h)) h 4) 1 (by intro a; fin_cases a <;> decide) x),
      fun x => Eq.trans (by rfl) (headsT_emb (fun h => stT x0 x1 x4 x5 x8 x9 (fun h => headT (ldH xs0 h)) h 4) 0 (by intro a; fin_cases a <;> decide) x), trivial⟩
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  funext y
  have h := View.canon_append_of_piecesOf (headsT fun h => stT x0 x1 x4 x5 x8 x9 (fun h => headT (ldH xs0 h)) h 4) [] _ hp y (scover0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 y)
  rwa [List.append_nil] at h

end Cert.KernelIdeal.Tile

end
-- ==== Proof.KernelResult.lean ====
/- The kernel's two results, entry by entry. -/
module

public import proofs.«01_k».proof.Proof.KernelBlocks
public import proofs.«01_k».proof.Proof.OpenA
public import proofs.«01_k».proof.Proof.OpenB

@[expose] public section

set_option maxRecDepth 16384

noncomputable section

namespace Cert.KernelIdeal.Value

open Cert.KernelIdeal Cert.KernelIdeal.Gen Cert.KernelIdeal.Tile Cert.Spec Idealize.ShloMosaic Idealize.ShloMosaic.TcCoe Idealize.SL.Sem
open Idealize.ShloMosaic.Pipeline (Dat)

variable (m : (ℓ : Loc nD τ sig) → Buf (Elt Ideal) ℓ)

/-- The two blocks and the state a grid point leaves, over the state it starts from. -/
abbrev leaves (c : Dev nD) (t : Fin cfg0.N) (s0 : Fin 4 → FVec Ideal S128x128 .f32) :
    Vec Ideal S512x512 .bf16 × Vec Ideal S512x512 .bf16 × Vec Ideal S4x128x128 .f32 :=
  (blkT (dkF (iblk m c 0 t) (iblk m c 1 t) (iblk m c 2 t) (iblk m c 3 t) (iblk m c 4 t) (iblk m c 5 t) (iblk m c 6 t) (iblk m c 7 t) (iblk m c 8 t) (iblk m c 9 t) s0),
    blkT (dvF (iblk m c 0 t) (iblk m c 1 t) (iblk m c 2 t) (iblk m c 3 t) (iblk m c 4 t) (iblk m c 5 t) (iblk m c 6 t) (iblk m c 7 t) (iblk m c 8 t) (iblk m c 9 t) s0),
    headsT fun h => stT (iblk m c 0 t) (iblk m c 1 t) (iblk m c 4 t) (iblk m c 5 t) (iblk m c 8 t) (iblk m c 9 t) s0 h 4)

theorem zero_at (h : Fin 4) (d e : Fin 128) : (headT (ldH (k0_pay2 (F := Ideal)) h) : FVec Ideal S128x128 .f32) (ix2 d e) = (0 : EReal) := by
  rw [headT_at, ldH_at]
  unfold k0_pay2
  pointwise

/-- A grid point's state is the gradient of the state after the chunks of the points before it. -/
theorem outs_eq (c : Dev nD) (n : ℕ) (hn : n < cfg0.N) :
    ∃ s0 : Fin 4 → FVec Ideal S128x128 .f32, (∀ (h : Fin 4) (d e : Fin 128), s0 h (ix2 d e) = (I m c).S h (4 * (15 - (brow ⟨n, hn⟩).val)) d e)
      ∧ outsAt0 m c n hn = leaves m c ⟨n, hn⟩ s0 := by
  have hN : n < 16 := lt_of_lt_of_eq hn N_0
  induction n with
  | zero =>
    refine ⟨fun h => headT (ldH (k0_pay2 (F := Ideal)) h), fun h d e => zero_at h d e, ?_⟩
    have e := outsAt0_A m c ⟨0, hn⟩ rfl
    rw [out0_A_10_eq, out0_A_11_eq, sout0_A_0_eq] at e
    exact e
  | succ n ih =>
    have hn' : n < cfg0.N := Nat.lt_of_succ_lt hn
    obtain ⟨s, hs, hl⟩ := ih hn' (by omega)
    have e := outsAt0_B m c ⟨n + 1, hn⟩ (by show ¬ (n + 1) % 16 = 0; omega)
    rw [out0_B_10_eq, out0_B_11_eq, sout0_B_0_eq] at e
    refine ⟨fun h => headT (ldH (outsAt0 m c n hn').2.2 h), fun h d e => ?_, e⟩
    rw [hl]
    refine (headT_at _ d e).trans ((ldH_at _ h d e).trans ?_)
    refine (st_eq (holds m c ⟨n, hn'⟩) s hs h 4 le_rfl d e).trans ?_
    exact congrArg (fun k => (I m c).S h k d e) (by show 4 * (15 - (15 - n)) + 4 = 4 * (15 - (15 - (n + 1))); omega)

/-- The keys' gradient over its array. -/
def DKarr (c : Dev nD) : Vec Ideal S8192x512 .bf16 := fun y =>
  (I m c).DK ⟨(y 1 : ℕ) / 128, Nat.div_lt_of_lt_mul (y 1).isLt⟩ ⟨(y 0 : ℕ) / 128, Nat.div_lt_of_lt_mul (y 0).isLt⟩
    ⟨(y 0 : ℕ) % 128, Nat.mod_lt _ (by decide)⟩ ⟨(y 1 : ℕ) % 128, Nat.mod_lt _ (by decide)⟩

/-- The values' gradient over its array. -/
def DVarr (c : Dev nD) : Vec Ideal S8192x512 .bf16 := fun y =>
  (I m c).DV ⟨(y 1 : ℕ) / 128, Nat.div_lt_of_lt_mul (y 1).isLt⟩ ⟨(y 0 : ℕ) / 128, Nat.div_lt_of_lt_mul (y 0).isLt⟩
    ⟨(y 0 : ℕ) % 128, Nat.mod_lt _ (by decide)⟩ ⟨(y 1 : ℕ) % 128, Nat.mod_lt _ (by decide)⟩

theorem after10_at (c : Dev nD) (t : Fin cfg0.N) (a b : Fin 512) :
    (outsAt0 m c t.val t.isLt).1 (ix2 a b) = DKarr m c (ix2 ⟨(15 - t.val) * 512 + a.val, by omega⟩ b) := by
  obtain ⟨s, hs, hl⟩ := outs_eq m c t.val t.isLt
  rw [hl]
  refine (dk_eq (holds m c t) s hs _ _ _ _).trans ?_
  refine congrArg₂ (fun (n : Fin 64) (j : Fin 128) => (I m c).DK ⟨b.val / 128, by omega⟩ n j ⟨b.val % 128, by omega⟩)
    (Fin.ext ?_) (Fin.ext ?_)
  · show 4 * (15 - t.val) + a.val / 128 = ((15 - t.val) * 512 + a.val) / 128; omega
  · show a.val % 128 = ((15 - t.val) * 512 + a.val) % 128; omega

theorem after11_at (c : Dev nD) (t : Fin cfg0.N) (a b : Fin 512) :
    (outsAt0 m c t.val t.isLt).2.1 (ix2 a b) = DVarr m c (ix2 ⟨(15 - t.val) * 512 + a.val, by omega⟩ b) := by
  obtain ⟨s, hs, hl⟩ := outs_eq m c t.val t.isLt
  rw [hl]
  refine (dv_eq (holds m c t) s hs _ _ _ _).trans ?_
  refine congrArg₂ (fun (n : Fin 64) (j : Fin 128) => (I m c).DV ⟨b.val / 128, by omega⟩ n j ⟨b.val % 128, by omega⟩)
    (Fin.ext ?_) (Fin.ext ?_)
  · show 4 * (15 - t.val) + a.val / 128 = ((15 - t.val) * 512 + a.val) / 128; omega
  · show a.val % 128 = ((15 - t.val) * 512 + a.val) % 128; omega

theorem final10 (c : Dev nD) : (dats m 0 c).arrAt 10 cfg0.N = DKarr m c := by
  refine (dats m 0 c).arrAt_eq_of_covers 10 _ (by decide +kernel) fun t _ y => ?_
  blk_simp
  rw [after0_10]
  idx_vars y
  refine (after10_at m c t _ _).trans ?_
  blk_ext [idx t]

theorem final11 (c : Dev nD) : (dats m 0 c).arrAt 11 cfg0.N = DVarr m c := by
  refine (dats m 0 c).arrAt_eq_of_covers 11 _ (by decide +kernel) fun t _ y => ?_
  blk_simp
  rw [after0_11]
  idx_vars y
  refine (after11_at m c t _ _).trans ?_
  blk_ext [idx t]

end Cert.KernelIdeal.Value

end
-- ==== Proof.FfnBackTile.lean ====
/- The arithmetic of one block of 256 rows of the feed-forward layer's backward pass, over any floats: what the kernel
   computes from the block's rows and the three weights, one function for each block it leaves. -/
module

public import proofs.«01_k».proof.Proof.Gen.FfnBackwardIdeal.Frame
public import Idealize.ShloMosaic.Lib.Pointwise
public import Idealize.ShloMosaic.Lib.Pipeline.ValueKit

@[expose] public section

set_option maxRecDepth 16384

noncomputable section

namespace Cert.FfnBackwardIdeal.Tile

open Cert.FfnBackwardIdeal Cert.FfnBackwardIdeal.Gen Idealize.ShloMosaic Idealize.ShloMosaic.TcCoe Idealize.SL.Sem

variable {F : FTy → Type} [FloatOps F]

/-- The rows of a weight that belong to the hidden columns from `1024 k` on. -/
def wPart (w : Vec F S2816x1024 .bf16) (k : Fin 2) : Vec F S1024x1024 .bf16 :=
  View.ld w (Rect.unit (s := S2816x1024) ![1024 * k.val, 0] ![1024, 1024]
    (by have := k.isLt; intro a; fin_cases a <;> simp <;> omega))

/-- The rows of a weight that belong to the last 768 hidden columns. -/
def wRest (w : Vec F S2816x1024 .bf16) : Vec F S768x1024 .bf16 :=
  View.ld w (Rect.unit (s := S2816x1024) ![2048, 0] ![768, 1024] (by intro a; fin_cases a <;> simp))

/-- The hidden columns from `1024 k` on, of a block. -/
def hPart (g : Vec F S256x2816 .bf16) (k : Fin 2) : Vec F S256x1024 .bf16 :=
  View.ld g (Rect.unit (s := S256x2816) ![0, 1024 * k.val] ![256, 1024]
    (by have := k.isLt; intro a; fin_cases a <;> simp <;> omega))

/-- The last 768 hidden columns of a block. -/
def hRest (g : Vec F S256x2816 .bf16) : Vec F S256x768 .bf16 :=
  View.ld g (Rect.unit (s := S256x2816) ![0, 2048] ![256, 768] (by intro a; fin_cases a <;> simp))

/-- The gradient at the gate's pre-activation, a block of hidden columns at a time. -/
def dg0 (dy : Vec F S256x1024 .f32) (g u : Vec F S256x2816 .bf16) (wd : Vec F S2816x1024 .bf16) : FVec F S256x1024 .bf16 :=
  k0_pay11 (k0_pay9 dy (wPart wd 0) (hPart u 0)) (k0_pay10 (hPart g 0))
def dg1 (dy : Vec F S256x1024 .f32) (g u : Vec F S256x2816 .bf16) (wd : Vec F S2816x1024 .bf16) : FVec F S256x1024 .bf16 :=
  k0_pay16 (k0_pay5 dy (wPart wd 1)) (hPart g 1) (hPart u 1)
def dg2 (dy : Vec F S256x1024 .f32) (g u : Vec F S256x2816 .bf16) (wd : Vec F S2816x1024 .bf16) : FVec F S256x768 .bf16 :=
  k0_pay21 (k0_pay6 dy (wRest wd)) (hRest g) (hRest u)

/-- The gradient at the other factor. -/
def du0 (dy : Vec F S256x1024 .f32) (g : Vec F S256x2816 .bf16) (wd : Vec F S2816x1024 .bf16) : FVec F S256x1024 .bf16 :=
  k0_pay12 (k0_pay4 dy (wPart wd 0)) (k0_pay7 (hPart g 0)) (k0_pay8 (hPart g 0))
def du1 (dy : Vec F S256x1024 .f32) (g : Vec F S256x2816 .bf16) (wd : Vec F S2816x1024 .bf16) : FVec F S256x1024 .bf16 :=
  k0_pay17 (k0_pay5 dy (wPart wd 1)) (hPart g 1)
def du2 (dy : Vec F S256x1024 .f32) (g : Vec F S256x2816 .bf16) (wd : Vec F S2816x1024 .bf16) : FVec F S256x768 .bf16 :=
  k0_pay22 (k0_pay6 dy (wRest wd)) (hRest g)

/-- Three blocks of hidden columns side by side. -/
def cols (a b : FVec F S256x1024 .bf16) (r : FVec F S256x768 .bf16) : Vec F S256x2816 .bf16 := fun y =>
  if h : (y 1 : ℕ) < 1024 then a (ix2 (y 0) ⟨(y 1 : ℕ), h⟩)
  else if h' : (y 1 : ℕ) < 2048 then b (ix2 (y 0) ⟨(y 1 : ℕ) - 1024, by omega⟩)
  else r (ix2 (y 0) ⟨(y 1 : ℕ) - 2048, by have h2 : (y 1 : ℕ) < 2816 := (y 1).isLt; omega⟩)

theorem cols_emb0 (a b : FVec F S256x1024 .bf16) (r : FVec F S256x768 .bf16)
    (hb : ∀ k, (![0, 0] : Fin 2 → ℕ) k + S256x1024.size k ≤ S256x2816.size k) (x : S256x1024.Idx) :
    a x = cols a b r ((Rect.unit (s := S256x2816) ![0, 0] S256x1024.size hb).emb x) := by
  have e1 : (((Rect.unit (s := S256x2816) ![0, 0] S256x1024.size hb).emb x) 1 : ℕ) = (x 1 : ℕ) := by simp [Rect.emb, Rect.unit]
  have l1 : (x 1 : ℕ) < 1024 := (x 1).isLt
  unfold cols
  rw [dif_pos (by omega)]
  refine congrArg a (funext fun k => ?_)
  fin_cases k <;> exact Fin.ext (by simp [Rect.emb, Rect.unit])

theorem cols_emb1 (a b : FVec F S256x1024 .bf16) (r : FVec F S256x768 .bf16)
    (hb : ∀ k, (![0, 1024] : Fin 2 → ℕ) k + S256x1024.size k ≤ S256x2816.size k) (x : S256x1024.Idx) :
    b x = cols a b r ((Rect.unit (s := S256x2816) ![0, 1024] S256x1024.size hb).emb x) := by
  have e1 : (((Rect.unit (s := S256x2816) ![0, 1024] S256x1024.size hb).emb x) 1 : ℕ) = 1024 + (x 1 : ℕ) := by simp [Rect.emb, Rect.unit]
  have l1 : (x 1 : ℕ) < 1024 := (x 1).isLt
  unfold cols
  rw [dif_neg (by omega), dif_pos (by omega)]
  refine congrArg b (funext fun k => ?_)
  fin_cases k <;> exact Fin.ext (by simp [Rect.emb, Rect.unit])

theorem cols_emb2 (a b : FVec F S256x1024 .bf16) (r : FVec F S256x768 .bf16)
    (hb : ∀ k, (![0, 2048] : Fin 2 → ℕ) k + S256x768.size k ≤ S256x2816.size k) (x : S256x768.Idx) :
    r x = cols a b r ((Rect.unit (s := S256x2816) ![0, 2048] S256x768.size hb).emb x) := by
  have e1 : (((Rect.unit (s := S256x2816) ![0, 2048] S256x768.size hb).emb x) 1 : ℕ) = 2048 + (x 1 : ℕ) := by simp [Rect.emb, Rect.unit]
  have l1 : (x 1 : ℕ) < 768 := (x 1).isLt
  unfold cols
  rw [dif_neg (by omega), dif_neg (by omega)]
  refine congrArg r (funext fun k => ?_)
  fin_cases k <;> exact Fin.ext (by simp [Rect.emb, Rect.unit])

/-- The block of the gradient at the gate's pre-activation. -/
def dgT (dy : Vec F S256x1024 .f32) (g u : Vec F S256x2816 .bf16) (wd : Vec F S2816x1024 .bf16) : Vec F S256x2816 .bf16 :=
  cols (dg0 dy g u wd) (dg1 dy g u wd) (dg2 dy g u wd)

/-- The block of the gradient at the other factor. -/
def duT (dy : Vec F S256x1024 .f32) (g : Vec F S256x2816 .bf16) (wd : Vec F S2816x1024 .bf16) : Vec F S256x2816 .bf16 :=
  cols (du0 dy g wd) (du1 dy g wd) (du2 dy g wd)

/-- The gradient at the normalised rows, after the first two blocks of hidden columns. -/
def dx2 (dy : Vec F S256x1024 .f32) (g u : Vec F S256x2816 .bf16) (wg wu wd : Vec F S2816x1024 .bf16) : FVec F S256x1024 .f32 :=
  k0_pay18 (k0_pay13 k0_pay3 (k0_pay4 dy (wPart wd 0)) (k0_pay7 (hPart g 0)) (k0_pay8 (hPart g 0))
      (k0_pay9 dy (wPart wd 0) (hPart u 0)) (k0_pay10 (hPart g 0)) (wPart wg 0) (wPart wu 0))
    (dg1 dy g u wd) (du1 dy g wd) (wPart wg 1) (wPart wu 1)

/-- The block of the gradient at the rows. -/
def dxT (dy x : Vec F S256x1024 .f32) (gn : Vec F S1x1024 .f32) (g u : Vec F S256x2816 .bf16)
    (wg wu wd : Vec F S2816x1024 .bf16) : Vec F S256x1024 .f32 :=
  k0_pay27 dy (dx2 dy g u wg wu wd) (dg2 dy g u wd) (du2 dy g wd) (wRest wg) (wRest wu) x gn

theorem whole_emb {e : EltTy} (a : Vec F S256x1024 e)
    (hb : ∀ k, (![0, 0] : Fin 2 → ℕ) k + S256x1024.size k ≤ S256x1024.size k) (x : S256x1024.Idx) :
    a x = a ((Rect.unit (s := S256x1024) ![0, 0] S256x1024.size hb).emb x) := by
  refine congrArg a (funext fun k => ?_)
  fin_cases k <;> exact Fin.ext (by simp [Rect.emb, Rect.unit])

/-- Reading a whole block reads it unchanged. -/
theorem ld_block {e : EltTy} (x : Vec F S256x1024 e) (hb : ∀ k, (![0, 0] : Fin 2 → ℕ) k + (![256, 1024] : Fin 2 → ℕ) k ≤ S256x1024.size k) :
    View.ld x (Rect.unit (s := S256x1024) ![0, 0] ![256, 1024] hb) = x := by
  funext y
  refine congrArg x (funext fun k => ?_)
  fin_cases k <;> exact Fin.ext (by simp [Rect.emb, Rect.unit])

theorem ld_row {e : EltTy} (x : Vec F S1x1024 e) (hb : ∀ k, (![0, 0] : Fin 2 → ℕ) k + (![1, 1024] : Fin 2 → ℕ) k ≤ S1x1024.size k) :
    View.ld x (Rect.unit (s := S1x1024) ![0, 0] ![1, 1024] hb) = x := by
  funext y
  refine congrArg x (funext fun k => ?_)
  fin_cases k <;> exact Fin.ext (by simp [Rect.emb, Rect.unit])

end Cert.FfnBackwardIdeal.Tile

end
-- ==== Proof.FfnSpec.lean ====
/- The feed-forward layer and its gradient, one row at a time, and the two ways of writing the gradient on finite rows. -/
module

public import Idealize.ShloMosaic.PureOps.Ideal

@[expose] public section

set_option maxRecDepth 16384

noncomputable section

namespace Cert.Ffn

open Idealize.ShloMosaic

/-- One half. -/
abbrev half : EReal := Ideal.ofBits .f32 0x3F000000#32
/-- The number of features. -/
abbrev width : EReal := Ideal.ofBits .f32 0x44800000#32
/-- What the normalisation adds to the mean square. -/
abbrev eps : EReal := Ideal.ofBits .f32 0x358637BD#32
/-- Minus one half. -/
abbrev mhalf : EReal := Ideal.ofBits .f32 0xBF000000#32

/-- The logistic function of a pre-activation. -/
abbrev sg (g : EReal) : EReal := Ideal.div 1 (1 + Ideal.exp (0 - g))
/-- The mean square of a row, kept away from zero. -/
def msq (x : Fin 1024 → EReal) : EReal := Ideal.div (∑ k, x k * x k) width + eps
/-- One over the root mean square. -/
def inv (x : Fin 1024 → EReal) : EReal := Ideal.rsqrt (msq x)
/-- The normalised row. -/
def xnRow (x gn : Fin 1024 → EReal) (k : Fin 1024) : EReal := x k * inv x * gn k
/-- A pre-activation: the normalised row against one column. -/
def hid (x gn w : Fin 1024 → EReal) : EReal := ∑ k, xnRow x gn k * w k
/-- The gradient at one activation: half the output's gradient against one row of the last matrix. -/
def da (dy wd : Fin 1024 → EReal) : EReal := ∑ k, half * dy k * wd k
/-- The gradient at the gate's pre-activation, as one product. -/
def dG (a g u : EReal) : EReal := a * u * (sg g * (1 + g * (1 - sg g)))
/-- The same, as a sum of the two factors' shares. -/
def dG' (a g u : EReal) : EReal := a * u * sg g + g * (a * u) * (sg g * (1 - sg g))
/-- The gradient at the other factor. -/
def dU (a g : EReal) : EReal := a * (g * sg g)
/-- The gradient at a normalised entry, from both pre-activations. -/
def dn (dg du wg wu : Fin 2816 → EReal) : EReal := (∑ f, dg f * wg f) + ∑ f, du f * wu f
/-- The gradient at the row: the residual's share and the normalisation's, the mean taken out as one term. -/
def dX (dy x gn d : Fin 1024 → EReal) (j : Fin 1024) : EReal :=
  dy j + inv x * (d j * gn j - (x j * inv x) * Ideal.div (∑ k, d k * gn k * (x k * inv x)) width)
/-- The mean square's share of the gradient at the row, per unit of the row's entry. -/
def dM (x gn d : Fin 1024 → EReal) : EReal :=
  Ideal.div ((∑ k, x k * (d k * gn k)) * (mhalf * Ideal.div (inv x) (msq x))) width
/-- The same gradient, the mean square's two equal shares written apart. -/
def dX' (dy x gn d : Fin 1024 → EReal) (j : Fin 1024) : EReal :=
  dy j + ((d j * gn j * inv x + x j * dM x gn d) + dM x gn d * x j)

theorem dU_comm (a g : EReal) : g * sg g * a = dU a g := EReal.mul_comm _ _

/-- A sum over the hidden columns, in the three blocks a backward point takes them in. -/
theorem sum_blocks (p : Fin 2816 → EReal) :
    ∑ f, p f = ((∑ k : Fin 1024, p ⟨k.val, by omega⟩) + ∑ k : Fin 1024, p ⟨1024 + k.val, by omega⟩)
      + ∑ k : Fin 768, p ⟨2048 + k.val, by omega⟩ :=
  (Fin.sum_univ_add (a := 2048) (b := 768) p).trans
    (congrArg (fun w : EReal => w + ∑ k : Fin 768, p ⟨2048 + k.val, by omega⟩)
      (Fin.sum_univ_add (a := 1024) (b := 1024) fun k => p ⟨k.val, by omega⟩))

/-- A sum over the hidden columns, in the four blocks a forward point takes them in. -/
theorem sum_chunks (p : Fin 2816 → EReal) :
    ∑ f, p f = (((∑ k : Fin 768, p ⟨k.val, by omega⟩) + ∑ k : Fin 768, p ⟨768 + k.val, by omega⟩)
      + ∑ k : Fin 768, p ⟨1536 + k.val, by omega⟩) + ∑ k : Fin 512, p ⟨2304 + k.val, by omega⟩ :=
  (Fin.sum_univ_add (a := 2304) (b := 512) p).trans
    (congrArg (fun w : EReal => w + ∑ k : Fin 512, p ⟨2304 + k.val, by omega⟩)
      ((Fin.sum_univ_add (a := 1536) (b := 768) fun k => p ⟨k.val, by omega⟩).trans
        (congrArg (fun w : EReal => w + ∑ k : Fin 768, p ⟨1536 + k.val, by omega⟩)
          (Fin.sum_univ_add (a := 768) (b := 768) fun k => p ⟨k.val, by omega⟩))))

/-! ## Finite rows -/

/-- A value that is a real number. -/
def IsReal (a : EReal) : Prop := ∃ r : ℝ, a = r

theorem half_eq : half = ((1 / 2 : ℝ) : EReal) := by
  simp [half, Ideal.ofBits, Ideal.ieee, -EReal.coe_mul]; norm_num
theorem mhalf_eq : mhalf = ((-1 / 2 : ℝ) : EReal) := by
  simp [mhalf, Ideal.ofBits, Ideal.ieee, -EReal.coe_mul]; norm_num
theorem width_eq : width = ((1024 : ℝ) : EReal) := by
  simp [width, Ideal.ofBits, Ideal.ieee, -EReal.coe_mul]; norm_num
theorem eps_eq : ∃ e : ℝ, 0 < e ∧ eps = (e : EReal) := by
  refine ⟨_, ?_, by simp [eps, Ideal.ofBits, Ideal.ieee, -EReal.coe_mul]; rfl⟩
  norm_num

theorem IsReal.mul {a b : EReal} : IsReal a → IsReal b → IsReal (a * b)
  | ⟨r, hr⟩, ⟨s, hs⟩ => ⟨r * s, by rw [hr, hs, EReal.coe_mul]⟩
theorem IsReal.add {a b : EReal} : IsReal a → IsReal b → IsReal (a + b)
  | ⟨r, hr⟩, ⟨s, hs⟩ => ⟨r + s, by rw [hr, hs, EReal.coe_add]⟩

/-- A sum of reals is the real sum. -/
theorem sum_real {n : ℕ} (p : Fin n → ℝ) : ∑ k, (p k : EReal) = ((∑ k, p k : ℝ) : EReal) := by
  induction n with
  | zero => simp
  | succ n ih => rw [Fin.sum_univ_succ, Fin.sum_univ_succ, ih, EReal.coe_add]

theorem IsReal.sum {n : ℕ} {p : Fin n → EReal} (h : ∀ k, IsReal (p k)) : IsReal (∑ k, p k) := by
  choose r hr using h
  exact ⟨∑ k, r k, by rw [← sum_real]; exact Finset.sum_congr (M := EReal) rfl fun k _ => hr k⟩

theorem div_real (a b : ℝ) (h : b ≠ 0) : Ideal.div (a : EReal) (b : EReal) = ((a / b : ℝ) : EReal) := by
  have hb : (b : EReal) ≠ 0 := by exact_mod_cast h
  rw [Ideal.div, if_neg hb, ← EReal.coe_inv, ← EReal.coe_mul, div_eq_mul_inv]

theorem sg_real (g : ℝ) : ∃ s : ℝ, sg g = (s : EReal) := by
  refine ⟨1 / (1 + Real.exp (-g)), ?_⟩
  have h : (1 + Real.exp (-g) : ℝ) ≠ 0 := by positivity
  unfold sg
  rw [← div_real 1 _ h, zero_sub, ← EReal.coe_neg, Ideal.exp_coe, EReal.coe_add, EReal.coe_one]

/-- On a finite row the mean square is a positive real, and `inv` its inverse root. -/
theorem inv_real (x : Fin 1024 → ℝ) : ∃ μ r : ℝ, 0 < μ ∧ r * r * μ = 1 ∧ msq (fun k => x k) = (μ : EReal) ∧ inv (fun k => x k) = (r : EReal) := by
  obtain ⟨e, he, hE⟩ := eps_eq
  have hs : 0 ≤ ∑ k, x k * x k := Finset.sum_nonneg fun k _ => mul_self_nonneg _
  have hμ : 0 < (∑ k, x k * x k) / 1024 + e := by positivity
  have hm : msq (fun k => x k) = (((∑ k, x k * x k) / 1024 + e : ℝ) : EReal) := by
    unfold msq
    rw [hE, width_eq, show (∑ k, (x k : EReal) * (x k : EReal)) = ((∑ k, x k * x k : ℝ) : EReal) from
      (Finset.sum_congr (M := EReal) rfl fun k _ => (EReal.coe_mul _ _).symm).trans (sum_real fun k => x k * x k),
      div_real _ _ (by norm_num), EReal.coe_add]
  refine ⟨_, (Real.sqrt ((∑ k, x k * x k) / 1024 + e))⁻¹, hμ, ?_, hm, ?_⟩
  · have h := Real.mul_self_sqrt hμ.le
    rw [← mul_inv, h, inv_mul_cancel₀ hμ.ne']
  · unfold inv
    rw [hm, Ideal.rsqrt_coe, if_neg (not_lt.mpr hμ.le), if_neg hμ.ne']

theorem fin_inv {x : Fin 1024 → EReal} (h : ∀ k, IsReal (x k)) : IsReal (inv x) := by
  choose r hr using h
  obtain ⟨μ, s, _, _, _, e⟩ := inv_real r
  exact ⟨s, by rw [← e]; exact congrArg inv (funext hr)⟩

theorem fin_hid {x gn w : Fin 1024 → EReal} (hx : ∀ k, IsReal (x k)) (hg : ∀ k, IsReal (gn k)) (hw : ∀ k, IsReal (w k)) : IsReal (hid x gn w) :=
  IsReal.sum fun k => (((hx k).mul (fin_inv hx)).mul (hg k)).mul (hw k)

theorem fin_da {dy wd : Fin 1024 → EReal} (hd : ∀ k, IsReal (dy k)) (hw : ∀ k, IsReal (wd k)) : IsReal (da dy wd) :=
  IsReal.sum fun k => (IsReal.mul ⟨_, half_eq⟩ (hd k)).mul (hw k)

theorem fin_sg {g : EReal} : IsReal g → IsReal (sg g)
  | ⟨r, hr⟩ => by rw [hr]; exact sg_real r

theorem fin_dU {a g : EReal} (ha : IsReal a) (hg : IsReal g) : IsReal (dU a g) := ha.mul (hg.mul (fin_sg hg))

theorem fin_dG' {a g u : EReal} (ha : IsReal a) (hg : IsReal g) (hu : IsReal u) : IsReal (dG' a g u) := by
  obtain ⟨s, hs⟩ := fin_sg hg
  have h1 : IsReal (1 - sg g) := ⟨1 - s, by rw [hs, EReal.coe_sub, EReal.coe_one]⟩
  exact ((ha.mul hu).mul ⟨s, hs⟩).add ((hg.mul (ha.mul hu)).mul (IsReal.mul ⟨s, hs⟩ h1))

/-- The two ways of writing the gradient at the gate's pre-activation agree on reals. -/
theorem dG_eq {a g u : EReal} (ha : IsReal a) (hg : IsReal g) (hu : IsReal u) : dG a g u = dG' a g u := by
  obtain ⟨s, hs⟩ := fin_sg hg
  unfold dG dG'
  rw [hs]
  obtain ⟨a, rfl⟩ := ha
  obtain ⟨g, rfl⟩ := hg
  obtain ⟨u, rfl⟩ := hu
  norm_cast
  ring

theorem fin_dn {dg du wg wu : Fin 2816 → EReal} (h1 : ∀ f, IsReal (dg f)) (h2 : ∀ f, IsReal (du f)) (h3 : ∀ f, IsReal (wg f)) (h4 : ∀ f, IsReal (wu f)) :
    IsReal (dn dg du wg wu) :=
  (IsReal.sum fun f => (h1 f).mul (h3 f)).add (IsReal.sum fun f => (h2 f).mul (h4 f))

/-- The two ways of writing the gradient at the row agree on finite rows. -/
theorem dX_eq {dy x gn d : Fin 1024 → EReal} (hy : ∀ k, IsReal (dy k)) (hx : ∀ k, IsReal (x k)) (hg : ∀ k, IsReal (gn k)) (hd : ∀ k, IsReal (d k))
    (j : Fin 1024) : dX dy x gn d j = dX' dy x gn d j := by
  choose y hy using hy
  choose z hz using hx
  choose g hg using hg
  choose e he using hd
  obtain rfl : dy = fun k => (y k : EReal) := funext hy
  obtain rfl : x = fun k => (z k : EReal) := funext hz
  obtain rfl : gn = fun k => (g k : EReal) := funext hg
  obtain rfl : d = fun k => (e k : EReal) := funext he
  obtain ⟨μ, r, hμ, hr, hm, hi⟩ := inv_real z
  unfold dX dX' dM
  rw [hm, hi, mhalf_eq, width_eq, div_real _ _ hμ.ne']
  have e1 : (∑ k, (e k : EReal) * (g k : EReal) * ((z k : EReal) * (r : EReal))) = ((r * ∑ k, z k * (e k * g k) : ℝ) : EReal) := by
    rw [Finset.mul_sum, ← sum_real]
    exact Finset.sum_congr (M := EReal) rfl fun k _ => by norm_cast; ring
  have e2 : (∑ k, (z k : EReal) * ((e k : EReal) * (g k : EReal))) = ((∑ k, z k * (e k * g k) : ℝ) : EReal) := by
    rw [← sum_real]
    exact Finset.sum_congr (M := EReal) rfl fun k _ => by norm_cast
  rw [e1, e2, div_real _ _ (by norm_num)]
  generalize (∑ k, z k * (e k * g k) : ℝ) = s
  rw [show (s : EReal) * (((-1 / 2 : ℝ) : EReal) * ((r / μ : ℝ) : EReal)) = ((s * (-1 / 2 * (r / μ)) : ℝ) : EReal) by norm_cast,
    div_real _ _ (by norm_num)]
  simp only [← EReal.coe_mul, ← EReal.coe_add, ← EReal.coe_sub]
  refine congrArg Real.toEReal ?_
  have hr' : r / μ = r * r * r := by
    rw [div_eq_iff hμ.ne']
    calc r = r * 1 := (mul_one r).symm
      _ = r * (r * r * μ) := by rw [hr]
      _ = r * r * r * μ := by ring
  rw [hr']
  ring

end Cert.Ffn

end
-- ==== Proof.FfnBackEntry.lean ====
/- One block of the feed-forward layer's backward pass, entry by entry: the row functions of the block's rows. -/
module

public import proofs.«01_k».proof.Proof.FfnBackTile
public import proofs.«01_k».proof.Proof.FfnSpec

@[expose] public section

set_option maxRecDepth 16384

noncomputable section

namespace Cert.FfnBackwardIdeal.Tile

open Cert.FfnBackwardIdeal Cert.FfnBackwardIdeal.Gen Cert.Ffn Idealize.ShloMosaic Idealize.ShloMosaic.TcCoe Idealize.SL.Sem

variable (dy x : Vec Ideal S256x1024 .f32) (gn : Vec Ideal S1x1024 .f32) (g u : Vec Ideal S256x2816 .bf16) (w wg wu wd : Vec Ideal S2816x1024 .bf16)

theorem wPart0_at (j k : Fin 1024) : wPart w 0 (ix2 j k) = w (ix2 ⟨j.val, by omega⟩ k) := by
  unfold wPart
  pointwise
theorem wPart1_at (j k : Fin 1024) : wPart w 1 (ix2 j k) = w (ix2 ⟨1024 + j.val, by omega⟩ k) := by
  unfold wPart
  pointwise
theorem wRest_at (j : Fin 768) (k : Fin 1024) : wRest w (ix2 j k) = w (ix2 ⟨2048 + j.val, by omega⟩ k) := by
  unfold wRest
  pointwise
theorem hPart0_at (i : Fin 256) (j : Fin 1024) : hPart g 0 (ix2 i j) = g (ix2 i ⟨j.val, by omega⟩) := by
  unfold hPart
  pointwise
theorem hPart1_at (i : Fin 256) (j : Fin 1024) : hPart g 1 (ix2 i j) = g (ix2 i ⟨1024 + j.val, by omega⟩) := by
  unfold hPart
  pointwise
theorem hRest_at (i : Fin 256) (j : Fin 768) : hRest g (ix2 i j) = g (ix2 i ⟨2048 + j.val, by omega⟩) := by
  unfold hRest
  pointwise

/-- The activation's gradient at a hidden column of a row of the block. -/
abbrev daB (i : Fin 256) (f : Fin 2816) : EReal := da (fun k => dy (ix2 i k)) (fun k => wd (ix2 f k))

theorem da0_at (i : Fin 256) (j : Fin 1024) : (∑ k, Ideal.ofBits .f32 0x3F000000#32 * dy (ix2 i k) * wPart wd 0 (ix2 j k) : EReal) = daB dy wd i ⟨j.val, by omega⟩ :=
  Finset.sum_congr (M := EReal) rfl fun k _ => congrArg (fun b : EReal => half * dy (ix2 i k) * b) (wPart0_at wd j k)
theorem da1_at (i : Fin 256) (j : Fin 1024) : (∑ k, Ideal.ofBits .f32 0x3F000000#32 * dy (ix2 i k) * wPart wd 1 (ix2 j k) : EReal) = daB dy wd i ⟨1024 + j.val, by omega⟩ :=
  Finset.sum_congr (M := EReal) rfl fun k _ => congrArg (fun b : EReal => half * dy (ix2 i k) * b) (wPart1_at wd j k)
theorem da2_at (i : Fin 256) (j : Fin 768) : (∑ k, Ideal.ofBits .f32 0x3F000000#32 * dy (ix2 i k) * wRest wd (ix2 j k) : EReal) = daB dy wd i ⟨2048 + j.val, by omega⟩ :=
  Finset.sum_congr (M := EReal) rfl fun k _ => congrArg (fun b : EReal => half * dy (ix2 i k) * b) (wRest_at wd j k)

/-- The row functions at a hidden column of a row of the block. -/
abbrev dgB (i : Fin 256) (f : Fin 2816) : EReal := dG (daB dy wd i f) (g (ix2 i f)) (u (ix2 i f))
abbrev duB (i : Fin 256) (f : Fin 2816) : EReal := dU (daB dy wd i f) (g (ix2 i f))

theorem dg0_at (i : Fin 256) (j : Fin 1024) : dg0 dy g u wd (ix2 i j) = dgB dy g u wd i ⟨j.val, by omega⟩ := by
  unfold dg0
  pointwise [k0_pay11, k0_pay9, k0_pay10, k0_pay4, k0_pay2, k0_pay8, k0_pay7]
  rw [da0_at, hPart0_at, hPart0_at]
  rfl
theorem dg1_at (i : Fin 256) (j : Fin 1024) : dg1 dy g u wd (ix2 i j) = dgB dy g u wd i ⟨1024 + j.val, by omega⟩ := by
  unfold dg1
  pointwise [k0_pay16, k0_pay14, k0_pay15, k0_pay5, k0_pay2]
  rw [da1_at, hPart1_at, hPart1_at]
  rfl
theorem dg2_at (i : Fin 256) (j : Fin 768) : dg2 dy g u wd (ix2 i j) = dgB dy g u wd i ⟨2048 + j.val, by omega⟩ := by
  unfold dg2
  pointwise [k0_pay21, k0_pay19, k0_pay20, k0_pay6, k0_pay2]
  rw [da2_at, hRest_at, hRest_at]
  rfl
theorem du0_at (i : Fin 256) (j : Fin 1024) : du0 dy g wd (ix2 i j) = duB dy g wd i ⟨j.val, by omega⟩ := by
  unfold du0
  pointwise [k0_pay12, k0_pay4, k0_pay2, k0_pay8, k0_pay7]
  rw [da0_at, hPart0_at]
  rfl
theorem du1_at (i : Fin 256) (j : Fin 1024) : du1 dy g wd (ix2 i j) = duB dy g wd i ⟨1024 + j.val, by omega⟩ := by
  unfold du1
  pointwise [k0_pay17, k0_pay14, k0_pay15, k0_pay5, k0_pay2]
  rw [da1_at, hPart1_at]
  rfl
theorem du2_at (i : Fin 256) (j : Fin 768) : du2 dy g wd (ix2 i j) = duB dy g wd i ⟨2048 + j.val, by omega⟩ := by
  unfold du2
  pointwise [k0_pay22, k0_pay19, k0_pay20, k0_pay6, k0_pay2]
  rw [da2_at, hRest_at]
  rfl

/-- Three blocks of columns of one row function are that function. -/
theorem cols_at (a b : FVec Ideal S256x1024 .bf16) (r : FVec Ideal S256x768 .bf16) (p : Fin 256 → Fin 2816 → EReal)
    (ha : ∀ (i : Fin 256) (j : Fin 1024), a (ix2 i j) = p i ⟨j.val, by omega⟩)
    (hb : ∀ (i : Fin 256) (j : Fin 1024), b (ix2 i j) = p i ⟨1024 + j.val, by omega⟩)
    (hr : ∀ (i : Fin 256) (j : Fin 768), r (ix2 i j) = p i ⟨2048 + j.val, by omega⟩)
    (i : Fin 256) (f : Fin 2816) : cols a b r (ix2 i f) = p i f := by
  show (if h : f.val < 1024 then a (ix2 i ⟨f.val, h⟩)
    else if h' : f.val < 2048 then b (ix2 i ⟨f.val - 1024, by omega⟩)
    else r (ix2 i ⟨f.val - 2048, by omega⟩)) = p i f
  split
  · exact ha i _
  · split
    · exact (hb i _).trans (congrArg (p i) (Fin.ext (by show 1024 + (f.val - 1024) = f.val; omega)))
    · exact (hr i _).trans (congrArg (p i) (Fin.ext (by show 2048 + (f.val - 2048) = f.val; omega)))

theorem dgT_at (i : Fin 256) (f : Fin 2816) : dgT dy g u wd (ix2 i f) = dgB dy g u wd i f :=
  cols_at _ _ _ (dgB dy g u wd) (dg0_at dy g u wd) (dg1_at dy g u wd) (dg2_at dy g u wd) i f
theorem duT_at (i : Fin 256) (f : Fin 2816) : duT dy g wd (ix2 i f) = duB dy g wd i f :=
  cols_at _ _ _ (duB dy g wd) (du0_at dy g wd) (du1_at dy g wd) (du2_at dy g wd) i f

/-- The gradient at a normalised entry of the block. -/
abbrev dnB (i : Fin 256) (k : Fin 1024) : EReal :=
  dn (dgB dy g u wd i) (duB dy g wd i) (fun f => wg (ix2 f k)) (fun f => wu (ix2 f k))

theorem dx2_at (i : Fin 256) (k : Fin 1024) :
    dx2 dy g u wg wu wd (ix2 i k)
      = (((∑ j, dg0 dy g u wd (ix2 i j) * wPart wg 0 (ix2 j k)) + ∑ j, du0 dy g wd (ix2 i j) * wPart wu 0 (ix2 j k))
          + ∑ j, dg1 dy g u wd (ix2 i j) * wPart wg 1 (ix2 j k)) + ∑ j, du1 dy g wd (ix2 i j) * wPart wu 1 (ix2 j k) := by
  unfold dx2
  pointwise [k0_pay18, k0_pay13, k0_pay3]
  simp only [dg0, du0, zero_add]

theorem dn_at (i : Fin 256) (k : Fin 1024) :
    (dx2 dy g u wg wu wd (ix2 i k) + ∑ j, dg2 dy g u wd (ix2 i j) * wRest wg (ix2 j k) + ∑ j, du2 dy g wd (ix2 i j) * wRest wu (ix2 j k) : EReal)
      = dnB dy g u wg wu wd i k := by
  rw [dx2_at]
  unfold dnB dn
  rw [sum_blocks, sum_blocks]
  simp only [dg0_at, dg1_at, dg2_at, du0_at, du1_at, du2_at, wPart0_at, wPart1_at, wRest_at]
  abel

theorem dxT_at (i : Fin 256) (j : Fin 1024) :
    dxT dy x gn g u wg wu wd (ix2 i j)
      = dX (fun k => dy (ix2 i k)) (fun k => x (ix2 i k)) (fun k => gn (ix2 0 k)) (dnB dy g u wg wu wd i) j := by
  unfold dxT
  pointwise [k0_pay27, k0_pay26, k0_pay23, k0_pay25, k0_pay24]
  simp only [dn_at]
  rfl

end Cert.FfnBackwardIdeal.Tile

end
-- ==== Proof.FfnBackHost.lean ====
/- The arrays in the backward kernel's memory when its region starts: the two pre-activations and the three weights. -/
module

public import proofs.«01_k».proof.Proof.FfnBackEntry
public import Idealize.ShloMosaic.Lib.StableHlo.RunRead

@[expose] public section

set_option maxRecDepth 16384

noncomputable section

namespace Cert.FfnBackwardIdeal.Value

open Cert.FfnBackwardIdeal Cert.FfnBackwardIdeal.Gen Cert.FfnBackwardIdeal.Tile Cert.Ffn Idealize.ShloMosaic Idealize.ShloMosaic.TcCoe Idealize.SL.Sem
open Idealize.ShloMosaic.StableHlo

variable (m : (ℓ : Loc nD τ sig) → Buf (Elt Ideal) ℓ)

/-- The six arguments. -/
abbrev aDy (c : Dev nD) : FVec Ideal S8192x1024 .f32 := m ((c : Thread nD τ).loc main_arg0)
abbrev aX (c : Dev nD) : FVec Ideal S8192x1024 .f32 := m ((c : Thread nD τ).loc main_arg1)
abbrev aGn (c : Dev nD) : FVec Ideal S1x1024 .f32 := m ((c : Thread nD τ).loc main_arg2)
abbrev aWg (c : Dev nD) : FVec Ideal S1024x2816 .f32 := m ((c : Thread nD τ).loc main_arg3)
abbrev aWu (c : Dev nD) : FVec Ideal S1024x2816 .f32 := m ((c : Thread nD τ).loc main_arg4)
abbrev aWd (c : Dev nD) : FVec Ideal S2816x1024 .f32 := m ((c : Thread nD τ).loc main_arg5)

theorem V_gate (c : Dev nD) (r : Fin 8192) (f : Fin 2816) : (V m c main_v14 : FVec Ideal S8192x2816 .bf16) (ix2 r f)
    = hid (fun k => aX m c (ix2 r k)) (fun k => aGn m c (ix2 0 k)) (fun k => aWg m c (ix2 k f)) := by
  unfold V
  after_reads_simp
  pointwise
  rfl

theorem V_up (c : Dev nD) (r : Fin 8192) (f : Fin 2816) : (V m c main_v15 : FVec Ideal S8192x2816 .bf16) (ix2 r f)
    = hid (fun k => aX m c (ix2 r k)) (fun k => aGn m c (ix2 0 k)) (fun k => aWu m c (ix2 k f)) := by
  unfold V
  after_reads_simp
  pointwise
  rfl

theorem V_wg (c : Dev nD) (f : Fin 2816) (k : Fin 1024) : (V m c main_v24 : FVec Ideal S2816x1024 .bf16) (ix2 f k) = aWg m c (ix2 k f) := by
  unfold V
  after_reads_simp
  pointwise
  exact congrArg (fun b => aWg m c (ix2 k b)) (Fin.ext (by show f.val / 704 * 704 + f.val % 704 = f.val; omega))

theorem V_wu (c : Dev nD) (f : Fin 2816) (k : Fin 1024) : (V m c main_v25 : FVec Ideal S2816x1024 .bf16) (ix2 f k) = aWu m c (ix2 k f) := by
  unfold V
  after_reads_simp
  pointwise
  exact congrArg (fun b => aWu m c (ix2 k b)) (Fin.ext (by show f.val / 704 * 704 + f.val % 704 = f.val; omega))

theorem V_wd (c : Dev nD) (f : Fin 2816) (k : Fin 1024) : (V m c main_v26 : FVec Ideal S2816x1024 .bf16) (ix2 f k) = aWd m c (ix2 f k) := by
  unfold V
  after_reads_simp
  pointwise
  exact congrArg (fun b => aWd m c (ix2 b k)) (Fin.ext (by show f.val / 704 * 704 + f.val % 704 = f.val; omega))

end Cert.FfnBackwardIdeal.Value

end
-- ==== Proof.Landed.lean ====
/- What a load reads of a buffer that one transfer filled whole. -/
module

public import Idealize.ShloMosaic.Lib.Pipeline.ReadBack
public import Idealize.ShloMosaic.Lib.Pipeline.ValueKit

@[expose] public section

noncomputable section

namespace Cert.Landed

open Idealize.ShloMosaic

variable {Val : EltTy → Type} [∀ e, Nonempty (Val e)] {sig : RefSig} {κ : Kind} {sp : Space} {s : Shape} {e : EltTy}

/-- One piece that is the whole of a buffer leaves its contents. -/
theorem canon_whole (w : s.Idx → Val e) (y : s.Idx) :
    View.canon [(⟨Rect.whole s, w⟩ : View.Piece Val s e)] y = w y := by
  have h := View.canon_append_of_piecesOf w [] [(⟨Rect.whole s, w⟩ : View.Piece Val s e)]
    ⟨fun x => congrArg w (Rect.emb_whole_apply s x).symm, trivial⟩ y
    ⟨_, List.mem_singleton.mpr rfl, by rw [Rect.set_whole]; exact Finset.mem_univ y⟩
  rwa [List.append_nil] at h

/-- A load of a buffer that one transfer filled whole reads that transfer's data. -/
theorem readCov_whole (v : View sig κ sp s e) (w : s.Idx → Val e) (r : Rect s) :
    v.readCov [(⟨Rect.whole s, w⟩ : View.Piece Val s e)] r.toLoadRect = View.ld w r := by
  rw [View.readCov_eq_canon']
  exact funext fun j => canon_whole w _

end Cert.Landed

end
-- ==== Proof.FfnBackOpenA.lean ====
/- The blocks the first grid point of the feed-forward layer's backward pass leaves: it brings the three weights onto the
   chip and then leaves the blocks of `FfnBackTile.lean`, taken at those weights. -/
module

public import proofs.«01_k».proof.Proof.FfnBackTile
public import proofs.«01_k».proof.Proof.Landed

@[expose] public section

set_option maxRecDepth 16384

noncomputable section

namespace Cert.FfnBackwardIdeal.Tile

open Cert.FfnBackwardIdeal Cert.FfnBackwardIdeal.Gen Idealize.ShloMosaic Idealize.ShloMosaic.TcCoe Idealize.SL.Sem Idealize.ShloMosaic.Tactic

variable {F : FTy → Type} [FloatOps F]

set_option maxHeartbeats 4000000 in
/-- The gradient at the gate's pre-activation the first point leaves. -/
theorem out0_A_6_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S1x1024 .f32) (x3 : Vec F S256x2816 .bf16) (x4 : Vec F S256x2816 .bf16) (fh0 : HbBuf0 (F := F) c hbM0_0) (fh1 : HbBuf0 (F := F) c hbM0_1) (fh2 : HbBuf0 (F := F) c hbM0_2) :
    out0_A_6 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = dgT x0 x3 x4 fh2 := by
  have hp : View.PiecesOf (dgT x0 x3 x4 fh2) (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.1 := by
    unfold kernelRun0_A
    dsimp only
    sl_unfold_words
    simp only [View.readAt_eq_ld, harg1.read_unread, harg2.read_unread, harg3.read_unread, harg4.read_unread, harg5.read_unread]
    simp only [ld_block, ld_row, Landed.readCov_whole]
    exact ⟨fun x => Eq.trans (by rfl) (cols_emb2 (dg0 x0 x3 x4 fh2) (dg1 x0 x3 x4 fh2) (dg2 x0 x3 x4 fh2) (by intro a; fin_cases a <;> decide) x),
      fun x => Eq.trans (by rfl) (cols_emb1 (dg0 x0 x3 x4 fh2) (dg1 x0 x3 x4 fh2) (dg2 x0 x3 x4 fh2) (by intro a; fin_cases a <;> decide) x),
      fun x => Eq.trans (by rfl) (cols_emb0 (dg0 x0 x3 x4 fh2) (dg1 x0 x3 x4 fh2) (dg2 x0 x3 x4 fh2) (by intro a; fin_cases a <;> decide) x), trivial⟩
  unfold out0_A_6
  rw [View.read_writes_eq_canon _ _ _ (cover0_A_6 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2)]
  funext y
  have h := View.canon_append_of_piecesOf (dgT x0 x3 x4 fh2) [] _ hp y (cover0_A_6 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 y)
  rwa [List.append_nil] at h

set_option maxHeartbeats 4000000 in
/-- The gradient at the other factor the first point leaves. -/
theorem out0_A_7_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S1x1024 .f32) (x3 : Vec F S256x2816 .bf16) (x4 : Vec F S256x2816 .bf16) (fh0 : HbBuf0 (F := F) c hbM0_0) (fh1 : HbBuf0 (F := F) c hbM0_1) (fh2 : HbBuf0 (F := F) c hbM0_2) :
    out0_A_7 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = duT x0 x3 fh2 := by
  have hp : View.PiecesOf (duT x0 x3 fh2) (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.1 := by
    unfold kernelRun0_A
    dsimp only
    sl_unfold_words
    simp only [View.readAt_eq_ld, harg1.read_unread, harg2.read_unread, harg3.read_unread, harg4.read_unread, harg5.read_unread]
    simp only [ld_block, ld_row, Landed.readCov_whole]
    exact ⟨fun x => Eq.trans (by rfl) (cols_emb2 (du0 x0 x3 fh2) (du1 x0 x3 fh2) (du2 x0 x3 fh2) (by intro a; fin_cases a <;> decide) x),
      fun x => Eq.trans (by rfl) (cols_emb1 (du0 x0 x3 fh2) (du1 x0 x3 fh2) (du2 x0 x3 fh2) (by intro a; fin_cases a <;> decide) x),
      fun x => Eq.trans (by rfl) (cols_emb0 (du0 x0 x3 fh2) (du1 x0 x3 fh2) (du2 x0 x3 fh2) (by intro a; fin_cases a <;> decide) x), trivial⟩
  unfold out0_A_7
  rw [View.read_writes_eq_canon _ _ _ (cover0_A_7 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2)]
  funext y
  have h := View.canon_append_of_piecesOf (duT x0 x3 fh2) [] _ hp y (cover0_A_7 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 y)
  rwa [List.append_nil] at h

set_option maxHeartbeats 4000000 in
/-- The gradient at the rows the first point leaves. -/
theorem out0_A_5_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S1x1024 .f32) (x3 : Vec F S256x2816 .bf16) (x4 : Vec F S256x2816 .bf16) (fh0 : HbBuf0 (F := F) c hbM0_0) (fh1 : HbBuf0 (F := F) c hbM0_1) (fh2 : HbBuf0 (F := F) c hbM0_2) :
    out0_A_5 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = dxT x0 x1 x2 x3 x4 fh0 fh1 fh2 := by
  have hp : View.PiecesOf (dxT x0 x1 x2 x3 x4 fh0 fh1 fh2) (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).1 := by
    unfold kernelRun0_A
    dsimp only
    sl_unfold_words
    simp only [View.readAt_eq_ld, harg1.read_unread, harg2.read_unread, harg3.read_unread, harg4.read_unread, harg5.read_unread]
    simp only [ld_block, ld_row, Landed.readCov_whole]
    exact ⟨fun x => Eq.trans (by rfl) (whole_emb (dxT x0 x1 x2 x3 x4 fh0 fh1 fh2) (by intro a; fin_cases a <;> decide) x), trivial⟩
  unfold out0_A_5
  rw [View.read_writes_eq_canon _ _ _ (cover0_A_5 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2)]
  funext y
  have h := View.canon_append_of_piecesOf (dxT x0 x1 x2 x3 x4 fh0 fh1 fh2) [] _ hp y (cover0_A_5 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 y)
  rwa [List.append_nil] at h

set_option maxHeartbeats 4000000 in
/-- The weight the first point leaves on the chip. -/
theorem sout0_A_0_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S1x1024 .f32) (x3 : Vec F S256x2816 .bf16) (x4 : Vec F S256x2816 .bf16) (fh0 : HbBuf0 (F := F) c hbM0_0) (fh1 : HbBuf0 (F := F) c hbM0_1) (fh2 : HbBuf0 (F := F) c hbM0_2) :
    sout0_A_0 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = (fh0 : Vec F S2816x1024 .bf16) := by
  have hp : View.PiecesOf ((fh0 : Vec F S2816x1024 .bf16)) (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.1 := by
    unfold kernelRun0_A
    dsimp only
    sl_unfold_words
    exact ⟨fun x => congrArg (fh0 : Vec F S2816x1024 .bf16) (Rect.emb_whole_apply S2816x1024 x).symm, trivial⟩
  unfold sout0_A_0
  rw [View.read_writes_eq_canon _ _ _ (scover0_A_0 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2)]
  funext y
  have h := View.canon_append_of_piecesOf ((fh0 : Vec F S2816x1024 .bf16)) [] _ hp y (scover0_A_0 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 y)
  rwa [List.append_nil] at h

set_option maxHeartbeats 4000000 in
/-- The weight the first point leaves on the chip. -/
theorem sout0_A_1_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S1x1024 .f32) (x3 : Vec F S256x2816 .bf16) (x4 : Vec F S256x2816 .bf16) (fh0 : HbBuf0 (F := F) c hbM0_0) (fh1 : HbBuf0 (F := F) c hbM0_1) (fh2 : HbBuf0 (F := F) c hbM0_2) :
    sout0_A_1 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = (fh1 : Vec F S2816x1024 .bf16) := by
  have hp : View.PiecesOf ((fh1 : Vec F S2816x1024 .bf16)) (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.1 := by
    unfold kernelRun0_A
    dsimp only
    sl_unfold_words
    exact ⟨fun x => congrArg (fh1 : Vec F S2816x1024 .bf16) (Rect.emb_whole_apply S2816x1024 x).symm, trivial⟩
  unfold sout0_A_1
  rw [View.read_writes_eq_canon _ _ _ (scover0_A_1 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2)]
  funext y
  have h := View.canon_append_of_piecesOf ((fh1 : Vec F S2816x1024 .bf16)) [] _ hp y (scover0_A_1 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 y)
  rwa [List.append_nil] at h

set_option maxHeartbeats 4000000 in
/-- The weight the first point leaves on the chip. -/
theorem sout0_A_2_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i)
    (x0 : Vec F S256x1024 .f32) (x1 : Vec F S256x1024 .f32) (x2 : Vec F S1x1024 .f32) (x3 : Vec F S256x2816 .bf16) (x4 : Vec F S256x2816 .bf16) (fh0 : HbBuf0 (F := F) c hbM0_0) (fh1 : HbBuf0 (F := F) c hbM0_1) (fh2 : HbBuf0 (F := F) c hbM0_2) :
    sout0_A_2 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 = (fh2 : Vec F S2816x1024 .bf16) := by
  have hp : View.PiecesOf ((fh2 : Vec F S2816x1024 .bf16)) (kernelRun0_A c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2).2.2.2.2.2.2.1 := by
    unfold kernelRun0_A
    dsimp only
    sl_unfold_words
    exact ⟨fun x => congrArg (fh2 : Vec F S2816x1024 .bf16) (Rect.emb_whole_apply S2816x1024 x).symm, trivial⟩
  unfold sout0_A_2
  rw [View.read_writes_eq_canon _ _ _ (scover0_A_2 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2)]
  funext y
  have h := View.canon_append_of_piecesOf ((fh2 : Vec F S2816x1024 .bf16)) [] _ hp y (scover0_A_2 c i arg1 harg1 arg2 harg2 arg3 harg3 arg4 harg4 arg5 harg5 arg9 harg9 arg10 harg10 arg11 harg11 arg12 harg12 arg13 harg13 arg14 harg14 arg15 harg15 hc0 x0 x1 x2 x3 x4 fh0 fh1 fh2 y)
  rwa [List.append_nil] at h

end Cert.FfnBackwardIdeal.Tile

end
-- ==== Proof.FfnBackOpenB.lean ====
/- The blocks a later grid point of the feed-forward layer's backward pass leaves: the pieces its run stores are the
   blocks of `FfnBackTile.lean`, taken at the weights held on the chip. -/
module

public import proofs.«01_k».proof.Proof.FfnBackTile
public import proofs.«01_k».proof.Proof.Landed

@[expose] public section

set_option maxRecDepth 16384

noncomputable section

namespace Cert.FfnBackwardIdeal.Tile

open Cert.FfnBackwardIdeal Cert.FfnBackwardIdeal.Gen Idealize.ShloMosaic Idealize.ShloMosaic.TcCoe Idealize.SL.Sem Idealize.ShloMosaic.Tactic

variable {F : FTy → Type} [FloatOps F]

set_option maxHeartbeats 4000000 in
/-- The gradient at the gate's pre-activation a later point leaves. -/
theorem out0_B_6_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S1x1024 .f32) (x3 : Vec F S256x2816 .bf16) (x4 : Vec F S256x2816 .bf16) (xo8 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_6 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 = dgT x0 x3 x4 xs2 := by
  have hp : View.PiecesOf (dgT x0 x3 x4 xs2) (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.1 := by
    unfold kernelRun0_B
    dsimp only
    sl_unfold_words
    simp only [View.readAt_eq_ld, harg1.read_unread, harg2.read_unread, harg3.read_unread, harg4.read_unread, harg5.read_unread, harg9.read_unread, harg10.read_unread, harg11.read_unread, harg12.read_unread, harg13.read_unread, harg14.read_unread, harg15.read_unread]
    simp only [ld_block, ld_row]
    exact ⟨fun x => Eq.trans (by rfl) (cols_emb2 (dg0 x0 x3 x4 xs2) (dg1 x0 x3 x4 xs2) (dg2 x0 x3 x4 xs2) (by intro a; fin_cases a <;> decide) x),
      fun x => Eq.trans (by rfl) (cols_emb1 (dg0 x0 x3 x4 xs2) (dg1 x0 x3 x4 xs2) (dg2 x0 x3 x4 xs2) (by intro a; fin_cases a <;> decide) x),
      fun x => Eq.trans (by rfl) (cols_emb0 (dg0 x0 x3 x4 xs2) (dg1 x0 x3 x4 xs2) (dg2 x0 x3 x4 xs2) (by intro a; fin_cases a <;> decide) x), trivial⟩
  unfold out0_B_6
  rw [View.read_writes_eq_canon _ _ _ (cover0_B_6 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2)]
  funext y
  have h := View.canon_append_of_piecesOf (dgT x0 x3 x4 xs2) [] _ hp y (cover0_B_6 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 y)
  rwa [List.append_nil] at h

set_option maxHeartbeats 4000000 in
/-- The gradient at the other factor a later point leaves. -/
theorem out0_B_7_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S1x1024 .f32) (x3 : Vec F S256x2816 .bf16) (x4 : Vec F S256x2816 .bf16) (xo8 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_7 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 = duT x0 x3 xs2 := by
  have hp : View.PiecesOf (duT x0 x3 xs2) (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).2.2.1 := by
    unfold kernelRun0_B
    dsimp only
    sl_unfold_words
    simp only [View.readAt_eq_ld, harg1.read_unread, harg2.read_unread, harg3.read_unread, harg4.read_unread, harg5.read_unread, harg9.read_unread, harg10.read_unread, harg11.read_unread, harg12.read_unread, harg13.read_unread, harg14.read_unread, harg15.read_unread]
    simp only [ld_block, ld_row]
    exact ⟨fun x => Eq.trans (by rfl) (cols_emb2 (du0 x0 x3 xs2) (du1 x0 x3 xs2) (du2 x0 x3 xs2) (by intro a; fin_cases a <;> decide) x),
      fun x => Eq.trans (by rfl) (cols_emb1 (du0 x0 x3 xs2) (du1 x0 x3 xs2) (du2 x0 x3 xs2) (by intro a; fin_cases a <;> decide) x),
      fun x => Eq.trans (by rfl) (cols_emb0 (du0 x0 x3 xs2) (du1 x0 x3 xs2) (du2 x0 x3 xs2) (by intro a; fin_cases a <;> decide) x), trivial⟩
  unfold out0_B_7
  rw [View.read_writes_eq_canon _ _ _ (cover0_B_7 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2)]
  funext y
  have h := View.canon_append_of_piecesOf (duT x0 x3 xs2) [] _ hp y (cover0_B_7 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 y)
  rwa [List.append_nil] at h

set_option maxHeartbeats 4000000 in
/-- The gradient at the rows a later point leaves. -/
theorem out0_B_5_eq (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S256x2816 .bf16) (harg4 : arg4.IsWhole) (arg5 : Memref sig .tc .vmem S256x2816 .bf16) (harg5 : arg5.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i)
    (x0 : Vec F S256x1024 .f32) (x1 : Vec F S256x1024 .f32) (x2 : Vec F S1x1024 .f32) (x3 : Vec F S256x2816 .bf16) (x4 : Vec F S256x2816 .bf16) (xo8 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_5 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 = dxT x0 x1 x2 x3 x4 xs0 xs1 xs2 := by
  have hp : View.PiecesOf (dxT x0 x1 x2 x3 x4 xs0 xs1 xs2) (kernelRun0_B c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2).1 := by
    unfold kernelRun0_B
    dsimp only
    sl_unfold_words
    simp only [View.readAt_eq_ld, harg1.read_unread, harg2.read_unread, harg3.read_unread, harg4.read_unread, harg5.read_unread, harg9.read_unread, harg10.read_unread, harg11.read_unread, harg12.read_unread, harg13.read_unread, harg14.read_unread, harg15.read_unread]
    simp only [ld_block, ld_row]
    exact ⟨fun x => Eq.trans (by rfl) (whole_emb (dxT x0 x1 x2 x3 x4 xs0 xs1 xs2) (by intro a; fin_cases a <;> decide) x), trivial⟩
  unfold out0_B_5
  rw [View.read_writes_eq_canon _ _ _ (cover0_B_5 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2)]
  funext y
  have h := View.canon_append_of_piecesOf (dxT x0 x1 x2 x3 x4 xs0 xs1 xs2) [] _ hp y (cover0_B_5 c i arg1 harg1 arg2 harg2 arg3 harg3 arg4 harg4 arg5 harg5 arg9 harg9 arg10 harg10 arg11 harg11 arg12 harg12 arg13 harg13 arg14 harg14 arg15 harg15 hc0 x0 x1 x2 x3 x4 xo8 xs0 xs1 xs2 fh0 fh1 fh2 y)
  rwa [List.append_nil] at h

end Cert.FfnBackwardIdeal.Tile

end
-- ==== Proof.FfnBackBlocks.lean ====
/- What the backward kernel leaves: at each grid point the weights stay as loaded at the first, so every point's blocks are the
   row functions of its 256 rows, and the three result arrays those of all rows. -/
module

public import proofs.«01_k».proof.Proof.FfnBackHost
public import proofs.«01_k».proof.Proof.FfnBackOpenA
public import proofs.«01_k».proof.Proof.FfnBackOpenB
public import Idealize.ShloMosaic.Lib.Pipeline.Value

@[expose] public section

set_option maxRecDepth 16384

noncomputable section

namespace Cert.FfnBackwardIdeal.Value

open Cert.FfnBackwardIdeal Cert.FfnBackwardIdeal.Gen Cert.FfnBackwardIdeal.Tile Cert.Ffn Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The three weights as the region finds them. -/
abbrev sWg (c : Dev nD) : Vec F S2816x1024 .bf16 := V m c main_v24
abbrev sWu (c : Dev nD) : Vec F S2816x1024 .bf16 := V m c main_v25
abbrev sWd (c : Dev nD) : Vec F S2816x1024 .bf16 := V m c main_v26

/-! ## What a point leaves, over what it reads and the point before left -/

theorem left5_A (c : Dev nD) (t : Fin cfg0.N) (h0 : t.val % 32 = 0) :
    (outsAt0 m c t.val t.isLt).1 = dxT (iblk m c 0 t) (iblk m c 1 t) (iblk m c 2 t) (iblk m c 3 t) (iblk m c 4 t) (sWg m c) (sWu m c) (sWd m c) := by
  rw [outsAt0_A m c t h0]
  dsimp only
  rw [out0_A_5_eq]
theorem left6_A (c : Dev nD) (t : Fin cfg0.N) (h0 : t.val % 32 = 0) :
    (outsAt0 m c t.val t.isLt).2.1 = dgT (iblk m c 0 t) (iblk m c 3 t) (iblk m c 4 t) (sWd m c) := by
  rw [outsAt0_A m c t h0]
  dsimp only
  rw [out0_A_6_eq]
theorem left7_A (c : Dev nD) (t : Fin cfg0.N) (h0 : t.val % 32 = 0) :
    (outsAt0 m c t.val t.isLt).2.2.1 = duT (iblk m c 0 t) (iblk m c 3 t) (sWd m c) := by
  rw [outsAt0_A m c t h0]
  dsimp only
  rw [out0_A_7_eq]
theorem lefts0_A (c : Dev nD) (t : Fin cfg0.N) (h0 : t.val % 32 = 0) :
    (outsAt0 m c t.val t.isLt).2.2.2.2.1 = sWg m c := by
  rw [outsAt0_A m c t h0]
  dsimp only
  rw [sout0_A_0_eq]
theorem lefts1_A (c : Dev nD) (t : Fin cfg0.N) (h0 : t.val % 32 = 0) :
    (outsAt0 m c t.val t.isLt).2.2.2.2.2.1 = sWu m c := by
  rw [outsAt0_A m c t h0]
  dsimp only
  rw [sout0_A_1_eq]
theorem lefts2_A (c : Dev nD) (t : Fin cfg0.N) (h0 : t.val % 32 = 0) :
    (outsAt0 m c t.val t.isLt).2.2.2.2.2.2 = sWd m c := by
  rw [outsAt0_A m c t h0]
  dsimp only
  rw [sout0_A_2_eq]
theorem left5_B (c : Dev nD) (t : Fin cfg0.N) (h0 : ¬t.val % 32 = 0) :
    (outsAt0 m c t.val t.isLt).1 = dxT (iblk m c 0 t) (iblk m c 1 t) (iblk m c 2 t) (iblk m c 3 t) (iblk m c 4 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2) := by
  rw [outsAt0_B m c t h0]
  dsimp only
  rw [out0_B_5_eq]
theorem left6_B (c : Dev nD) (t : Fin cfg0.N) (h0 : ¬t.val % 32 = 0) :
    (outsAt0 m c t.val t.isLt).2.1 = dgT (iblk m c 0 t) (iblk m c 3 t) (iblk m c 4 t) ((outsAt0 m c (t.val - 1) (Nat.lt_of_le_of_lt (Nat.sub_le _ _) t.isLt)).2.2.2.2.2.2) := by
  rw [outsAt0_B m c t h0]
  dsimp only
  rw [out0_B_6_eq]
theorem left7_B (c : Dev nD) (t : Fin cfg0.N) (h0 : ¬t.val % 32 = 0) :
    (outsAt0 m c t.val t.isLt).2.2.1 = duT (iblk m c 0 t) (iblk m c 3 t) ((outsAt0 m c (t.val - 1) (Nat.lt_of_le_of_lt (Nat.sub_le _ _) t.isLt)).2.2.2.2.2.2) := by
  rw [outsAt0_B m c t h0]
  dsimp only
  rw [out0_B_7_eq]
theorem lefts0_B (c : Dev nD) (t : Fin cfg0.N) (h0 : ¬t.val % 32 = 0) :
    (outsAt0 m c t.val t.isLt).2.2.2.2.1 = (outsAt0 m c (t.val - 1) (Nat.lt_of_le_of_lt (Nat.sub_le _ _) t.isLt)).2.2.2.2.1 := by
  rw [outsAt0_B m c t h0]
  dsimp only [sout0_B_0]
theorem lefts1_B (c : Dev nD) (t : Fin cfg0.N) (h0 : ¬t.val % 32 = 0) :
    (outsAt0 m c t.val t.isLt).2.2.2.2.2.1 = (outsAt0 m c (t.val - 1) (Nat.lt_of_le_of_lt (Nat.sub_le _ _) t.isLt)).2.2.2.2.2.1 := by
  rw [outsAt0_B m c t h0]
  dsimp only [sout0_B_1]
theorem lefts2_B (c : Dev nD) (t : Fin cfg0.N) (h0 : ¬t.val % 32 = 0) :
    (outsAt0 m c t.val t.isLt).2.2.2.2.2.2 = (outsAt0 m c (t.val - 1) (Nat.lt_of_le_of_lt (Nat.sub_le _ _) t.isLt)).2.2.2.2.2.2 := by
  rw [outsAt0_B m c t h0]
  dsimp only [sout0_B_2]

/-- The weights stay as loaded at the first point. -/
theorem weights_eq (c : Dev nD) (n : ℕ) (hn : n < cfg0.N) :
    (outsAt0 m c n hn).2.2.2.2.1 = sWg m c ∧ (outsAt0 m c n hn).2.2.2.2.2.1 = sWu m c ∧ (outsAt0 m c n hn).2.2.2.2.2.2 = sWd m c := by
  have hN : n < 32 := lt_of_lt_of_eq hn N_0
  induction n with
  | zero => exact ⟨lefts0_A m c ⟨0, hn⟩ rfl, lefts1_A m c ⟨0, hn⟩ rfl, lefts2_A m c ⟨0, hn⟩ rfl⟩
  | succ n ih =>
    obtain ⟨h0, h1, h2⟩ := ih (Nat.lt_of_succ_lt hn) (by omega)
    have hB : ¬(⟨n + 1, hn⟩ : Fin cfg0.N).val % 32 = 0 := by show ¬(n + 1) % 32 = 0; omega
    exact ⟨(lefts0_B m c ⟨n + 1, hn⟩ hB).trans h0, (lefts1_B m c ⟨n + 1, hn⟩ hB).trans h1, (lefts2_B m c ⟨n + 1, hn⟩ hB).trans h2⟩

theorem left5 (c : Dev nD) (t : Fin cfg0.N) :
    (outsAt0 m c t.val t.isLt).1 = dxT (iblk m c 0 t) (iblk m c 1 t) (iblk m c 2 t) (iblk m c 3 t) (iblk m c 4 t) (sWg m c) (sWu m c) (sWd m c) := by
  by_cases h0 : t.val % 32 = 0
  · exact left5_A m c t h0
  · obtain ⟨e0, e1, e2⟩ := weights_eq m c (t.val - 1) (Nat.lt_of_le_of_lt (Nat.sub_le _ _) t.isLt)
    rw [left5_B m c t h0, e0, e1, e2]

theorem left6 (c : Dev nD) (t : Fin cfg0.N) :
    (outsAt0 m c t.val t.isLt).2.1 = dgT (iblk m c 0 t) (iblk m c 3 t) (iblk m c 4 t) (sWd m c) := by
  by_cases h0 : t.val % 32 = 0
  · exact left6_A m c t h0
  · obtain ⟨e0, e1, e2⟩ := weights_eq m c (t.val - 1) (Nat.lt_of_le_of_lt (Nat.sub_le _ _) t.isLt)
    rw [left6_B m c t h0, e2]

theorem left7 (c : Dev nD) (t : Fin cfg0.N) :
    (outsAt0 m c t.val t.isLt).2.2.1 = duT (iblk m c 0 t) (iblk m c 3 t) (sWd m c) := by
  by_cases h0 : t.val % 32 = 0
  · exact left7_A m c t h0
  · obtain ⟨e0, e1, e2⟩ := weights_eq m c (t.val - 1) (Nat.lt_of_le_of_lt (Nat.sub_le _ _) t.isLt)
    rw [left7_B m c t h0, e2]

/-! ## The blocks a point reads -/

section Entries

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- The row of the arrays that is a row of a point's blocks. -/
abbrev brow (t : Fin cfg0.N) (i : Fin 256) : Fin 8192 := ⟨t.val * 256 + i.val, by have := i.isLt; have := lt_of_lt_of_eq t.isLt N_0; omega⟩

theorem blk0 (c : Dev nD) (t : Fin cfg0.N) (i : Fin 256) (k : Fin 1024) : (iblk m c 0 t : Vec Ideal S256x1024 .f32) (ix2 i k) = aDy m c (ix2 (brow t i) k) := by
  blk_ext [iblk, V, idx t]
theorem blk1 (c : Dev nD) (t : Fin cfg0.N) (i : Fin 256) (k : Fin 1024) : (iblk m c 1 t : Vec Ideal S256x1024 .f32) (ix2 i k) = aX m c (ix2 (brow t i) k) := by
  blk_ext [iblk, V, idx t]
theorem blk2 (c : Dev nD) (t : Fin cfg0.N) (k : Fin 1024) : (iblk m c 2 t : Vec Ideal S1x1024 .f32) (ix2 0 k) = aGn m c (ix2 0 k) := by
  blk_ext [iblk, V, idx t]
theorem blk3 (c : Dev nD) (t : Fin cfg0.N) (i : Fin 256) (f : Fin 2816) : (iblk m c 3 t : Vec Ideal S256x2816 .bf16) (ix2 i f) = (V m c main_v14 : FVec Ideal S8192x2816 .bf16) (ix2 (brow t i) f) := by
  blk_ext [iblk, idx t]
theorem blk4 (c : Dev nD) (t : Fin cfg0.N) (i : Fin 256) (f : Fin 2816) : (iblk m c 4 t : Vec Ideal S256x2816 .bf16) (ix2 i f) = (V m c main_v15 : FVec Ideal S8192x2816 .bf16) (ix2 (brow t i) f) := by
  blk_ext [iblk, idx t]

/-! ## The result arrays -/

/-- The row functions at a row of the arrays. -/
abbrev daR (c : Dev nD) (r : Fin 8192) (f : Fin 2816) : EReal := da (fun k => aDy m c (ix2 r k)) (fun k => aWd m c (ix2 f k))
abbrev gateR (c : Dev nD) (r : Fin 8192) (f : Fin 2816) : EReal :=
  hid (fun k => aX m c (ix2 r k)) (fun k => aGn m c (ix2 0 k)) (fun k => aWg m c (ix2 k f))
abbrev upR (c : Dev nD) (r : Fin 8192) (f : Fin 2816) : EReal :=
  hid (fun k => aX m c (ix2 r k)) (fun k => aGn m c (ix2 0 k)) (fun k => aWu m c (ix2 k f))
abbrev dgR (c : Dev nD) (r : Fin 8192) (f : Fin 2816) : EReal := dG (daR m c r f) (gateR m c r f) (upR m c r f)
abbrev duR (c : Dev nD) (r : Fin 8192) (f : Fin 2816) : EReal := dU (daR m c r f) (gateR m c r f)
abbrev dnR (c : Dev nD) (r : Fin 8192) (k : Fin 1024) : EReal :=
  dn (dgR m c r) (duR m c r) (fun f => aWg m c (ix2 k f)) (fun f => aWu m c (ix2 k f))
abbrev dxR (c : Dev nD) (r : Fin 8192) (j : Fin 1024) : EReal :=
  dX (fun k => aDy m c (ix2 r k)) (fun k => aX m c (ix2 r k)) (fun k => aGn m c (ix2 0 k)) (dnR m c r) j

/-- The three result arrays. -/
def DXarr (c : Dev nD) : Vec Ideal S8192x1024 .f32 := fun y => dxR m c (y 0) (y 1)
def DGarr (c : Dev nD) : Vec Ideal S8192x2816 .bf16 := fun y => dgR m c (y 0) (y 1)
def DUarr (c : Dev nD) : Vec Ideal S8192x2816 .bf16 := fun y => duR m c (y 0) (y 1)

theorem da_blk (c : Dev nD) (t : Fin cfg0.N) (i : Fin 256) (f : Fin 2816) : daB (iblk m c 0 t) (sWd m c) i f = daR m c (brow t i) f :=
  congrArg₂ da (funext fun k => blk0 m c t i k) (funext fun k => V_wd m c f k)
theorem gate_blk (c : Dev nD) (t : Fin cfg0.N) (i : Fin 256) (f : Fin 2816) :
    (iblk m c 3 t : Vec Ideal S256x2816 .bf16) (ix2 i f) = gateR m c (brow t i) f := (blk3 m c t i f).trans (V_gate m c _ f)
theorem up_blk (c : Dev nD) (t : Fin cfg0.N) (i : Fin 256) (f : Fin 2816) :
    (iblk m c 4 t : Vec Ideal S256x2816 .bf16) (ix2 i f) = upR m c (brow t i) f := (blk4 m c t i f).trans (V_up m c _ f)
theorem dg_blk (c : Dev nD) (t : Fin cfg0.N) (i : Fin 256) (f : Fin 2816) :
    dgB (iblk m c 0 t) (iblk m c 3 t) (iblk m c 4 t) (sWd m c) i f = dgR m c (brow t i) f := by
  show dG _ _ _ = dG _ _ _
  rw [da_blk, gate_blk, up_blk]
theorem du_blk (c : Dev nD) (t : Fin cfg0.N) (i : Fin 256) (f : Fin 2816) :
    duB (iblk m c 0 t) (iblk m c 3 t) (sWd m c) i f = duR m c (brow t i) f := by
  show dU _ _ = dU _ _
  rw [da_blk, gate_blk]
theorem dn_blk (c : Dev nD) (t : Fin cfg0.N) (i : Fin 256) (k : Fin 1024) :
    dnB (iblk m c 0 t) (iblk m c 3 t) (iblk m c 4 t) (sWg m c) (sWu m c) (sWd m c) i k = dnR m c (brow t i) k := by
  show dn _ _ _ _ = dn _ _ _ _
  rw [show dgB (iblk m c 0 t) (iblk m c 3 t) (iblk m c 4 t) (sWd m c) i = dgR m c (brow t i) from funext fun f => dg_blk m c t i f,
    show duB (iblk m c 0 t) (iblk m c 3 t) (sWd m c) i = duR m c (brow t i) from funext fun f => du_blk m c t i f,
    show (fun f => sWg m c (ix2 f k)) = fun f => aWg m c (ix2 k f) from funext fun f => V_wg m c f k,
    show (fun f => sWu m c (ix2 f k)) = fun f => aWu m c (ix2 k f) from funext fun f => V_wu m c f k]

theorem after5_at (c : Dev nD) (t : Fin cfg0.N) (i : Fin 256) (j : Fin 1024) :
    (outsAt0 m c t.val t.isLt).1 (ix2 i j) = DXarr m c (ix2 (brow t i) j) := by
  rw [left5]
  refine (dxT_at _ _ _ _ _ _ _ _ i j).trans ?_
  rw [show (fun k => (iblk m c 0 t : Vec Ideal S256x1024 .f32) (ix2 i k)) = fun k => aDy m c (ix2 (brow t i) k) from funext fun k => blk0 m c t i k,
    show (fun k => (iblk m c 1 t : Vec Ideal S256x1024 .f32) (ix2 i k)) = fun k => aX m c (ix2 (brow t i) k) from funext fun k => blk1 m c t i k,
    show (fun k => (iblk m c 2 t : Vec Ideal S1x1024 .f32) (ix2 0 k)) = fun k => aGn m c (ix2 0 k) from funext fun k => blk2 m c t k,
    show dnB (iblk m c 0 t) (iblk m c 3 t) (iblk m c 4 t) (sWg m c) (sWu m c) (sWd m c) i = dnR m c (brow t i) from funext fun k => dn_blk m c t i k]
  rfl
theorem after6_at (c : Dev nD) (t : Fin cfg0.N) (i : Fin 256) (f : Fin 2816) :
    (outsAt0 m c t.val t.isLt).2.1 (ix2 i f) = DGarr m c (ix2 (brow t i) f) := by
  rw [left6]
  exact (dgT_at _ _ _ _ i f).trans (dg_blk m c t i f)
theorem after7_at (c : Dev nD) (t : Fin cfg0.N) (i : Fin 256) (f : Fin 2816) :
    (outsAt0 m c t.val t.isLt).2.2.1 (ix2 i f) = DUarr m c (ix2 (brow t i) f) := by
  rw [left7]
  exact (duT_at _ _ _ i f).trans (du_blk m c t i f)

theorem final5 (c : Dev nD) : (dats m 0 c).arrAt 5 cfg0.N = DXarr m c := by
  refine (dats m 0 c).arrAt_eq_of_covers 5 _ (by decide +kernel) fun t _ y => ?_
  blk_simp
  rw [after0_5]
  idx_vars y
  refine (after5_at m c t _ _).trans ?_
  blk_ext [idx t]
theorem final6 (c : Dev nD) : (dats m 0 c).arrAt 6 cfg0.N = DGarr m c := by
  refine (dats m 0 c).arrAt_eq_of_covers 6 _ (by decide +kernel) fun t _ y => ?_
  blk_simp
  rw [after0_6]
  idx_vars y
  refine (after6_at m c t _ _).trans ?_
  blk_ext [idx t]
theorem final7 (c : Dev nD) : (dats m 0 c).arrAt 7 cfg0.N = DUarr m c := by
  refine (dats m 0 c).arrAt_eq_of_covers 7 _ (by decide +kernel) fun t _ y => ?_
  blk_simp
  rw [after0_7]
  idx_vars y
  refine (after7_at m c t _ _).trans ?_
  blk_ext [idx t]

/-- After every run the three results are these arrays and the arguments are as they were. -/
theorem run_arrays (ρ : Dev nD → PrngReg) : θ_run defs (onTc (τ := τ) (main (F := Ideal))) ⟨m, fun _ => 0, ρ⟩ fun r => ∀ c : Dev nD,
      (r.2.mem ((c : Thread nD τ).loc main_v27_0) = DXarr m c ∧ r.2.mem ((c : Thread nD τ).loc main_v27_1) = DGarr m c
        ∧ r.2.mem ((c : Thread nD τ).loc main_v27_2) = DUarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run_main m ρ)
  obtain ⟨hw, hr⟩ := h c
  exact ⟨⟨(hw 5).trans (final5 m c), (hw 6).trans (final6 m c), (hw 7).trans (final7 m c)⟩,
    ((hw 0).trans ((dats m 0 c).arrAt_in 0 rfl _)).trans ((A_eq m c 0).trans (V_main_arg0 m c)), ((hw 1).trans ((dats m 0 c).arrAt_in 1 rfl _)).trans ((A_eq m c 1).trans (V_main_arg1 m c)), ((hw 2).trans ((dats m 0 c).arrAt_in 2 rfl _)).trans ((A_eq m c 2).trans (V_main_arg2 m c)),
    (hr main_arg3 (Pipeline.mem_restRefs_of main_arg3 (by decide) (by decide))).trans (V_main_arg3 m c),
    (hr main_arg4 (Pipeline.mem_restRefs_of main_arg4 (by decide) (by decide))).trans (V_main_arg4 m c),
    (hr main_arg5 (Pipeline.mem_restRefs_of main_arg5 (by decide) (by decide))).trans (V_main_arg5 m c)⟩

end Entries

end Cert.FfnBackwardIdeal.Value

end
-- ==== Proof.FfnGradEntry.lean ====
/- The reference's three gradients of the feed-forward layer, entry by entry: its composed terms cut into stages, each stage a row
   function of the stages before it. -/
module

public import proofs.«01_k».proof.Proof.Gen.FfnGradientIdeal.Run
public import proofs.«01_k».proof.Proof.FfnSpec
public import Idealize.ShloMosaic.Lib.Pointwise
public import Idealize.ShloMosaic.Lib.Pipeline.ValueKit

@[expose] public section

set_option maxRecDepth 16384

noncomputable section

namespace Cert.FfnGradientIdeal.Value

open Cert.FfnGradientIdeal Cert.FfnGradientIdeal.Gen Cert.Ffn Idealize.ShloMosaic Idealize.ShloMosaic.TcCoe Idealize.SL.Sem Idealize.ShloMosaic.StableHlo

/-! ## The stages -/

section Stages

variable {F : FTy → Type} [FloatOps F]

/-- The mean squares of the rows, kept away from zero. -/
def msqA (x : FVec F S8192x1024 .f32) : FVec F S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32))

/-- One pre-activation of every row. -/
def hidA (x : FVec F S8192x1024 .f32) (gn : FVec F S1x1024 .f32) (w : FVec F S1024x2816 .f32) : FVec F S8192x2816 .f32 :=
  Host.dotGeneral dot_S8192x1024_S1024x2816_S8192x2816_1_0_0_1_n_n none
    (mulf (mulf x (broadcastInDim S8192x1024 ![0, 1] bcast_S8192x1_S8192x1024_0_1 (Host.rsqrt (msqA x))))
      (broadcastInDim S8192x1024 ![0, 1] bcast_S1x1024_S8192x1024_0_1 gn)) w

/-- The logistic function of every pre-activation. -/
def sgA (g : FVec F S8192x2816 .f32) : FVec F S8192x2816 .f32 :=
  Host.divf (broadcastInDim S8192x2816 ![] bcast_S_S8192x2816 (constant S_ .f32 0x3F800000#32))
    (addf (broadcastInDim S8192x2816 ![] bcast_S_S8192x2816 (constant S_ .f32 0x3F800000#32)) (Host.exp (Host.negf g)))

/-- The gradient at every activation. -/
def daA (dy : FVec F S8192x1024 .f32) (wd : FVec F S2816x1024 .f32) : FVec F S8192x2816 .f32 :=
  Host.dotGeneral dot_S8192x1024_S2816x1024_S8192x2816_1_1_0_0_n_n none
    (mulf (broadcastInDim S8192x1024 ![] bcast_S_S8192x1024 (constant S_ .f32 0x3F000000#32)) (shapeCast _ dy shapeCasts_S8192x1024_S8192x1024)) wd

/-- The gradient at every second factor. -/
def duA (a g : FVec F S8192x2816 .f32) : FVec F S8192x2816 .f32 := mulf (mulf g (sgA g)) a

/-- The gradient at every gate's pre-activation. -/
def dgA (a g u : FVec F S8192x2816 .f32) : FVec F S8192x2816 .f32 :=
  addf (mulf (mulf a u) (sgA g))
    (mulf (mulf g (mulf a u)) (mulf (sgA g) (subf (broadcastInDim S8192x2816 ![] bcast_S_S8192x2816 (constant S_ .f32 0x3F800000#32)) (sgA g))))

/-- The gradient at every normalised entry, times the gain. -/
def dnA (dg du : FVec F S8192x2816 .f32) (wg wu : FVec F S1024x2816 .f32) (gn : FVec F S1x1024 .f32) : FVec F S8192x1024 .f32 :=
  mulf (addf (Host.dotGeneral dot_S8192x2816_S1024x2816_S8192x1024_1_1_0_0_n_n none du wu)
    (Host.dotGeneral dot_S8192x2816_S1024x2816_S8192x1024_1_1_0_0_n_n none dg wg))
    (broadcastInDim S8192x1024 ![0, 1] bcast_S1x1024_S8192x1024_0_1 gn)

/-- The mean square's share of the gradient at a row, per unit of the row's entry. -/
def dmA (x d : FVec F S8192x1024 .f32) : FVec F S8192 .f32 :=
  Host.reduceAdd (Host.divf (mulf (shapeCast _ (Host.reduceAdd (mulf x d) (constant S_ .f32 0x00000000#32) reducesTo_S8192x1024_S8192_d1 h_S_) shapeCasts_S8192_S8192x1)
      (mulf (broadcastInDim S8192x1 ![] bcast_S_S8192x1 (constant S_ .f32 0xBF000000#32)) (Host.divf (Host.rsqrt (msqA x)) (msqA x))))
      (broadcastInDim S8192x1 ![] bcast_S_S8192x1 (constant S_ .f32 0x44800000#32))) (constant S_ .f32 0x00000000#32) reducesTo_S8192x1_S8192_d1 h_S_

/-- The gradient at every row. -/
def dxA (dy x d : FVec F S8192x1024 .f32) : FVec F S8192x1024 .f32 :=
  addf dy (addf (addf (mulf d (broadcastInDim S8192x1024 ![0, 1] bcast_S8192x1_S8192x1024_0_1 (Host.rsqrt (msqA x))))
    (mulf x (broadcastInDim S8192x1024 ![0] bcast_S8192_S8192x1024_0 (dmA x d))))
    (mulf (broadcastInDim S8192x1024 ![0] bcast_S8192_S8192x1024_0 (dmA x d)) x))

variable (m : (ℓ : Loc nD τ sig) → Buf (Elt F) ℓ)

/-- The six arguments. -/
abbrev aDy (c : Dev nD) : FVec F S8192x1024 .f32 := m ((c : Thread nD τ).loc main_arg0)
abbrev aX (c : Dev nD) : FVec F S8192x1024 .f32 := m ((c : Thread nD τ).loc main_arg1)
abbrev aGn (c : Dev nD) : FVec F S1x1024 .f32 := m ((c : Thread nD τ).loc main_arg2)
abbrev aWg (c : Dev nD) : FVec F S1024x2816 .f32 := m ((c : Thread nD τ).loc main_arg3)
abbrev aWu (c : Dev nD) : FVec F S1024x2816 .f32 := m ((c : Thread nD τ).loc main_arg4)
abbrev aWd (c : Dev nD) : FVec F S2816x1024 .f32 := m ((c : Thread nD τ).loc main_arg5)

abbrev gateA (c : Dev nD) : FVec F S8192x2816 .f32 := hidA (aX m c) (aGn m c) (aWg m c)
abbrev upA (c : Dev nD) : FVec F S8192x2816 .f32 := hidA (aX m c) (aGn m c) (aWu m c)
abbrev DuA (c : Dev nD) : FVec F S8192x2816 .f32 := duA (daA (aDy m c) (aWd m c)) (gateA m c)
abbrev DgA (c : Dev nD) : FVec F S8192x2816 .f32 := dgA (daA (aDy m c) (aWd m c)) (gateA m c) (upA m c)
abbrev DxA (c : Dev nD) : FVec F S8192x1024 .f32 := dxA (aDy m c) (aX m c) (dnA (DgA m c) (DuA m c) (aWg m c) (aWu m c) (aGn m c))

theorem out0_stages (c : Dev nD) : res_main_v49 m c = DxA m c := by
  unfold res_main_v49 DxA dxA dmA dnA DuA DgA dgA duA daA gateA upA sgA hidA msqA
  rfl

theorem out1_stages (c : Dev nD) : res_main_v50 m c = truncf .bf16 (DgA m c) bitsLt_bf16_f32 := by
  unfold res_main_v50 DgA dgA daA gateA upA sgA hidA msqA
  rfl

/-- After every run the three results are the stages' arrays and the arguments are as they were. -/
theorem run_stages (ρ : Dev nD → PrngReg) : θ_run defs (onTc (τ := τ) (main (F := F))) ⟨m, fun _ => 0, ρ⟩ fun r => ∀ c : Dev nD,
      (r.2.mem ((c : Thread nD τ).loc main_v49) = DxA m c ∧ r.2.mem ((c : Thread nD τ).loc main_v50) = truncf .bf16 (DgA m c) bitsLt_bf16_f32
        ∧ r.2.mem ((c : Thread nD τ).loc main_v51) = truncf .bf16 (DuA m c) bitsLt_bf16_f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ?_) (run m ρ)
  obtain ⟨h0, h1, h2, h3⟩ := h c
  refine ⟨⟨h0.trans (out0_stages m c), h1.trans (out1_stages m c), h2.trans ?_⟩, h3⟩
  unfold DuA duA daA gateA sgA hidA msqA
  rfl

end Stages

/-! ## Entry by entry -/

theorem msqA_at (x : FVec Ideal S8192x1024 .f32) (r : Fin 8192) (z : Fin 1) : msqA x (ix2 r z) = msq (fun k => x (ix2 r k)) := by
  obtain rfl : z = 0 := Subsingleton.elim _ _
  unfold msqA
  pointwise
  rfl

theorem inv_at (x : FVec Ideal S8192x1024 .f32) (r : Fin 8192) (z : Fin 1) : Ideal.rsqrt (msqA x (ix2 r z)) = inv (fun k => x (ix2 r k)) :=
  congrArg Ideal.rsqrt (msqA_at x r z)

theorem hidA_at (x : FVec Ideal S8192x1024 .f32) (gn : FVec Ideal S1x1024 .f32) (w : FVec Ideal S1024x2816 .f32) (r : Fin 8192) (f : Fin 2816) :
    hidA x gn w (ix2 r f) = hid (fun k => x (ix2 r k)) (fun k => gn (ix2 0 k)) (fun k => w (ix2 k f)) := by
  unfold hidA
  pointwise
  simp only [inv_at]
  rfl

theorem sgA_at (g : FVec Ideal S8192x2816 .f32) (r : Fin 8192) (f : Fin 2816) : sgA g (ix2 r f) = sg (g (ix2 r f)) := by
  unfold sgA
  pointwise
  unfold sg
  rw [zero_sub]

theorem daA_at (dy : FVec Ideal S8192x1024 .f32) (wd : FVec Ideal S2816x1024 .f32) (r : Fin 8192) (f : Fin 2816) :
    daA dy wd (ix2 r f) = da (fun k => dy (ix2 r k)) (fun k => wd (ix2 f k)) := by
  unfold daA
  pointwise
  rfl

theorem duA_at (a g : FVec Ideal S8192x2816 .f32) (r : Fin 8192) (f : Fin 2816) : duA a g (ix2 r f) = dU (a (ix2 r f)) (g (ix2 r f)) := by
  unfold duA
  pointwise
  rw [sgA_at]
  exact dU_comm _ _

theorem dgA_at (a g u : FVec Ideal S8192x2816 .f32) (r : Fin 8192) (f : Fin 2816) : dgA a g u (ix2 r f) = dG' (a (ix2 r f)) (g (ix2 r f)) (u (ix2 r f)) := by
  unfold dgA
  pointwise
  rw [sgA_at]
  rfl

theorem dnA_at (dg du : FVec Ideal S8192x2816 .f32) (wg wu : FVec Ideal S1024x2816 .f32) (gn : FVec Ideal S1x1024 .f32) (r : Fin 8192) (k : Fin 1024) :
    dnA dg du wg wu gn (ix2 r k)
      = dn (fun f => dg (ix2 r f)) (fun f => du (ix2 r f)) (fun f => wg (ix2 k f)) (fun f => wu (ix2 k f)) * gn (ix2 0 k) := by
  unfold dnA
  pointwise
  exact congrArg (fun a : EReal => a * gn (ix2 0 k)) (add_comm (_ : EReal) (_ : EReal))

theorem dxA_at (dy x d : FVec Ideal S8192x1024 .f32) (gn : FVec Ideal S1x1024 .f32) (e : Fin 8192 → Fin 1024 → EReal)
    (hd : ∀ (r : Fin 8192) (k : Fin 1024), d (ix2 r k) = e r k * gn (ix2 0 k)) (r : Fin 8192) (j : Fin 1024) :
    dxA dy x d (ix2 r j) = dX' (fun k => dy (ix2 r k)) (fun k => x (ix2 r k)) (fun k => gn (ix2 0 k)) (e r) j := by
  unfold dxA dmA
  pointwise
  simp only [inv_at, msqA_at, hd, Fin.sum_univ_one]
  rfl

end Cert.FfnGradientIdeal.Value

end
-- ==== Proof.FfnBackValue.lean ====
/- Where the arguments are finite, the backward kernel's three arrays are the reference's three gradients. -/
module

public import proofs.«01_k».proof.Defs
public import proofs.«01_k».proof.Proof.FfnBackBlocks
public import proofs.«01_k».proof.Proof.FfnGradEntry

@[expose] public section

set_option maxRecDepth 16384

noncomputable section

namespace Cert.FfnBackwardIdeal.Value

open Cert.FfnBackwardIdeal Cert.FfnBackwardIdeal.Gen Cert.Ffn Idealize.ShloMosaic Idealize.ShloMosaic.TcCoe Idealize.SL.Sem

/-- A magnitude below infinity is a real number's. -/
theorem real_of_lt (a : EReal) (h : Ideal.cmp .olt (max a (-a)) (Ideal.ofBits .f32 0x7F800000#32) = 1#1) : IsReal a := by
  have e : Ideal.ofBits .f32 0x7F800000#32 = ⊤ := by simp [Ideal.ofBits, Ideal.ieee]
  rw [e] at h
  induction a using EReal.rec with
  | bot => simp [Ideal.cmp] at h
  | top => simp [Ideal.cmp] at h
  | coe r => exact ⟨r, rfl⟩

theorem facts_finite : Cert.Pre_finite.Facts := by
  refine ⟨?_, ?_, ?_, ?_⟩ <;> decide

variable [hPre : Cert.Pre_finite.Facts] (m : (ℓ : Loc nD τ sig) → Buf (Elt Ideal) ℓ)

theorem fin_args (h : Cert.Pre_FfnBackwardIdeal_finite m) (c : Dev nD) :
    (∀ r k, IsReal (aDy m c (ix2 r k))) ∧ (∀ r k, IsReal (aX m c (ix2 r k))) ∧ (∀ k, IsReal (aGn m c (ix2 0 k)))
      ∧ (∀ k f, IsReal (aWg m c (ix2 k f))) ∧ (∀ k f, IsReal (aWu m c (ix2 k f))) ∧ (∀ f k, IsReal (aWd m c (ix2 f k))) := by
  obtain ⟨h0, h1, h2, h3, h4, h5⟩ := h c
  exact ⟨fun r k => real_of_lt _ (congrFun h0 (ix2 r k)), fun r k => real_of_lt _ (congrFun h1 (ix2 r k)), fun k => real_of_lt _ (congrFun h2 (ix2 0 k)),
    fun k f => real_of_lt _ (congrFun h3 (ix2 k f)), fun k f => real_of_lt _ (congrFun h4 (ix2 k f)), fun f k => real_of_lt _ (congrFun h5 (ix2 f k))⟩

/-- The gradient at the gate, as the reference writes it. -/
theorem dgR_eq (h : Cert.Pre_FfnBackwardIdeal_finite m) (c : Dev nD) (r : Fin 8192) (f : Fin 2816) :
    dgR m c r f = dG' (daR m c r f) (gateR m c r f) (upR m c r f) := by
  obtain ⟨h0, h1, h2, h3, h4, h5⟩ := fin_args m h c
  exact dG_eq (fin_da (h0 r) (h5 f)) (fin_hid (h1 r) h2 fun k => h3 k f) (fin_hid (h1 r) h2 fun k => h4 k f)

theorem dxR_eq (h : Cert.Pre_FfnBackwardIdeal_finite m) (c : Dev nD) (r : Fin 8192) (j : Fin 1024) :
    dxR m c r j = dX' (fun k => aDy m c (ix2 r k)) (fun k => aX m c (ix2 r k)) (fun k => aGn m c (ix2 0 k)) (dnR m c r) j := by
  obtain ⟨h0, h1, h2, h3, h4, h5⟩ := fin_args m h c
  refine dX_eq (h0 r) (h1 r) h2 (fun k => fin_dn (fun f => ?_) (fun f => ?_) (fun f => h3 k f) (fun f => h4 k f)) j
  · rw [dgR_eq m h c r f]
    exact fin_dG' (fin_da (h0 r) (h5 f)) (fin_hid (h1 r) h2 fun k => h3 k f) (fin_hid (h1 r) h2 fun k => h4 k f)
  · exact fin_dU (fin_da (h0 r) (h5 f)) (fin_hid (h1 r) h2 fun k => h3 k f)

section Reference

open Cert.FfnGradientIdeal.Value (hidA daA duA dgA dnA dxA)

/-- The reference's stages of the kernel's arguments, at an entry. -/
theorem ref_du (c : Dev nD) (r : Fin 8192) (f : Fin 2816) :
    duA (daA (aDy m c) (aWd m c)) (hidA (aX m c) (aGn m c) (aWg m c)) (ix2 r f) = duR m c r f := by
  rw [Cert.FfnGradientIdeal.Value.duA_at, Cert.FfnGradientIdeal.Value.daA_at, Cert.FfnGradientIdeal.Value.hidA_at]

theorem ref_dg (h : Cert.Pre_FfnBackwardIdeal_finite m) (c : Dev nD) (r : Fin 8192) (f : Fin 2816) :
    dgA (daA (aDy m c) (aWd m c)) (hidA (aX m c) (aGn m c) (aWg m c)) (hidA (aX m c) (aGn m c) (aWu m c)) (ix2 r f) = dgR m c r f := by
  rw [Cert.FfnGradientIdeal.Value.dgA_at, Cert.FfnGradientIdeal.Value.daA_at, Cert.FfnGradientIdeal.Value.hidA_at, Cert.FfnGradientIdeal.Value.hidA_at]
  exact (dgR_eq m h c r f).symm

theorem ref_dx (h : Cert.Pre_FfnBackwardIdeal_finite m) (c : Dev nD) (r : Fin 8192) (j : Fin 1024) :
    dxA (aDy m c) (aX m c) (dnA (dgA (daA (aDy m c) (aWd m c)) (hidA (aX m c) (aGn m c) (aWg m c)) (hidA (aX m c) (aGn m c) (aWu m c)))
      (duA (daA (aDy m c) (aWd m c)) (hidA (aX m c) (aGn m c) (aWg m c))) (aWg m c) (aWu m c) (aGn m c)) (ix2 r j) = dxR m c r j := by
  refine (Cert.FfnGradientIdeal.Value.dxA_at _ _ _ (aGn m c) (dnR m c) (fun r k => ?_) r j).trans (dxR_eq m h c r j).symm
  refine (Cert.FfnGradientIdeal.Value.dnA_at _ _ _ _ _ r k).trans ?_
  simp only [ref_dg m h c, ref_du m c]

end Reference

end Cert.FfnBackwardIdeal.Value

namespace Cert.Proof

open Cert.FfnBackwardIdeal.Value Idealize.ShloMosaic Idealize.SL.Sem
open Cert.FfnBackwardIdeal (nD)

/-- The backward kernel's value claim. -/
theorem value_backward [hPre : Cert.Pre_finite.Facts] : Cert.algebraic_FfnBackwardIdeal_FfnGradientIdeal_pre_finite := by
  intro m g m' g' hfin hargs
  refine ⟨fun c => DXarr m c, fun c => DGarr m c, fun c => DUarr m c, ?_, ?_⟩
  · refine (θ_run Cert.FfnBackwardIdeal.defs _ _).mono (fun r h c => ?_) (run_arrays m g)
    obtain ⟨⟨h0, h1, h2⟩, h3⟩ := h c
    exact ⟨h0, h1, h2, h3⟩
  · refine (θ_run Cert.FfnGradientIdeal.defs _ _).mono (fun r h c => ?_) (Cert.FfnGradientIdeal.Value.run_stages m' g')
    obtain ⟨⟨h0, h1, h2⟩, h3⟩ := h c
    obtain ⟨e0, e1, e2, e3, e4, e5⟩ := hargs c
    have k0 : Cert.FfnGradientIdeal.Value.aDy m' c = aDy m c := e0
    have k1 : Cert.FfnGradientIdeal.Value.aX m' c = aX m c := e1
    have k2 : Cert.FfnGradientIdeal.Value.aGn m' c = aGn m c := e2
    have k3 : Cert.FfnGradientIdeal.Value.aWg m' c = aWg m c := e3
    have k4 : Cert.FfnGradientIdeal.Value.aWu m' c = aWu m c := e4
    have k5 : Cert.FfnGradientIdeal.Value.aWd m' c = aWd m c := e5
    simp only [Cert.FfnGradientIdeal.Value.DxA, Cert.FfnGradientIdeal.Value.DgA, Cert.FfnGradientIdeal.Value.DuA,
      Cert.FfnGradientIdeal.Value.gateA, Cert.FfnGradientIdeal.Value.upA, k0, k1, k2, k3, k4, k5] at h0 h1 h2
    refine ⟨h0.trans ?_, h1.trans ?_, h2.trans ?_, h3⟩
    · funext y
      idx_vars y
      exact ref_dx m hfin c y0 y1
    · funext y
      idx_vars y
      exact ref_dg m hfin c y0 y1
    · funext y
      idx_vars y
      exact ref_du m c y0 y1

end Cert.Proof

end
-- ==== Proof.FfnSums.lean ====
/- A sum over the rows taken block by block: the blocks' sums, added in order, are the sum over all rows. -/
module

public import proofs.«01_k».proof.Proof.FfnSpec

@[expose] public section

noncomputable section

namespace Cert.Ffn

/-- A row of the arrays, from its block's number and its place in the block. -/
abbrev row4 (n : ℕ) (k : Fin 2048) : Fin 8192 := ⟨n % 4 * 2048 + k.val, by have := k.isLt; omega⟩
abbrev row8 (n : ℕ) (k : Fin 1024) : Fin 8192 := ⟨n % 8 * 1024 + k.val, by have := k.isLt; omega⟩
/-- A hidden column, from its half's number and its place in the half. -/
abbrev col2 (n : ℕ) (j : Fin 1408) : Fin 2816 := ⟨n % 2 * 1408 + j.val, by have := j.isLt; omega⟩

theorem sum_pairs (a b : ℕ) (p : Fin (a * b) → EReal) :
    ∑ s : Fin a, ∑ k : Fin b, p (finProdFinEquiv (s, k)) = ∑ r, p r :=
  (Fintype.sum_prod_type' fun s k => p (finProdFinEquiv (s, k))).symm.trans (Equiv.sum_comp finProdFinEquiv p)

theorem sum_row4 (q : ℕ) (p : Fin 8192 → EReal) : ∑ s ∈ Finset.range 4, ∑ k : Fin 2048, p (row4 (4 * q + s) k) = ∑ r, p r := by
  rw [Finset.sum_range]
  refine Eq.trans (Finset.sum_congr rfl fun s _ => Finset.sum_congr rfl fun k _ => congrArg p ?_) (sum_pairs 4 2048 p)
  refine Fin.ext ?_
  show (4 * q + s.val) % 4 * 2048 + k.val = k.val + 2048 * s.val
  have := s.isLt
  omega

theorem sum_row8 (q : ℕ) (p : Fin 8192 → EReal) : ∑ s ∈ Finset.range 8, ∑ k : Fin 1024, p (row8 (8 * q + s) k) = ∑ r, p r := by
  rw [Finset.sum_range]
  refine Eq.trans (Finset.sum_congr rfl fun s _ => Finset.sum_congr rfl fun k _ => congrArg p ?_) (sum_pairs 8 1024 p)
  refine Fin.ext ?_
  show (8 * q + s.val) % 8 * 1024 + k.val = k.val + 1024 * s.val
  have := s.isLt
  omega

end Cert.Ffn

end
-- ==== Proof.FfnWeightsValue.lean ====
/- The gate's and the up projection's weight gradients: the kernel adds each up over eight blocks of rows, the reference takes each in one product. -/
module

public import proofs.«01_k».proof.Defs
public import proofs.«01_k».proof.Proof.Gen.FfnWeightsIdeal.Value
public import proofs.«01_k».proof.Proof.Gen.FfnWeightsGradientIdeal.Run
public import proofs.«01_k».proof.Proof.FfnSums
public import Idealize.ShloMosaic.Lib.StableHlo.RunRead
public import Idealize.ShloMosaic.Lib.Pointwise
public import Idealize.ShloMosaic.Lib.Pipeline.ValueKit

@[expose] public section

set_option maxRecDepth 16384

noncomputable section

namespace Cert.FfnWeightsIdeal.Value

open Cert.FfnWeightsIdeal Cert.FfnWeightsIdeal.Gen Cert.Ffn Idealize.ShloMosaic Idealize.ShloMosaic.TcCoe Idealize.SL.Sem
open Idealize.ShloMosaic.StableHlo

variable (m : (ℓ : Loc nD τ sig) → Buf (Elt Ideal) ℓ)

/-- The arguments the gradients depend on. -/
abbrev aX (c : Dev nD) : FVec Ideal S8192x1024 .f32 := m ((c : Thread nD τ).loc main_arg0)
abbrev aGn (c : Dev nD) : FVec Ideal S1x1024 .f32 := m ((c : Thread nD τ).loc main_arg1)
abbrev aDg (c : Dev nD) : FVec Ideal S8192x2816 .bf16 := m ((c : Thread nD τ).loc main_arg4)
abbrev aDu (c : Dev nD) : FVec Ideal S8192x2816 .bf16 := m ((c : Thread nD τ).loc main_arg5)

/-- The normalised entry of a row. -/
abbrev xnR (c : Dev nD) (r : Fin 8192) (j : Fin 1024) : EReal := xnRow (fun k => aX m c (ix2 r k)) (fun k => aGn m c (ix2 0 k)) j

theorem V_xn (c : Dev nD) (r : Fin 8192) (j : Fin 1024) : (V m c main_v12 : FVec Ideal S8192x1024 .bf16) (ix2 r j) = xnR m c r j := by
  unfold V
  after_reads_simp
  pointwise
  rfl

theorem idx : ∀ t : Fin cfg0.N, win0_0.index t = ![t.val % 8, 0] ∧ win0_1.index t = ![t.val % 8, t.val / 8 % 2] ∧ win0_2.index t = ![t.val % 8, t.val / 8 % 2] :=
  (by decide +kernel : ∀ t : Fin grid0.N, _)

theorem blk0 (c : Dev nD) (t : Fin cfg0.N) (k j : Fin 1024) :
    (iblk m c 0 t : Vec Ideal S1024x1024 .bf16) (ix2 k j) = (V m c main_v12 : FVec Ideal S8192x1024 .bf16) (ix2 (row8 t.val k) j) := by
  blk_ext [iblk, idx t]
theorem blk1 (c : Dev nD) (t : Fin cfg0.N) (k : Fin 1024) (f : Fin 1408) :
    (iblk m c 1 t : Vec Ideal S1024x1408 .bf16) (ix2 k f) = aDg m c (ix2 (row8 t.val k) (col2 (t.val / 8) f)) := by
  blk_ext [iblk, V, idx t]
theorem blk2 (c : Dev nD) (t : Fin cfg0.N) (k : Fin 1024) (f : Fin 1408) :
    (iblk m c 2 t : Vec Ideal S1024x1408 .bf16) (ix2 k f) = aDu m c (ix2 (row8 t.val k) (col2 (t.val / 8) f)) := by
  blk_ext [iblk, V, idx t]

/-- What a grid point adds, from the hidden side's gradient. -/
def addend (d : FVec Ideal S8192x2816 .bf16) (c : Dev nD) (n : ℕ) (i : S1408x1024.Idx) : EReal :=
  ∑ k : Fin 1024, d (ix2 (row8 n k) (col2 (n / 8) (i 0))) * xnR m c (row8 n k) (i 1)

theorem step3_at (c : Dev nD) (n : ℕ) (h : n < cfg0.N) (acc : Vec Ideal S1408x1024 .f32) (i : S1408x1024.Idx) :
    step3 m c n h acc i = (acc i : EReal) + addend m (aDg m c) c n i := by
  idx_vars i
  unfold step3
  pointwise [k0_pay4, k0_pay3]
  refine congrArg (fun b : EReal => acc (ix2 i0 i1) + b) ?_
  refine Finset.sum_congr (M := EReal) rfl fun k _ => ?_
  rw [blk0, blk1, V_xn]
  rfl

theorem step4_at (c : Dev nD) (n : ℕ) (h : n < cfg0.N) (acc : Vec Ideal S1408x1024 .f32) (i : S1408x1024.Idx) :
    step4 m c n h acc i = (acc i : EReal) + addend m (aDu m c) c n i := by
  idx_vars i
  unfold step4
  pointwise [k0_pay5, k0_pay3]
  refine congrArg (fun b : EReal => acc (ix2 i0 i1) + b) ?_
  refine Finset.sum_congr (M := EReal) rfl fun k _ => ?_
  rw [blk0, blk2, V_xn]
  rfl

theorem reset3_at (c : Dev nD) (n : ℕ) (h : n < cfg0.N) (i : S1408x1024.Idx) :
    reset3 m c n h i = (0 : EReal) + addend m (aDg m c) c n i := by
  refine (step3_at m c n h (k0_pay1 (F := Ideal)) i).trans (congrArg (fun a : EReal => a + addend m (aDg m c) c n i) ?_)
  pointwise [k0_pay1]

theorem reset4_at (c : Dev nD) (n : ℕ) (h : n < cfg0.N) (i : S1408x1024.Idx) :
    reset4 m c n h i = (0 : EReal) + addend m (aDu m c) c n i := by
  refine (step4_at m c n h (k0_pay2 (F := Ideal)) i).trans (congrArg (fun a : EReal => a + addend m (aDu m c) c n i) ?_)
  pointwise [k0_pay2]

/-- A weight gradient at an entry. -/
def dwR (d : FVec Ideal S8192x2816 .bf16) (c : Dev nD) (f : Fin 2816) (j : Fin 1024) : EReal := ∑ r : Fin 8192, d (ix2 r f) * xnR m c r j

/-- The eight points' addends add up to the gradient. -/
theorem addends (d : FVec Ideal S8192x2816 .bf16) (c : Dev nD) (f : Fin 2816) (j : Fin 1024) (i : S1408x1024.Idx)
    (h0 : (i 0).val = f.val % 1408) (h1 : i 1 = j) :
    ((0 : EReal) + ∑ s ∈ Finset.range (7 + 1), addend m d c (8 * (f.val / 1408) + s) i) = dwR m d c f j := by
  have hf := f.isLt
  refine (zero_add (_ : EReal)).trans ?_
  refine Eq.trans ?_ (sum_row8 (f.val / 1408) fun r => d (ix2 r f) * xnR m c r j)
  refine Finset.sum_congr rfl fun s hs => ?_
  have hs' := Finset.mem_range.mp hs
  unfold addend
  have hc : col2 ((8 * (f.val / 1408) + s) / 8) (i 0) = f := Fin.ext (by
    show (8 * (f.val / 1408) + s) / 8 % 2 * 1408 + (i 0).val = f.val
    rw [h0]
    omega)
  rw [hc, h1]

theorem G3_at (c : Dev nD) (f : Fin 2816) (j : Fin 1024) : (G3 m c : FVec Ideal S2816x1024 .f32) (ix2 f j) = dwR m (aDg m c) c f j := by
  have hN : cfg0.N = 16 := N_0
  have hf := f.isLt
  have hj := j.isLt
  have hr : run3Of (ix2 f j) = f.val / 1408 := by
    show 1 * (f.val / 1408 - 0) + 1 * (j.val / 1024 - 0) = _
    omega
  unfold G3
  rw [dif_pos (by rw [hr]; omega)]
  refine (Pipeline.accAt_add_apply (reset3 m c) (step3 m c) (fun _ => (0 : EReal)) (addend m (aDg m c) c) (8 * run3Of (ix2 f j)) 7
    (fun h i => reset3_at m c _ h i) (fun n h acc i _ _ => step3_at m c n h acc i) 7 le_rfl _ _).trans ?_
  rw [hr]
  exact addends m (aDg m c) c f j (loc3Of (ix2 f j)) rfl (Fin.ext (by show j.val % 1024 = j.val; omega))

theorem G4_at (c : Dev nD) (f : Fin 2816) (j : Fin 1024) : (G4 m c : FVec Ideal S2816x1024 .f32) (ix2 f j) = dwR m (aDu m c) c f j := by
  have hN : cfg0.N = 16 := N_0
  have hf := f.isLt
  have hj := j.isLt
  have hr : run4Of (ix2 f j) = f.val / 1408 := by
    show 1 * (f.val / 1408 - 0) + 1 * (j.val / 1024 - 0) = _
    omega
  unfold G4
  rw [dif_pos (by rw [hr]; omega)]
  refine (Pipeline.accAt_add_apply (reset4 m c) (step4 m c) (fun _ => (0 : EReal)) (addend m (aDu m c) c) (8 * run4Of (ix2 f j)) 7
    (fun h i => reset4_at m c _ h i) (fun n h acc i _ _ => step4_at m c n h acc i) 7 le_rfl _ _).trans ?_
  rw [hr]
  exact addends m (aDu m c) c f j (loc4Of (ix2 f j)) rfl (Fin.ext (by show j.val % 1024 = j.val; omega))

end Cert.FfnWeightsIdeal.Value

namespace Cert.Proof

open Idealize.ShloMosaic Idealize.ShloMosaic.TcCoe Idealize.SL.Sem Cert.Ffn

/-- The two weight gradients' value claim. -/
theorem value_weights : Cert.algebraic_FfnWeightsIdeal_FfnWeightsGradientIdeal := by
  intro m g m' g' _ hargs
  refine ⟨fun c => Cert.FfnWeightsIdeal.Value.G3 m c, fun c => Cert.FfnWeightsIdeal.Value.G4 m c, Cert.FfnWeightsIdeal.Value.run m g, ?_⟩
  refine (θ_run Cert.FfnWeightsGradientIdeal.defs _ _).mono (fun r h c => ?_) (Cert.FfnWeightsGradientIdeal.Value.run m' g')
  obtain ⟨h0, h1, h3⟩ := h c
  obtain ⟨e0, e1, e2, e3, e4, e5⟩ := hargs c
  refine ⟨h0.trans ?_, h1.trans ?_, h3⟩
  · rw [e0, e1, e4]
    funext y
    idx_vars y
    refine Eq.trans ?_ (Cert.FfnWeightsIdeal.Value.G3_at m c y0 y1).symm
    pointwise
    rfl
  · rw [e0, e1, e5]
    funext y
    idx_vars y
    refine Eq.trans ?_ (Cert.FfnWeightsIdeal.Value.G4_at m c y0 y1).symm
    pointwise
    rfl

end Cert.Proof

end
-- ==== Proof.FfnDownValue.lean ====
/- The down projection's weight gradient: the kernel adds it up over four blocks of rows, the reference takes it in one product. -/
module

public import proofs.«01_k».proof.Defs
public import proofs.«01_k».proof.Proof.Gen.FfnDownIdeal.Value
public import proofs.«01_k».proof.Proof.Gen.FfnDownGradientIdeal.Run
public import proofs.«01_k».proof.Proof.FfnSums
public import Idealize.ShloMosaic.Lib.StableHlo.RunRead
public import Idealize.ShloMosaic.Lib.Pointwise
public import Idealize.ShloMosaic.Lib.Pipeline.ValueKit

@[expose] public section

set_option maxRecDepth 16384

noncomputable section

namespace Cert.FfnDownIdeal.Value

open Cert.FfnDownIdeal Cert.FfnDownIdeal.Gen Cert.Ffn Idealize.ShloMosaic Idealize.ShloMosaic.TcCoe Idealize.SL.Sem
open Idealize.ShloMosaic.StableHlo

variable (m : (ℓ : Loc nD τ sig) → Buf (Elt Ideal) ℓ)

/-- The arguments the gradient depends on. -/
abbrev aDy (c : Dev nD) : FVec Ideal S8192x1024 .f32 := m ((c : Thread nD τ).loc main_arg0)
abbrev aG (c : Dev nD) : FVec Ideal S8192x2816 .f32 := m ((c : Thread nD τ).loc main_arg2)
abbrev aU (c : Dev nD) : FVec Ideal S8192x2816 .f32 := m ((c : Thread nD τ).loc main_arg3)

/-- The activation at a hidden column of a row. -/
abbrev actR (c : Dev nD) (r : Fin 8192) (f : Fin 2816) : EReal := aG m c (ix2 r f) * sg (aG m c (ix2 r f)) * aU m c (ix2 r f)

theorem V_act (c : Dev nD) (r : Fin 8192) (f : Fin 2816) : (V m c main_v2 : FVec Ideal S8192x2816 .bf16) (ix2 r f) = actR m c r f := by
  unfold V
  after_reads_simp
  simp only [TRef.toBuf, TRef.ofBuf, cast_eq]
  pointwise
  unfold actR sg
  rw [zero_sub]

theorem idx : ∀ t : Fin cfg0.N, win0_0.index t = ![t.val % 4, 0] ∧ win0_1.index t = ![t.val % 4, t.val / 4 % 2] :=
  (by decide +kernel : ∀ t : Fin grid0.N, _)

theorem blk0 (c : Dev nD) (t : Fin cfg0.N) (k : Fin 2048) (j : Fin 1024) :
    (iblk m c 0 t : Vec Ideal S2048x1024 .f32) (ix2 k j) = aDy m c (ix2 (row4 t.val k) j) := by
  blk_ext [iblk, V, idx t]
theorem blk1 (c : Dev nD) (t : Fin cfg0.N) (k : Fin 2048) (f : Fin 1408) :
    (iblk m c 1 t : Vec Ideal S2048x1408 .bf16) (ix2 k f) = (V m c main_v2 : FVec Ideal S8192x2816 .bf16) (ix2 (row4 t.val k) (col2 (t.val / 4) f)) := by
  blk_ext [iblk, idx t]

/-- What a grid point adds. -/
def addend (c : Dev nD) (n : ℕ) (i : S1408x1024.Idx) : EReal :=
  ∑ k : Fin 2048, actR m c (row4 n k) (col2 (n / 4) (i 0)) * (half * aDy m c (ix2 (row4 n k) (i 1)))

theorem step_at (c : Dev nD) (n : ℕ) (h : n < cfg0.N) (acc : Vec Ideal S1408x1024 .f32) (i : S1408x1024.Idx) :
    step2 m c n h acc i = (acc i : EReal) + addend m c n i := by
  idx_vars i
  unfold step2
  pointwise [k0_pay2]
  refine congrArg (fun b : EReal => acc (ix2 i0 i1) + b) ?_
  refine Finset.sum_congr (M := EReal) rfl fun k _ => ?_
  rw [blk0, blk1, V_act]
  rfl

theorem reset_at (c : Dev nD) (n : ℕ) (h : n < cfg0.N) (i : S1408x1024.Idx) :
    reset2 m c n h i = (0 : EReal) + addend m c n i := by
  refine (step_at m c n h (k0_pay1 (F := Ideal)) i).trans (congrArg (fun a : EReal => a + addend m c n i) ?_)
  pointwise [k0_pay1]

/-- The gradient at an entry. -/
def dwR (c : Dev nD) (f : Fin 2816) (j : Fin 1024) : EReal := ∑ r : Fin 8192, actR m c r f * (half * aDy m c (ix2 r j))

theorem G2_at (c : Dev nD) (f : Fin 2816) (j : Fin 1024) : (G2 m c : FVec Ideal S2816x1024 .f32) (ix2 f j) = dwR m c f j := by
  have hN : cfg0.N = 8 := N_0
  have hf := f.isLt
  have hj := j.isLt
  have hr : run2Of (ix2 f j) = f.val / 1408 := by
    show 1 * (f.val / 1408 - 0) + 1 * (j.val / 1024 - 0) = _
    omega
  unfold G2
  rw [dif_pos (by rw [hr]; omega)]
  refine (Pipeline.accAt_add_apply (reset2 m c) (step2 m c) (fun _ => (0 : EReal)) (addend m c) (4 * run2Of (ix2 f j)) 3
    (fun h i => reset_at m c _ h i) (fun n h acc i _ _ => step_at m c n h acc i) 3 le_rfl _ _).trans ?_
  rw [hr]
  refine (zero_add (_ : EReal)).trans ?_
  refine Eq.trans ?_ (sum_row4 (f.val / 1408) fun r => actR m c r f * (half * aDy m c (ix2 r j)))
  refine Finset.sum_congr rfl fun s hs => ?_
  have hs' := Finset.mem_range.mp hs
  unfold addend
  have hc : col2 ((4 * (f.val / 1408) + s) / 4) ((loc2Of (ix2 f j)) 0) = f := Fin.ext (by
    show (4 * (f.val / 1408) + s) / 4 % 2 * 1408 + f.val % 1408 = f.val
    omega)
  have hd : (loc2Of (ix2 f j)) 1 = j := Fin.ext (by show j.val % 1024 = j.val; omega)
  rw [hc, hd]

end Cert.FfnDownIdeal.Value

namespace Cert.Proof

open Idealize.ShloMosaic Idealize.ShloMosaic.TcCoe Idealize.SL.Sem Cert.Ffn
open Cert.FfnDownIdeal.Value

/-- The down projection's value claim. -/
theorem value_down : Cert.algebraic_FfnDownIdeal_FfnDownGradientIdeal := by
  intro m g m' g' _ hargs
  refine ⟨fun c => Cert.FfnDownIdeal.Value.G2 m c, Cert.FfnDownIdeal.Value.run m g, ?_⟩
  refine (θ_run Cert.FfnDownGradientIdeal.defs _ _).mono (fun r h c => ?_) (Cert.FfnDownGradientIdeal.Value.run m' g')
  obtain ⟨h0, h3⟩ := h c
  obtain ⟨e0, e1, e2, e3, e4⟩ := hargs c
  refine ⟨h0.trans ?_, h3⟩
  rw [e0, e2, e3]
  funext y
  idx_vars y
  refine Eq.trans ?_ (G2_at m c y0 y1).symm
  pointwise
  unfold dwR actR sg
  refine Finset.sum_congr rfl fun r _ => ?_
  rw [zero_sub]
  exact mul_comm (_ : EReal) _

end Cert.Proof

end
-- ==== Proof.FfnFwdTile.lean ====
/- The arithmetic of one block of 512 rows of the feed-forward layer's forward pass, over any floats: what the kernel
   computes from the block's rows and the three weights, one function for each block it leaves. -/
module

public import proofs.«01_k».proof.Proof.Gen.FfnForwardIdeal.Frame
public import Idealize.ShloMosaic.Lib.Pointwise
public import Idealize.ShloMosaic.Lib.Pipeline.ValueKit

@[expose] public section

set_option maxRecDepth 16384

noncomputable section

namespace Cert.FfnForwardIdeal.Tile

open Cert.FfnForwardIdeal Cert.FfnForwardIdeal.Gen Idealize.ShloMosaic Idealize.ShloMosaic.TcCoe Idealize.SL.Sem

variable {F : FTy → Type} [FloatOps F]

/-- The rows of a weight that belong to the hidden columns from `768 k` on. -/
def wPart (w : Vec F S2816x1024 .bf16) (k : Fin 3) : Vec F S768x1024 .bf16 :=
  View.ld w (Rect.unit (s := S2816x1024) ![768 * k.val, 0] ![768, 1024]
    (by have := k.isLt; intro a; fin_cases a <;> simp <;> omega))

/-- The rows of a weight that belong to the last 512 hidden columns. -/
def wRest (w : Vec F S2816x1024 .bf16) : Vec F S512x1024 .bf16 :=
  View.ld w (Rect.unit (s := S2816x1024) ![2304, 0] ![512, 1024] (by intro a; fin_cases a <;> simp))

/-- The normalised rows. -/
def xnT (x : Vec F S512x1024 .f32) (gn : Vec F S1x1024 .f32) : Vec F S512x1024 .bf16 := k0_pay3 x gn

/-- The gate's pre-activation, a block of hidden columns at a time. -/
def g0 (x : Vec F S512x1024 .f32) (gn : Vec F S1x1024 .f32) (w : Vec F S2816x1024 .bf16) : FVec F S512x768 .bf16 := k0_pay7 x gn (wPart w 0)
def g1 (x : Vec F S512x1024 .f32) (gn : Vec F S1x1024 .f32) (w : Vec F S2816x1024 .bf16) : FVec F S512x768 .bf16 := k0_pay14 (k0_pay3 x gn) (wPart w 1)
def g2 (x : Vec F S512x1024 .f32) (gn : Vec F S1x1024 .f32) (w : Vec F S2816x1024 .bf16) : FVec F S512x768 .bf16 := k0_pay20 (k0_pay3 x gn) (wPart w 2)
def g3 (x : Vec F S512x1024 .f32) (gn : Vec F S1x1024 .f32) (w : Vec F S2816x1024 .bf16) : FVec F S512x512 .bf16 := k0_pay26 (k0_pay3 x gn) (wRest w)

/-- The other factor. -/
def u0 (x : Vec F S512x1024 .f32) (gn : Vec F S1x1024 .f32) (w : Vec F S2816x1024 .bf16) : FVec F S512x768 .bf16 := k0_pay8 x gn (wPart w 0)
def u1 (x : Vec F S512x1024 .f32) (gn : Vec F S1x1024 .f32) (w : Vec F S2816x1024 .bf16) : FVec F S512x768 .bf16 := k0_pay15 (k0_pay3 x gn) (wPart w 1)
def u2 (x : Vec F S512x1024 .f32) (gn : Vec F S1x1024 .f32) (w : Vec F S2816x1024 .bf16) : FVec F S512x768 .bf16 := k0_pay21 (k0_pay3 x gn) (wPart w 2)
def u3 (x : Vec F S512x1024 .f32) (gn : Vec F S1x1024 .f32) (w : Vec F S2816x1024 .bf16) : FVec F S512x512 .bf16 := k0_pay27 (k0_pay3 x gn) (wRest w)

/-- The activation. -/
def a0 (x : Vec F S512x1024 .f32) (gn : Vec F S1x1024 .f32) (wg wu : Vec F S2816x1024 .bf16) : FVec F S512x768 .bf16 :=
  k0_pay10 (k0_pay5 x gn (wPart wg 0)) (k0_pay6 x gn (wPart wu 0)) (k0_pay9 x gn (wPart wg 0)) (Scalar.ofBits .f32 0x3F800000#32)
def a1 (x : Vec F S512x1024 .f32) (gn : Vec F S1x1024 .f32) (wg wu : Vec F S2816x1024 .bf16) : FVec F S512x768 .bf16 :=
  k0_pay16 (k0_pay3 x gn) (wPart wg 1) (wPart wu 1)
def a2 (x : Vec F S512x1024 .f32) (gn : Vec F S1x1024 .f32) (wg wu : Vec F S2816x1024 .bf16) : FVec F S512x768 .bf16 :=
  k0_pay22 (k0_pay3 x gn) (wPart wg 2) (wPart wu 2)
def a3 (x : Vec F S512x1024 .f32) (gn : Vec F S1x1024 .f32) (wg wu : Vec F S2816x1024 .bf16) : FVec F S512x512 .bf16 :=
  k0_pay1 (k0_pay24 (k0_pay3 x gn) (wRest wg)) (k0_pay25 (k0_pay3 x gn) (wRest wu))

/-- Four blocks of hidden columns side by side. -/
def cols (a b d : FVec F S512x768 .bf16) (r : FVec F S512x512 .bf16) : Vec F S512x2816 .bf16 := fun y =>
  if h : (y 1 : ℕ) < 768 then a (ix2 (y 0) ⟨(y 1 : ℕ), h⟩)
  else if h' : (y 1 : ℕ) < 1536 then b (ix2 (y 0) ⟨(y 1 : ℕ) - 768, by omega⟩)
  else if h'' : (y 1 : ℕ) < 2304 then d (ix2 (y 0) ⟨(y 1 : ℕ) - 1536, by omega⟩)
  else r (ix2 (y 0) ⟨(y 1 : ℕ) - 2304, by have h2 : (y 1 : ℕ) < 2816 := (y 1).isLt; omega⟩)

theorem cols_emb0 (a b d : FVec F S512x768 .bf16) (r : FVec F S512x512 .bf16)
    (hb : ∀ k, (![0, 0] : Fin 2 → ℕ) k + S512x768.size k ≤ S512x2816.size k) (x : S512x768.Idx) :
    a x = cols a b d r ((Rect.unit (s := S512x2816) ![0, 0] S512x768.size hb).emb x) := by
  have e1 : (((Rect.unit (s := S512x2816) ![0, 0] S512x768.size hb).emb x) 1 : ℕ) = (x 1 : ℕ) := by simp [Rect.emb, Rect.unit]
  have l1 : (x 1 : ℕ) < 768 := (x 1).isLt
  unfold cols
  rw [dif_pos (by omega)]
  refine congrArg a (funext fun k => ?_)
  fin_cases k <;> exact Fin.ext (by simp [Rect.emb, Rect.unit])

theorem cols_emb1 (a b d : FVec F S512x768 .bf16) (r : FVec F S512x512 .bf16)
    (hb : ∀ k, (![0, 768] : Fin 2 → ℕ) k + S512x768.size k ≤ S512x2816.size k) (x : S512x768.Idx) :
    b x = cols a b d r ((Rect.unit (s := S512x2816) ![0, 768] S512x768.size hb).emb x) := by
  have e1 : (((Rect.unit (s := S512x2816) ![0, 768] S512x768.size hb).emb x) 1 : ℕ) = 768 + (x 1 : ℕ) := by simp [Rect.emb, Rect.unit]
  have l1 : (x 1 : ℕ) < 768 := (x 1).isLt
  unfold cols
  rw [dif_neg (by omega), dif_pos (by omega)]
  refine congrArg b (funext fun k => ?_)
  fin_cases k <;> exact Fin.ext (by simp [Rect.emb, Rect.unit])

theorem cols_emb2 (a b d : FVec F S512x768 .bf16) (r : FVec F S512x512 .bf16)
    (hb : ∀ k, (![0, 1536] : Fin 2 → ℕ) k + S512x768.size k ≤ S512x2816.size k) (x : S512x768.Idx) :
    d x = cols a b d r ((Rect.unit (s := S512x2816) ![0, 1536] S512x768.size hb).emb x) := by
  have e1 : (((Rect.unit (s := S512x2816) ![0, 1536] S512x768.size hb).emb x) 1 : ℕ) = 1536 + (x 1 : ℕ) := by simp [Rect.emb, Rect.unit]
  have l1 : (x 1 : ℕ) < 768 := (x 1).isLt
  unfold cols
  rw [dif_neg (by omega), dif_neg (by omega), dif_pos (by omega)]
  refine congrArg d (funext fun k => ?_)
  fin_cases k <;> exact Fin.ext (by simp [Rect.emb, Rect.unit])

theorem cols_emb3 (a b d : FVec F S512x768 .bf16) (r : FVec F S512x512 .bf16)
    (hb : ∀ k, (![0, 2304] : Fin 2 → ℕ) k + S512x512.size k ≤ S512x2816.size k) (x : S512x512.Idx) :
    r x = cols a b d r ((Rect.unit (s := S512x2816) ![0, 2304] S512x512.size hb).emb x) := by
  have e1 : (((Rect.unit (s := S512x2816) ![0, 2304] S512x512.size hb).emb x) 1 : ℕ) = 2304 + (x 1 : ℕ) := by simp [Rect.emb, Rect.unit]
  have l1 : (x 1 : ℕ) < 512 := (x 1).isLt
  unfold cols
  rw [dif_neg (by omega), dif_neg (by omega), dif_neg (by omega)]
  refine congrArg r (funext fun k => ?_)
  fin_cases k <;> exact Fin.ext (by simp [Rect.emb, Rect.unit])

/-- The block of the gate's pre-activation. -/
def gT (x : Vec F S512x1024 .f32) (gn : Vec F S1x1024 .f32) (w : Vec F S2816x1024 .bf16) : Vec F S512x2816 .bf16 :=
  cols (g0 x gn w) (g1 x gn w) (g2 x gn w) (g3 x gn w)

/-- The block of the other factor. -/
def uT (x : Vec F S512x1024 .f32) (gn : Vec F S1x1024 .f32) (w : Vec F S2816x1024 .bf16) : Vec F S512x2816 .bf16 :=
  cols (u0 x gn w) (u1 x gn w) (u2 x gn w) (u3 x gn w)

/-- The block of the activation. -/
def aT (x : Vec F S512x1024 .f32) (gn : Vec F S1x1024 .f32) (wg wu : Vec F S2816x1024 .bf16) : Vec F S512x2816 .bf16 :=
  cols (a0 x gn wg wu) (a1 x gn wg wu) (a2 x gn wg wu) (a3 x gn wg wu)

/-- The block of the layer's rows. -/
def hT (x : Vec F S512x1024 .f32) (gn : Vec F S1x1024 .f32) (wg wu wd : Vec F S2816x1024 .bf16) : Vec F S512x1024 .f32 :=
  k0_pay2 x
    (k0_pay23 (k0_pay3 x gn)
      (k0_pay11 k0_pay4 (k0_pay5 x gn (wPart wg 0)) (k0_pay6 x gn (wPart wu 0)) (k0_pay9 x gn (wPart wg 0)) (Scalar.ofBits .f32 0x3F800000#32) (wPart wd 0))
      (k0_pay17 (k0_pay3 x gn) (wPart wg 1) (wPart wu 1) (wPart wd 1)) (wPart wg 2) (wPart wu 2) (wPart wd 2))
    (k0_pay24 (k0_pay3 x gn) (wRest wg)) (k0_pay25 (k0_pay3 x gn) (wRest wu)) (wRest wd)

theorem whole_emb {e : EltTy} (a : Vec F S512x1024 e)
    (hb : ∀ k, (![0, 0] : Fin 2 → ℕ) k + S512x1024.size k ≤ S512x1024.size k) (x : S512x1024.Idx) :
    a x = a ((Rect.unit (s := S512x1024) ![0, 0] S512x1024.size hb).emb x) := by
  refine congrArg a (funext fun k => ?_)
  fin_cases k <;> exact Fin.ext (by simp [Rect.emb, Rect.unit])

/-- Reading a whole block reads it unchanged. -/
theorem ld_block {e : EltTy} (x : Vec F S512x1024 e) (hb : ∀ k, (![0, 0] : Fin 2 → ℕ) k + (![512, 1024] : Fin 2 → ℕ) k ≤ S512x1024.size k) :
    View.ld x (Rect.unit (s := S512x1024) ![0, 0] ![512, 1024] hb) = x := by
  funext y
  refine congrArg x (funext fun k => ?_)
  fin_cases k <;> exact Fin.ext (by simp [Rect.emb, Rect.unit])

theorem ld_row {e : EltTy} (x : Vec F S1x1024 e) (hb : ∀ k, (![0, 0] : Fin 2 → ℕ) k + (![1, 1024] : Fin 2 → ℕ) k ≤ S1x1024.size k) :
    View.ld x (Rect.unit (s := S1x1024) ![0, 0] ![1, 1024] hb) = x := by
  funext y
  refine congrArg x (funext fun k => ?_)
  fin_cases k <;> exact Fin.ext (by simp [Rect.emb, Rect.unit])

end Cert.FfnForwardIdeal.Tile

end
-- ==== Proof.FfnFwdEntry.lean ====
/- One block of the feed-forward layer's forward pass, entry by entry: the row functions of the block's rows. -/
module

public import proofs.«01_k».proof.Proof.FfnFwdTile
public import proofs.«01_k».proof.Proof.FfnSpec
public import Idealize.ShloMosaic.Lib.IdealHost

@[expose] public section

set_option maxRecDepth 16384

noncomputable section

namespace Cert.FfnForwardIdeal.Tile

open Cert.FfnForwardIdeal Cert.FfnForwardIdeal.Gen Cert.Ffn Idealize.ShloMosaic Idealize.ShloMosaic.TcCoe Idealize.SL.Sem

/-- The activation from the two pre-activations. -/
def act (g u : EReal) : EReal := g * sg g * u
/-- An entry of the layer's row: the row's own and half the activation against one column of the last matrix. -/
def out (x : EReal) (a w : Fin 2816 → EReal) : EReal := x + half * ∑ f, a f * w f

variable (x : Vec Ideal S512x1024 .f32) (gn : Vec Ideal S1x1024 .f32) (w wg wu wd : Vec Ideal S2816x1024 .bf16)

theorem wPart0_at (j : Fin 768) (k : Fin 1024) : wPart w 0 (ix2 j k) = w (ix2 ⟨j.val, by omega⟩ k) := by
  unfold wPart
  pointwise
theorem wPart1_at (j : Fin 768) (k : Fin 1024) : wPart w 1 (ix2 j k) = w (ix2 ⟨768 + j.val, by omega⟩ k) := by
  unfold wPart
  pointwise
theorem wPart2_at (j : Fin 768) (k : Fin 1024) : wPart w 2 (ix2 j k) = w (ix2 ⟨1536 + j.val, by omega⟩ k) := by
  unfold wPart
  pointwise
theorem wRest_at (j : Fin 512) (k : Fin 1024) : wRest w (ix2 j k) = w (ix2 ⟨2304 + j.val, by omega⟩ k) := by
  unfold wRest
  pointwise

/-- The normalised row of a row of the block. -/
abbrev xnB (i : Fin 512) (k : Fin 1024) : EReal := xnRow (fun k => x (ix2 i k)) (fun k => gn (ix2 0 k)) k

theorem xnT_at (i : Fin 512) (k : Fin 1024) : xnT x gn (ix2 i k) = xnB x gn i k := by
  unfold xnT
  pointwise [k0_pay3]
  rfl

/-- A pre-activation at a hidden column of a row of the block. -/
abbrev hidB (i : Fin 512) (f : Fin 2816) : EReal := hid (fun k => x (ix2 i k)) (fun k => gn (ix2 0 k)) (fun k => w (ix2 f k))

theorem hid0_at (i : Fin 512) (j : Fin 768) : (∑ k, xnB x gn i k * wPart w 0 (ix2 j k) : EReal) = hidB x gn w i ⟨j.val, by omega⟩ :=
  Finset.sum_congr (M := EReal) rfl fun k _ => congrArg (fun b : EReal => xnB x gn i k * b) (wPart0_at w j k)
theorem hid1_at (i : Fin 512) (j : Fin 768) : (∑ k, xnB x gn i k * wPart w 1 (ix2 j k) : EReal) = hidB x gn w i ⟨768 + j.val, by omega⟩ :=
  Finset.sum_congr (M := EReal) rfl fun k _ => congrArg (fun b : EReal => xnB x gn i k * b) (wPart1_at w j k)
theorem hid2_at (i : Fin 512) (j : Fin 768) : (∑ k, xnB x gn i k * wPart w 2 (ix2 j k) : EReal) = hidB x gn w i ⟨1536 + j.val, by omega⟩ :=
  Finset.sum_congr (M := EReal) rfl fun k _ => congrArg (fun b : EReal => xnB x gn i k * b) (wPart2_at w j k)
theorem hid3_at (i : Fin 512) (j : Fin 512) : (∑ k, xnB x gn i k * wRest w (ix2 j k) : EReal) = hidB x gn w i ⟨2304 + j.val, by omega⟩ :=
  Finset.sum_congr (M := EReal) rfl fun k _ => congrArg (fun b : EReal => xnB x gn i k * b) (wRest_at w j k)

theorem g0_at (i : Fin 512) (j : Fin 768) : g0 x gn w (ix2 i j) = hidB x gn w i ⟨j.val, by omega⟩ := by
  refine Eq.trans ?_ (hid0_at x gn w i j)
  unfold g0
  pointwise [k0_pay7, k0_pay5, k0_pay3, k0_pay3]
  rfl
theorem g1_at (i : Fin 512) (j : Fin 768) : g1 x gn w (ix2 i j) = hidB x gn w i ⟨768 + j.val, by omega⟩ := by
  refine Eq.trans ?_ (hid1_at x gn w i j)
  unfold g1
  pointwise [k0_pay14, k0_pay12, k0_pay3]
  rfl
theorem g2_at (i : Fin 512) (j : Fin 768) : g2 x gn w (ix2 i j) = hidB x gn w i ⟨1536 + j.val, by omega⟩ := by
  refine Eq.trans ?_ (hid2_at x gn w i j)
  unfold g2
  pointwise [k0_pay20, k0_pay18, k0_pay3]
  rfl
theorem g3_at (i : Fin 512) (j : Fin 512) : g3 x gn w (ix2 i j) = hidB x gn w i ⟨2304 + j.val, by omega⟩ := by
  refine Eq.trans ?_ (hid3_at x gn w i j)
  unfold g3
  pointwise [k0_pay26, k0_pay24, k0_pay3]
  rfl
theorem u0_at (i : Fin 512) (j : Fin 768) : u0 x gn w (ix2 i j) = hidB x gn w i ⟨j.val, by omega⟩ := by
  refine Eq.trans ?_ (hid0_at x gn w i j)
  unfold u0
  pointwise [k0_pay8, k0_pay6, k0_pay3, k0_pay3]
  rfl
theorem u1_at (i : Fin 512) (j : Fin 768) : u1 x gn w (ix2 i j) = hidB x gn w i ⟨768 + j.val, by omega⟩ := by
  refine Eq.trans ?_ (hid1_at x gn w i j)
  unfold u1
  pointwise [k0_pay15, k0_pay13, k0_pay3]
  rfl
theorem u2_at (i : Fin 512) (j : Fin 768) : u2 x gn w (ix2 i j) = hidB x gn w i ⟨1536 + j.val, by omega⟩ := by
  refine Eq.trans ?_ (hid2_at x gn w i j)
  unfold u2
  pointwise [k0_pay21, k0_pay19, k0_pay3]
  rfl
theorem u3_at (i : Fin 512) (j : Fin 512) : u3 x gn w (ix2 i j) = hidB x gn w i ⟨2304 + j.val, by omega⟩ := by
  refine Eq.trans ?_ (hid3_at x gn w i j)
  unfold u3
  pointwise [k0_pay27, k0_pay25, k0_pay3]
  rfl

/-- The activation at a hidden column of a row of the block. -/
abbrev actB (i : Fin 512) (f : Fin 2816) : EReal := act (hidB x gn wg i f) (hidB x gn wu i f)

theorem a0_at (i : Fin 512) (j : Fin 768) : a0 x gn wg wu (ix2 i j) = actB x gn wg wu i ⟨j.val, by omega⟩ := by
  show _ = act _ _
  rw [← hid0_at, ← hid0_at]
  unfold a0
  pointwise [k0_pay10, k0_pay9, k0_pay5, k0_pay6, k0_pay3, k0_pay3]
  rfl
theorem a1_at (i : Fin 512) (j : Fin 768) : a1 x gn wg wu (ix2 i j) = actB x gn wg wu i ⟨768 + j.val, by omega⟩ := by
  show _ = act _ _
  rw [← hid1_at, ← hid1_at]
  unfold a1
  pointwise [k0_pay16, k0_pay12, k0_pay13, k0_pay3]
  rfl
theorem a2_at (i : Fin 512) (j : Fin 768) : a2 x gn wg wu (ix2 i j) = actB x gn wg wu i ⟨1536 + j.val, by omega⟩ := by
  show _ = act _ _
  rw [← hid2_at, ← hid2_at]
  unfold a2
  pointwise [k0_pay22, k0_pay18, k0_pay19, k0_pay3]
  rfl
theorem a3_at (i : Fin 512) (j : Fin 512) : a3 x gn wg wu (ix2 i j) = actB x gn wg wu i ⟨2304 + j.val, by omega⟩ := by
  show _ = act _ _
  rw [← hid3_at, ← hid3_at]
  unfold a3
  pointwise [k0_pay1, k0_pay24, k0_pay25, k0_pay3]
  rfl

/-- Four blocks of columns of one row function are that function. -/
theorem cols_at (a b d : FVec Ideal S512x768 .bf16) (r : FVec Ideal S512x512 .bf16) (p : Fin 512 → Fin 2816 → EReal)
    (ha : ∀ (i : Fin 512) (j : Fin 768), a (ix2 i j) = p i ⟨j.val, by omega⟩)
    (hb : ∀ (i : Fin 512) (j : Fin 768), b (ix2 i j) = p i ⟨768 + j.val, by omega⟩)
    (hd : ∀ (i : Fin 512) (j : Fin 768), d (ix2 i j) = p i ⟨1536 + j.val, by omega⟩)
    (hr : ∀ (i : Fin 512) (j : Fin 512), r (ix2 i j) = p i ⟨2304 + j.val, by omega⟩)
    (i : Fin 512) (f : Fin 2816) : cols a b d r (ix2 i f) = p i f := by
  show (if h : f.val < 768 then a (ix2 i ⟨f.val, h⟩)
    else if h' : f.val < 1536 then b (ix2 i ⟨f.val - 768, by omega⟩)
    else if h'' : f.val < 2304 then d (ix2 i ⟨f.val - 1536, by omega⟩)
    else r (ix2 i ⟨f.val - 2304, by omega⟩)) = p i f
  split
  · exact ha i _
  · split
    · exact (hb i _).trans (congrArg (p i) (Fin.ext (by show 768 + (f.val - 768) = f.val; omega)))
    · split
      · exact (hd i _).trans (congrArg (p i) (Fin.ext (by show 1536 + (f.val - 1536) = f.val; omega)))
      · exact (hr i _).trans (congrArg (p i) (Fin.ext (by show 2304 + (f.val - 2304) = f.val; omega)))

theorem gT_at (i : Fin 512) (f : Fin 2816) : gT x gn w (ix2 i f) = hidB x gn w i f :=
  cols_at _ _ _ _ (hidB x gn w) (g0_at x gn w) (g1_at x gn w) (g2_at x gn w) (g3_at x gn w) i f
theorem uT_at (i : Fin 512) (f : Fin 2816) : uT x gn w (ix2 i f) = hidB x gn w i f :=
  cols_at _ _ _ _ (hidB x gn w) (u0_at x gn w) (u1_at x gn w) (u2_at x gn w) (u3_at x gn w) i f
theorem aT_at (i : Fin 512) (f : Fin 2816) : aT x gn wg wu (ix2 i f) = actB x gn wg wu i f :=
  cols_at _ _ _ _ (actB x gn wg wu) (a0_at x gn wg wu) (a1_at x gn wg wu) (a2_at x gn wg wu) (a3_at x gn wg wu) i f

/-- The last product, one block of hidden columns after another. -/
theorem hT_blocks (i : Fin 512) (j : Fin 1024) :
    hT x gn wg wu wd (ix2 i j)
      = x (ix2 i j) + half * ((((∑ f, a0 x gn wg wu (ix2 i f) * wPart wd 0 (ix2 f j)) + ∑ f, a1 x gn wg wu (ix2 i f) * wPart wd 1 (ix2 f j))
          + ∑ f, a2 x gn wg wu (ix2 i f) * wPart wd 2 (ix2 f j)) + ∑ f, a3 x gn wg wu (ix2 i f) * wRest wd (ix2 f j)) := by
  unfold hT
  pointwise [k0_pay2, k0_pay23, k0_pay11, k0_pay4, k0_pay17]
  simp only [a0, a1, a2, a3, zero_add]
  rw [show (FloatOps.ofBits FTy.f32 1065353216#32 : Ideal .f32) = 1 from Ideal.ofBits_one_f32]

theorem hT_at (i : Fin 512) (j : Fin 1024) :
    hT x gn wg wu wd (ix2 i j) = out (x (ix2 i j)) (actB x gn wg wu i) (fun f => wd (ix2 f j)) := by
  rw [hT_blocks]
  unfold out
  rw [sum_chunks]
  simp only [a0_at, a1_at, a2_at, a3_at, wPart0_at, wPart1_at, wPart2_at, wRest_at]

end Cert.FfnForwardIdeal.Tile

end
-- ==== Proof.FfnFwdHost.lean ====
/- The three weights in the forward kernel's memory when its region starts. -/
module

public import proofs.«01_k».proof.Proof.FfnFwdEntry
public import Idealize.ShloMosaic.Lib.StableHlo.RunRead

@[expose] public section

set_option maxRecDepth 16384

noncomputable section

namespace Cert.FfnForwardIdeal.Value

open Cert.FfnForwardIdeal Cert.FfnForwardIdeal.Gen Cert.FfnForwardIdeal.Tile Cert.Ffn Idealize.ShloMosaic Idealize.ShloMosaic.TcCoe Idealize.SL.Sem
open Idealize.ShloMosaic.StableHlo

variable (m : (ℓ : Loc nD τ sig) → Buf (Elt Ideal) ℓ)

/-- The five arguments. -/
abbrev aX (c : Dev nD) : FVec Ideal S8192x1024 .f32 := m ((c : Thread nD τ).loc main_arg0)
abbrev aGn (c : Dev nD) : FVec Ideal S1x1024 .f32 := m ((c : Thread nD τ).loc main_arg1)
abbrev aWg (c : Dev nD) : FVec Ideal S1024x2816 .f32 := m ((c : Thread nD τ).loc main_arg2)
abbrev aWu (c : Dev nD) : FVec Ideal S1024x2816 .f32 := m ((c : Thread nD τ).loc main_arg3)
abbrev aWd (c : Dev nD) : FVec Ideal S2816x1024 .f32 := m ((c : Thread nD τ).loc main_arg4)

theorem V_wg (c : Dev nD) (f : Fin 2816) (k : Fin 1024) : (V m c main_v8 : FVec Ideal S2816x1024 .bf16) (ix2 f k) = aWg m c (ix2 k f) := by
  unfold V
  after_reads_simp
  pointwise
  exact congrArg (fun b => aWg m c (ix2 k b)) (Fin.ext (by show f.val / 704 * 704 + f.val % 704 = f.val; omega))

theorem V_wu (c : Dev nD) (f : Fin 2816) (k : Fin 1024) : (V m c main_v9 : FVec Ideal S2816x1024 .bf16) (ix2 f k) = aWu m c (ix2 k f) := by
  unfold V
  after_reads_simp
  pointwise
  exact congrArg (fun b => aWu m c (ix2 k b)) (Fin.ext (by show f.val / 704 * 704 + f.val % 704 = f.val; omega))

theorem V_wd (c : Dev nD) (f : Fin 2816) (k : Fin 1024) : (V m c main_v10 : FVec Ideal S2816x1024 .bf16) (ix2 f k) = aWd m c (ix2 f k) := by
  unfold V
  after_reads_simp
  pointwise
  exact congrArg (fun b => aWd m c (ix2 b k)) (Fin.ext (by show f.val / 704 * 704 + f.val % 704 = f.val; omega))

end Cert.FfnForwardIdeal.Value

end
-- ==== Proof.FfnFwdOpenA.lean ====
/- The blocks the first grid point of the feed-forward layer's forward pass leaves: it brings the three weights onto the
   chip and then leaves the blocks of `FfnFwdTile.lean`,
   taken at the weights on the chip. -/
module

public import proofs.«01_k».proof.Proof.FfnFwdTile
public import proofs.«01_k».proof.Proof.Landed

@[expose] public section

set_option maxRecDepth 16384

noncomputable section

namespace Cert.FfnForwardIdeal.Tile

open Cert.FfnForwardIdeal Cert.FfnForwardIdeal.Gen Idealize.ShloMosaic Idealize.ShloMosaic.TcCoe Idealize.SL.Sem Idealize.ShloMosaic.Tactic

variable {F : FTy → Type} [FloatOps F]

set_option maxHeartbeats 4000000 in
/-- The rows of the layer the first point leaves. -/
theorem out0_A_2_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    out0_A_2 c i arg1 harg1 arg2 harg2 arg6 harg6 arg7 harg7 arg8 harg8 arg9 harg9 arg10 harg10 arg11 harg11 arg12 harg12 arg13 harg13 hc0 x0 x1 fh0 fh1 fh2 = hT x0 x1 fh0 fh1 fh2 := by
  have hp : View.PiecesOf (hT x0 x1 fh0 fh1 fh2) (kernelRun0_A c i arg1 harg1 arg2 harg2 arg6 harg6 arg7 harg7 arg8 harg8 arg9 harg9 arg10 harg10 arg11 harg11 arg12 harg12 arg13 harg13 hc0 x0 x1 fh0 fh1 fh2).1 := by
    unfold kernelRun0_A
    dsimp only
    sl_unfold_words
    simp only [View.readAt_eq_ld, harg1.read_unread, harg2.read_unread]
    simp only [ld_block, ld_row, Landed.readCov_whole]
    exact ⟨fun x => Eq.trans (by rfl) (whole_emb (hT x0 x1 fh0 fh1 fh2) (by intro a; fin_cases a <;> decide) x), trivial⟩
  unfold out0_A_2
  rw [View.read_writes_eq_canon _ _ _ (cover0_A_2 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf (hT x0 x1 fh0 fh1 fh2) [] _ hp y (cover0_A_2 c i arg1 harg1 arg2 harg2 arg6 harg6 arg7 harg7 arg8 harg8 arg9 harg9 arg10 harg10 arg11 harg11 arg12 harg12 arg13 harg13 hc0 x0 x1 fh0 fh1 fh2 y)
  rwa [List.append_nil] at h

set_option maxHeartbeats 4000000 in
/-- The normalised rows. -/
theorem out0_A_3_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    out0_A_3 c i arg1 harg1 arg2 harg2 arg6 harg6 arg7 harg7 arg8 harg8 arg9 harg9 arg10 harg10 arg11 harg11 arg12 harg12 arg13 harg13 hc0 x0 x1 fh0 fh1 fh2 = xnT x0 x1 := by
  have hp : View.PiecesOf (xnT x0 x1) (kernelRun0_A c i arg1 harg1 arg2 harg2 arg6 harg6 arg7 harg7 arg8 harg8 arg9 harg9 arg10 harg10 arg11 harg11 arg12 harg12 arg13 harg13 hc0 x0 x1 fh0 fh1 fh2).2.1 := by
    unfold kernelRun0_A
    dsimp only
    sl_unfold_words
    simp only [View.readAt_eq_ld, harg1.read_unread, harg2.read_unread]
    simp only [ld_block, ld_row, Landed.readCov_whole]
    exact ⟨fun x => Eq.trans (by rfl) (whole_emb (xnT x0 x1) (by intro a; fin_cases a <;> decide) x), trivial⟩
  unfold out0_A_3
  rw [View.read_writes_eq_canon _ _ _ (cover0_A_3 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf (xnT x0 x1) [] _ hp y (cover0_A_3 c i arg1 harg1 arg2 harg2 arg6 harg6 arg7 harg7 arg8 harg8 arg9 harg9 arg10 harg10 arg11 harg11 arg12 harg12 arg13 harg13 hc0 x0 x1 fh0 fh1 fh2 y)
  rwa [List.append_nil] at h

set_option maxHeartbeats 4000000 in
/-- The gate's pre-activation. -/
theorem out0_A_4_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    out0_A_4 c i arg1 harg1 arg2 harg2 arg6 harg6 arg7 harg7 arg8 harg8 arg9 harg9 arg10 harg10 arg11 harg11 arg12 harg12 arg13 harg13 hc0 x0 x1 fh0 fh1 fh2 = gT x0 x1 fh0 := by
  have hp : View.PiecesOf (gT x0 x1 fh0) (kernelRun0_A c i arg1 harg1 arg2 harg2 arg6 harg6 arg7 harg7 arg8 harg8 arg9 harg9 arg10 harg10 arg11 harg11 arg12 harg12 arg13 harg13 hc0 x0 x1 fh0 fh1 fh2).2.2.1 := by
    unfold kernelRun0_A
    dsimp only
    sl_unfold_words
    simp only [View.readAt_eq_ld, harg1.read_unread, harg2.read_unread]
    simp only [ld_block, ld_row, Landed.readCov_whole]
    exact ⟨fun x => Eq.trans (by rfl) (cols_emb3 (g0 x0 x1 fh0) (g1 x0 x1 fh0) (g2 x0 x1 fh0) (g3 x0 x1 fh0) (by intro a; fin_cases a <;> decide) x),
      fun x => Eq.trans (by rfl) (cols_emb2 (g0 x0 x1 fh0) (g1 x0 x1 fh0) (g2 x0 x1 fh0) (g3 x0 x1 fh0) (by intro a; fin_cases a <;> decide) x),
      fun x => Eq.trans (by rfl) (cols_emb1 (g0 x0 x1 fh0) (g1 x0 x1 fh0) (g2 x0 x1 fh0) (g3 x0 x1 fh0) (by intro a; fin_cases a <;> decide) x),
      fun x => Eq.trans (by rfl) (cols_emb0 (g0 x0 x1 fh0) (g1 x0 x1 fh0) (g2 x0 x1 fh0) (g3 x0 x1 fh0) (by intro a; fin_cases a <;> decide) x), trivial⟩
  unfold out0_A_4
  rw [View.read_writes_eq_canon _ _ _ (cover0_A_4 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf (gT x0 x1 fh0) [] _ hp y (cover0_A_4 c i arg1 harg1 arg2 harg2 arg6 harg6 arg7 harg7 arg8 harg8 arg9 harg9 arg10 harg10 arg11 harg11 arg12 harg12 arg13 harg13 hc0 x0 x1 fh0 fh1 fh2 y)
  rwa [List.append_nil] at h

set_option maxHeartbeats 4000000 in
/-- The other factor. -/
theorem out0_A_5_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    out0_A_5 c i arg1 harg1 arg2 harg2 arg6 harg6 arg7 harg7 arg8 harg8 arg9 harg9 arg10 harg10 arg11 harg11 arg12 harg12 arg13 harg13 hc0 x0 x1 fh0 fh1 fh2 = uT x0 x1 fh1 := by
  have hp : View.PiecesOf (uT x0 x1 fh1) (kernelRun0_A c i arg1 harg1 arg2 harg2 arg6 harg6 arg7 harg7 arg8 harg8 arg9 harg9 arg10 harg10 arg11 harg11 arg12 harg12 arg13 harg13 hc0 x0 x1 fh0 fh1 fh2).2.2.2.1 := by
    unfold kernelRun0_A
    dsimp only
    sl_unfold_words
    simp only [View.readAt_eq_ld, harg1.read_unread, harg2.read_unread]
    simp only [ld_block, ld_row, Landed.readCov_whole]
    exact ⟨fun x => Eq.trans (by rfl) (cols_emb3 (u0 x0 x1 fh1) (u1 x0 x1 fh1) (u2 x0 x1 fh1) (u3 x0 x1 fh1) (by intro a; fin_cases a <;> decide) x),
      fun x => Eq.trans (by rfl) (cols_emb2 (u0 x0 x1 fh1) (u1 x0 x1 fh1) (u2 x0 x1 fh1) (u3 x0 x1 fh1) (by intro a; fin_cases a <;> decide) x),
      fun x => Eq.trans (by rfl) (cols_emb1 (u0 x0 x1 fh1) (u1 x0 x1 fh1) (u2 x0 x1 fh1) (u3 x0 x1 fh1) (by intro a; fin_cases a <;> decide) x),
      fun x => Eq.trans (by rfl) (cols_emb0 (u0 x0 x1 fh1) (u1 x0 x1 fh1) (u2 x0 x1 fh1) (u3 x0 x1 fh1) (by intro a; fin_cases a <;> decide) x), trivial⟩
  unfold out0_A_5
  rw [View.read_writes_eq_canon _ _ _ (cover0_A_5 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf (uT x0 x1 fh1) [] _ hp y (cover0_A_5 c i arg1 harg1 arg2 harg2 arg6 harg6 arg7 harg7 arg8 harg8 arg9 harg9 arg10 harg10 arg11 harg11 arg12 harg12 arg13 harg13 hc0 x0 x1 fh0 fh1 fh2 y)
  rwa [List.append_nil] at h

set_option maxHeartbeats 4000000 in
/-- The activation. -/
theorem out0_A_6_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    out0_A_6 c i arg1 harg1 arg2 harg2 arg6 harg6 arg7 harg7 arg8 harg8 arg9 harg9 arg10 harg10 arg11 harg11 arg12 harg12 arg13 harg13 hc0 x0 x1 fh0 fh1 fh2 = aT x0 x1 fh0 fh1 := by
  have hp : View.PiecesOf (aT x0 x1 fh0 fh1) (kernelRun0_A c i arg1 harg1 arg2 harg2 arg6 harg6 arg7 harg7 arg8 harg8 arg9 harg9 arg10 harg10 arg11 harg11 arg12 harg12 arg13 harg13 hc0 x0 x1 fh0 fh1 fh2).2.2.2.2.1 := by
    unfold kernelRun0_A
    dsimp only
    sl_unfold_words
    simp only [View.readAt_eq_ld, harg1.read_unread, harg2.read_unread]
    simp only [ld_block, ld_row, Landed.readCov_whole]
    exact ⟨fun x => Eq.trans (by rfl) (cols_emb3 (a0 x0 x1 fh0 fh1) (a1 x0 x1 fh0 fh1) (a2 x0 x1 fh0 fh1) (a3 x0 x1 fh0 fh1) (by intro a; fin_cases a <;> decide) x),
      fun x => Eq.trans (by rfl) (cols_emb2 (a0 x0 x1 fh0 fh1) (a1 x0 x1 fh0 fh1) (a2 x0 x1 fh0 fh1) (a3 x0 x1 fh0 fh1) (by intro a; fin_cases a <;> decide) x),
      fun x => Eq.trans (by rfl) (cols_emb1 (a0 x0 x1 fh0 fh1) (a1 x0 x1 fh0 fh1) (a2 x0 x1 fh0 fh1) (a3 x0 x1 fh0 fh1) (by intro a; fin_cases a <;> decide) x),
      fun x => Eq.trans (by rfl) (cols_emb0 (a0 x0 x1 fh0 fh1) (a1 x0 x1 fh0 fh1) (a2 x0 x1 fh0 fh1) (a3 x0 x1 fh0 fh1) (by intro a; fin_cases a <;> decide) x), trivial⟩
  unfold out0_A_6
  rw [View.read_writes_eq_canon _ _ _ (cover0_A_6 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf (aT x0 x1 fh0 fh1) [] _ hp y (cover0_A_6 c i arg1 harg1 arg2 harg2 arg6 harg6 arg7 harg7 arg8 harg8 arg9 harg9 arg10 harg10 arg11 harg11 arg12 harg12 arg13 harg13 hc0 x0 x1 fh0 fh1 fh2 y)
  rwa [List.append_nil] at h

set_option maxHeartbeats 4000000 in
/-- The weight the first point leaves on the chip. -/
theorem sout0_A_0_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    sout0_A_0 c i arg1 harg1 arg2 harg2 arg6 harg6 arg7 harg7 arg8 harg8 arg9 harg9 arg10 harg10 arg11 harg11 arg12 harg12 arg13 harg13 hc0 x0 x1 fh0 fh1 fh2 = (fh0 : Vec F S2816x1024 .bf16) := by
  have hp : View.PiecesOf ((fh0 : Vec F S2816x1024 .bf16)) (kernelRun0_A c i arg1 harg1 arg2 harg2 arg6 harg6 arg7 harg7 arg8 harg8 arg9 harg9 arg10 harg10 arg11 harg11 arg12 harg12 arg13 harg13 hc0 x0 x1 fh0 fh1 fh2).2.2.2.2.2.1 := by
    unfold kernelRun0_A
    dsimp only
    sl_unfold_words
    exact ⟨fun x => congrArg (fh0 : Vec F S2816x1024 .bf16) (Rect.emb_whole_apply S2816x1024 x).symm, trivial⟩
  unfold sout0_A_0
  rw [View.read_writes_eq_canon _ _ _ (scover0_A_0 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf ((fh0 : Vec F S2816x1024 .bf16)) [] _ hp y (scover0_A_0 c i arg1 harg1 arg2 harg2 arg6 harg6 arg7 harg7 arg8 harg8 arg9 harg9 arg10 harg10 arg11 harg11 arg12 harg12 arg13 harg13 hc0 x0 x1 fh0 fh1 fh2 y)
  rwa [List.append_nil] at h

set_option maxHeartbeats 4000000 in
/-- The weight the first point leaves on the chip. -/
theorem sout0_A_1_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    sout0_A_1 c i arg1 harg1 arg2 harg2 arg6 harg6 arg7 harg7 arg8 harg8 arg9 harg9 arg10 harg10 arg11 harg11 arg12 harg12 arg13 harg13 hc0 x0 x1 fh0 fh1 fh2 = (fh1 : Vec F S2816x1024 .bf16) := by
  have hp : View.PiecesOf ((fh1 : Vec F S2816x1024 .bf16)) (kernelRun0_A c i arg1 harg1 arg2 harg2 arg6 harg6 arg7 harg7 arg8 harg8 arg9 harg9 arg10 harg10 arg11 harg11 arg12 harg12 arg13 harg13 hc0 x0 x1 fh0 fh1 fh2).2.2.2.2.2.2.1 := by
    unfold kernelRun0_A
    dsimp only
    sl_unfold_words
    exact ⟨fun x => congrArg (fh1 : Vec F S2816x1024 .bf16) (Rect.emb_whole_apply S2816x1024 x).symm, trivial⟩
  unfold sout0_A_1
  rw [View.read_writes_eq_canon _ _ _ (scover0_A_1 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf ((fh1 : Vec F S2816x1024 .bf16)) [] _ hp y (scover0_A_1 c i arg1 harg1 arg2 harg2 arg6 harg6 arg7 harg7 arg8 harg8 arg9 harg9 arg10 harg10 arg11 harg11 arg12 harg12 arg13 harg13 hc0 x0 x1 fh0 fh1 fh2 y)
  rwa [List.append_nil] at h

set_option maxHeartbeats 4000000 in
/-- The weight the first point leaves on the chip. -/
theorem sout0_A_2_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : cond0_0 i)
    (x0 : Vec F S512x1024 .f32) (x1 : Vec F S1x1024 .f32) (fh0 : HbBuf0 (F := F) c hbM0_0) (fh1 : HbBuf0 (F := F) c hbM0_1) (fh2 : HbBuf0 (F := F) c hbM0_2) :
    sout0_A_2 c i arg1 harg1 arg2 harg2 arg6 harg6 arg7 harg7 arg8 harg8 arg9 harg9 arg10 harg10 arg11 harg11 arg12 harg12 arg13 harg13 hc0 x0 x1 fh0 fh1 fh2 = (fh2 : Vec F S2816x1024 .bf16) := by
  have hp : View.PiecesOf ((fh2 : Vec F S2816x1024 .bf16)) (kernelRun0_A c i arg1 harg1 arg2 harg2 arg6 harg6 arg7 harg7 arg8 harg8 arg9 harg9 arg10 harg10 arg11 harg11 arg12 harg12 arg13 harg13 hc0 x0 x1 fh0 fh1 fh2).2.2.2.2.2.2.2.1 := by
    unfold kernelRun0_A
    dsimp only
    sl_unfold_words
    exact ⟨fun x => congrArg (fh2 : Vec F S2816x1024 .bf16) (Rect.emb_whole_apply S2816x1024 x).symm, trivial⟩
  unfold sout0_A_2
  rw [View.read_writes_eq_canon _ _ _ (scover0_A_2 c i arg1 harg1 arg2 harg2 arg6 harg6 arg7 harg7 arg8 harg8 arg9 harg9 arg10 harg10 arg11 harg11 arg12 harg12 arg13 harg13 hc0 x0 x1 fh0 fh1 fh2)]
  funext y
  have h := View.canon_append_of_piecesOf ((fh2 : Vec F S2816x1024 .bf16)) [] _ hp y (scover0_A_2 c i arg1 harg1 arg2 harg2 arg6 harg6 arg7 harg7 arg8 harg8 arg9 harg9 arg10 harg10 arg11 harg11 arg12 harg12 arg13 harg13 hc0 x0 x1 fh0 fh1 fh2 y)
  rwa [List.append_nil] at h

end Cert.FfnForwardIdeal.Tile

end
-- ==== Proof.FfnFwdOpenB.lean ====
/- The blocks a later grid point of the feed-forward layer's forward pass leaves: the pieces its run stores are the blocks of `FfnFwdTile.lean`,
   taken at the weights on the chip. -/
module

public import proofs.«01_k».proof.Proof.FfnFwdTile
public import proofs.«01_k».proof.Proof.Landed

@[expose] public section

set_option maxRecDepth 16384

noncomputable section

namespace Cert.FfnForwardIdeal.Tile

open Cert.FfnForwardIdeal Cert.FfnForwardIdeal.Gen Idealize.ShloMosaic Idealize.ShloMosaic.TcCoe Idealize.SL.Sem Idealize.ShloMosaic.Tactic

variable {F : FTy → Type} [FloatOps F]

set_option maxHeartbeats 4000000 in
/-- The rows of the layer a later point leaves. -/
theorem out0_B_2_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_2 c i arg1 harg1 arg2 harg2 arg6 harg6 arg7 harg7 arg8 harg8 arg9 harg9 arg10 harg10 arg11 harg11 arg12 harg12 arg13 harg13 hc0 x0 x1 xs0 xs1 xs2 fh0 fh1 fh2 = hT x0 x1 xs0 xs1 xs2 := by
  have hp : View.PiecesOf (hT x0 x1 xs0 xs1 xs2) (kernelRun0_B c i arg1 harg1 arg2 harg2 arg6 harg6 arg7 harg7 arg8 harg8 arg9 harg9 arg10 harg10 arg11 harg11 arg12 harg12 arg13 harg13 hc0 x0 x1 xs0 xs1 xs2 fh0 fh1 fh2).1 := by
    unfold kernelRun0_B
    dsimp only
    sl_unfold_words
    simp only [View.readAt_eq_ld, harg1.read_unread, harg2.read_unread, harg6.read_unread, harg7.read_unread, harg8.read_unread, harg9.read_unread, harg10.read_unread, harg11.read_unread, harg12.read_unread, harg13.read_unread]
    simp only [ld_block, ld_row]
    exact ⟨fun x => Eq.trans (by rfl) (whole_emb (hT x0 x1 xs0 xs1 xs2) (by intro a; fin_cases a <;> decide) x), trivial⟩
  unfold out0_B_2
  rw [View.read_writes_eq_canon _ _ _ (cover0_B_2 c i arg1 harg1 arg2 harg2 arg6 harg6 arg7 harg7 arg8 harg8 arg9 harg9 arg10 harg10 arg11 harg11 arg12 harg12 arg13 harg13 hc0 x0 x1 xs0 xs1 xs2 fh0 fh1 fh2)]
  funext y
  have h := View.canon_append_of_piecesOf (hT x0 x1 xs0 xs1 xs2) [] _ hp y (cover0_B_2 c i arg1 harg1 arg2 harg2 arg6 harg6 arg7 harg7 arg8 harg8 arg9 harg9 arg10 harg10 arg11 harg11 arg12 harg12 arg13 harg13 hc0 x0 x1 xs0 xs1 xs2 fh0 fh1 fh2 y)
  rwa [List.append_nil] at h

set_option maxHeartbeats 4000000 in
/-- The normalised rows. -/
theorem out0_B_3_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_3 c i arg1 harg1 arg2 harg2 arg6 harg6 arg7 harg7 arg8 harg8 arg9 harg9 arg10 harg10 arg11 harg11 arg12 harg12 arg13 harg13 hc0 x0 x1 xs0 xs1 xs2 fh0 fh1 fh2 = xnT x0 x1 := by
  have hp : View.PiecesOf (xnT x0 x1) (kernelRun0_B c i arg1 harg1 arg2 harg2 arg6 harg6 arg7 harg7 arg8 harg8 arg9 harg9 arg10 harg10 arg11 harg11 arg12 harg12 arg13 harg13 hc0 x0 x1 xs0 xs1 xs2 fh0 fh1 fh2).2.1 := by
    unfold kernelRun0_B
    dsimp only
    sl_unfold_words
    simp only [View.readAt_eq_ld, harg1.read_unread, harg2.read_unread, harg6.read_unread, harg7.read_unread, harg8.read_unread, harg9.read_unread, harg10.read_unread, harg11.read_unread, harg12.read_unread, harg13.read_unread]
    simp only [ld_block, ld_row]
    exact ⟨fun x => Eq.trans (by rfl) (whole_emb (xnT x0 x1) (by intro a; fin_cases a <;> decide) x), trivial⟩
  unfold out0_B_3
  rw [View.read_writes_eq_canon _ _ _ (cover0_B_3 c i arg1 harg1 arg2 harg2 arg6 harg6 arg7 harg7 arg8 harg8 arg9 harg9 arg10 harg10 arg11 harg11 arg12 harg12 arg13 harg13 hc0 x0 x1 xs0 xs1 xs2 fh0 fh1 fh2)]
  funext y
  have h := View.canon_append_of_piecesOf (xnT x0 x1) [] _ hp y (cover0_B_3 c i arg1 harg1 arg2 harg2 arg6 harg6 arg7 harg7 arg8 harg8 arg9 harg9 arg10 harg10 arg11 harg11 arg12 harg12 arg13 harg13 hc0 x0 x1 xs0 xs1 xs2 fh0 fh1 fh2 y)
  rwa [List.append_nil] at h

set_option maxHeartbeats 4000000 in
/-- The gate's pre-activation. -/
theorem out0_B_4_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_4 c i arg1 harg1 arg2 harg2 arg6 harg6 arg7 harg7 arg8 harg8 arg9 harg9 arg10 harg10 arg11 harg11 arg12 harg12 arg13 harg13 hc0 x0 x1 xs0 xs1 xs2 fh0 fh1 fh2 = gT x0 x1 xs0 := by
  have hp : View.PiecesOf (gT x0 x1 xs0) (kernelRun0_B c i arg1 harg1 arg2 harg2 arg6 harg6 arg7 harg7 arg8 harg8 arg9 harg9 arg10 harg10 arg11 harg11 arg12 harg12 arg13 harg13 hc0 x0 x1 xs0 xs1 xs2 fh0 fh1 fh2).2.2.1 := by
    unfold kernelRun0_B
    dsimp only
    sl_unfold_words
    simp only [View.readAt_eq_ld, harg1.read_unread, harg2.read_unread, harg6.read_unread, harg7.read_unread, harg8.read_unread, harg9.read_unread, harg10.read_unread, harg11.read_unread, harg12.read_unread, harg13.read_unread]
    simp only [ld_block, ld_row]
    exact ⟨fun x => Eq.trans (by rfl) (cols_emb3 (g0 x0 x1 xs0) (g1 x0 x1 xs0) (g2 x0 x1 xs0) (g3 x0 x1 xs0) (by intro a; fin_cases a <;> decide) x),
      fun x => Eq.trans (by rfl) (cols_emb2 (g0 x0 x1 xs0) (g1 x0 x1 xs0) (g2 x0 x1 xs0) (g3 x0 x1 xs0) (by intro a; fin_cases a <;> decide) x),
      fun x => Eq.trans (by rfl) (cols_emb1 (g0 x0 x1 xs0) (g1 x0 x1 xs0) (g2 x0 x1 xs0) (g3 x0 x1 xs0) (by intro a; fin_cases a <;> decide) x),
      fun x => Eq.trans (by rfl) (cols_emb0 (g0 x0 x1 xs0) (g1 x0 x1 xs0) (g2 x0 x1 xs0) (g3 x0 x1 xs0) (by intro a; fin_cases a <;> decide) x), trivial⟩
  unfold out0_B_4
  rw [View.read_writes_eq_canon _ _ _ (cover0_B_4 c i arg1 harg1 arg2 harg2 arg6 harg6 arg7 harg7 arg8 harg8 arg9 harg9 arg10 harg10 arg11 harg11 arg12 harg12 arg13 harg13 hc0 x0 x1 xs0 xs1 xs2 fh0 fh1 fh2)]
  funext y
  have h := View.canon_append_of_piecesOf (gT x0 x1 xs0) [] _ hp y (cover0_B_4 c i arg1 harg1 arg2 harg2 arg6 harg6 arg7 harg7 arg8 harg8 arg9 harg9 arg10 harg10 arg11 harg11 arg12 harg12 arg13 harg13 hc0 x0 x1 xs0 xs1 xs2 fh0 fh1 fh2 y)
  rwa [List.append_nil] at h

set_option maxHeartbeats 4000000 in
/-- The other factor. -/
theorem out0_B_5_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_5 c i arg1 harg1 arg2 harg2 arg6 harg6 arg7 harg7 arg8 harg8 arg9 harg9 arg10 harg10 arg11 harg11 arg12 harg12 arg13 harg13 hc0 x0 x1 xs0 xs1 xs2 fh0 fh1 fh2 = uT x0 x1 xs1 := by
  have hp : View.PiecesOf (uT x0 x1 xs1) (kernelRun0_B c i arg1 harg1 arg2 harg2 arg6 harg6 arg7 harg7 arg8 harg8 arg9 harg9 arg10 harg10 arg11 harg11 arg12 harg12 arg13 harg13 hc0 x0 x1 xs0 xs1 xs2 fh0 fh1 fh2).2.2.2.1 := by
    unfold kernelRun0_B
    dsimp only
    sl_unfold_words
    simp only [View.readAt_eq_ld, harg1.read_unread, harg2.read_unread, harg6.read_unread, harg7.read_unread, harg8.read_unread, harg9.read_unread, harg10.read_unread, harg11.read_unread, harg12.read_unread, harg13.read_unread]
    simp only [ld_block, ld_row]
    exact ⟨fun x => Eq.trans (by rfl) (cols_emb3 (u0 x0 x1 xs1) (u1 x0 x1 xs1) (u2 x0 x1 xs1) (u3 x0 x1 xs1) (by intro a; fin_cases a <;> decide) x),
      fun x => Eq.trans (by rfl) (cols_emb2 (u0 x0 x1 xs1) (u1 x0 x1 xs1) (u2 x0 x1 xs1) (u3 x0 x1 xs1) (by intro a; fin_cases a <;> decide) x),
      fun x => Eq.trans (by rfl) (cols_emb1 (u0 x0 x1 xs1) (u1 x0 x1 xs1) (u2 x0 x1 xs1) (u3 x0 x1 xs1) (by intro a; fin_cases a <;> decide) x),
      fun x => Eq.trans (by rfl) (cols_emb0 (u0 x0 x1 xs1) (u1 x0 x1 xs1) (u2 x0 x1 xs1) (u3 x0 x1 xs1) (by intro a; fin_cases a <;> decide) x), trivial⟩
  unfold out0_B_5
  rw [View.read_writes_eq_canon _ _ _ (cover0_B_5 c i arg1 harg1 arg2 harg2 arg6 harg6 arg7 harg7 arg8 harg8 arg9 harg9 arg10 harg10 arg11 harg11 arg12 harg12 arg13 harg13 hc0 x0 x1 xs0 xs1 xs2 fh0 fh1 fh2)]
  funext y
  have h := View.canon_append_of_piecesOf (uT x0 x1 xs1) [] _ hp y (cover0_B_5 c i arg1 harg1 arg2 harg2 arg6 harg6 arg7 harg7 arg8 harg8 arg9 harg9 arg10 harg10 arg11 harg11 arg12 harg12 arg13 harg13 hc0 x0 x1 xs0 xs1 xs2 fh0 fh1 fh2 y)
  rwa [List.append_nil] at h

set_option maxHeartbeats 4000000 in
/-- The activation. -/
theorem out0_B_6_eq (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S512x1024 .f32) (harg6 : arg6.IsWhole) (arg7 : Memref sig .tc .vmem S512x1024 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x2816 .bf16) (harg10 : arg10.IsWhole) (arg11 : Memref sig .tc .vmem S2816x1024 .bf16) (harg11 : arg11.IsWhole) (arg12 : Memref sig .tc .vmem S2816x1024 .bf16) (harg12 : arg12.IsWhole) (arg13 : Memref sig .tc .vmem S2816x1024 .bf16) (harg13 : arg13.IsWhole) (hc0 : ¬cond0_0 i)
    (x0 : Vec F S512x1024 .f32) (x1 : Vec F S1x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_6 c i arg1 harg1 arg2 harg2 arg6 harg6 arg7 harg7 arg8 harg8 arg9 harg9 arg10 harg10 arg11 harg11 arg12 harg12 arg13 harg13 hc0 x0 x1 xs0 xs1 xs2 fh0 fh1 fh2 = aT x0 x1 xs0 xs1 := by
  have hp : View.PiecesOf (aT x0 x1 xs0 xs1) (kernelRun0_B c i arg1 harg1 arg2 harg2 arg6 harg6 arg7 harg7 arg8 harg8 arg9 harg9 arg10 harg10 arg11 harg11 arg12 harg12 arg13 harg13 hc0 x0 x1 xs0 xs1 xs2 fh0 fh1 fh2).2.2.2.2.1 := by
    unfold kernelRun0_B
    dsimp only
    sl_unfold_words
    simp only [View.readAt_eq_ld, harg1.read_unread, harg2.read_unread, harg6.read_unread, harg7.read_unread, harg8.read_unread, harg9.read_unread, harg10.read_unread, harg11.read_unread, harg12.read_unread, harg13.read_unread]
    simp only [ld_block, ld_row]
    exact ⟨fun x => Eq.trans (by rfl) (cols_emb3 (a0 x0 x1 xs0 xs1) (a1 x0 x1 xs0 xs1) (a2 x0 x1 xs0 xs1) (a3 x0 x1 xs0 xs1) (by intro a; fin_cases a <;> decide) x),
      fun x => Eq.trans (by rfl) (cols_emb2 (a0 x0 x1 xs0 xs1) (a1 x0 x1 xs0 xs1) (a2 x0 x1 xs0 xs1) (a3 x0 x1 xs0 xs1) (by intro a; fin_cases a <;> decide) x),
      fun x => Eq.trans (by rfl) (cols_emb1 (a0 x0 x1 xs0 xs1) (a1 x0 x1 xs0 xs1) (a2 x0 x1 xs0 xs1) (a3 x0 x1 xs0 xs1) (by intro a; fin_cases a <;> decide) x),
      fun x => Eq.trans (by rfl) (cols_emb0 (a0 x0 x1 xs0 xs1) (a1 x0 x1 xs0 xs1) (a2 x0 x1 xs0 xs1) (a3 x0 x1 xs0 xs1) (by intro a; fin_cases a <;> decide) x), trivial⟩
  unfold out0_B_6
  rw [View.read_writes_eq_canon _ _ _ (cover0_B_6 c i arg1 harg1 arg2 harg2 arg6 harg6 arg7 harg7 arg8 harg8 arg9 harg9 arg10 harg10 arg11 harg11 arg12 harg12 arg13 harg13 hc0 x0 x1 xs0 xs1 xs2 fh0 fh1 fh2)]
  funext y
  have h := View.canon_append_of_piecesOf (aT x0 x1 xs0 xs1) [] _ hp y (cover0_B_6 c i arg1 harg1 arg2 harg2 arg6 harg6 arg7 harg7 arg8 harg8 arg9 harg9 arg10 harg10 arg11 harg11 arg12 harg12 arg13 harg13 hc0 x0 x1 xs0 xs1 xs2 fh0 fh1 fh2 y)
  rwa [List.append_nil] at h

end Cert.FfnForwardIdeal.Tile

end
-- ==== Proof.FfnFwdBlocks.lean ====
/- What the forward kernel leaves: at each grid point the weights stay as loaded at the first, so every point's blocks are the
   row functions of its 512 rows, and the five result arrays those of all rows. -/
module

public import proofs.«01_k».proof.Proof.FfnFwdHost
public import proofs.«01_k».proof.Proof.FfnFwdOpenA
public import proofs.«01_k».proof.Proof.FfnFwdOpenB
public import Idealize.ShloMosaic.Lib.Pipeline.Value

@[expose] public section

set_option maxRecDepth 16384

noncomputable section

namespace Cert.FfnForwardIdeal.Value

open Cert.FfnForwardIdeal Cert.FfnForwardIdeal.Gen Cert.FfnForwardIdeal.Tile Cert.Ffn Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The three weights as the region finds them. -/
abbrev sWg (c : Dev nD) : Vec F S2816x1024 .bf16 := V m c main_v8
abbrev sWu (c : Dev nD) : Vec F S2816x1024 .bf16 := V m c main_v9
abbrev sWd (c : Dev nD) : Vec F S2816x1024 .bf16 := V m c main_v10

/-! ## What a point leaves, over what it reads and the point before left -/

theorem left2_A (c : Dev nD) (t : Fin cfg0.N) (h0 : t.val % 16 = 0) :
    (outsAt0 m c t.val t.isLt).1 = hT (iblk m c 0 t) (iblk m c 1 t) (sWg m c) (sWu m c) (sWd m c) := by
  rw [outsAt0_A m c t h0]
  dsimp only
  rw [out0_A_2_eq]
theorem left3_A (c : Dev nD) (t : Fin cfg0.N) (h0 : t.val % 16 = 0) :
    (outsAt0 m c t.val t.isLt).2.1 = xnT (iblk m c 0 t) (iblk m c 1 t) := by
  rw [outsAt0_A m c t h0]
  dsimp only
  rw [out0_A_3_eq]
theorem left4_A (c : Dev nD) (t : Fin cfg0.N) (h0 : t.val % 16 = 0) :
    (outsAt0 m c t.val t.isLt).2.2.1 = gT (iblk m c 0 t) (iblk m c 1 t) (sWg m c) := by
  rw [outsAt0_A m c t h0]
  dsimp only
  rw [out0_A_4_eq]
theorem left5_A (c : Dev nD) (t : Fin cfg0.N) (h0 : t.val % 16 = 0) :
    (outsAt0 m c t.val t.isLt).2.2.2.1 = uT (iblk m c 0 t) (iblk m c 1 t) (sWu m c) := by
  rw [outsAt0_A m c t h0]
  dsimp only
  rw [out0_A_5_eq]
theorem left6_A (c : Dev nD) (t : Fin cfg0.N) (h0 : t.val % 16 = 0) :
    (outsAt0 m c t.val t.isLt).2.2.2.2.1 = aT (iblk m c 0 t) (iblk m c 1 t) (sWg m c) (sWu m c) := by
  rw [outsAt0_A m c t h0]
  dsimp only
  rw [out0_A_6_eq]
theorem lefts0_A (c : Dev nD) (t : Fin cfg0.N) (h0 : t.val % 16 = 0) :
    (outsAt0 m c t.val t.isLt).2.2.2.2.2.1 = sWg m c := by
  rw [outsAt0_A m c t h0]
  dsimp only
  rw [sout0_A_0_eq]
theorem lefts1_A (c : Dev nD) (t : Fin cfg0.N) (h0 : t.val % 16 = 0) :
    (outsAt0 m c t.val t.isLt).2.2.2.2.2.2.1 = sWu m c := by
  rw [outsAt0_A m c t h0]
  dsimp only
  rw [sout0_A_1_eq]
theorem lefts2_A (c : Dev nD) (t : Fin cfg0.N) (h0 : t.val % 16 = 0) :
    (outsAt0 m c t.val t.isLt).2.2.2.2.2.2.2 = sWd m c := by
  rw [outsAt0_A m c t h0]
  dsimp only
  rw [sout0_A_2_eq]
theorem left2_B (c : Dev nD) (t : Fin cfg0.N) (h0 : ¬t.val % 16 = 0) :
    (outsAt0 m c t.val t.isLt).1 = hT (iblk m c 0 t) (iblk m c 1 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) ((outsAt0 m c (t.val - 1) (Nat.lt_of_le_of_lt (Nat.sub_le _ _) t.isLt)).2.2.2.2.2.2.2) := by
  rw [outsAt0_B m c t h0]
  dsimp only
  rw [out0_B_2_eq]
theorem left3_B (c : Dev nD) (t : Fin cfg0.N) (h0 : ¬t.val % 16 = 0) :
    (outsAt0 m c t.val t.isLt).2.1 = xnT (iblk m c 0 t) (iblk m c 1 t) := by
  rw [outsAt0_B m c t h0]
  dsimp only
  rw [out0_B_3_eq]
theorem left4_B (c : Dev nD) (t : Fin cfg0.N) (h0 : ¬t.val % 16 = 0) :
    (outsAt0 m c t.val t.isLt).2.2.1 = gT (iblk m c 0 t) (iblk m c 1 t) ((outsAt0 m c (t.val - 1) (Nat.lt_of_le_of_lt (Nat.sub_le _ _) t.isLt)).2.2.2.2.2.1) := by
  rw [outsAt0_B m c t h0]
  dsimp only
  rw [out0_B_4_eq]
theorem left5_B (c : Dev nD) (t : Fin cfg0.N) (h0 : ¬t.val % 16 = 0) :
    (outsAt0 m c t.val t.isLt).2.2.2.1 = uT (iblk m c 0 t) (iblk m c 1 t) ((outsAt0 m c (t.val - 1) (Nat.lt_of_le_of_lt (Nat.sub_le _ _) t.isLt)).2.2.2.2.2.2.1) := by
  rw [outsAt0_B m c t h0]
  dsimp only
  rw [out0_B_5_eq]
theorem left6_B (c : Dev nD) (t : Fin cfg0.N) (h0 : ¬t.val % 16 = 0) :
    (outsAt0 m c t.val t.isLt).2.2.2.2.1 = aT (iblk m c 0 t) (iblk m c 1 t) ((outsAt0 m c (t.val - 1) (Nat.lt_of_le_of_lt (Nat.sub_le _ _) t.isLt)).2.2.2.2.2.1) ((outsAt0 m c (t.val - 1) (Nat.lt_of_le_of_lt (Nat.sub_le _ _) t.isLt)).2.2.2.2.2.2.1) := by
  rw [outsAt0_B m c t h0]
  dsimp only
  rw [out0_B_6_eq]
theorem lefts0_B (c : Dev nD) (t : Fin cfg0.N) (h0 : ¬t.val % 16 = 0) :
    (outsAt0 m c t.val t.isLt).2.2.2.2.2.1 = (outsAt0 m c (t.val - 1) (Nat.lt_of_le_of_lt (Nat.sub_le _ _) t.isLt)).2.2.2.2.2.1 := by
  rw [outsAt0_B m c t h0]
  dsimp only [sout0_B_0]
theorem lefts1_B (c : Dev nD) (t : Fin cfg0.N) (h0 : ¬t.val % 16 = 0) :
    (outsAt0 m c t.val t.isLt).2.2.2.2.2.2.1 = (outsAt0 m c (t.val - 1) (Nat.lt_of_le_of_lt (Nat.sub_le _ _) t.isLt)).2.2.2.2.2.2.1 := by
  rw [outsAt0_B m c t h0]
  dsimp only [sout0_B_1]
theorem lefts2_B (c : Dev nD) (t : Fin cfg0.N) (h0 : ¬t.val % 16 = 0) :
    (outsAt0 m c t.val t.isLt).2.2.2.2.2.2.2 = (outsAt0 m c (t.val - 1) (Nat.lt_of_le_of_lt (Nat.sub_le _ _) t.isLt)).2.2.2.2.2.2.2 := by
  rw [outsAt0_B m c t h0]
  dsimp only [sout0_B_2]

/-- The weights stay as loaded at the first point. -/
theorem weights_eq (c : Dev nD) (n : ℕ) (hn : n < cfg0.N) :
    (outsAt0 m c n hn).2.2.2.2.2.1 = sWg m c ∧ (outsAt0 m c n hn).2.2.2.2.2.2.1 = sWu m c ∧ (outsAt0 m c n hn).2.2.2.2.2.2.2 = sWd m c := by
  have hN : n < 16 := lt_of_lt_of_eq hn N_0
  induction n with
  | zero => exact ⟨lefts0_A m c ⟨0, hn⟩ rfl, lefts1_A m c ⟨0, hn⟩ rfl, lefts2_A m c ⟨0, hn⟩ rfl⟩
  | succ n ih =>
    obtain ⟨h0, h1, h2⟩ := ih (Nat.lt_of_succ_lt hn) (by omega)
    have hB : ¬(⟨n + 1, hn⟩ : Fin cfg0.N).val % 16 = 0 := by show ¬(n + 1) % 16 = 0; omega
    exact ⟨(lefts0_B m c ⟨n + 1, hn⟩ hB).trans h0, (lefts1_B m c ⟨n + 1, hn⟩ hB).trans h1, (lefts2_B m c ⟨n + 1, hn⟩ hB).trans h2⟩

theorem left2 (c : Dev nD) (t : Fin cfg0.N) :
    (outsAt0 m c t.val t.isLt).1 = hT (iblk m c 0 t) (iblk m c 1 t) (sWg m c) (sWu m c) (sWd m c) := by
  by_cases h0 : t.val % 16 = 0
  · exact left2_A m c t h0
  · obtain ⟨e0, e1, e2⟩ := weights_eq m c (t.val - 1) (Nat.lt_of_le_of_lt (Nat.sub_le _ _) t.isLt)
    rw [left2_B m c t h0, e0, e1, e2]

theorem left3 (c : Dev nD) (t : Fin cfg0.N) :
    (outsAt0 m c t.val t.isLt).2.1 = xnT (iblk m c 0 t) (iblk m c 1 t) := by
  by_cases h0 : t.val % 16 = 0
  · exact left3_A m c t h0
  · exact left3_B m c t h0

theorem left4 (c : Dev nD) (t : Fin cfg0.N) :
    (outsAt0 m c t.val t.isLt).2.2.1 = gT (iblk m c 0 t) (iblk m c 1 t) (sWg m c) := by
  by_cases h0 : t.val % 16 = 0
  · exact left4_A m c t h0
  · obtain ⟨e0, e1, e2⟩ := weights_eq m c (t.val - 1) (Nat.lt_of_le_of_lt (Nat.sub_le _ _) t.isLt)
    rw [left4_B m c t h0, e0]

theorem left5 (c : Dev nD) (t : Fin cfg0.N) :
    (outsAt0 m c t.val t.isLt).2.2.2.1 = uT (iblk m c 0 t) (iblk m c 1 t) (sWu m c) := by
  by_cases h0 : t.val % 16 = 0
  · exact left5_A m c t h0
  · obtain ⟨e0, e1, e2⟩ := weights_eq m c (t.val - 1) (Nat.lt_of_le_of_lt (Nat.sub_le _ _) t.isLt)
    rw [left5_B m c t h0, e1]

theorem left6 (c : Dev nD) (t : Fin cfg0.N) :
    (outsAt0 m c t.val t.isLt).2.2.2.2.1 = aT (iblk m c 0 t) (iblk m c 1 t) (sWg m c) (sWu m c) := by
  by_cases h0 : t.val % 16 = 0
  · exact left6_A m c t h0
  · obtain ⟨e0, e1, e2⟩ := weights_eq m c (t.val - 1) (Nat.lt_of_le_of_lt (Nat.sub_le _ _) t.isLt)
    rw [left6_B m c t h0, e0, e1]

/-! ## The blocks a point reads -/

section Entries

variable (m : (ℓ : Loc nD τ sig) → Buf (Elt Ideal) ℓ)

theorem idx : ∀ t : Fin cfg0.N, win0_0.index t = ![t.val, 0] ∧ win0_1.index t = ![0, 0]
    ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The row of the arrays that is a row of a point's blocks. -/
abbrev brow (t : Fin cfg0.N) (i : Fin 512) : Fin 8192 := ⟨t.val * 512 + i.val, by have := i.isLt; have := lt_of_lt_of_eq t.isLt N_0; omega⟩

theorem blk0 (c : Dev nD) (t : Fin cfg0.N) (i : Fin 512) (k : Fin 1024) : (iblk m c 0 t : Vec Ideal S512x1024 .f32) (ix2 i k) = aX m c (ix2 (brow t i) k) := by
  blk_ext [iblk, V, idx t]
theorem blk1 (c : Dev nD) (t : Fin cfg0.N) (k : Fin 1024) : (iblk m c 1 t : Vec Ideal S1x1024 .f32) (ix2 0 k) = aGn m c (ix2 0 k) := by
  blk_ext [iblk, V, idx t]

/-! ## The result arrays -/

/-- The row functions at a row of the arrays. -/
abbrev xnR (c : Dev nD) (r : Fin 8192) (k : Fin 1024) : EReal := xnRow (fun k => aX m c (ix2 r k)) (fun k => aGn m c (ix2 0 k)) k
abbrev gateR (c : Dev nD) (r : Fin 8192) (f : Fin 2816) : EReal :=
  hid (fun k => aX m c (ix2 r k)) (fun k => aGn m c (ix2 0 k)) (fun k => aWg m c (ix2 k f))
abbrev upR (c : Dev nD) (r : Fin 8192) (f : Fin 2816) : EReal :=
  hid (fun k => aX m c (ix2 r k)) (fun k => aGn m c (ix2 0 k)) (fun k => aWu m c (ix2 k f))
abbrev actR (c : Dev nD) (r : Fin 8192) (f : Fin 2816) : EReal := act (gateR m c r f) (upR m c r f)
abbrev hR (c : Dev nD) (r : Fin 8192) (j : Fin 1024) : EReal := out (aX m c (ix2 r j)) (actR m c r) (fun f => aWd m c (ix2 f j))

/-- The five result arrays. -/
def Harr (c : Dev nD) : Vec Ideal S8192x1024 .f32 := fun y => hR m c (y 0) (y 1)
def XNarr (c : Dev nD) : Vec Ideal S8192x1024 .bf16 := fun y => xnR m c (y 0) (y 1)
def Garr (c : Dev nD) : Vec Ideal S8192x2816 .bf16 := fun y => gateR m c (y 0) (y 1)
def Uarr (c : Dev nD) : Vec Ideal S8192x2816 .bf16 := fun y => upR m c (y 0) (y 1)
def Aarr (c : Dev nD) : Vec Ideal S8192x2816 .bf16 := fun y => actR m c (y 0) (y 1)

theorem x_blk (c : Dev nD) (t : Fin cfg0.N) (i : Fin 512) :
    (fun k => (iblk m c 0 t : Vec Ideal S512x1024 .f32) (ix2 i k)) = fun k => aX m c (ix2 (brow t i) k) := funext fun k => blk0 m c t i k
theorem gn_blk (c : Dev nD) (t : Fin cfg0.N) :
    (fun k => (iblk m c 1 t : Vec Ideal S1x1024 .f32) (ix2 0 k)) = fun k => aGn m c (ix2 0 k) := funext fun k => blk1 m c t k
theorem gate_blk (c : Dev nD) (t : Fin cfg0.N) (i : Fin 512) (f : Fin 2816) :
    hidB (iblk m c 0 t) (iblk m c 1 t) (sWg m c) i f = gateR m c (brow t i) f := by
  show hid _ _ _ = hid _ _ _
  rw [x_blk, gn_blk, show (fun k => sWg m c (ix2 f k)) = fun k => aWg m c (ix2 k f) from funext fun k => V_wg m c f k]
theorem up_blk (c : Dev nD) (t : Fin cfg0.N) (i : Fin 512) (f : Fin 2816) :
    hidB (iblk m c 0 t) (iblk m c 1 t) (sWu m c) i f = upR m c (brow t i) f := by
  show hid _ _ _ = hid _ _ _
  rw [x_blk, gn_blk, show (fun k => sWu m c (ix2 f k)) = fun k => aWu m c (ix2 k f) from funext fun k => V_wu m c f k]
theorem act_blk (c : Dev nD) (t : Fin cfg0.N) (i : Fin 512) (f : Fin 2816) :
    actB (iblk m c 0 t) (iblk m c 1 t) (sWg m c) (sWu m c) i f = actR m c (brow t i) f :=
  congrArg₂ act (gate_blk m c t i f) (up_blk m c t i f)

theorem after2_at (c : Dev nD) (t : Fin cfg0.N) (i : Fin 512) (j : Fin 1024) :
    (outsAt0 m c t.val t.isLt).1 (ix2 i j) = Harr m c (ix2 (brow t i) j) := by
  rw [left2]
  refine (hT_at _ _ _ _ _ i j).trans ?_
  rw [blk0 m c t i j,
    show actB (iblk m c 0 t) (iblk m c 1 t) (sWg m c) (sWu m c) i = actR m c (brow t i) from funext fun f => act_blk m c t i f,
    show (fun f => sWd m c (ix2 f j)) = fun f => aWd m c (ix2 f j) from funext fun f => V_wd m c f j]
  rfl
theorem after3_at (c : Dev nD) (t : Fin cfg0.N) (i : Fin 512) (k : Fin 1024) :
    (outsAt0 m c t.val t.isLt).2.1 (ix2 i k) = XNarr m c (ix2 (brow t i) k) := by
  rw [left3]
  exact (xnT_at _ _ i k).trans (congrArg₂ (fun a b => xnRow a b k) (x_blk m c t i) (gn_blk m c t))
theorem after4_at (c : Dev nD) (t : Fin cfg0.N) (i : Fin 512) (f : Fin 2816) :
    (outsAt0 m c t.val t.isLt).2.2.1 (ix2 i f) = Garr m c (ix2 (brow t i) f) := by
  rw [left4]
  exact (gT_at _ _ _ i f).trans (gate_blk m c t i f)
theorem after5_at (c : Dev nD) (t : Fin cfg0.N) (i : Fin 512) (f : Fin 2816) :
    (outsAt0 m c t.val t.isLt).2.2.2.1 (ix2 i f) = Uarr m c (ix2 (brow t i) f) := by
  rw [left5]
  exact (uT_at _ _ _ i f).trans (up_blk m c t i f)
theorem after6_at (c : Dev nD) (t : Fin cfg0.N) (i : Fin 512) (f : Fin 2816) :
    (outsAt0 m c t.val t.isLt).2.2.2.2.1 (ix2 i f) = Aarr m c (ix2 (brow t i) f) := by
  rw [left6]
  exact (aT_at _ _ _ _ i f).trans (act_blk m c t i f)

theorem final2 (c : Dev nD) : (dats m 0 c).arrAt 2 cfg0.N = Harr m c := by
  refine (dats m 0 c).arrAt_eq_of_covers 2 _ (by decide +kernel) fun t _ y => ?_
  blk_simp
  rw [after0_2]
  idx_vars y
  refine (after2_at m c t _ _).trans ?_
  blk_ext [idx t]
theorem final3 (c : Dev nD) : (dats m 0 c).arrAt 3 cfg0.N = XNarr m c := by
  refine (dats m 0 c).arrAt_eq_of_covers 3 _ (by decide +kernel) fun t _ y => ?_
  blk_simp
  rw [after0_3]
  idx_vars y
  refine (after3_at m c t _ _).trans ?_
  blk_ext [idx t]
theorem final4 (c : Dev nD) : (dats m 0 c).arrAt 4 cfg0.N = Garr m c := by
  refine (dats m 0 c).arrAt_eq_of_covers 4 _ (by decide +kernel) fun t _ y => ?_
  blk_simp
  rw [after0_4]
  idx_vars y
  refine (after4_at m c t _ _).trans ?_
  blk_ext [idx t]
theorem final5 (c : Dev nD) : (dats m 0 c).arrAt 5 cfg0.N = Uarr m c := by
  refine (dats m 0 c).arrAt_eq_of_covers 5 _ (by decide +kernel) fun t _ y => ?_
  blk_simp
  rw [after0_5]
  idx_vars y
  refine (after5_at m c t _ _).trans ?_
  blk_ext [idx t]
theorem final6 (c : Dev nD) : (dats m 0 c).arrAt 6 cfg0.N = Aarr m c := by
  refine (dats m 0 c).arrAt_eq_of_covers 6 _ (by decide +kernel) fun t _ y => ?_
  blk_simp
  rw [after0_6]
  idx_vars y
  refine (after6_at m c t _ _).trans ?_
  blk_ext [idx t]

/-- After every run the five results are these arrays and the arguments are as they were. -/
theorem run_arrays (ρ : Dev nD → PrngReg) : θ_run defs (onTc (τ := τ) (main (F := Ideal))) ⟨m, fun _ => 0, ρ⟩ fun r => ∀ c : Dev nD,
      (r.2.mem ((c : Thread nD τ).loc main_v11_0) = Harr m c ∧ r.2.mem ((c : Thread nD τ).loc main_v11_1) = XNarr m c
        ∧ r.2.mem ((c : Thread nD τ).loc main_v11_2) = Garr m c ∧ r.2.mem ((c : Thread nD τ).loc main_v11_3) = Uarr m c
        ∧ r.2.mem ((c : Thread nD τ).loc main_v11_4) = Aarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (run_main m ρ)
  obtain ⟨hw, hr⟩ := h c
  exact ⟨⟨(hw 2).trans (final2 m c), (hw 3).trans (final3 m c), (hw 4).trans (final4 m c), (hw 5).trans (final5 m c), (hw 6).trans (final6 m c)⟩,
    ((hw 0).trans ((dats m 0 c).arrAt_in 0 rfl _)).trans ((A_eq m c 0).trans (V_main_arg0 m c)),
    ((hw 1).trans ((dats m 0 c).arrAt_in 1 rfl _)).trans ((A_eq m c 1).trans (V_main_arg1 m c)),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c)⟩

end Entries

end Cert.FfnForwardIdeal.Value

end
-- ==== Proof.FfnFwdValue.lean ====
/- The forward kernel's value claim: the five arrays it leaves are those of the layer written plainly. -/
module

public import proofs.«01_k».proof.Defs
public import proofs.«01_k».proof.Proof.FfnFwdBlocks
public import proofs.«01_k».proof.Proof.Gen.FfnLayerIdeal.Run

@[expose] public section

set_option maxRecDepth 16384

noncomputable section

namespace Cert.Proof

open Idealize.ShloMosaic Idealize.ShloMosaic.TcCoe Idealize.SL.Sem Cert.Ffn
open Cert.FfnForwardIdeal.Value Cert.FfnForwardIdeal.Tile

/-- The forward kernel's value claim. -/
theorem value_forward : Cert.algebraic_FfnForwardIdeal_FfnLayerIdeal := by
  intro m g m' g' _ hargs
  refine ⟨fun c => Harr m c, fun c => XNarr m c, fun c => Garr m c, fun c => Uarr m c, fun c => Aarr m c, ?_, ?_⟩
  · refine (θ_run Cert.FfnForwardIdeal.defs _ _).mono (fun r h c => ?_) (run_arrays m g)
    obtain ⟨⟨h0, h1, h2, h3, h4⟩, h5⟩ := h c
    exact ⟨h0, h1, h2, h3, h4, h5⟩
  · refine (θ_run Cert.FfnLayerIdeal.defs _ _).mono (fun r h c => ?_) (Cert.FfnLayerIdeal.Value.run m' g')
    obtain ⟨h0, h1, h2, h3, h4, h5⟩ := h c
    obtain ⟨e0, e1, e2, e3, e4⟩ := hargs c
    refine ⟨h0.trans ?_, h1.trans ?_, h2.trans ?_, h3.trans ?_, h4.trans ?_, h5⟩
    · rw [e0, e1, e2, e3, e4]
      funext y
      idx_vars y
      show _ = hR m c y0 y1
      pointwise
      unfold hR out actR act sg
      simp only [zero_sub]
      rfl
    · rw [e0, e1]
      funext y
      idx_vars y
      pointwise
      rfl
    · rw [e0, e1, e2]
      funext y
      idx_vars y
      pointwise
      rfl
    · rw [e0, e1, e3]
      funext y
      idx_vars y
      pointwise
      rfl
    · rw [e0, e1, e2, e3]
      funext y
      idx_vars y
      show _ = actR m c y0 y1
      pointwise
      unfold actR act sg
      simp only [zero_sub]
      rfl

end Cert.Proof

end
-- ==== Proof.FfnWeightValue.lean ====
/- One projection's weight gradient in a call of its own: the kernel adds it up over four blocks of rows, the reference takes it in one product. -/
module

public import proofs.«01_k».proof.Defs
public import proofs.«01_k».proof.Proof.Gen.FfnWeightIdeal.Value
public import proofs.«01_k».proof.Proof.Gen.FfnWeightGradientIdeal.Run
public import proofs.«01_k».proof.Proof.FfnSums
public import Idealize.ShloMosaic.Lib.StableHlo.RunRead
public import Idealize.ShloMosaic.Lib.Pointwise
public import Idealize.ShloMosaic.Lib.Pipeline.ValueKit

@[expose] public section

set_option maxRecDepth 16384

noncomputable section

namespace Cert.FfnWeightIdeal.Value

open Cert.FfnWeightIdeal Cert.FfnWeightIdeal.Gen Cert.Ffn Idealize.ShloMosaic Idealize.ShloMosaic.TcCoe Idealize.SL.Sem
open Idealize.ShloMosaic.StableHlo

variable (m : (ℓ : Loc nD τ sig) → Buf (Elt Ideal) ℓ)

/-- The arguments the gradient depends on. -/
abbrev aX (c : Dev nD) : FVec Ideal S8192x1024 .f32 := m ((c : Thread nD τ).loc main_arg0)
abbrev aGn (c : Dev nD) : FVec Ideal S1x1024 .f32 := m ((c : Thread nD τ).loc main_arg1)
abbrev aDh (c : Dev nD) : FVec Ideal S8192x2816 .bf16 := m ((c : Thread nD τ).loc main_arg3)

/-- The normalised entry of a row. -/
abbrev xnR (c : Dev nD) (r : Fin 8192) (j : Fin 1024) : EReal := xnRow (fun k => aX m c (ix2 r k)) (fun k => aGn m c (ix2 0 k)) j

theorem V_xn (c : Dev nD) (r : Fin 8192) (j : Fin 1024) : (V m c main_v12 : FVec Ideal S8192x1024 .bf16) (ix2 r j) = xnR m c r j := by
  unfold V
  after_reads_simp
  pointwise
  rfl

theorem idx : ∀ t : Fin cfg0.N, win0_0.index t = ![t.val % 4, 0] ∧ win0_1.index t = ![t.val % 4, t.val / 4 % 2] :=
  (by decide +kernel : ∀ t : Fin grid0.N, _)

theorem blk0 (c : Dev nD) (t : Fin cfg0.N) (k : Fin 2048) (j : Fin 1024) :
    (iblk m c 0 t : Vec Ideal S2048x1024 .bf16) (ix2 k j) = (V m c main_v12 : FVec Ideal S8192x1024 .bf16) (ix2 (row4 t.val k) j) := by
  blk_ext [iblk, idx t]
theorem blk1 (c : Dev nD) (t : Fin cfg0.N) (k : Fin 2048) (f : Fin 1408) :
    (iblk m c 1 t : Vec Ideal S2048x1408 .bf16) (ix2 k f) = aDh m c (ix2 (row4 t.val k) (col2 (t.val / 4) f)) := by
  blk_ext [iblk, V, idx t]

/-- What a grid point adds. -/
def addend (c : Dev nD) (n : ℕ) (i : S1408x1024.Idx) : EReal :=
  ∑ k : Fin 2048, aDh m c (ix2 (row4 n k) (col2 (n / 4) (i 0))) * xnR m c (row4 n k) (i 1)

theorem step_at (c : Dev nD) (n : ℕ) (h : n < cfg0.N) (acc : Vec Ideal S1408x1024 .f32) (i : S1408x1024.Idx) :
    step2 m c n h acc i = (acc i : EReal) + addend m c n i := by
  idx_vars i
  unfold step2
  pointwise [k0_pay2]
  refine congrArg (fun b : EReal => acc (ix2 i0 i1) + b) ?_
  refine Finset.sum_congr (M := EReal) rfl fun k _ => ?_
  rw [blk0, blk1, V_xn]
  rfl

theorem reset_at (c : Dev nD) (n : ℕ) (h : n < cfg0.N) (i : S1408x1024.Idx) :
    reset2 m c n h i = (0 : EReal) + addend m c n i := by
  refine (step_at m c n h (k0_pay1 (F := Ideal)) i).trans (congrArg (fun a : EReal => a + addend m c n i) ?_)
  pointwise [k0_pay1]

/-- The gradient at an entry. -/
def dwR (c : Dev nD) (f : Fin 2816) (j : Fin 1024) : EReal := ∑ r : Fin 8192, aDh m c (ix2 r f) * xnR m c r j

theorem G2_at (c : Dev nD) (f : Fin 2816) (j : Fin 1024) : (G2 m c : FVec Ideal S2816x1024 .f32) (ix2 f j) = dwR m c f j := by
  have hN : cfg0.N = 8 := N_0
  have hf := f.isLt
  have hj := j.isLt
  have hr : run2Of (ix2 f j) = f.val / 1408 := by
    show 1 * (f.val / 1408 - 0) + 1 * (j.val / 1024 - 0) = _
    omega
  unfold G2
  rw [dif_pos (by rw [hr]; omega)]
  refine (Pipeline.accAt_add_apply (reset2 m c) (step2 m c) (fun _ => (0 : EReal)) (addend m c) (4 * run2Of (ix2 f j)) 3
    (fun h i => reset_at m c _ h i) (fun n h acc i _ _ => step_at m c n h acc i) 3 le_rfl _ _).trans ?_
  rw [hr]
  refine (zero_add (_ : EReal)).trans ?_
  refine Eq.trans ?_ (sum_row4 (f.val / 1408) fun r => aDh m c (ix2 r f) * xnR m c r j)
  refine Finset.sum_congr rfl fun s hs => ?_
  have hs' := Finset.mem_range.mp hs
  unfold addend
  have hc : col2 ((4 * (f.val / 1408) + s) / 4) ((loc2Of (ix2 f j)) 0) = f := Fin.ext (by
    show (4 * (f.val / 1408) + s) / 4 % 2 * 1408 + f.val % 1408 = f.val
    omega)
  have hd : (loc2Of (ix2 f j)) 1 = j := Fin.ext (by show j.val % 1024 = j.val; omega)
  rw [hc, hd]

end Cert.FfnWeightIdeal.Value

namespace Cert.Proof

open Idealize.ShloMosaic Idealize.ShloMosaic.TcCoe Idealize.SL.Sem Cert.Ffn

/-- The value claim of one projection's weight gradient. -/
theorem value_weight : Cert.algebraic_FfnWeightIdeal_FfnWeightGradientIdeal := by
  intro m g m' g' _ hargs
  refine ⟨fun c => Cert.FfnWeightIdeal.Value.G2 m c, Cert.FfnWeightIdeal.Value.run m g, ?_⟩
  refine (θ_run Cert.FfnWeightGradientIdeal.defs _ _).mono (fun r h c => ?_) (Cert.FfnWeightGradientIdeal.Value.run m' g')
  obtain ⟨h0, h3⟩ := h c
  obtain ⟨e0, e1, e2, e3⟩ := hargs c
  refine ⟨h0.trans ?_, h3⟩
  rw [e0, e1, e3]
  funext y
  idx_vars y
  refine Eq.trans ?_ (Cert.FfnWeightIdeal.Value.G2_at m c y0 y1).symm
  pointwise
  rfl

end Cert.Proof

end
-- ==== Proof.InWeightsValue.lean ====
/- The input projection's weight gradient, in four blocks of columns: the kernel adds each up over four blocks of rows, the reference takes it in one product. -/
module

public import proofs.«01_k».proof.Defs
public import proofs.«01_k».proof.Proof.Gen.InWeightsIdeal.Value
public import proofs.«01_k».proof.Proof.Gen.InWeightsGradientIdeal.Run
public import proofs.«01_k».proof.Proof.FfnSums
public import Idealize.ShloMosaic.Lib.StableHlo.RunRead
public import Idealize.ShloMosaic.Lib.Pointwise
public import Idealize.ShloMosaic.Lib.Pipeline.ValueKit

@[expose] public section

set_option maxRecDepth 16384

noncomputable section

namespace Cert.InWeightsIdeal.Value

open Cert.InWeightsIdeal Cert.InWeightsIdeal.Gen Cert.Ffn Idealize.ShloMosaic Idealize.ShloMosaic.TcCoe Idealize.SL.Sem
open Idealize.ShloMosaic.StableHlo

variable (m : (ℓ : Loc nD τ sig) → Buf (Elt Ideal) ℓ)

/-- The arguments the gradient depends on. -/
abbrev aX (c : Dev nD) : FVec Ideal S8192x1024 .f32 := m ((c : Thread nD τ).loc main_arg0)
abbrev aGn (c : Dev nD) : FVec Ideal S1x1024 .f32 := m ((c : Thread nD τ).loc main_arg1)
abbrev aDu (c : Dev nD) : FVec Ideal S8192x3584 .bf16 := m ((c : Thread nD τ).loc main_arg3)

/-- The normalised entry of a row. -/
abbrev xnR (c : Dev nD) (r : Fin 8192) (j : Fin 1024) : EReal := xnRow (fun k => aX m c (ix2 r k)) (fun k => aGn m c (ix2 0 k)) j
/-- A column, from its block's number and its place in the block. -/
abbrev col4 (n : ℕ) (j : Fin 896) : Fin 3584 := ⟨n % 4 * 896 + j.val, by have := j.isLt; omega⟩

theorem V_xn (c : Dev nD) (r : Fin 8192) (j : Fin 1024) : (V m c main_v12 : FVec Ideal S8192x1024 .bf16) (ix2 r j) = xnR m c r j := by
  unfold V
  after_reads_simp
  pointwise
  rfl

theorem idx : ∀ t : Fin cfg0.N, win0_0.index t = ![t.val % 4, 0] ∧ win0_1.index t = ![t.val % 4, t.val / 4 % 4] :=
  (by decide +kernel : ∀ t : Fin grid0.N, _)

theorem blk0 (c : Dev nD) (t : Fin cfg0.N) (k : Fin 2048) (j : Fin 1024) :
    (iblk m c 0 t : Vec Ideal S2048x1024 .bf16) (ix2 k j) = (V m c main_v12 : FVec Ideal S8192x1024 .bf16) (ix2 (row4 t.val k) j) := by
  blk_ext [iblk, idx t]
theorem blk1 (c : Dev nD) (t : Fin cfg0.N) (k : Fin 2048) (f : Fin 896) :
    (iblk m c 1 t : Vec Ideal S2048x896 .bf16) (ix2 k f) = aDu m c (ix2 (row4 t.val k) (col4 (t.val / 4) f)) := by
  blk_ext [iblk, V, idx t]

/-- What a grid point adds. -/
def addend (c : Dev nD) (n : ℕ) (i : S1x1024x896.Idx) : EReal :=
  ∑ k : Fin 2048, xnR m c (row4 n k) (i 1) * aDu m c (ix2 (row4 n k) (col4 (n / 4) (i 2)))

theorem step_at (c : Dev nD) (n : ℕ) (h : n < cfg0.N) (acc : Vec Ideal S1x1024x896 .f32) (i : S1x1024x896.Idx) :
    step2 m c n h acc i = (acc i : EReal) + addend m c n i := by
  idx_vars i
  obtain rfl : i0 = 0 := Subsingleton.elim _ _
  unfold step2
  pointwise [k0_pay2]
  refine congrArg (fun b : EReal => acc (ix3 0 i1 i2) + b) ?_
  refine Finset.sum_congr (M := EReal) rfl fun k _ => ?_
  rw [blk0, blk1, V_xn]
  rfl

theorem reset_at (c : Dev nD) (n : ℕ) (h : n < cfg0.N) (i : S1x1024x896.Idx) :
    reset2 m c n h i = (0 : EReal) + addend m c n i := by
  refine (step_at m c n h (k0_pay1 (F := Ideal)) i).trans (congrArg (fun a : EReal => a + addend m c n i) ?_)
  idx_vars i
  obtain rfl : i0 = 0 := Subsingleton.elim _ _
  pointwise [k0_pay1]

/-- The gradient at an entry. -/
def dwR (c : Dev nD) (q : Fin 4) (j : Fin 1024) (f : Fin 896) : EReal := ∑ r : Fin 8192, xnR m c r j * aDu m c (ix2 r (col4 q.val f))

theorem G2_at (c : Dev nD) (q : Fin 4) (j : Fin 1024) (f : Fin 896) : (G2 m c : FVec Ideal S4x1024x896 .f32) (ix3 q j f) = dwR m c q j f := by
  have hN : cfg0.N = 16 := N_0
  have hq := q.isLt
  have hf := f.isLt
  have hj := j.isLt
  have hr : run2Of (ix3 q j f) = q.val := by
    show 1 * (q.val / 1 - 0) + 1 * (j.val / 1024 - 0) + 1 * (f.val / 896 - 0) = _
    omega
  unfold G2
  rw [dif_pos (by rw [hr]; omega)]
  refine (Pipeline.accAt_add_apply (reset2 m c) (step2 m c) (fun _ => (0 : EReal)) (addend m c) (4 * run2Of (ix3 q j f)) 3
    (fun h i => reset_at m c _ h i) (fun n h acc i _ _ => step_at m c n h acc i) 3 le_rfl _ _).trans ?_
  rw [hr]
  refine (zero_add (_ : EReal)).trans ?_
  refine Eq.trans ?_ (sum_row4 q.val fun r => xnR m c r j * aDu m c (ix2 r (col4 q.val f)))
  refine Finset.sum_congr rfl fun s hs => ?_
  have hs' := Finset.mem_range.mp hs
  unfold addend
  have hc : col4 ((4 * q.val + s) / 4) ((loc2Of (ix3 q j f)) 2) = col4 q.val f := Fin.ext (by
    show (4 * q.val + s) / 4 % 4 * 896 + f.val % 896 = q.val % 4 * 896 + f.val
    omega)
  have hd : (loc2Of (ix3 q j f)) 1 = j := Fin.ext (by show j.val % 1024 = j.val; omega)
  rw [hc, hd]

end Cert.InWeightsIdeal.Value

namespace Cert.Proof

open Idealize.ShloMosaic Idealize.ShloMosaic.TcCoe Idealize.SL.Sem Cert.Ffn

/-- The input projection's weight gradient's value claim. -/
theorem value_in_weights : Cert.algebraic_InWeightsIdeal_InWeightsGradientIdeal := by
  intro m g m' g' _ hargs
  refine ⟨fun c => Cert.InWeightsIdeal.Value.G2 m c, Cert.InWeightsIdeal.Value.run m g, ?_⟩
  refine (θ_run Cert.InWeightsGradientIdeal.defs _ _).mono (fun r h c => ?_) (Cert.InWeightsGradientIdeal.Value.run m' g')
  obtain ⟨h0, h3⟩ := h c
  obtain ⟨e0, e1, e2, e3⟩ := hargs c
  refine ⟨h0.trans ?_, h3⟩
  rw [e0, e1, e3]
  funext y
  idx_vars y
  refine Eq.trans ?_ (Cert.InWeightsIdeal.Value.G2_at m c y0 y1 y2).symm
  pointwise
  unfold Cert.InWeightsIdeal.Value.dwR
  refine Finset.sum_congr rfl fun r _ => ?_
  have hc : Cert.InWeightsIdeal.Value.col4 y0.val y2 = ⟨y0.val * 896 + y2.val, by have := y0.isLt; have := y2.isLt; omega⟩ := Fin.ext (by
    have := y0.isLt
    show y0.val % 4 * 896 + y2.val = y0.val * 896 + y2.val
    omega)
  rw [hc]
  exact mul_comm (_ : EReal) _

end Cert.Proof

end
-- ==== Proof.OutFwdValue.lean ====
/- The output projection with the residual stream: the two halves of the mixed columns against the two halves of the weight. -/
module

public import proofs.«01_k».proof.Defs
public import proofs.«01_k».proof.Proof.Gen.OutForwardIdeal.Value
public import proofs.«01_k».proof.Proof.Gen.OutLayerIdeal.Run
public import proofs.«01_k».proof.Proof.FfnSums
public import Idealize.ShloMosaic.Lib.StableHlo.RunRead
public import Idealize.ShloMosaic.Lib.Pointwise
public import Idealize.ShloMosaic.Lib.Pipeline.ValueKit

@[expose] public section

set_option maxRecDepth 16384

noncomputable section

namespace Cert.OutForwardIdeal.Value

open Cert.OutForwardIdeal Cert.OutForwardIdeal.Gen Cert.Ffn Idealize.ShloMosaic Idealize.ShloMosaic.TcCoe Idealize.SL.Sem
open Idealize.ShloMosaic.StableHlo

variable (m : (ℓ : Loc nD τ sig) → Buf (Elt Ideal) ℓ)

/-- The four arguments. -/
abbrev aH (c : Dev nD) : FVec Ideal S8192x1024 .f32 := m ((c : Thread nD τ).loc main_arg0)
abbrev aR (c : Dev nD) : FVec Ideal S8192x512 .f32 := m ((c : Thread nD τ).loc main_arg1)
abbrev aA (c : Dev nD) : FVec Ideal S8192x512 .f32 := m ((c : Thread nD τ).loc main_arg2)
abbrev aW (c : Dev nD) : FVec Ideal S1024x1024 .f32 := m ((c : Thread nD τ).loc main_arg3)

theorem V_r (c : Dev nD) (r : Fin 8192) (f : Fin 512) : (V m c main_v0 : FVec Ideal S8192x512 .bf16) (ix2 r f) = aR m c (ix2 r f) := by
  unfold V
  after_reads_simp
  pointwise
theorem V_a (c : Dev nD) (r : Fin 8192) (f : Fin 512) : (V m c main_v1 : FVec Ideal S8192x512 .bf16) (ix2 r f) = aA m c (ix2 r f) := by
  unfold V
  after_reads_simp
  pointwise
theorem V_w (c : Dev nD) (f j : Fin 1024) : (V m c main_v2 : FVec Ideal S1024x1024 .bf16) (ix2 f j) = aW m c (ix2 f j) := by
  unfold V
  after_reads_simp
  pointwise

theorem idx : ∀ t : Fin cfg0.N, win0_0.index t = ![t.val, 0] ∧ win0_1.index t = ![t.val, 0] ∧ win0_2.index t = ![t.val, 0] ∧ win0_3.index t = ![0, 0]
    ∧ win0_4.index t = ![t.val, 0] :=
  (by decide +kernel : ∀ t : Fin grid0.N, _)

/-- A row, from its block's number and its place in the block. -/
abbrev brow (t : Fin cfg0.N) (i : Fin 512) : Fin 8192 := ⟨t.val * 512 + i.val, by have := i.isLt; have := lt_of_lt_of_eq t.isLt N_0; omega⟩

theorem blk0 (c : Dev nD) (t : Fin cfg0.N) (i : Fin 512) (k : Fin 1024) : (iblk m c 0 t : Vec Ideal S512x1024 .f32) (ix2 i k) = aH m c (ix2 (brow t i) k) := by
  blk_ext [iblk, V, idx t]
theorem blk1 (c : Dev nD) (t : Fin cfg0.N) (i f : Fin 512) : (iblk m c 1 t : Vec Ideal S512x512 .bf16) (ix2 i f) = aR m c (ix2 (brow t i) f) := by
  refine Eq.trans ?_ (V_r m c _ f)
  blk_ext [iblk, idx t]
theorem blk2 (c : Dev nD) (t : Fin cfg0.N) (i f : Fin 512) : (iblk m c 2 t : Vec Ideal S512x512 .bf16) (ix2 i f) = aA m c (ix2 (brow t i) f) := by
  refine Eq.trans ?_ (V_a m c _ f)
  blk_ext [iblk, idx t]
theorem blk3 (c : Dev nD) (t : Fin cfg0.N) (f j : Fin 1024) : (iblk m c 3 t : Vec Ideal S1024x1024 .bf16) (ix2 f j) = aW m c (ix2 f j) := by
  refine Eq.trans ?_ (V_w m c f j)
  blk_ext [iblk, idx t]

/-- The result: the row's entry and the two halves' products. -/
def OUT (c : Dev nD) : Vec Ideal S8192x1024 .f32 := fun y =>
  (aH m c (ix2 (y 0) (y 1)) + ∑ k : Fin 512, aR m c (ix2 (y 0) k) * aW m c (ix2 ⟨k.val, by omega⟩ (y 1)) : EReal)
    + ∑ k : Fin 512, aA m c (ix2 (y 0) k) * aW m c (ix2 ⟨512 + k.val, by omega⟩ (y 1))

theorem hz2 : (![0, 0] : Fin 2 → ℕ) = fun _ => 0 := funext fun a => by fin_cases a <;> rfl

theorem out4_at (c : Dev nD) (t : Fin cfg0.N) (i : Fin 512) (j : Fin 1024) :
    out0_4 (iblk m c 0 t) (iblk m c 1 t) (iblk m c 2 t) (iblk m c 3 t) (ix2 i j) = OUT m c (ix2 (brow t i) j) := by
  unfold out0_4
  rw [View.canon_unit_zero hz2]
  pointwise [k0_pay1]
  rw [blk0]
  refine congrArg₂ (fun a b : EReal => aH m c (ix2 (brow t i) j) + a + b) (Finset.sum_congr (M := EReal) rfl fun k _ => ?_)
    (Finset.sum_congr (M := EReal) rfl fun k _ => ?_)
  · rw [blk1, blk3]
    rfl
  · rw [blk2, blk3]
    rfl

theorem final4 (c : Dev nD) : (dats m 0 c).arrAt 4 cfg0.N = OUT m c := by
  refine (dats m 0 c).arrAt_eq_of_covers 4 _ (by decide +kernel) fun t _ y => ?_
  blk_simp
  rw [after0_4]
  idx_vars y
  refine (out4_at m c t _ _).trans ?_
  blk_ext [idx t]

end Cert.OutForwardIdeal.Value

namespace Cert.Proof

open Idealize.ShloMosaic Idealize.ShloMosaic.TcCoe Idealize.SL.Sem Cert.Ffn

/-- The output projection's value claim. -/
theorem value_out_forward : Cert.algebraic_OutForwardIdeal_OutLayerIdeal := by
  intro m g m' g' _ hargs
  refine ⟨fun c => Cert.OutForwardIdeal.Value.OUT m c, ?_, ?_⟩
  · refine (θ_run Cert.OutForwardIdeal.defs _ _).mono (fun r h c => ?_) (Cert.OutForwardIdeal.Value.run_blocks m g)
    obtain ⟨h0, h2⟩ := h c
    exact ⟨h0.trans (Cert.OutForwardIdeal.Value.final4 m c), h2⟩
  · refine (θ_run Cert.OutLayerIdeal.defs _ _).mono (fun r h c => ?_) (Cert.OutLayerIdeal.Value.run m' g')
    obtain ⟨h0, h3⟩ := h c
    obtain ⟨e0, e1, e2, e3⟩ := hargs c
    refine ⟨h0.trans ?_, h3⟩
    rw [e0, e1, e2, e3]
    funext y
    idx_vars y
    pointwise
    exact (add_assoc (_ : EReal) _ _).symm

end Cert.Proof

end
-- ==== Proof.OutBackValue.lean ====
/- The output projection's gradient in its two halves of columns: each half of the weight against the gradient's rows. -/
module

public import proofs.«01_k».proof.Defs
public import proofs.«01_k».proof.Proof.Gen.OutBackwardIdeal.Value
public import proofs.«01_k».proof.Proof.Gen.OutGradientIdeal.Run
public import proofs.«01_k».proof.Proof.FfnSums
public import Idealize.ShloMosaic.Lib.StableHlo.RunRead
public import Idealize.ShloMosaic.Lib.Pointwise
public import Idealize.ShloMosaic.Lib.Pipeline.ValueKit

@[expose] public section

set_option maxRecDepth 16384

noncomputable section

namespace Cert.OutBackwardIdeal.Value

open Cert.OutBackwardIdeal Cert.OutBackwardIdeal.Gen Cert.Ffn Idealize.ShloMosaic Idealize.ShloMosaic.TcCoe Idealize.SL.Sem
open Idealize.ShloMosaic.StableHlo

variable (m : (ℓ : Loc nD τ sig) → Buf (Elt Ideal) ℓ)

/-- The arguments the gradients depend on. -/
abbrev aDh (c : Dev nD) : FVec Ideal S8192x1024 .f32 := m ((c : Thread nD τ).loc main_arg0)
abbrev aW (c : Dev nD) : FVec Ideal S1024x1024 .f32 := m ((c : Thread nD τ).loc main_arg4)

theorem V_w (c : Dev nD) (f j : Fin 1024) : (V m c main_v0 : FVec Ideal S1024x1024 .bf16) (ix2 f j) = aW m c (ix2 f j) := by
  unfold V
  after_reads_simp
  pointwise

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- A row, from its block's number and its place in the block. -/
abbrev brow (t : Fin cfg0.N) (i : Fin 512) : Fin 8192 := ⟨t.val * 512 + i.val, by have := i.isLt; have := lt_of_lt_of_eq t.isLt N_0; omega⟩

theorem blk0 (c : Dev nD) (t : Fin cfg0.N) (i : Fin 512) (k : Fin 1024) : (iblk m c 0 t : Vec Ideal S512x1024 .f32) (ix2 i k) = aDh m c (ix2 (brow t i) k) := by
  blk_ext [iblk, V, idx t]
theorem blk1 (c : Dev nD) (t : Fin cfg0.N) (f j : Fin 1024) : (iblk m c 1 t : Vec Ideal S1024x1024 .bf16) (ix2 f j) = aW m c (ix2 f j) := by
  refine Eq.trans ?_ (V_w m c f j)
  blk_ext [iblk, idx t]

/-- The gradient at a row's entry, from a row of the weight. -/
def dmix (c : Dev nD) (r : Fin 8192) (f : Fin 1024) : EReal := ∑ k : Fin 1024, aDh m c (ix2 r k) * aW m c (ix2 f k)

/-- The two results. -/
def DR (c : Dev nD) : Vec Ideal S8192x512 .f32 := fun y => dmix m c (y 0) ⟨(y 1).val, by have := (y 1).isLt; show (y 1).val < 1024; exact lt_trans this (by decide)⟩
def DA (c : Dev nD) : Vec Ideal S8192x512 .f32 := fun y => dmix m c (y 0) ⟨512 + (y 1).val, by have h : (y 1).val < 512 := (y 1).isLt; omega⟩

theorem hz2 : (![0, 0] : Fin 2 → ℕ) = fun _ => 0 := funext fun a => by fin_cases a <;> rfl

theorem out2_at (c : Dev nD) (t : Fin cfg0.N) (i f : Fin 512) : out0_2 (iblk m c 0 t) (iblk m c 1 t) (ix2 i f) = DR m c (ix2 (brow t i) f) := by
  unfold out0_2
  rw [View.canon_unit_zero hz2]
  pointwise [k0_pay2, k0_pay1]
  show _ = dmix m c (brow t i) _
  unfold dmix
  refine Finset.sum_congr (M := EReal) rfl fun k _ => ?_
  rw [blk0, blk1]
  rfl

theorem out3_at (c : Dev nD) (t : Fin cfg0.N) (i f : Fin 512) : out0_3 (iblk m c 0 t) (iblk m c 1 t) (ix2 i f) = DA m c (ix2 (brow t i) f) := by
  unfold out0_3
  rw [View.canon_unit_zero hz2]
  pointwise [k0_pay3, k0_pay1]
  show _ = dmix m c (brow t i) _
  unfold dmix
  refine Finset.sum_congr (M := EReal) rfl fun k _ => ?_
  rw [blk0, blk1]
  rfl

theorem final2 (c : Dev nD) : (dats m 0 c).arrAt 2 cfg0.N = DR m c := by
  refine (dats m 0 c).arrAt_eq_of_covers 2 _ (by decide +kernel) fun t _ y => ?_
  blk_simp
  rw [after0_2]
  idx_vars y
  refine (out2_at m c t _ _).trans ?_
  blk_ext [idx t]
theorem final3 (c : Dev nD) : (dats m 0 c).arrAt 3 cfg0.N = DA m c := by
  refine (dats m 0 c).arrAt_eq_of_covers 3 _ (by decide +kernel) fun t _ y => ?_
  blk_simp
  rw [after0_3]
  idx_vars y
  refine (out3_at m c t _ _).trans ?_
  blk_ext [idx t]

end Cert.OutBackwardIdeal.Value

namespace Cert.Proof

open Idealize.ShloMosaic Idealize.ShloMosaic.TcCoe Idealize.SL.Sem Cert.Ffn

/-- The output projection's gradient's value claim. -/
theorem value_out_backward : Cert.algebraic_OutBackwardIdeal_OutGradientIdeal := by
  intro m g m' g' _ hargs
  refine ⟨fun c => Cert.OutBackwardIdeal.Value.DR m c, fun c => Cert.OutBackwardIdeal.Value.DA m c, ?_, ?_⟩
  · refine (θ_run Cert.OutBackwardIdeal.defs _ _).mono (fun r h c => ?_) (Cert.OutBackwardIdeal.Value.run_blocks m g)
    obtain ⟨h0, h1, h2⟩ := h c
    exact ⟨h0.trans (Cert.OutBackwardIdeal.Value.final2 m c), h1.trans (Cert.OutBackwardIdeal.Value.final3 m c), h2⟩
  · refine (θ_run Cert.OutGradientIdeal.defs _ _).mono (fun r h c => ?_) (Cert.OutGradientIdeal.Value.run m' g')
    obtain ⟨h0, h1, h3⟩ := h c
    obtain ⟨e0, e1, e2, e3, e4⟩ := hargs c
    refine ⟨h0.trans ?_, h1.trans ?_, h3⟩
    · rw [e0, e4]
      funext y
      idx_vars y
      show _ = Cert.OutBackwardIdeal.Value.dmix m c y0 _
      pointwise
      rfl
    · rw [e0, e4]
      funext y
      idx_vars y
      show _ = Cert.OutBackwardIdeal.Value.dmix m c y0 _
      pointwise
      rfl

end Cert.Proof

end
-- ==== Proof.OutWeightsValue.lean ====
/- The output projection's weight gradient, in two blocks of rows: the kernel adds both up over four blocks of rows, the reference takes it in one product. -/
module

public import proofs.«01_k».proof.Defs
public import proofs.«01_k».proof.Proof.Gen.OutWeightsIdeal.Value
public import proofs.«01_k».proof.Proof.Gen.OutWeightsGradientIdeal.Run
public import proofs.«01_k».proof.Proof.FfnSums
public import Idealize.ShloMosaic.Lib.StableHlo.RunRead
public import Idealize.ShloMosaic.Lib.Pointwise
public import Idealize.ShloMosaic.Lib.Pipeline.ValueKit

@[expose] public section

set_option maxRecDepth 16384

noncomputable section

namespace Cert.OutWeightsIdeal.Value

open Cert.OutWeightsIdeal Cert.OutWeightsIdeal.Gen Cert.Ffn Idealize.ShloMosaic Idealize.ShloMosaic.TcCoe Idealize.SL.Sem
open Idealize.ShloMosaic.StableHlo Idealize.ShloMosaic.Tactic

variable (m : (ℓ : Loc nD τ sig) → Buf (Elt Ideal) ℓ)

/-! ## The two blocks of an output, stored one after the other -/

abbrev r0 : Rect S2x512x1024 := Rect.unit ![0, 0, 0] ![1, 512, 1024] inb_S2x512x1024_S1x512x1024_0_0_0
abbrev r1 : Rect S2x512x1024 := Rect.unit ![1, 0, 0] ![1, 512, 1024] inb_S2x512x1024_S1x512x1024_1_0_0

theorem emb_r0 (f : Fin 512) (j : Fin 1024) : r0.emb (ix3 0 f j : S1x512x1024.Idx) = (ix3 0 f j : S2x512x1024.Idx) := by
  funext a
  fin_cases a <;> exact Fin.ext (by simp [Rect.emb, Rect.unit, ix3])
theorem emb_r1 (f : Fin 512) (j : Fin 1024) : r1.emb (ix3 0 f j : S1x512x1024.Idx) = (ix3 1 f j : S2x512x1024.Idx) := by
  funext a
  fin_cases a <;> exact Fin.ext (by simp [Rect.emb, Rect.unit, ix3])
theorem not_mem_r0 (f : Fin 512) (j : Fin 1024) : (ix3 1 f j : S2x512x1024.Idx) ∉ r0.set := fun h => by
  have h0 : (1 : ℕ) < 0 + 1 := (Rect.mem_set_unit.mp h 0).2
  omega
theorem not_mem_r1 (f : Fin 512) (j : Fin 1024) : (ix3 0 f j : S2x512x1024.Idx) ∉ r1.set := fun h => by
  have h0 : (1 : ℕ) ≤ 0 := (Rect.mem_set_unit.mp h 0).1
  omega

/-- The second block is what the last store leaves, -/
theorem row1 (a : Vec Ideal S1x512x1024 .f32) (L : List (View.Piece (Elt Ideal) S2x512x1024 .f32)) (f : Fin 512) (j : Fin 1024) :
    View.canon (⟨r1, a⟩ :: L) (ix3 1 f j) = a (ix3 0 f j) :=
  (congrArg (View.canon _) (emb_r1 f j).symm).trans (View.canon_cons_emb r1 a L (ix3 0 f j))
/-- the first what a store of it leaves, -/
theorem row0 (b : Vec Ideal S1x512x1024 .f32) (L : List (View.Piece (Elt Ideal) S2x512x1024 .f32)) (f : Fin 512) (j : Fin 1024) :
    View.canon (⟨r0, b⟩ :: L) (ix3 0 f j) = b (ix3 0 f j) :=
  (congrArg (View.canon _) (emb_r0 f j).symm).trans (View.canon_cons_emb r0 b L (ix3 0 f j))
/-- a store of the second leaves the first as it was, -/
theorem row0_old (a : Vec Ideal S1x512x1024 .f32) (L : List (View.Piece (Elt Ideal) S2x512x1024 .f32)) (f : Fin 512) (j : Fin 1024) :
    View.canon (⟨r1, a⟩ :: L) (ix3 0 f j) = View.canon L (ix3 0 f j) :=
  View.canon_cons_of_not_mem _ _ (not_mem_r1 f j)
/-- and a store of the first leaves the second as it was. -/
theorem row1_old (b : Vec Ideal S1x512x1024 .f32) (L : List (View.Piece (Elt Ideal) S2x512x1024 .f32)) (f : Fin 512) (j : Fin 1024) :
    View.canon (⟨r0, b⟩ :: L) (ix3 1 f j) = View.canon L (ix3 1 f j) :=
  View.canon_cons_of_not_mem _ _ (not_mem_r0 f j)

/-! ## The blocks' sums -/

/-- An entry of one block's product of the columns' transpose and the gradient. -/
abbrev prod (x : Vec Ideal S2048x512 .bf16) (d : Vec Ideal S2048x1024 .f32) (f : Fin 512) (j : Fin 1024) : EReal := ∑ k : Fin 2048, x (ix2 k f) * d (ix2 k j)

theorem pay3_at (d : Vec Ideal S2048x1024 .f32) (a : Vec Ideal S1x512x1024 .f32) (x : Vec Ideal S2048x512 .bf16) (f : Fin 512) (j : Fin 1024) :
    k0_pay3 d a x (ix3 0 f j) = (a (ix3 0 f j) : EReal) + prod x d f j := by
  pointwise [k0_pay3, k0_pay2]
theorem pay4_at (d : Vec Ideal S2048x1024 .f32) (a : Vec Ideal S1x512x1024 .f32) (x : Vec Ideal S2048x512 .bf16) (f : Fin 512) (j : Fin 1024) :
    k0_pay4 d a x (ix3 0 f j) = (a (ix3 0 f j) : EReal) + prod x d f j := by
  pointwise [k0_pay4, k0_pay2]
theorem pay1_at (q : Fin 2) (f : Fin 512) (j : Fin 1024) : (k0_pay1 (F := Ideal) (ix3 q f j) : EReal) = 0 := by
  pointwise [k0_pay1]

theorem ld_cols (x : Vec Ideal S2048x512 .bf16) : View.ld x (Rect.unit (s := S2048x512) ![0, 0] ![2048, 512] inb_S2048x512_S2048x512_0_0) = x := by
  funext y
  refine congrArg x (funext fun k => ?_)
  fin_cases k <;> exact Fin.ext (by simp [Rect.emb, Rect.unit])
theorem ld_rows (x : Vec Ideal S2048x1024 .f32) : View.ld x (Rect.unit (s := S2048x1024) ![0, 0] ![2048, 1024] inb_S2048x1024_S2048x1024_0_0) = x := by
  funext y
  refine congrArg x (funext fun k => ?_)
  fin_cases k <;> exact Fin.ext (by simp [Rect.emb, Rect.unit])

/-- A later point adds its products to both blocks. -/
theorem out_B_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x1024 .f32) (harg3 : arg3.IsWhole) (arg4 : Memref sig .tc .vmem S2x512x1024 .f32) (harg4 : arg4.IsWhole) (hc0 : ¬cond0_0 i)
    (x0 x1 : Vec Ideal S2048x512 .bf16) (x2 : Vec Ideal S2048x1024 .f32) (xo : Vec Ideal S2x512x1024 .f32) (f : Fin 512) (j : Fin 1024) :
    (out0_B_3 c i arg1 harg1 arg2 harg2 arg3 harg3 arg4 harg4 hc0 x0 x1 x2 xo (ix3 0 f j) : EReal) = xo (ix3 0 f j) + prod x0 x2 f j
    ∧ (out0_B_3 c i arg1 harg1 arg2 harg2 arg3 harg3 arg4 harg4 hc0 x0 x1 x2 xo (ix3 1 f j) : EReal) = xo (ix3 1 f j) + prod x1 x2 f j := by
  unfold out0_B_3
  rw [View.read_writes_eq_canon _ _ _ (cover0_B_3 c i arg1 harg1 arg2 harg2 arg3 harg3 arg4 harg4 hc0 x0 x1 x2 xo)]
  unfold kernelRun0_B
  dsimp only
  sl_unfold_words
  simp only [View.readAt_eq_ld, harg1.read_unread, harg2.read_unread, harg3.read_unread, harg4.read_unread]
  rw [ld_cols, ld_cols, ld_rows]
  refine ⟨(row0_old _ _ f j).trans ((row0 _ _ f j).trans ((pay3_at _ _ _ f j).trans ?_)), (row1 _ _ f j).trans ((pay4_at _ _ _ f j).trans ?_)⟩
  · exact congrArg (fun y => (xo y : EReal) + prod x0 x2 f j) (emb_r0 f j)
  · exact congrArg (fun y => (xo y : EReal) + prod x1 x2 f j) (emb_r1 f j)

/-- The first point adds them to zeros. -/
theorem out_A_eq (c : Dev nD) (i : grid0.Coords) (arg1 : Memref sig .tc .vmem S2048x512 .bf16) (harg1 : arg1.IsWhole) (arg2 : Memref sig .tc .vmem S2048x512 .bf16) (harg2 : arg2.IsWhole) (arg3 : Memref sig .tc .vmem S2048x1024 .f32) (harg3 : arg3.IsWhole) (arg4 : Memref sig .tc .vmem S2x512x1024 .f32) (harg4 : arg4.IsWhole) (hc0 : cond0_0 i)
    (x0 x1 : Vec Ideal S2048x512 .bf16) (x2 : Vec Ideal S2048x1024 .f32) (f : Fin 512) (j : Fin 1024) :
    (out0_A_3 c i arg1 harg1 arg2 harg2 arg3 harg3 arg4 harg4 hc0 x0 x1 x2 (ix3 0 f j) : EReal) = 0 + prod x0 x2 f j
    ∧ (out0_A_3 c i arg1 harg1 arg2 harg2 arg3 harg3 arg4 harg4 hc0 x0 x1 x2 (ix3 1 f j) : EReal) = 0 + prod x1 x2 f j := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  simp only [View.readAt_eq_ld, harg1.read_unread, harg2.read_unread, harg3.read_unread, harg4.read_unread]
  rw [ld_cols, ld_cols, ld_rows]
  have hz : ∀ q : Fin 2, View.canon [(⟨Rect.unit ![0, 0, 0] S2x512x1024.size inb_S2x512x1024_S2x512x1024_0_0_0, k0_pay1 (F := Ideal)⟩ : View.Piece (Elt Ideal) S2x512x1024 .f32)]
      (ix3 q f j) = (0 : EReal) := fun q => by
    have e := View.canon_cons_unit_lit (Val := Elt Ideal) (S := S2x512x1024) (e := .f32) (off := ![0, 0, 0]) inb_S2x512x1024_S2x512x1024_0_0_0
      (k0_pay1 (F := Ideal)) [] (by decide : ∀ a : Fin 3, (![0, 0, 0] : Fin 3 → ℕ) a = 0)
    exact (congrFun e (ix3 q f j)).trans (pay1_at q f j)
  refine ⟨(row0_old _ _ f j).trans ((row0 _ _ f j).trans ((pay3_at _ _ _ f j).trans ?_)), (row1 _ _ f j).trans ((pay4_at _ _ _ f j).trans ?_)⟩
  · rw [View.readCov_eq_canon']
    refine congrArg (fun b : EReal => b + prod x0 x2 f j) (Eq.trans ?_ (hz 0))
    exact congrArg (View.canon _) (emb_r0 f j)
  · rw [View.readCov_eq_canon']
    refine congrArg (fun b : EReal => b + prod x1 x2 f j) (Eq.trans ?_ (hz 1))
    exact (congrArg (View.canon _) (emb_r1 f j)).trans (row1_old _ _ f j)

/-! ## The result -/

/-- The arguments the gradient depends on. -/
abbrev aDh (c : Dev nD) : FVec Ideal S8192x1024 .f32 := m ((c : Thread nD τ).loc main_arg0)
abbrev aRet (c : Dev nD) : FVec Ideal S8192x512 .f32 := m ((c : Thread nD τ).loc main_arg2)
abbrev aAtt (c : Dev nD) : FVec Ideal S8192x512 .f32 := m ((c : Thread nD τ).loc main_arg3)

theorem V_ret (c : Dev nD) (r : Fin 8192) (f : Fin 512) : (V m c main_v0 : FVec Ideal S8192x512 .bf16) (ix2 r f) = aRet m c (ix2 r f) := by
  unfold V
  after_reads_simp
  pointwise
theorem V_att (c : Dev nD) (r : Fin 8192) (f : Fin 512) : (V m c main_v1 : FVec Ideal S8192x512 .bf16) (ix2 r f) = aAtt m c (ix2 r f) := by
  unfold V
  after_reads_simp
  pointwise

theorem idx : ∀ t : Fin cfg0.N, win0_0.index t = ![t.val % 4, 0] ∧ win0_1.index t = ![t.val % 4, 0] ∧ win0_2.index t = ![t.val % 4, 0] ∧ win0_3.index t = ![0, 0, 0] :=
  (by decide +kernel : ∀ t : Fin grid0.N, _)

theorem blk0 (c : Dev nD) (t : Fin cfg0.N) (k : Fin 2048) (f : Fin 512) :
    (iblk m c 0 t : Vec Ideal S2048x512 .bf16) (ix2 k f) = (V m c main_v0 : FVec Ideal S8192x512 .bf16) (ix2 (row4 t.val k) f) := by
  blk_ext [iblk, idx t]
theorem blk1 (c : Dev nD) (t : Fin cfg0.N) (k : Fin 2048) (f : Fin 512) :
    (iblk m c 1 t : Vec Ideal S2048x512 .bf16) (ix2 k f) = (V m c main_v1 : FVec Ideal S8192x512 .bf16) (ix2 (row4 t.val k) f) := by
  blk_ext [iblk, idx t]
theorem blk2 (c : Dev nD) (t : Fin cfg0.N) (k : Fin 2048) (j : Fin 1024) :
    (iblk m c 2 t : Vec Ideal S2048x1024 .f32) (ix2 k j) = aDh m c (ix2 (row4 t.val k) j) := by
  blk_ext [iblk, V, idx t]

/-- One row's share of an entry of a block. -/
def term (a : FVec Ideal S8192x512 .f32) (d : FVec Ideal S8192x1024 .f32) (f : Fin 512) (j : Fin 1024) (r : Fin 8192) : EReal := a (ix2 r f) * d (ix2 r j)

theorem prod0 (c : Dev nD) (t : Fin cfg0.N) (f : Fin 512) (j : Fin 1024) :
    prod (iblk m c 0 t) (iblk m c 2 t) f j = ∑ k : Fin 2048, term (aRet m c) (aDh m c) f j (row4 t.val k) :=
  Finset.sum_congr (M := EReal) rfl fun k _ => by
    rw [blk0, blk2, V_ret]
    rfl
theorem prod1 (c : Dev nD) (t : Fin cfg0.N) (f : Fin 512) (j : Fin 1024) :
    prod (iblk m c 1 t) (iblk m c 2 t) f j = ∑ k : Fin 2048, term (aAtt m c) (aDh m c) f j (row4 t.val k) :=
  Finset.sum_congr (M := EReal) rfl fun k _ => by
    rw [blk1, blk2, V_att]
    rfl

/-- After a point each block holds the sum over the rows up to there. -/
theorem left_at (c : Dev nD) (f : Fin 512) (j : Fin 1024) (n : ℕ) (hn : n < cfg0.N) :
    (outsAt0 m c n hn (ix3 0 f j) : EReal) = ∑ s ∈ Finset.range (n + 1), ∑ k : Fin 2048, term (aRet m c) (aDh m c) f j (row4 s k)
    ∧ (outsAt0 m c n hn (ix3 1 f j) : EReal) = ∑ s ∈ Finset.range (n + 1), ∑ k : Fin 2048, term (aAtt m c) (aDh m c) f j (row4 s k) := by
  have hN : n < 4 := lt_of_lt_of_eq hn N_0
  induction n with
  | zero =>
    rw [outsAt0_A m c ⟨0, hn⟩ rfl]
    refine ⟨(out_A_eq _ _ _ _ _ _ _ _ _ _ _ _ _ _ f j).1.trans ?_, (out_A_eq _ _ _ _ _ _ _ _ _ _ _ _ _ _ f j).2.trans ?_⟩
    · rw [prod0, zero_add, Finset.sum_range_one]
    · rw [prod1, zero_add, Finset.sum_range_one]
  | succ n ih =>
    obtain ⟨h0, h1⟩ := ih (Nat.lt_of_succ_lt hn) (by omega)
    have hB : ¬(⟨n + 1, hn⟩ : Fin cfg0.N).val % 4 = 0 := by show ¬(n + 1) % 4 = 0; omega
    rw [outsAt0_B m c ⟨n + 1, hn⟩ hB]
    refine ⟨(out_B_eq _ _ _ _ _ _ _ _ _ _ _ _ _ _ _ f j).1.trans ?_, (out_B_eq _ _ _ _ _ _ _ _ _ _ _ _ _ _ _ f j).2.trans ?_⟩
    · rw [prod0, Finset.sum_range_succ]
      exact congrArg (fun b : EReal => b + _) h0
    · rw [prod1, Finset.sum_range_succ]
      exact congrArg (fun b : EReal => b + _) h1

/-- The gradient at an entry: the first block from the retention's columns, the second from the attention's. -/
def DW (c : Dev nD) : Vec Ideal S2x512x1024 .f32 := fun y =>
  ∑ r : Fin 8192, term (if (y 0 : ℕ) = 0 then aRet m c else aAtt m c) (aDh m c) (y 1) (y 2) r

theorem whole_at (c : Dev nD) (t : Fin cfg0.N) (ht : t.val = 3) (q : Fin 2) (f : Fin 512) (j : Fin 1024) :
    outsAt0 m c t.val t.isLt (ix3 q f j) = DW m c (ix3 q f j) := by
  obtain ⟨n, hn⟩ := t
  obtain rfl : n = 3 := ht
  have hs : ∀ p : Fin 8192 → EReal, ∑ s ∈ Finset.range (3 + 1), ∑ k : Fin 2048, p (row4 s k) = ∑ r, p r := fun p => by
    rw [← sum_row4 0 p]
    simp only [Nat.mul_zero, Nat.zero_add]
  rcases (by have := q.isLt; omega : q.val = 0 ∨ q.val = 1) with h | h
  · obtain rfl : q = 0 := Fin.ext h
    exact (left_at m c f j 3 hn).1.trans (hs (term (aRet m c) (aDh m c) f j))
  · obtain rfl : q = 1 := Fin.ext h
    exact (left_at m c f j 3 hn).2.trans (hs (term (aAtt m c) (aDh m c) f j))

theorem final3 (c : Dev nD) : (dats m 0 c).arrAt 3 cfg0.N = DW m c := by
  refine (dats m 0 c).arrAt_eq_of_covers 3 _ (by decide +kernel) fun t ht y => ?_
  have h3 : t.val = 3 := (by decide +kernel : ∀ t : Fin grid0.N, (cfg0.win 3).flush t = true → t.val = 3) t ht
  blk_simp
  rw [after0_3]
  idx_vars y
  refine (whole_at m c t h3 _ _ _).trans ?_
  blk_ext [idx t]

end Cert.OutWeightsIdeal.Value

namespace Cert.Proof

open Idealize.ShloMosaic Idealize.ShloMosaic.TcCoe Idealize.SL.Sem Cert.Ffn

/-- The output projection's weight gradient's value claim. -/
theorem value_out_weights : Cert.algebraic_OutWeightsIdeal_OutWeightsGradientIdeal := by
  intro m g m' g' _ hargs
  refine ⟨fun c => Cert.OutWeightsIdeal.Value.DW m c,
    (θ_run Cert.OutWeightsIdeal.defs _ _).mono (fun r h c => ⟨(h c).1.trans (Cert.OutWeightsIdeal.Value.final3 m c), (h c).2⟩) (Cert.OutWeightsIdeal.Value.run_blocks m g), ?_⟩
  refine (θ_run Cert.OutWeightsGradientIdeal.defs _ _).mono (fun r h c => ?_) (Cert.OutWeightsGradientIdeal.Value.run m' g')
  obtain ⟨h0, h3⟩ := h c
  obtain ⟨e0, e1, e2, e3, e4⟩ := hargs c
  refine ⟨h0.trans ?_, h3⟩
  rw [e0, e2, e3]
  funext y
  idx_vars y
  pointwise
  unfold Cert.OutWeightsIdeal.Value.DW
  refine Finset.sum_congr (M := EReal) rfl fun r _ => (mul_comm (_ : EReal) _).trans ?_
  rcases (by have := y0.isLt; omega : y0.val = 0 ∨ y0.val = 1) with h | h
  · obtain rfl : y0 = 0 := Fin.ext h
    rw [dif_pos (by show 0 * 512 + y1.val < 512; have := y1.isLt; omega)]
    exact congrArg (fun b => (Cert.OutWeightsIdeal.Value.aRet m c (ix2 r b) * Cert.OutWeightsIdeal.Value.aDh m c (ix2 r y2) : EReal))
      (Fin.ext (by show 0 * 512 + y1.val = y1.val; omega))
  · obtain rfl : y0 = 1 := Fin.ext h
    rw [dif_neg (by show ¬1 * 512 + y1.val < 512; omega)]
    exact congrArg (fun b => (Cert.OutWeightsIdeal.Value.aAtt m c (ix2 r b) * Cert.OutWeightsIdeal.Value.aDh m c (ix2 r y2) : EReal))
      (Fin.ext (by show 1 * 512 + y1.val - 512 = y1.val; omega))

end Cert.Proof

end
-- ==== Proof.HeadSpec.lean ====
/- The loss's gradient at the last layer's output, one row at a time, and why its two ways of writing agree, at infinities as well. -/
module

public import proofs.«01_k».proof.Proof.FfnSpec

@[expose] public section

set_option maxRecDepth 16384

noncomputable section

namespace Cert.Ffn

open Idealize.ShloMosaic

/-- Two. -/
abbrev two : EReal := Ideal.ofBits .f32 0x40000000#32

/-- An entry of the normalised last row less its target. -/
def err (h fn tg : Fin 1024 → EReal) (k : Fin 1024) : EReal := xnRow h fn k - tg k
/-- The loss's gradient at that entry: the mean's share. -/
def dl (h fn tg : Fin 1024 → EReal) (k : Fin 1024) : EReal := Ideal.div (err h fn tg k) width
/-- The same, from the half before the sum and the two of the square. -/
def dl' (h fn tg : Fin 1024 → EReal) (k : Fin 1024) : EReal := Ideal.div half width * (two * err h fn tg k)
/-- The gradient at the row that the last layer leaves, the mean taken out as one term. -/
def dH (h fn tg : Fin 1024 → EReal) (j : Fin 1024) : EReal :=
  inv h * (dl h fn tg j * fn j - (h j * inv h) * Ideal.div (∑ k, dl h fn tg k * fn k * (h k * inv h)) width)
/-- The same gradient, the mean square's two equal shares written apart. -/
def dH' (h fn tg : Fin 1024 → EReal) (j : Fin 1024) : EReal :=
  (dl' h fn tg j * fn j * inv h + h j * dM h fn (dl' h fn tg)) + dM h fn (dl' h fn tg) * h j

theorem two_eq : two = ((2 : ℝ) : EReal) := by
  simp [two, Ideal.ofBits, Ideal.ieee, -EReal.coe_mul]
  norm_num

/-- Division by the number of features is a multiplication. -/
theorem div_width (a : EReal) : Ideal.div a width = a * ((1 / 1024 : ℝ) : EReal) := by
  have h : ((1024 : ℝ) : EReal) ≠ 0 := by exact_mod_cast (by norm_num : (1024 : ℝ) ≠ 0)
  rw [width_eq, Ideal.div, if_neg h, ← EReal.coe_inv, one_div]

/-- A real factor that is not negative goes into a sum. -/
theorem mul_sum_real {n : ℕ} (c : ℝ) (hc : 0 ≤ c) (p : Fin n → EReal) : (c : EReal) * ∑ k, p k = ∑ k, (c : EReal) * p k := by
  induction n with
  | zero => simp
  | succ n ih =>
    rw [Fin.sum_univ_succ, Fin.sum_univ_succ, EReal.left_distrib_of_nonneg_of_ne_top (by exact_mod_cast hc) (EReal.coe_ne_top _), ih]

theorem add_self (x : EReal) : x + x = ((2 : ℝ) : EReal) * x := by
  have h := EReal.right_distrib_of_nonneg (a := 1) (b := 1) (c := x) zero_le_one zero_le_one
  rw [one_mul] at h
  rw [← h, show ((2 : ℝ) : EReal) = 1 + 1 by rw [← EReal.coe_one, ← EReal.coe_add]; norm_num]

/-- The two ways of writing the loss's gradient at an entry agree. -/
theorem dl_eq (h fn tg : Fin 1024 → EReal) : dl h fn tg = dl' h fn tg := by
  funext k
  unfold dl dl'
  rw [div_width, div_width, half_eq, two_eq, ← EReal.coe_mul, ← mul_assoc, ← EReal.coe_mul, mul_comm]
  norm_num

/-- An entry that is not a real number makes the mean square infinite, and its inverse root zero. -/
theorem inv_zero {h : Fin 1024 → EReal} {k : Fin 1024} (hk : ¬IsReal (h k)) : msq h = ⊤ ∧ inv h = 0 := by
  have h0 : ∀ a : EReal, 0 ≤ a * a := fun a => by
    induction a using EReal.rec with
    | bot => simp
    | top => simp
    | coe r => exact_mod_cast mul_self_nonneg r
  have h1 : h k * h k = ⊤ := by
    generalize h k = a at hk
    induction a using EReal.rec with
    | bot => simp
    | top => simp
    | coe r => exact absurd ⟨r, rfl⟩ hk
  have hs : ∑ k, h k * h k = ⊤ := top_le_iff.mp (h1 ▸ Finset.single_le_sum (f := fun k => h k * h k) (fun i _ => h0 (h i)) (Finset.mem_univ k))
  have hm : msq h = ⊤ := by
    obtain ⟨e, -, he⟩ := eps_eq
    unfold msq
    rw [hs, div_width, EReal.top_mul_coe_of_pos (by norm_num), he, EReal.top_add_coe]
  exact ⟨hm, by unfold inv; rw [hm]; rfl⟩

/-- The two ways of writing the gradient at the row agree: on a finite row the factor taken out of the sums is a positive real, and otherwise
    every term has the factor zero. -/
theorem dH_eq (h fn tg : Fin 1024 → EReal) (j : Fin 1024) : dH h fn tg j = dH' h fn tg j := by
  unfold dH dH'
  rw [← dl_eq]
  generalize dl h fn tg = d
  by_cases hh : ∀ k, IsReal (h k)
  · choose z hz using hh
    obtain rfl : h = fun k => (z k : EReal) := funext hz
    obtain ⟨μ, r, hμ, hr, hm, hi⟩ := inv_real z
    have hp : 0 ≤ r := by
      have e : ((r : ℝ) : EReal) = (((Real.sqrt μ)⁻¹ : ℝ) : EReal) := by
        rw [← hi]
        unfold inv
        rw [hm, Ideal.rsqrt_coe, if_neg (not_lt.mpr hμ.le), if_neg hμ.ne']
      rw [EReal.coe_eq_coe_iff.mp e]
      positivity
    have hr' : r / μ = r * r * r := by
      rw [div_eq_iff hμ.ne']
      calc r = r * 1 := (mul_one r).symm
        _ = r * (r * r * μ) := by rw [hr]
        _ = r * r * r * μ := by ring
    have e1 : (∑ k, d k * fn k * ((z k : EReal) * (r : EReal))) = (r : EReal) * ∑ k, (z k : EReal) * (d k * fn k) := by
      rw [mul_sum_real r hp]
      exact Finset.sum_congr (M := EReal) rfl fun k _ => by ac_rfl
    unfold dM
    rw [hm, hi, mhalf_eq, div_real _ _ hμ.ne', div_width, div_width, e1, hr']
    generalize (∑ k, (z k : EReal) * (d k * fn k)) = s
    generalize d j * fn j = a
    have e2 : (z j : EReal) * (s * (((-1 / 2 : ℝ) : EReal) * ((r * r * r : ℝ) : EReal)) * ((1 / 1024 : ℝ) : EReal))
        = s * ((z j * (-1 / 2 * (r * r * r)) * (1 / 1024) : ℝ) : EReal) := by
      simp only [EReal.coe_mul]
      ac_rfl
    have e3 : (r : EReal) * ((z j : EReal) * (r : EReal) * ((r : EReal) * s * ((1 / 1024 : ℝ) : EReal)))
        = s * ((z j * (r * r * r) * (1 / 1024) : ℝ) : EReal) := by
      simp only [EReal.coe_mul]
      ac_rfl
    rw [sub_eq_add_neg, EReal.left_distrib_of_nonneg_of_ne_top (by exact_mod_cast hp) (EReal.coe_ne_top _), mul_neg, e3, mul_comm _ (z j : EReal), e2,
      add_assoc, add_self, mul_comm (r : EReal) a, ← mul_neg, ← EReal.coe_neg, mul_left_comm ((2 : ℝ) : EReal), ← EReal.coe_mul]
    refine congrArg (fun c : ℝ => a * (r : EReal) + s * (c : EReal)) ?_
    ring
  · obtain ⟨k, hk⟩ := not_forall.mp hh
    obtain ⟨hm, hi⟩ := inv_zero hk
    unfold dM
    rw [hi, hm, show Ideal.div 0 ⊤ = 0 by simp [Ideal.div]]
    simp only [mul_zero, zero_mul, div_width, add_zero]

end Cert.Ffn

end
-- ==== Proof.HeadTile.lean ====
/- The arithmetic of one block of 512 rows of the last layer's forward pass, which has the loss inside: the layer's blocks are those of
   `FfnFwdTile.lean`, and in place of its rows the kernel leaves the loss's gradient at them. -/
module

public import proofs.«01_k».proof.Proof.Gen.HeadForwardIdeal.Frame
public import proofs.«01_k».proof.Proof.FfnFwdEntry
public import proofs.«01_k».proof.Proof.HeadSpec

@[expose] public section

set_option maxRecDepth 16384

noncomputable section

namespace Cert.HeadForwardIdeal.Tile

open Cert.HeadForwardIdeal Cert.HeadForwardIdeal.Gen Cert.FfnForwardIdeal.Tile Cert.Ffn Idealize.ShloMosaic Idealize.ShloMosaic.TcCoe Idealize.SL.Sem

section Blocks

variable {F : FTy → Type} [FloatOps F]
variable (x : Vec F S512x1024 .f32) (gn fn : Vec F S1x1024 .f32) (tg : Vec F S512x1024 .f32) (wg wu wd : Vec F S2816x1024 .bf16)

/-- The last product's sum over the first three blocks of hidden columns. -/
abbrev accT : FVec F S512x1024 .f32 :=
  k0_pay23 (k0_pay3 x gn)
    (k0_pay11 k0_pay4 (k0_pay5 x gn (wPart wg 0)) (k0_pay6 x gn (wPart wu 0)) (k0_pay9 x gn (wPart wg 0)) (Scalar.ofBits .f32 0x3F800000#32) (wPart wd 0))
    (k0_pay17 (k0_pay3 x gn) (wPart wg 1) (wPart wu 1) (wPart wd 1)) (wPart wg 2) (wPart wu 2) (wPart wd 2)
/-- The two pre-activations at the last hidden columns. -/
abbrev lastG : FVec F S512x512 .f32 := k0_pay24 (k0_pay3 x gn) (wRest wg)
abbrev lastU : FVec F S512x512 .f32 := k0_pay25 (k0_pay3 x gn) (wRest wu)

/-- The block of the loss's gradient at the layer's rows. -/
def dhT : Vec F S512x1024 .f32 :=
  k0_pay37 (k0_pay30 x (accT x gn wg wu wd) (lastG x gn wg) (lastU x gn wu) (wRest wd))
    (k0_pay31 x (accT x gn wg wu wd) (lastG x gn wg) (lastU x gn wu) (wRest wd))
    (k0_pay32 x (accT x gn wg wu wd) (lastG x gn wg) (lastU x gn wu) (wRest wd) fn tg) fn

/-- The layer's rows are those of the layer without the loss. -/
theorem rows_eq : k0_pay29 x (accT x gn wg wu wd) (lastG x gn wg) (lastU x gn wu) (wRest wd) = hT x gn wg wu wd := rfl

end Blocks

section Entry

variable (x : Vec Ideal S512x1024 .f32) (gn fn : Vec Ideal S1x1024 .f32) (tg : Vec Ideal S512x1024 .f32) (wg wu wd : Vec Ideal S2816x1024 .bf16)

theorem dhT_at (i : Fin 512) (j : Fin 1024) :
    dhT x gn fn tg wg wu wd (ix2 i j) = dH (fun k => hT x gn wg wu wd (ix2 i k)) (fun k => fn (ix2 0 k)) (fun k => tg (ix2 i k)) j := by
  have e := rows_eq x gn wg wu wd
  unfold dhT
  generalize accT x gn wg wu wd = a, lastG x gn wg = b, lastU x gn wu = d, wRest wd = w at e ⊢
  pointwise [k0_pay37, k0_pay35, k0_pay32, k0_pay31, k0_pay30]
  rw [e]
  rfl

end Entry

end Cert.HeadForwardIdeal.Tile

end
-- ==== Proof.HeadOpenA.lean ====
/- The blocks the first grid point of the last layer's forward pass with the loss leaves: it brings the three weights onto
   the chip and then leaves the blocks of `FfnFwdTile.lean` and
   `HeadTile.lean`, taken at the weights on the chip. -/
module

public import proofs.«01_k».proof.Proof.HeadTile
public import proofs.«01_k».proof.Proof.Landed

@[expose] public section

set_option maxRecDepth 16384

noncomputable section

namespace Cert.HeadForwardIdeal.Tile

open Cert.HeadForwardIdeal Cert.HeadForwardIdeal.Gen Cert.FfnForwardIdeal.Tile Idealize.ShloMosaic Idealize.ShloMosaic.TcCoe Idealize.SL.Sem Idealize.ShloMosaic.Tactic

variable {F : FTy → Type} [FloatOps F]

set_option maxHeartbeats 4000000 in
/-- The loss's gradient at the layer's rows. -/
theorem out0_A_4_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    out0_A_4 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = dhT x0 x1 x2 x3 fh0 fh1 fh2 := by
  have hp : View.PiecesOf (dhT x0 x1 x2 x3 fh0 fh1 fh2) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).1 := by
    unfold kernelRun0_A
    dsimp only
    sl_unfold_words
    simp only [View.readAt_eq_ld, harg1.read_unread, harg2.read_unread, harg3.read_unread, harg4.read_unread]
    simp only [ld_block, ld_row, Landed.readCov_whole]
    exact ⟨fun x => Eq.trans (by rfl) (whole_emb (dhT x0 x1 x2 x3 fh0 fh1 fh2) (by intro a; fin_cases a <;> decide) x), trivial⟩
  unfold out0_A_4
  rw [View.read_writes_eq_canon _ _ _ (cover0_A_4 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf (dhT x0 x1 x2 x3 fh0 fh1 fh2) [] _ hp y (cover0_A_4 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

set_option maxHeartbeats 4000000 in
/-- The normalised rows. -/
theorem out0_A_5_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    out0_A_5 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = xnT x0 x1 := by
  have hp : View.PiecesOf (xnT x0 x1) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).2.1 := by
    unfold kernelRun0_A
    dsimp only
    sl_unfold_words
    simp only [View.readAt_eq_ld, harg1.read_unread, harg2.read_unread, harg3.read_unread, harg4.read_unread]
    simp only [ld_block, ld_row, Landed.readCov_whole]
    exact ⟨fun x => Eq.trans (by rfl) (whole_emb (xnT x0 x1) (by intro a; fin_cases a <;> decide) x), trivial⟩
  unfold out0_A_5
  rw [View.read_writes_eq_canon _ _ _ (cover0_A_5 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf (xnT x0 x1) [] _ hp y (cover0_A_5 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

set_option maxHeartbeats 4000000 in
/-- The gate's pre-activation. -/
theorem out0_A_6_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    out0_A_6 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = gT x0 x1 fh0 := by
  have hp : View.PiecesOf (gT x0 x1 fh0) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).2.2.1 := by
    unfold kernelRun0_A
    dsimp only
    sl_unfold_words
    simp only [View.readAt_eq_ld, harg1.read_unread, harg2.read_unread, harg3.read_unread, harg4.read_unread]
    simp only [ld_block, ld_row, Landed.readCov_whole]
    exact ⟨fun x => Eq.trans (by rfl) (cols_emb3 (g0 x0 x1 fh0) (g1 x0 x1 fh0) (g2 x0 x1 fh0) (g3 x0 x1 fh0) (by intro a; fin_cases a <;> decide) x),
      fun x => Eq.trans (by rfl) (cols_emb2 (g0 x0 x1 fh0) (g1 x0 x1 fh0) (g2 x0 x1 fh0) (g3 x0 x1 fh0) (by intro a; fin_cases a <;> decide) x),
      fun x => Eq.trans (by rfl) (cols_emb1 (g0 x0 x1 fh0) (g1 x0 x1 fh0) (g2 x0 x1 fh0) (g3 x0 x1 fh0) (by intro a; fin_cases a <;> decide) x),
      fun x => Eq.trans (by rfl) (cols_emb0 (g0 x0 x1 fh0) (g1 x0 x1 fh0) (g2 x0 x1 fh0) (g3 x0 x1 fh0) (by intro a; fin_cases a <;> decide) x), trivial⟩
  unfold out0_A_6
  rw [View.read_writes_eq_canon _ _ _ (cover0_A_6 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf (gT x0 x1 fh0) [] _ hp y (cover0_A_6 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

set_option maxHeartbeats 4000000 in
/-- The other factor. -/
theorem out0_A_7_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    out0_A_7 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = uT x0 x1 fh1 := by
  have hp : View.PiecesOf (uT x0 x1 fh1) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).2.2.2.1 := by
    unfold kernelRun0_A
    dsimp only
    sl_unfold_words
    simp only [View.readAt_eq_ld, harg1.read_unread, harg2.read_unread, harg3.read_unread, harg4.read_unread]
    simp only [ld_block, ld_row, Landed.readCov_whole]
    exact ⟨fun x => Eq.trans (by rfl) (cols_emb3 (u0 x0 x1 fh1) (u1 x0 x1 fh1) (u2 x0 x1 fh1) (u3 x0 x1 fh1) (by intro a; fin_cases a <;> decide) x),
      fun x => Eq.trans (by rfl) (cols_emb2 (u0 x0 x1 fh1) (u1 x0 x1 fh1) (u2 x0 x1 fh1) (u3 x0 x1 fh1) (by intro a; fin_cases a <;> decide) x),
      fun x => Eq.trans (by rfl) (cols_emb1 (u0 x0 x1 fh1) (u1 x0 x1 fh1) (u2 x0 x1 fh1) (u3 x0 x1 fh1) (by intro a; fin_cases a <;> decide) x),
      fun x => Eq.trans (by rfl) (cols_emb0 (u0 x0 x1 fh1) (u1 x0 x1 fh1) (u2 x0 x1 fh1) (u3 x0 x1 fh1) (by intro a; fin_cases a <;> decide) x), trivial⟩
  unfold out0_A_7
  rw [View.read_writes_eq_canon _ _ _ (cover0_A_7 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf (uT x0 x1 fh1) [] _ hp y (cover0_A_7 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

set_option maxHeartbeats 4000000 in
/-- The activation. -/
theorem out0_A_8_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    out0_A_8 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = aT x0 x1 fh0 fh1 := by
  have hp : View.PiecesOf (aT x0 x1 fh0 fh1) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).2.2.2.2.1 := by
    unfold kernelRun0_A
    dsimp only
    sl_unfold_words
    simp only [View.readAt_eq_ld, harg1.read_unread, harg2.read_unread, harg3.read_unread, harg4.read_unread]
    simp only [ld_block, ld_row, Landed.readCov_whole]
    exact ⟨fun x => Eq.trans (by rfl) (cols_emb3 (a0 x0 x1 fh0 fh1) (a1 x0 x1 fh0 fh1) (a2 x0 x1 fh0 fh1) (a3 x0 x1 fh0 fh1) (by intro a; fin_cases a <;> decide) x),
      fun x => Eq.trans (by rfl) (cols_emb2 (a0 x0 x1 fh0 fh1) (a1 x0 x1 fh0 fh1) (a2 x0 x1 fh0 fh1) (a3 x0 x1 fh0 fh1) (by intro a; fin_cases a <;> decide) x),
      fun x => Eq.trans (by rfl) (cols_emb1 (a0 x0 x1 fh0 fh1) (a1 x0 x1 fh0 fh1) (a2 x0 x1 fh0 fh1) (a3 x0 x1 fh0 fh1) (by intro a; fin_cases a <;> decide) x),
      fun x => Eq.trans (by rfl) (cols_emb0 (a0 x0 x1 fh0 fh1) (a1 x0 x1 fh0 fh1) (a2 x0 x1 fh0 fh1) (a3 x0 x1 fh0 fh1) (by intro a; fin_cases a <;> decide) x), trivial⟩
  unfold out0_A_8
  rw [View.read_writes_eq_canon _ _ _ (cover0_A_8 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf (aT x0 x1 fh0 fh1) [] _ hp y (cover0_A_8 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

set_option maxHeartbeats 4000000 in
/-- The weight the first point leaves on the chip. -/
theorem sout0_A_0_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    sout0_A_0 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = (fh0 : Vec F S2816x1024 .bf16) := by
  have hp : View.PiecesOf ((fh0 : Vec F S2816x1024 .bf16)) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).2.2.2.2.2.2.2.1 := by
    unfold kernelRun0_A
    dsimp only
    sl_unfold_words
    exact ⟨fun x => congrArg (fh0 : Vec F S2816x1024 .bf16) (Rect.emb_whole_apply S2816x1024 x).symm, trivial⟩
  unfold sout0_A_0
  rw [View.read_writes_eq_canon _ _ _ (scover0_A_0 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf ((fh0 : Vec F S2816x1024 .bf16)) [] _ hp y (scover0_A_0 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

set_option maxHeartbeats 4000000 in
/-- The weight the first point leaves on the chip. -/
theorem sout0_A_1_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    sout0_A_1 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = (fh1 : Vec F S2816x1024 .bf16) := by
  have hp : View.PiecesOf ((fh1 : Vec F S2816x1024 .bf16)) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).2.2.2.2.2.2.2.2.1 := by
    unfold kernelRun0_A
    dsimp only
    sl_unfold_words
    exact ⟨fun x => congrArg (fh1 : Vec F S2816x1024 .bf16) (Rect.emb_whole_apply S2816x1024 x).symm, trivial⟩
  unfold sout0_A_1
  rw [View.read_writes_eq_canon _ _ _ (scover0_A_1 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf ((fh1 : Vec F S2816x1024 .bf16)) [] _ hp y (scover0_A_1 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

set_option maxHeartbeats 4000000 in
/-- The weight the first point leaves on the chip. -/
theorem sout0_A_2_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : cond0_0 i)
    (x0 : Vec F S512x1024 .f32) (x1 : Vec F S1x1024 .f32) (x2 : Vec F S1x1024 .f32) (x3 : Vec F S512x1024 .f32) (fh0 : HbBuf0 (F := F) c hbM0_0) (fh1 : HbBuf0 (F := F) c hbM0_1) (fh2 : HbBuf0 (F := F) c hbM0_2) :
    sout0_A_2 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 = (fh2 : Vec F S2816x1024 .bf16) := by
  have hp : View.PiecesOf ((fh2 : Vec F S2816x1024 .bf16)) (kernelRun0_A c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2).2.2.2.2.2.2.2.2.2.1 := by
    unfold kernelRun0_A
    dsimp only
    sl_unfold_words
    exact ⟨fun x => congrArg (fh2 : Vec F S2816x1024 .bf16) (Rect.emb_whole_apply S2816x1024 x).symm, trivial⟩
  unfold sout0_A_2
  rw [View.read_writes_eq_canon _ _ _ (scover0_A_2 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2)]
  funext y
  have h := View.canon_append_of_piecesOf ((fh2 : Vec F S2816x1024 .bf16)) [] _ hp y (scover0_A_2 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 fh0 fh1 fh2 y)
  rwa [List.append_nil] at h

end Cert.HeadForwardIdeal.Tile

end
-- ==== Proof.HeadOpenB.lean ====
/- The blocks a later grid point of the last layer's forward pass with the loss leaves: the pieces its
   run stores are the blocks of `FfnFwdTile.lean` and
   `HeadTile.lean`, taken at the weights on the chip. -/
module

public import proofs.«01_k».proof.Proof.HeadTile
public import proofs.«01_k».proof.Proof.Landed

@[expose] public section

set_option maxRecDepth 16384

noncomputable section

namespace Cert.HeadForwardIdeal.Tile

open Cert.HeadForwardIdeal Cert.HeadForwardIdeal.Gen Cert.FfnForwardIdeal.Tile Idealize.ShloMosaic Idealize.ShloMosaic.TcCoe Idealize.SL.Sem Idealize.ShloMosaic.Tactic

variable {F : FTy → Type} [FloatOps F]

set_option maxHeartbeats 4000000 in
/-- The loss's gradient at the layer's rows. -/
theorem out0_B_4_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i)
    (x0 : Vec F S512x1024 .f32) (x1 : Vec F S1x1024 .f32) (x2 : Vec F S1x1024 .f32) (x3 : Vec F S512x1024 .f32) (xo9 : Vec F S8x128 .f32) (xo10 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_4 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 = dhT x0 x1 x2 x3 xs0 xs1 xs2 := by
  have hp : View.PiecesOf (dhT x0 x1 x2 x3 xs0 xs1 xs2) (kernelRun0_B c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2).1 := by
    unfold kernelRun0_B
    dsimp only
    sl_unfold_words
    simp only [View.readAt_eq_ld, harg1.read_unread, harg2.read_unread, harg3.read_unread, harg4.read_unread, harg8.read_unread, harg9.read_unread, harg10.read_unread, harg11.read_unread, harg12.read_unread, harg13.read_unread, harg14.read_unread, harg15.read_unread, harg16.read_unread, harg17.read_unread]
    simp only [ld_block, ld_row]
    exact ⟨fun x => Eq.trans (by rfl) (whole_emb (dhT x0 x1 x2 x3 xs0 xs1 xs2) (by intro a; fin_cases a <;> decide) x), trivial⟩
  unfold out0_B_4
  rw [View.read_writes_eq_canon _ _ _ (cover0_B_4 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2)]
  funext y
  have h := View.canon_append_of_piecesOf (dhT x0 x1 x2 x3 xs0 xs1 xs2) [] _ hp y (cover0_B_4 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 y)
  rwa [List.append_nil] at h

set_option maxHeartbeats 4000000 in
/-- The normalised rows. -/
theorem out0_B_5_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i)
    (x0 : Vec F S512x1024 .f32) (x1 : Vec F S1x1024 .f32) (x2 : Vec F S1x1024 .f32) (x3 : Vec F S512x1024 .f32) (xo9 : Vec F S8x128 .f32) (xo10 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_5 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 = xnT x0 x1 := by
  have hp : View.PiecesOf (xnT x0 x1) (kernelRun0_B c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2).2.1 := by
    unfold kernelRun0_B
    dsimp only
    sl_unfold_words
    simp only [View.readAt_eq_ld, harg1.read_unread, harg2.read_unread, harg3.read_unread, harg4.read_unread, harg8.read_unread, harg9.read_unread, harg10.read_unread, harg11.read_unread, harg12.read_unread, harg13.read_unread, harg14.read_unread, harg15.read_unread, harg16.read_unread, harg17.read_unread]
    simp only [ld_block, ld_row]
    exact ⟨fun x => Eq.trans (by rfl) (whole_emb (xnT x0 x1) (by intro a; fin_cases a <;> decide) x), trivial⟩
  unfold out0_B_5
  rw [View.read_writes_eq_canon _ _ _ (cover0_B_5 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2)]
  funext y
  have h := View.canon_append_of_piecesOf (xnT x0 x1) [] _ hp y (cover0_B_5 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 y)
  rwa [List.append_nil] at h

set_option maxHeartbeats 4000000 in
/-- The gate's pre-activation. -/
theorem out0_B_6_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i)
    (x0 : Vec F S512x1024 .f32) (x1 : Vec F S1x1024 .f32) (x2 : Vec F S1x1024 .f32) (x3 : Vec F S512x1024 .f32) (xo9 : Vec F S8x128 .f32) (xo10 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_6 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 = gT x0 x1 xs0 := by
  have hp : View.PiecesOf (gT x0 x1 xs0) (kernelRun0_B c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2).2.2.1 := by
    unfold kernelRun0_B
    dsimp only
    sl_unfold_words
    simp only [View.readAt_eq_ld, harg1.read_unread, harg2.read_unread, harg3.read_unread, harg4.read_unread, harg8.read_unread, harg9.read_unread, harg10.read_unread, harg11.read_unread, harg12.read_unread, harg13.read_unread, harg14.read_unread, harg15.read_unread, harg16.read_unread, harg17.read_unread]
    simp only [ld_block, ld_row]
    exact ⟨fun x => Eq.trans (by rfl) (cols_emb3 (g0 x0 x1 xs0) (g1 x0 x1 xs0) (g2 x0 x1 xs0) (g3 x0 x1 xs0) (by intro a; fin_cases a <;> decide) x),
      fun x => Eq.trans (by rfl) (cols_emb2 (g0 x0 x1 xs0) (g1 x0 x1 xs0) (g2 x0 x1 xs0) (g3 x0 x1 xs0) (by intro a; fin_cases a <;> decide) x),
      fun x => Eq.trans (by rfl) (cols_emb1 (g0 x0 x1 xs0) (g1 x0 x1 xs0) (g2 x0 x1 xs0) (g3 x0 x1 xs0) (by intro a; fin_cases a <;> decide) x),
      fun x => Eq.trans (by rfl) (cols_emb0 (g0 x0 x1 xs0) (g1 x0 x1 xs0) (g2 x0 x1 xs0) (g3 x0 x1 xs0) (by intro a; fin_cases a <;> decide) x), trivial⟩
  unfold out0_B_6
  rw [View.read_writes_eq_canon _ _ _ (cover0_B_6 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2)]
  funext y
  have h := View.canon_append_of_piecesOf (gT x0 x1 xs0) [] _ hp y (cover0_B_6 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 y)
  rwa [List.append_nil] at h

set_option maxHeartbeats 4000000 in
/-- The other factor. -/
theorem out0_B_7_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i)
    (x0 : Vec F S512x1024 .f32) (x1 : Vec F S1x1024 .f32) (x2 : Vec F S1x1024 .f32) (x3 : Vec F S512x1024 .f32) (xo9 : Vec F S8x128 .f32) (xo10 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_7 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 = uT x0 x1 xs1 := by
  have hp : View.PiecesOf (uT x0 x1 xs1) (kernelRun0_B c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2).2.2.2.1 := by
    unfold kernelRun0_B
    dsimp only
    sl_unfold_words
    simp only [View.readAt_eq_ld, harg1.read_unread, harg2.read_unread, harg3.read_unread, harg4.read_unread, harg8.read_unread, harg9.read_unread, harg10.read_unread, harg11.read_unread, harg12.read_unread, harg13.read_unread, harg14.read_unread, harg15.read_unread, harg16.read_unread, harg17.read_unread]
    simp only [ld_block, ld_row]
    exact ⟨fun x => Eq.trans (by rfl) (cols_emb3 (u0 x0 x1 xs1) (u1 x0 x1 xs1) (u2 x0 x1 xs1) (u3 x0 x1 xs1) (by intro a; fin_cases a <;> decide) x),
      fun x => Eq.trans (by rfl) (cols_emb2 (u0 x0 x1 xs1) (u1 x0 x1 xs1) (u2 x0 x1 xs1) (u3 x0 x1 xs1) (by intro a; fin_cases a <;> decide) x),
      fun x => Eq.trans (by rfl) (cols_emb1 (u0 x0 x1 xs1) (u1 x0 x1 xs1) (u2 x0 x1 xs1) (u3 x0 x1 xs1) (by intro a; fin_cases a <;> decide) x),
      fun x => Eq.trans (by rfl) (cols_emb0 (u0 x0 x1 xs1) (u1 x0 x1 xs1) (u2 x0 x1 xs1) (u3 x0 x1 xs1) (by intro a; fin_cases a <;> decide) x), trivial⟩
  unfold out0_B_7
  rw [View.read_writes_eq_canon _ _ _ (cover0_B_7 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2)]
  funext y
  have h := View.canon_append_of_piecesOf (uT x0 x1 xs1) [] _ hp y (cover0_B_7 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 y)
  rwa [List.append_nil] at h

set_option maxHeartbeats 4000000 in
/-- The activation. -/
theorem out0_B_8_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S512x1024 .f32) (harg4 : arg4.IsWhole) (arg8 : Memref sig .tc .vmem S512x1024 .f32) (harg8 : arg8.IsWhole) (arg9 : Memref sig .tc .vmem S512x1024 .bf16) (harg9 : arg9.IsWhole) (arg10 : Memref sig .tc .vmem S512x2816 .bf16) (harg10 : arg10.IsWhole) (arg11 : Memref sig .tc .vmem S512x2816 .bf16) (harg11 : arg11.IsWhole) (arg12 : Memref sig .tc .vmem S512x2816 .bf16) (harg12 : arg12.IsWhole) (arg13 : Memref sig .tc .vmem S8x128 .f32) (harg13 : arg13.IsWhole) (arg14 : Memref sig .tc .vmem S8x1024 .f32) (harg14 : arg14.IsWhole) (arg15 : Memref sig .tc .vmem S2816x1024 .bf16) (harg15 : arg15.IsWhole) (arg16 : Memref sig .tc .vmem S2816x1024 .bf16) (harg16 : arg16.IsWhole) (arg17 : Memref sig .tc .vmem S2816x1024 .bf16) (harg17 : arg17.IsWhole) (hc0 : ¬cond0_0 i)
    (x0 : Vec F S512x1024 .f32) (x1 : Vec F S1x1024 .f32) (x2 : Vec F S1x1024 .f32) (x3 : Vec F S512x1024 .f32) (xo9 : Vec F S8x128 .f32) (xo10 : Vec F S8x1024 .f32) (xs0 : Vec F S2816x1024 .bf16) (xs1 : Vec F S2816x1024 .bf16) (xs2 : Vec F S2816x1024 .bf16) (fh0 : HbBuf0 (F := F) c hbM0_0) (fh1 : HbBuf0 (F := F) c hbM0_1) (fh2 : HbBuf0 (F := F) c hbM0_2) :
    out0_B_8 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 = aT x0 x1 xs0 xs1 := by
  have hp : View.PiecesOf (aT x0 x1 xs0 xs1) (kernelRun0_B c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2).2.2.2.2.1 := by
    unfold kernelRun0_B
    dsimp only
    sl_unfold_words
    simp only [View.readAt_eq_ld, harg1.read_unread, harg2.read_unread, harg3.read_unread, harg4.read_unread, harg8.read_unread, harg9.read_unread, harg10.read_unread, harg11.read_unread, harg12.read_unread, harg13.read_unread, harg14.read_unread, harg15.read_unread, harg16.read_unread, harg17.read_unread]
    simp only [ld_block, ld_row]
    exact ⟨fun x => Eq.trans (by rfl) (cols_emb3 (a0 x0 x1 xs0 xs1) (a1 x0 x1 xs0 xs1) (a2 x0 x1 xs0 xs1) (a3 x0 x1 xs0 xs1) (by intro a; fin_cases a <;> decide) x),
      fun x => Eq.trans (by rfl) (cols_emb2 (a0 x0 x1 xs0 xs1) (a1 x0 x1 xs0 xs1) (a2 x0 x1 xs0 xs1) (a3 x0 x1 xs0 xs1) (by intro a; fin_cases a <;> decide) x),
      fun x => Eq.trans (by rfl) (cols_emb1 (a0 x0 x1 xs0 xs1) (a1 x0 x1 xs0 xs1) (a2 x0 x1 xs0 xs1) (a3 x0 x1 xs0 xs1) (by intro a; fin_cases a <;> decide) x),
      fun x => Eq.trans (by rfl) (cols_emb0 (a0 x0 x1 xs0 xs1) (a1 x0 x1 xs0 xs1) (a2 x0 x1 xs0 xs1) (a3 x0 x1 xs0 xs1) (by intro a; fin_cases a <;> decide) x), trivial⟩
  unfold out0_B_8
  rw [View.read_writes_eq_canon _ _ _ (cover0_B_8 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2)]
  funext y
  have h := View.canon_append_of_piecesOf (aT x0 x1 xs0 xs1) [] _ hp y (cover0_B_8 c i arg1 harg1 arg2 harg2 arg3 harg3 arg4 harg4 arg8 harg8 arg9 harg9 arg10 harg10 arg11 harg11 arg12 harg12 arg13 harg13 arg14 harg14 arg15 harg15 arg16 harg16 arg17 harg17 hc0 x0 x1 x2 x3 xo9 xo10 xs0 xs1 xs2 fh0 fh1 fh2 y)
  rwa [List.append_nil] at h

end Cert.HeadForwardIdeal.Tile

end
-- ==== Proof.HeadBlocks.lean ====
/- What the forward kernel with the loss leaves: at each grid point the weights stay as loaded at the first, so every
   point's blocks are the row functions of its 512 rows, and the five result arrays those of all rows. -/
module

public import proofs.«01_k».proof.Proof.HeadOpenA
public import proofs.«01_k».proof.Proof.HeadOpenB
public import Idealize.ShloMosaic.Lib.Pipeline.Value
public import Idealize.ShloMosaic.Lib.StableHlo.RunRead

@[expose] public section

set_option maxRecDepth 16384

noncomputable section

namespace Cert.HeadForwardIdeal.Value

open Cert.HeadForwardIdeal Cert.HeadForwardIdeal.Gen Cert.HeadForwardIdeal.Tile Cert.FfnForwardIdeal.Tile Cert.Ffn Idealize.ShloMosaic Idealize.ShloMosaic.TcCoe Idealize.SL.Sem
open Idealize.ShloMosaic.StableHlo

variable {F : FTy → Type} [FloatOps F] (m : (ℓ : Loc nD τ sig) → Buf (Elt F) ℓ)

/-- The three weights as the region finds them. -/
abbrev sWg (c : Dev nD) : Vec F S2816x1024 .bf16 := V m c main_v8
abbrev sWu (c : Dev nD) : Vec F S2816x1024 .bf16 := V m c main_v9
abbrev sWd (c : Dev nD) : Vec F S2816x1024 .bf16 := V m c main_v10

/-! ## What a point leaves, over what it reads and the point before left -/

theorem left4_A (c : Dev nD) (t : Fin cfg0.N) (h0 : t.val % 16 = 0) :
    (outsAt0 m c t.val t.isLt).1 = dhT (iblk m c 0 t) (iblk m c 1 t) (iblk m c 2 t) (iblk m c 3 t) (sWg m c) (sWu m c) (sWd m c) := by
  rw [outsAt0_A m c t h0]
  dsimp only
  rw [out0_A_4_eq]
theorem left5_A (c : Dev nD) (t : Fin cfg0.N) (h0 : t.val % 16 = 0) :
    (outsAt0 m c t.val t.isLt).2.1 = xnT (iblk m c 0 t) (iblk m c 1 t) := by
  rw [outsAt0_A m c t h0]
  dsimp only
  rw [out0_A_5_eq]
theorem left6_A (c : Dev nD) (t : Fin cfg0.N) (h0 : t.val % 16 = 0) :
    (outsAt0 m c t.val t.isLt).2.2.1 = gT (iblk m c 0 t) (iblk m c 1 t) (sWg m c) := by
  rw [outsAt0_A m c t h0]
  dsimp only
  rw [out0_A_6_eq]
theorem left7_A (c : Dev nD) (t : Fin cfg0.N) (h0 : t.val % 16 = 0) :
    (outsAt0 m c t.val t.isLt).2.2.2.1 = uT (iblk m c 0 t) (iblk m c 1 t) (sWu m c) := by
  rw [outsAt0_A m c t h0]
  dsimp only
  rw [out0_A_7_eq]
theorem left8_A (c : Dev nD) (t : Fin cfg0.N) (h0 : t.val % 16 = 0) :
    (outsAt0 m c t.val t.isLt).2.2.2.2.1 = aT (iblk m c 0 t) (iblk m c 1 t) (sWg m c) (sWu m c) := by
  rw [outsAt0_A m c t h0]
  dsimp only
  rw [out0_A_8_eq]
theorem lefts0_A (c : Dev nD) (t : Fin cfg0.N) (h0 : t.val % 16 = 0) :
    (outsAt0 m c t.val t.isLt).2.2.2.2.2.2.2.1 = sWg m c := by
  rw [outsAt0_A m c t h0]
  dsimp only
  rw [sout0_A_0_eq]
theorem lefts1_A (c : Dev nD) (t : Fin cfg0.N) (h0 : t.val % 16 = 0) :
    (outsAt0 m c t.val t.isLt).2.2.2.2.2.2.2.2.1 = sWu m c := by
  rw [outsAt0_A m c t h0]
  dsimp only
  rw [sout0_A_1_eq]
theorem lefts2_A (c : Dev nD) (t : Fin cfg0.N) (h0 : t.val % 16 = 0) :
    (outsAt0 m c t.val t.isLt).2.2.2.2.2.2.2.2.2 = sWd m c := by
  rw [outsAt0_A m c t h0]
  dsimp only
  rw [sout0_A_2_eq]
theorem left4_B (c : Dev nD) (t : Fin cfg0.N) (h0 : ¬t.val % 16 = 0) :
    (outsAt0 m c t.val t.isLt).1 = dhT (iblk m c 0 t) (iblk m c 1 t) (iblk m c 2 t) (iblk m c 3 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) ((outsAt0 m c (t.val - 1) (Nat.lt_of_le_of_lt (Nat.sub_le _ _) t.isLt)).2.2.2.2.2.2.2.2.2) := by
  rw [outsAt0_B m c t h0]
  dsimp only
  rw [out0_B_4_eq]
theorem left5_B (c : Dev nD) (t : Fin cfg0.N) (h0 : ¬t.val % 16 = 0) :
    (outsAt0 m c t.val t.isLt).2.1 = xnT (iblk m c 0 t) (iblk m c 1 t) := by
  rw [outsAt0_B m c t h0]
  dsimp only
  rw [out0_B_5_eq]
theorem left6_B (c : Dev nD) (t : Fin cfg0.N) (h0 : ¬t.val % 16 = 0) :
    (outsAt0 m c t.val t.isLt).2.2.1 = gT (iblk m c 0 t) (iblk m c 1 t) ((outsAt0 m c (t.val - 1) (Nat.lt_of_le_of_lt (Nat.sub_le _ _) t.isLt)).2.2.2.2.2.2.2.1) := by
  rw [outsAt0_B m c t h0]
  dsimp only
  rw [out0_B_6_eq]
theorem left7_B (c : Dev nD) (t : Fin cfg0.N) (h0 : ¬t.val % 16 = 0) :
    (outsAt0 m c t.val t.isLt).2.2.2.1 = uT (iblk m c 0 t) (iblk m c 1 t) ((outsAt0 m c (t.val - 1) (Nat.lt_of_le_of_lt (Nat.sub_le _ _) t.isLt)).2.2.2.2.2.2.2.2.1) := by
  rw [outsAt0_B m c t h0]
  dsimp only
  rw [out0_B_7_eq]
theorem left8_B (c : Dev nD) (t : Fin cfg0.N) (h0 : ¬t.val % 16 = 0) :
    (outsAt0 m c t.val t.isLt).2.2.2.2.1 = aT (iblk m c 0 t) (iblk m c 1 t) ((outsAt0 m c (t.val - 1) (Nat.lt_of_le_of_lt (Nat.sub_le _ _) t.isLt)).2.2.2.2.2.2.2.1) ((outsAt0 m c (t.val - 1) (Nat.lt_of_le_of_lt (Nat.sub_le _ _) t.isLt)).2.2.2.2.2.2.2.2.1) := by
  rw [outsAt0_B m c t h0]
  dsimp only
  rw [out0_B_8_eq]
theorem lefts0_B (c : Dev nD) (t : Fin cfg0.N) (h0 : ¬t.val % 16 = 0) :
    (outsAt0 m c t.val t.isLt).2.2.2.2.2.2.2.1 = (outsAt0 m c (t.val - 1) (Nat.lt_of_le_of_lt (Nat.sub_le _ _) t.isLt)).2.2.2.2.2.2.2.1 := by
  rw [outsAt0_B m c t h0]
  dsimp only [sout0_B_0]
theorem lefts1_B (c : Dev nD) (t : Fin cfg0.N) (h0 : ¬t.val % 16 = 0) :
    (outsAt0 m c t.val t.isLt).2.2.2.2.2.2.2.2.1 = (outsAt0 m c (t.val - 1) (Nat.lt_of_le_of_lt (Nat.sub_le _ _) t.isLt)).2.2.2.2.2.2.2.2.1 := by
  rw [outsAt0_B m c t h0]
  dsimp only [sout0_B_1]
theorem lefts2_B (c : Dev nD) (t : Fin cfg0.N) (h0 : ¬t.val % 16 = 0) :
    (outsAt0 m c t.val t.isLt).2.2.2.2.2.2.2.2.2 = (outsAt0 m c (t.val - 1) (Nat.lt_of_le_of_lt (Nat.sub_le _ _) t.isLt)).2.2.2.2.2.2.2.2.2 := by
  rw [outsAt0_B m c t h0]
  dsimp only [sout0_B_2]

/-- The weights stay as loaded at the first point. -/
theorem weights_eq (c : Dev nD) (n : ℕ) (hn : n < cfg0.N) :
    (outsAt0 m c n hn).2.2.2.2.2.2.2.1 = sWg m c ∧ (outsAt0 m c n hn).2.2.2.2.2.2.2.2.1 = sWu m c ∧ (outsAt0 m c n hn).2.2.2.2.2.2.2.2.2 = sWd m c := by
  have hN : n < 16 := lt_of_lt_of_eq hn N_0
  induction n with
  | zero => exact ⟨lefts0_A m c ⟨0, hn⟩ rfl, lefts1_A m c ⟨0, hn⟩ rfl, lefts2_A m c ⟨0, hn⟩ rfl⟩
  | succ n ih =>
    obtain ⟨h0, h1, h2⟩ := ih (Nat.lt_of_succ_lt hn) (by omega)
    have hB : ¬(⟨n + 1, hn⟩ : Fin cfg0.N).val % 16 = 0 := by show ¬(n + 1) % 16 = 0; omega
    exact ⟨(lefts0_B m c ⟨n + 1, hn⟩ hB).trans h0, (lefts1_B m c ⟨n + 1, hn⟩ hB).trans h1, (lefts2_B m c ⟨n + 1, hn⟩ hB).trans h2⟩

theorem left4 (c : Dev nD) (t : Fin cfg0.N) :
    (outsAt0 m c t.val t.isLt).1 = dhT (iblk m c 0 t) (iblk m c 1 t) (iblk m c 2 t) (iblk m c 3 t) (sWg m c) (sWu m c) (sWd m c) := by
  by_cases h0 : t.val % 16 = 0
  · exact left4_A m c t h0
  · obtain ⟨e0, e1, e2⟩ := weights_eq m c (t.val - 1) (Nat.lt_of_le_of_lt (Nat.sub_le _ _) t.isLt)
    rw [left4_B m c t h0, e0, e1, e2]

theorem left5 (c : Dev nD) (t : Fin cfg0.N) :
    (outsAt0 m c t.val t.isLt).2.1 = xnT (iblk m c 0 t) (iblk m c 1 t) := by
  by_cases h0 : t.val % 16 = 0
  · exact left5_A m c t h0
  · exact left5_B m c t h0

theorem left6 (c : Dev nD) (t : Fin cfg0.N) :
    (outsAt0 m c t.val t.isLt).2.2.1 = gT (iblk m c 0 t) (iblk m c 1 t) (sWg m c) := by
  by_cases h0 : t.val % 16 = 0
  · exact left6_A m c t h0
  · obtain ⟨e0, e1, e2⟩ := weights_eq m c (t.val - 1) (Nat.lt_of_le_of_lt (Nat.sub_le _ _) t.isLt)
    rw [left6_B m c t h0, e0]

theorem left7 (c : Dev nD) (t : Fin cfg0.N) :
    (outsAt0 m c t.val t.isLt).2.2.2.1 = uT (iblk m c 0 t) (iblk m c 1 t) (sWu m c) := by
  by_cases h0 : t.val % 16 = 0
  · exact left7_A m c t h0
  · obtain ⟨e0, e1, e2⟩ := weights_eq m c (t.val - 1) (Nat.lt_of_le_of_lt (Nat.sub_le _ _) t.isLt)
    rw [left7_B m c t h0, e1]

theorem left8 (c : Dev nD) (t : Fin cfg0.N) :
    (outsAt0 m c t.val t.isLt).2.2.2.2.1 = aT (iblk m c 0 t) (iblk m c 1 t) (sWg m c) (sWu m c) := by
  by_cases h0 : t.val % 16 = 0
  · exact left8_A m c t h0
  · obtain ⟨e0, e1, e2⟩ := weights_eq m c (t.val - 1) (Nat.lt_of_le_of_lt (Nat.sub_le _ _) t.isLt)
    rw [left8_B m c t h0, e0, e1]

/-! ## The blocks a point reads -/

section Entries

variable (m : (ℓ : Loc nD τ sig) → Buf (Elt Ideal) ℓ)

/-- The seven arguments. -/
abbrev aX (c : Dev nD) : FVec Ideal S8192x1024 .f32 := m ((c : Thread nD τ).loc main_arg0)
abbrev aGn (c : Dev nD) : FVec Ideal S1x1024 .f32 := m ((c : Thread nD τ).loc main_arg1)
abbrev aWg (c : Dev nD) : FVec Ideal S1024x2816 .f32 := m ((c : Thread nD τ).loc main_arg2)
abbrev aWu (c : Dev nD) : FVec Ideal S1024x2816 .f32 := m ((c : Thread nD τ).loc main_arg3)
abbrev aWd (c : Dev nD) : FVec Ideal S2816x1024 .f32 := m ((c : Thread nD τ).loc main_arg4)
abbrev aFn (c : Dev nD) : FVec Ideal S1x1024 .f32 := m ((c : Thread nD τ).loc main_arg5)
abbrev aTg (c : Dev nD) : FVec Ideal S8192x1024 .f32 := m ((c : Thread nD τ).loc main_arg6)

theorem V_wg (c : Dev nD) (f : Fin 2816) (k : Fin 1024) : (V m c main_v8 : FVec Ideal S2816x1024 .bf16) (ix2 f k) = aWg m c (ix2 k f) := by
  unfold V
  after_reads_simp
  pointwise
  exact congrArg (fun b => aWg m c (ix2 k b)) (Fin.ext (by show f.val / 704 * 704 + f.val % 704 = f.val; omega))

theorem V_wu (c : Dev nD) (f : Fin 2816) (k : Fin 1024) : (V m c main_v9 : FVec Ideal S2816x1024 .bf16) (ix2 f k) = aWu m c (ix2 k f) := by
  unfold V
  after_reads_simp
  pointwise
  exact congrArg (fun b => aWu m c (ix2 k b)) (Fin.ext (by show f.val / 704 * 704 + f.val % 704 = f.val; omega))

theorem V_wd (c : Dev nD) (f : Fin 2816) (k : Fin 1024) : (V m c main_v10 : FVec Ideal S2816x1024 .bf16) (ix2 f k) = aWd m c (ix2 f k) := by
  unfold V
  after_reads_simp
  pointwise
  exact congrArg (fun b => aWd m c (ix2 b k)) (Fin.ext (by show f.val / 704 * 704 + f.val % 704 = f.val; omega))

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The row of the arrays that is a row of a point's blocks. -/
abbrev brow (t : Fin cfg0.N) (i : Fin 512) : Fin 8192 := ⟨t.val * 512 + i.val, by have := i.isLt; have := lt_of_lt_of_eq t.isLt N_0; omega⟩

theorem blk0 (c : Dev nD) (t : Fin cfg0.N) (i : Fin 512) (k : Fin 1024) : (iblk m c 0 t : Vec Ideal S512x1024 .f32) (ix2 i k) = aX m c (ix2 (brow t i) k) := by
  blk_ext [iblk, V, idx t]
theorem blk1 (c : Dev nD) (t : Fin cfg0.N) (k : Fin 1024) : (iblk m c 1 t : Vec Ideal S1x1024 .f32) (ix2 0 k) = aGn m c (ix2 0 k) := by
  blk_ext [iblk, V, idx t]
theorem blk2 (c : Dev nD) (t : Fin cfg0.N) (k : Fin 1024) : (iblk m c 2 t : Vec Ideal S1x1024 .f32) (ix2 0 k) = aFn m c (ix2 0 k) := by
  blk_ext [iblk, V, idx t]
theorem blk3 (c : Dev nD) (t : Fin cfg0.N) (i : Fin 512) (k : Fin 1024) : (iblk m c 3 t : Vec Ideal S512x1024 .f32) (ix2 i k) = aTg m c (ix2 (brow t i) k) := by
  blk_ext [iblk, V, idx t]

/-! ## The result arrays -/

/-- The row functions at a row of the arrays. -/
abbrev xnR (c : Dev nD) (r : Fin 8192) (k : Fin 1024) : EReal := xnRow (fun k => aX m c (ix2 r k)) (fun k => aGn m c (ix2 0 k)) k
abbrev gateR (c : Dev nD) (r : Fin 8192) (f : Fin 2816) : EReal :=
  hid (fun k => aX m c (ix2 r k)) (fun k => aGn m c (ix2 0 k)) (fun k => aWg m c (ix2 k f))
abbrev upR (c : Dev nD) (r : Fin 8192) (f : Fin 2816) : EReal :=
  hid (fun k => aX m c (ix2 r k)) (fun k => aGn m c (ix2 0 k)) (fun k => aWu m c (ix2 k f))
abbrev actR (c : Dev nD) (r : Fin 8192) (f : Fin 2816) : EReal := act (gateR m c r f) (upR m c r f)
abbrev hR (c : Dev nD) (r : Fin 8192) (j : Fin 1024) : EReal := out (aX m c (ix2 r j)) (actR m c r) (fun f => aWd m c (ix2 f j))
abbrev dhR (c : Dev nD) (r : Fin 8192) (j : Fin 1024) : EReal := dH (hR m c r) (fun k => aFn m c (ix2 0 k)) (fun k => aTg m c (ix2 r k)) j

/-- The five result arrays. -/
def DHarr (c : Dev nD) : Vec Ideal S8192x1024 .f32 := fun y => dhR m c (y 0) (y 1)
def XNarr (c : Dev nD) : Vec Ideal S8192x1024 .bf16 := fun y => xnR m c (y 0) (y 1)
def Garr (c : Dev nD) : Vec Ideal S8192x2816 .bf16 := fun y => gateR m c (y 0) (y 1)
def Uarr (c : Dev nD) : Vec Ideal S8192x2816 .bf16 := fun y => upR m c (y 0) (y 1)
def Aarr (c : Dev nD) : Vec Ideal S8192x2816 .bf16 := fun y => actR m c (y 0) (y 1)

theorem x_blk (c : Dev nD) (t : Fin cfg0.N) (i : Fin 512) :
    (fun k => (iblk m c 0 t : Vec Ideal S512x1024 .f32) (ix2 i k)) = fun k => aX m c (ix2 (brow t i) k) := funext fun k => blk0 m c t i k
theorem gn_blk (c : Dev nD) (t : Fin cfg0.N) :
    (fun k => (iblk m c 1 t : Vec Ideal S1x1024 .f32) (ix2 0 k)) = fun k => aGn m c (ix2 0 k) := funext fun k => blk1 m c t k
theorem gate_blk (c : Dev nD) (t : Fin cfg0.N) (i : Fin 512) (f : Fin 2816) :
    hidB (iblk m c 0 t) (iblk m c 1 t) (sWg m c) i f = gateR m c (brow t i) f := by
  show hid _ _ _ = hid _ _ _
  rw [x_blk, gn_blk, show (fun k => sWg m c (ix2 f k)) = fun k => aWg m c (ix2 k f) from funext fun k => V_wg m c f k]
theorem up_blk (c : Dev nD) (t : Fin cfg0.N) (i : Fin 512) (f : Fin 2816) :
    hidB (iblk m c 0 t) (iblk m c 1 t) (sWu m c) i f = upR m c (brow t i) f := by
  show hid _ _ _ = hid _ _ _
  rw [x_blk, gn_blk, show (fun k => sWu m c (ix2 f k)) = fun k => aWu m c (ix2 k f) from funext fun k => V_wu m c f k]
theorem act_blk (c : Dev nD) (t : Fin cfg0.N) (i : Fin 512) (f : Fin 2816) :
    actB (iblk m c 0 t) (iblk m c 1 t) (sWg m c) (sWu m c) i f = actR m c (brow t i) f :=
  congrArg₂ act (gate_blk m c t i f) (up_blk m c t i f)

theorem h_blk (c : Dev nD) (t : Fin cfg0.N) (i : Fin 512) (j : Fin 1024) :
    hT (iblk m c 0 t) (iblk m c 1 t) (sWg m c) (sWu m c) (sWd m c) (ix2 i j) = hR m c (brow t i) j := by
  refine (hT_at _ _ _ _ _ i j).trans ?_
  rw [blk0 m c t i j,
    show actB (iblk m c 0 t) (iblk m c 1 t) (sWg m c) (sWu m c) i = actR m c (brow t i) from funext fun f => act_blk m c t i f,
    show (fun f => sWd m c (ix2 f j)) = fun f => aWd m c (ix2 f j) from funext fun f => V_wd m c f j]

theorem after4_at (c : Dev nD) (t : Fin cfg0.N) (i : Fin 512) (j : Fin 1024) :
    (outsAt0 m c t.val t.isLt).1 (ix2 i j) = DHarr m c (ix2 (brow t i) j) := by
  rw [left4]
  refine (dhT_at _ _ _ _ _ _ _ i j).trans ?_
  rw [show (fun k => hT (iblk m c 0 t) (iblk m c 1 t) (sWg m c) (sWu m c) (sWd m c) (ix2 i k)) = hR m c (brow t i) from funext fun k => h_blk m c t i k,
    show (fun k => (iblk m c 2 t : Vec Ideal S1x1024 .f32) (ix2 0 k)) = fun k => aFn m c (ix2 0 k) from funext fun k => blk2 m c t k,
    show (fun k => (iblk m c 3 t : Vec Ideal S512x1024 .f32) (ix2 i k)) = fun k => aTg m c (ix2 (brow t i) k) from funext fun k => blk3 m c t i k]
  rfl
theorem after5_at (c : Dev nD) (t : Fin cfg0.N) (i : Fin 512) (k : Fin 1024) :
    (outsAt0 m c t.val t.isLt).2.1 (ix2 i k) = XNarr m c (ix2 (brow t i) k) := by
  rw [left5]
  exact (xnT_at _ _ i k).trans (congrArg₂ (fun a b => xnRow a b k) (x_blk m c t i) (gn_blk m c t))
theorem after6_at (c : Dev nD) (t : Fin cfg0.N) (i : Fin 512) (f : Fin 2816) :
    (outsAt0 m c t.val t.isLt).2.2.1 (ix2 i f) = Garr m c (ix2 (brow t i) f) := by
  rw [left6]
  exact (gT_at _ _ _ i f).trans (gate_blk m c t i f)
theorem after7_at (c : Dev nD) (t : Fin cfg0.N) (i : Fin 512) (f : Fin 2816) :
    (outsAt0 m c t.val t.isLt).2.2.2.1 (ix2 i f) = Uarr m c (ix2 (brow t i) f) := by
  rw [left7]
  exact (uT_at _ _ _ i f).trans (up_blk m c t i f)
theorem after8_at (c : Dev nD) (t : Fin cfg0.N) (i : Fin 512) (f : Fin 2816) :
    (outsAt0 m c t.val t.isLt).2.2.2.2.1 (ix2 i f) = Aarr m c (ix2 (brow t i) f) := by
  rw [left8]
  exact (aT_at _ _ _ _ i f).trans (act_blk m c t i f)

theorem final4 (c : Dev nD) : (dats m 0 c).arrAt 4 cfg0.N = DHarr m c := by
  refine (dats m 0 c).arrAt_eq_of_covers 4 _ (by decide +kernel) fun t _ y => ?_
  blk_simp
  rw [after0_4]
  idx_vars y
  refine (after4_at m c t _ _).trans ?_
  blk_ext [idx t]
theorem final5 (c : Dev nD) : (dats m 0 c).arrAt 5 cfg0.N = XNarr m c := by
  refine (dats m 0 c).arrAt_eq_of_covers 5 _ (by decide +kernel) fun t _ y => ?_
  blk_simp
  rw [after0_5]
  idx_vars y
  refine (after5_at m c t _ _).trans ?_
  blk_ext [idx t]
theorem final6 (c : Dev nD) : (dats m 0 c).arrAt 6 cfg0.N = Garr m c := by
  refine (dats m 0 c).arrAt_eq_of_covers 6 _ (by decide +kernel) fun t _ y => ?_
  blk_simp
  rw [after0_6]
  idx_vars y
  refine (after6_at m c t _ _).trans ?_
  blk_ext [idx t]
theorem final7 (c : Dev nD) : (dats m 0 c).arrAt 7 cfg0.N = Uarr m c := by
  refine (dats m 0 c).arrAt_eq_of_covers 7 _ (by decide +kernel) fun t _ y => ?_
  blk_simp
  rw [after0_7]
  idx_vars y
  refine (after7_at m c t _ _).trans ?_
  blk_ext [idx t]
theorem final8 (c : Dev nD) : (dats m 0 c).arrAt 8 cfg0.N = Aarr m c := by
  refine (dats m 0 c).arrAt_eq_of_covers 8 _ (by decide +kernel) fun t _ y => ?_
  blk_simp
  rw [after0_8]
  idx_vars y
  refine (after8_at m c t _ _).trans ?_
  blk_ext [idx t]

/-- After every run the five results are these arrays and the arguments are as they were. -/
theorem run_arrays (ρ : Dev nD → PrngReg) : θ_run defs (onTc (τ := τ) (main (F := Ideal))) ⟨m, fun _ => 0, ρ⟩ fun r => ∀ c : Dev nD,
      (r.2.mem ((c : Thread nD τ).loc main_v11_0) = DHarr m c ∧ r.2.mem ((c : Thread nD τ).loc main_v11_1) = XNarr m c
        ∧ r.2.mem ((c : Thread nD τ).loc main_v11_2) = Garr m c ∧ r.2.mem ((c : Thread nD τ).loc main_v11_3) = Uarr m c
        ∧ r.2.mem ((c : Thread nD τ).loc main_v11_4) = Aarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (run_main m ρ)
  obtain ⟨hw, hr⟩ := h c
  exact ⟨⟨(hw 4).trans (final4 m c), (hw 5).trans (final5 m c), (hw 6).trans (final6 m c), (hw 7).trans (final7 m c), (hw 8).trans (final8 m c)⟩,
    ((hw 0).trans ((dats m 0 c).arrAt_in 0 rfl _)).trans ((A_eq m c 0).trans (V_main_arg0 m c)),
    ((hw 1).trans ((dats m 0 c).arrAt_in 1 rfl _)).trans ((A_eq m c 1).trans (V_main_arg1 m c)),
    (hr main_arg2 (Pipeline.mem_restRefs_of main_arg2 (by decide) (by decide))).trans (V_main_arg2 m c),
    (hr main_arg3 (Pipeline.mem_restRefs_of main_arg3 (by decide) (by decide))).trans (V_main_arg3 m c),
    (hr main_arg4 (Pipeline.mem_restRefs_of main_arg4 (by decide) (by decide))).trans (V_main_arg4 m c),
    ((hw 2).trans ((dats m 0 c).arrAt_in 2 rfl _)).trans ((A_eq m c 2).trans (V_main_arg5 m c)),
    ((hw 3).trans ((dats m 0 c).arrAt_in 3 rfl _)).trans ((A_eq m c 3).trans (V_main_arg6 m c))⟩

end Entries

end Cert.HeadForwardIdeal.Value

end
-- ==== Proof.HeadGradEntry.lean ====
/- The reference's gradient of the loss at the last layer's output, entry by entry: its composed term cut into stages, each stage a row
   function of the stages before it. -/
module

public import proofs.«01_k».proof.Proof.Gen.HeadGradientIdeal.Run
public import proofs.«01_k».proof.Proof.FfnGradEntry
public import proofs.«01_k».proof.Proof.HeadSpec

@[expose] public section

set_option maxRecDepth 16384

noncomputable section

namespace Cert.HeadGradientIdeal.Value

open Cert.HeadGradientIdeal Cert.HeadGradientIdeal.Gen Cert.Ffn Idealize.ShloMosaic Idealize.ShloMosaic.TcCoe Idealize.SL.Sem Idealize.ShloMosaic.StableHlo
open Cert.FfnGradientIdeal.Value (msqA hidA sgA dmA inv_at msqA_at hidA_at sgA_at)

/-! ## The stages -/

section Stages

variable {F : FTy → Type} [FloatOps F]

/-- The activations from the two pre-activations. -/
def actA (g u : FVec F S8192x2816 .f32) : FVec F S8192x2816 .f32 := mulf (mulf g (sgA g)) u

/-- The layer's rows. -/
def outA (x : FVec F S8192x1024 .f32) (a : FVec F S8192x2816 .f32) (wd : FVec F S2816x1024 .f32) : FVec F S8192x1024 .f32 :=
  addf x (mulf (broadcastInDim S8192x1024 ![] bcast_S_S8192x1024 (constant S_ .f32 0x3F000000#32))
    (Host.dotGeneral dot_S8192x2816_S2816x1024_S8192x1024_1_0_0_1_n_n none a wd))

/-- The loss's gradient at every normalised entry, times the last gain. -/
def dlA (h : FVec F S8192x1024 .f32) (fn : FVec F S1x1024 .f32) (tg : FVec F S8192x1024 .f32) : FVec F S8192x1024 .f32 :=
  mulf (mulf (broadcastInDim S8192x1024 ![0] bcast_S8192_S8192x1024_0
      (Host.divf (broadcastInDim S8192 ![] bcast_S_S8192 (mulf (constant S_ .f32 0x3F000000#32) (constant S_ .f32 0x3F800000#32)))
        (broadcastInDim S8192 ![] bcast_S_S8192 (constant S_ .f32 0x44800000#32))))
    (mulf (broadcastInDim S8192x1024 ![] bcast_S_S8192x1024 (constant S_ .f32 0x40000000#32))
      (subf (mulf (mulf h (broadcastInDim S8192x1024 ![0, 1] bcast_S8192x1_S8192x1024_0_1 (Host.rsqrt (msqA h))))
        (broadcastInDim S8192x1024 ![0, 1] bcast_S1x1024_S8192x1024_0_1 fn)) tg)))
    (broadcastInDim S8192x1024 ![0, 1] bcast_S1x1024_S8192x1024_0_1 fn)

/-- The gradient at every row. -/
def dhA (h d : FVec F S8192x1024 .f32) : FVec F S8192x1024 .f32 :=
  addf (addf (mulf d (broadcastInDim S8192x1024 ![0, 1] bcast_S8192x1_S8192x1024_0_1 (Host.rsqrt (msqA h))))
    (mulf h (broadcastInDim S8192x1024 ![0] bcast_S8192_S8192x1024_0 (dmA h d))))
    (mulf (broadcastInDim S8192x1024 ![0] bcast_S8192_S8192x1024_0 (dmA h d)) h)

variable (m : (ℓ : Loc nD τ sig) → Buf (Elt F) ℓ)

/-- The seven arguments. -/
abbrev aX (c : Dev nD) : FVec F S8192x1024 .f32 := m ((c : Thread nD τ).loc main_arg0)
abbrev aGn (c : Dev nD) : FVec F S1x1024 .f32 := m ((c : Thread nD τ).loc main_arg1)
abbrev aWg (c : Dev nD) : FVec F S1024x2816 .f32 := m ((c : Thread nD τ).loc main_arg2)
abbrev aWu (c : Dev nD) : FVec F S1024x2816 .f32 := m ((c : Thread nD τ).loc main_arg3)
abbrev aWd (c : Dev nD) : FVec F S2816x1024 .f32 := m ((c : Thread nD τ).loc main_arg4)
abbrev aFn (c : Dev nD) : FVec F S1x1024 .f32 := m ((c : Thread nD τ).loc main_arg5)
abbrev aTg (c : Dev nD) : FVec F S8192x1024 .f32 := m ((c : Thread nD τ).loc main_arg6)

abbrev HA (c : Dev nD) : FVec F S8192x1024 .f32 :=
  outA (aX m c) (actA (hidA (aX m c) (aGn m c) (aWg m c)) (hidA (aX m c) (aGn m c) (aWu m c))) (aWd m c)

theorem out0_stages (c : Dev nD) : res_main_v77 m c = dhA (HA m c) (dlA (HA m c) (aFn m c) (aTg m c)) := by
  unfold res_main_v77 HA dhA dlA dmA outA actA sgA hidA msqA
  rfl

end Stages

/-! ## Entry by entry -/

theorem actA_at (g u : FVec Ideal S8192x2816 .f32) (r : Fin 8192) (f : Fin 2816) : actA g u (ix2 r f) = g (ix2 r f) * sg (g (ix2 r f)) * u (ix2 r f) := by
  unfold actA
  pointwise
  rw [sgA_at]

theorem outA_at (x : FVec Ideal S8192x1024 .f32) (a : FVec Ideal S8192x2816 .f32) (wd : FVec Ideal S2816x1024 .f32) (r : Fin 8192) (j : Fin 1024) :
    outA x a wd (ix2 r j) = x (ix2 r j) + half * ∑ f, a (ix2 r f) * wd (ix2 f j) := by
  unfold outA
  pointwise

theorem dlA_at (h : FVec Ideal S8192x1024 .f32) (fn : FVec Ideal S1x1024 .f32) (tg : FVec Ideal S8192x1024 .f32) (r : Fin 8192) (k : Fin 1024) :
    dlA h fn tg (ix2 r k) = dl' (fun k => h (ix2 r k)) (fun k => fn (ix2 0 k)) (fun k => tg (ix2 r k)) k * fn (ix2 0 k) := by
  unfold dlA
  pointwise
  simp only [inv_at]
  rfl

theorem dhA_at (h d : FVec Ideal S8192x1024 .f32) (fn : FVec Ideal S1x1024 .f32) (tg : FVec Ideal S8192x1024 .f32) (r : Fin 8192)
    (hd : ∀ k : Fin 1024, d (ix2 r k) = dl' (fun k => h (ix2 r k)) (fun k => fn (ix2 0 k)) (fun k => tg (ix2 r k)) k * fn (ix2 0 k)) (j : Fin 1024) :
    dhA h d (ix2 r j) = dH' (fun k => h (ix2 r k)) (fun k => fn (ix2 0 k)) (fun k => tg (ix2 r k)) j := by
  unfold dhA dmA
  pointwise
  simp only [inv_at, msqA_at, hd, Fin.sum_univ_one]
  rfl

end Cert.HeadGradientIdeal.Value

end
-- ==== Proof.HeadValue.lean ====
/- The five arrays the forward kernel with the loss leaves are the loss's gradient at the layer's output and the layer's saved arrays,
   written plainly. -/
module

public import proofs.«01_k».proof.Defs
public import proofs.«01_k».proof.Proof.HeadBlocks
public import proofs.«01_k».proof.Proof.HeadGradEntry

@[expose] public section

set_option maxRecDepth 16384

noncomputable section

namespace Cert.HeadForwardIdeal.Value

open Cert.HeadForwardIdeal Cert.HeadForwardIdeal.Gen Cert.Ffn Idealize.ShloMosaic Idealize.ShloMosaic.TcCoe Idealize.SL.Sem

variable (m : (ℓ : Loc nD τ sig) → Buf (Elt Ideal) ℓ)

section Reference

open Cert.FfnGradientIdeal.Value (hidA)
open Cert.HeadGradientIdeal.Value (actA outA dlA dhA)

/-- The reference's stages of the kernel's arguments, at an entry. -/
theorem ref_act (c : Dev nD) (r : Fin 8192) (f : Fin 2816) :
    actA (hidA (aX m c) (aGn m c) (aWg m c)) (hidA (aX m c) (aGn m c) (aWu m c)) (ix2 r f) = actR m c r f := by
  rw [Cert.HeadGradientIdeal.Value.actA_at, Cert.FfnGradientIdeal.Value.hidA_at, Cert.FfnGradientIdeal.Value.hidA_at]
  rfl

theorem ref_h (c : Dev nD) (r : Fin 8192) (j : Fin 1024) :
    outA (aX m c) (actA (hidA (aX m c) (aGn m c) (aWg m c)) (hidA (aX m c) (aGn m c) (aWu m c))) (aWd m c) (ix2 r j) = hR m c r j := by
  rw [Cert.HeadGradientIdeal.Value.outA_at]
  simp only [ref_act m c]
  rfl

theorem ref_dh (c : Dev nD) (A : FVec Ideal S8192x1024 .f32) (hA : ∀ r j, A (ix2 r j) = hR m c r j)
    (r : Fin 8192) (j : Fin 1024) : dhA A (dlA A (aFn m c) (aTg m c)) (ix2 r j) = dhR m c r j := by
  refine (Cert.HeadGradientIdeal.Value.dhA_at A _ (aFn m c) (aTg m c) r (fun k => Cert.HeadGradientIdeal.Value.dlA_at _ _ _ r k) j).trans ?_
  rw [show (fun k => A (ix2 r k)) = hR m c r from funext fun k => hA r k]
  exact (dH_eq _ _ _ j).symm

end Reference

end Cert.HeadForwardIdeal.Value

namespace Cert.Proof

open Cert.HeadForwardIdeal.Value Idealize.ShloMosaic Idealize.ShloMosaic.TcCoe Idealize.SL.Sem
open Cert.FfnForwardIdeal.Tile (act)
open Cert.Ffn (sg)

/-- The value claim of the forward kernel with the loss. -/
theorem value_head : Cert.algebraic_HeadForwardIdeal_HeadGradientIdeal := by
  intro m g m' g' _ hargs
  refine ⟨fun c => DHarr m c, fun c => XNarr m c, fun c => Garr m c, fun c => Uarr m c, fun c => Aarr m c, ?_, ?_⟩
  · refine (θ_run Cert.HeadForwardIdeal.defs _ _).mono (fun r h c => ?_) (run_arrays m g)
    obtain ⟨⟨h0, h1, h2, h3, h4⟩, h5⟩ := h c
    exact ⟨h0, h1, h2, h3, h4, h5⟩
  · refine (θ_run Cert.HeadGradientIdeal.defs _ _).mono (fun r h c => ?_) (Cert.HeadGradientIdeal.Value.run m' g')
    obtain ⟨h0, h1, h2, h3, h4, h5⟩ := h c
    obtain ⟨e0, e1, e2, e3, e4, e5, e6⟩ := hargs c
    refine ⟨(h0.trans (Cert.HeadGradientIdeal.Value.out0_stages m' c)).trans ?_, h1.trans ?_, h2.trans ?_, h3.trans ?_, h4.trans ?_, h5⟩
    · have k0 : Cert.HeadGradientIdeal.Value.aX m' c = aX m c := e0
      have k1 : Cert.HeadGradientIdeal.Value.aGn m' c = aGn m c := e1
      have k2 : Cert.HeadGradientIdeal.Value.aWg m' c = aWg m c := e2
      have k3 : Cert.HeadGradientIdeal.Value.aWu m' c = aWu m c := e3
      have k4 : Cert.HeadGradientIdeal.Value.aWd m' c = aWd m c := e4
      have k5 : Cert.HeadGradientIdeal.Value.aFn m' c = aFn m c := e5
      have k6 : Cert.HeadGradientIdeal.Value.aTg m' c = aTg m c := e6
      simp only [Cert.HeadGradientIdeal.Value.HA, k0, k1, k2, k3, k4, k5, k6]
      funext y
      idx_vars y
      exact ref_dh m c _ (ref_h m c) y0 y1
    · rw [e0, e1]
      funext y
      idx_vars y
      pointwise
      rfl
    · rw [e0, e1, e2]
      funext y
      idx_vars y
      pointwise
      rfl
    · rw [e0, e1, e3]
      funext y
      idx_vars y
      pointwise
      rfl
    · rw [e0, e1, e2, e3]
      funext y
      idx_vars y
      show _ = actR m c y0 y1
      pointwise
      unfold actR act sg
      simp only [zero_sub]
      rfl

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.RefResult
public import proofs.«01_k».proof.Proof.KernelResult
public import proofs.«01_k».proof.Proof.Gen.FfnBackward.Frame
public import proofs.«01_k».proof.Proof.Gen.FfnWeights.Frame
public import proofs.«01_k».proof.Proof.Gen.FfnDown.Frame
public import proofs.«01_k».proof.Proof.Gen.FfnForward.Frame
public import proofs.«01_k».proof.Proof.FfnBackValue
public import proofs.«01_k».proof.Proof.FfnWeightsValue
public import proofs.«01_k».proof.Proof.FfnDownValue
public import proofs.«01_k».proof.Proof.FfnFwdValue
public import proofs.«01_k».proof.Proof.Gen.FfnWeight.Frame
public import proofs.«01_k».proof.Proof.FfnWeightValue
public import proofs.«01_k».proof.Proof.Gen.InWeights.Frame
public import proofs.«01_k».proof.Proof.InWeightsValue
public import proofs.«01_k».proof.Proof.Gen.OutForward.Frame
public import proofs.«01_k».proof.Proof.OutFwdValue
public import proofs.«01_k».proof.Proof.Gen.OutBackward.Frame
public import proofs.«01_k».proof.Proof.OutBackValue
public import proofs.«01_k».proof.Proof.Gen.OutWeights.Frame
public import proofs.«01_k».proof.Proof.OutWeightsValue
public import proofs.«01_k».proof.Proof.Gen.HeadForward.Frame
public import proofs.«01_k».proof.Proof.HeadValue
public import Idealize.ShloMosaic.Adequacy
public import Idealize.ShloMosaic.Init

@[expose] public section

noncomputable section

namespace Cert.Proof

open Idealize.ShloMosaic Idealize.SL.Sem Cert.Kernel

/-! ## The frames -/

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono (fun _ h => ⟨fun c => ⟨(h.1 c).2.2.1, (h.1 c).2.2.2⟩, h.2⟩) (Cert.ReferenceIdeal.Value.run_results m ρ)

theorem frame_backward : Cert.quiescent_FfnBackward := fun m ρ _ => Cert.FfnBackward.Gen.frame m ρ

theorem frame_backward_ideal : Cert.quiescent_FfnBackwardIdeal := fun m ρ _ => Cert.FfnBackwardIdeal.Gen.frame m ρ

theorem frame_backward_ideal_finite [hPre : Cert.Pre_finite.Facts] : Cert.quiescent_FfnBackwardIdeal_pre_finite := fun m ρ _ => Cert.FfnBackwardIdeal.Gen.frame m ρ

theorem frame_weights : Cert.quiescent_FfnWeights := fun m ρ _ => Cert.FfnWeights.Gen.frame m ρ

theorem frame_weights_ideal : Cert.quiescent_FfnWeightsIdeal := fun m ρ _ => Cert.FfnWeightsIdeal.Gen.frame m ρ

theorem frame_down : Cert.quiescent_FfnDown := fun m ρ _ => Cert.FfnDown.Gen.frame m ρ

theorem frame_down_ideal : Cert.quiescent_FfnDownIdeal := fun m ρ _ => Cert.FfnDownIdeal.Gen.frame m ρ

theorem frame_forward : Cert.quiescent_FfnForward := fun m ρ _ => Cert.FfnForward.Gen.frame m ρ

theorem frame_forward_ideal : Cert.quiescent_FfnForwardIdeal := fun m ρ _ => Cert.FfnForwardIdeal.Gen.frame m ρ

theorem frame_gradient : Cert.quiescent_FfnGradientIdeal := fun m ρ _ =>
  (θ_run Cert.FfnGradientIdeal.defs _ _).mono (fun r h => ⟨fun c => (h c).2.2.2, sem_eq_zero_of_no_sems (by decide) r.2⟩) (Cert.FfnGradientIdeal.Value.run m ρ)

theorem frame_gradient_finite [hPre : Cert.Pre_finite.Facts] : Cert.quiescent_FfnGradientIdeal_pre_finite := fun m ρ _ => frame_gradient m ρ trivial

theorem frame_weights_gradient : Cert.quiescent_FfnWeightsGradientIdeal := fun m ρ _ =>
  (θ_run Cert.FfnWeightsGradientIdeal.defs _ _).mono (fun r h => ⟨fun c => (h c).2.2, sem_eq_zero_of_no_sems (by decide) r.2⟩) (Cert.FfnWeightsGradientIdeal.Value.run m ρ)

theorem frame_down_gradient : Cert.quiescent_FfnDownGradientIdeal := fun m ρ _ =>
  (θ_run Cert.FfnDownGradientIdeal.defs _ _).mono (fun r h => ⟨fun c => (h c).2, sem_eq_zero_of_no_sems (by decide) r.2⟩) (Cert.FfnDownGradientIdeal.Value.run m ρ)

theorem frame_layer : Cert.quiescent_FfnLayerIdeal := fun m ρ _ =>
  (θ_run Cert.FfnLayerIdeal.defs _ _).mono (fun r h => ⟨fun c => (h c).2.2.2.2.2, sem_eq_zero_of_no_sems (by decide) r.2⟩) (Cert.FfnLayerIdeal.Value.run m ρ)

theorem frame_weight : Cert.quiescent_FfnWeight := fun m ρ _ => Cert.FfnWeight.Gen.frame m ρ

theorem frame_weight_ideal : Cert.quiescent_FfnWeightIdeal := fun m ρ _ => Cert.FfnWeightIdeal.Gen.frame m ρ

theorem frame_weight_gradient : Cert.quiescent_FfnWeightGradientIdeal := fun m ρ _ =>
  (θ_run Cert.FfnWeightGradientIdeal.defs _ _).mono (fun r h => ⟨fun c => (h c).2, sem_eq_zero_of_no_sems (by decide) r.2⟩) (Cert.FfnWeightGradientIdeal.Value.run m ρ)

theorem frame_in_weights : Cert.quiescent_InWeights := fun m ρ _ => Cert.InWeights.Gen.frame m ρ

theorem frame_in_weights_ideal : Cert.quiescent_InWeightsIdeal := fun m ρ _ => Cert.InWeightsIdeal.Gen.frame m ρ

theorem frame_in_weights_gradient : Cert.quiescent_InWeightsGradientIdeal := fun m ρ _ =>
  (θ_run Cert.InWeightsGradientIdeal.defs _ _).mono (fun r h => ⟨fun c => (h c).2, sem_eq_zero_of_no_sems (by decide) r.2⟩) (Cert.InWeightsGradientIdeal.Value.run m ρ)

theorem frame_out_forward : Cert.quiescent_OutForward := fun m ρ _ => Cert.OutForward.Gen.frame m ρ

theorem frame_out_forward_ideal : Cert.quiescent_OutForwardIdeal := fun m ρ _ => Cert.OutForwardIdeal.Gen.frame m ρ

theorem frame_out_layer : Cert.quiescent_OutLayerIdeal := fun m ρ _ =>
  (θ_run Cert.OutLayerIdeal.defs _ _).mono (fun r h => ⟨fun c => (h c).2, sem_eq_zero_of_no_sems (by decide) r.2⟩) (Cert.OutLayerIdeal.Value.run m ρ)

theorem frame_out_backward : Cert.quiescent_OutBackward := fun m ρ _ => Cert.OutBackward.Gen.frame m ρ

theorem frame_out_backward_ideal : Cert.quiescent_OutBackwardIdeal := fun m ρ _ => Cert.OutBackwardIdeal.Gen.frame m ρ

theorem frame_out_gradient : Cert.quiescent_OutGradientIdeal := fun m ρ _ =>
  (θ_run Cert.OutGradientIdeal.defs _ _).mono (fun r h => ⟨fun c => (h c).2.2, sem_eq_zero_of_no_sems (by decide) r.2⟩) (Cert.OutGradientIdeal.Value.run m ρ)

theorem frame_out_weights : Cert.quiescent_OutWeights := fun m ρ _ => Cert.OutWeights.Gen.frame m ρ

theorem frame_out_weights_ideal : Cert.quiescent_OutWeightsIdeal := fun m ρ _ => Cert.OutWeightsIdeal.Gen.frame m ρ

theorem frame_out_weights_gradient : Cert.quiescent_OutWeightsGradientIdeal := fun m ρ _ =>
  (θ_run Cert.OutWeightsGradientIdeal.defs _ _).mono (fun r h => ⟨fun c => (h c).2, sem_eq_zero_of_no_sems (by decide) r.2⟩) (Cert.OutWeightsGradientIdeal.Value.run m ρ)

theorem frame_head : Cert.quiescent_HeadForward := fun m ρ _ => Cert.HeadForward.Gen.frame m ρ

theorem frame_head_ideal : Cert.quiescent_HeadForwardIdeal := fun m ρ _ => Cert.HeadForwardIdeal.Gen.frame m ρ

theorem frame_head_gradient : Cert.quiescent_HeadGradientIdeal := fun m ρ _ =>
  (θ_run Cert.HeadGradientIdeal.defs _ _).mono (fun r h => ⟨fun c => (h c).2.2.2.2.2, sem_eq_zero_of_no_sems (by decide) r.2⟩) (Cert.HeadGradientIdeal.Value.run m ρ)

/-! ## The retention gradient's value claim -/

/-- The gradient's inputs are the same where the arguments are. -/
theorem same_inputs (a0 b0 : FVec Ideal Cert.KernelIdeal.S8192x512 .f32) (a1 b1 : FVec Ideal Cert.KernelIdeal.S8192x2048 .f32) (h0 : a0 = b0) (h1 : a1 = b1) :
    Cert.Spec.inp (fun r l => a0 (ix2 r l)) (fun r l => a1 (ix2 r l)) = Cert.Spec.inp (fun r l => b0 (ix2 r l)) (fun r l => b1 (ix2 r l)) := by
  rw [h0, h1]

theorem value : Cert.algebraic_KernelIdeal_ReferenceIdeal := by
  intro m g m' g' _ hargs
  have hI : ∀ c : Dev Cert.KernelIdeal.nD, Cert.ReferenceIdeal.Value.I m' c = Cert.KernelIdeal.Value.I m c := fun c =>
    same_inputs _ _ _ _ (hargs c).1 (hargs c).2
  refine ⟨fun c => Cert.KernelIdeal.Value.DKarr m c, fun c => Cert.KernelIdeal.Value.DVarr m c, ?_, ?_⟩
  · refine (θ_run Cert.KernelIdeal.defs _ _).mono (fun r h c => ?_) (Cert.KernelIdeal.Value.run_blocks m g)
    obtain ⟨h0, h1, h2, h3⟩ := h c
    exact ⟨h0.trans (Cert.KernelIdeal.Value.final10 m c), h1.trans (Cert.KernelIdeal.Value.final11 m c), h2, h3⟩
  · refine (θ_run Cert.ReferenceIdeal.defs _ _).mono (fun r h c => ?_) (Cert.ReferenceIdeal.Value.run_results m' g')
    obtain ⟨h0, h1, h2, h3⟩ := h.1 c
    refine ⟨h0.trans ?_, h1.trans ?_, h2, h3⟩
    · funext y
      idx_vars y
      refine (Cert.ReferenceIdeal.Value.result_dk m' c y0 y1).trans ?_
      rw [hI c]
      rfl
    · funext y
      idx_vars y
      refine (Cert.ReferenceIdeal.Value.result_dv m' c y0 y1).trans ?_
      rw [hI c]
      rfl

/-! ## Everything claimed -/

theorem claim : Cert.Claim := ⟨Cert.Kernel.Gen.facts, Cert.KernelIdeal.Gen.facts, Cert.ReferenceIdeal.Gen.facts,
  Cert.FfnBackward.Gen.facts, Cert.FfnBackwardIdeal.Gen.facts, Cert.FfnGradientIdeal.Gen.facts,
  Cert.FfnWeights.Gen.facts, Cert.FfnWeightsIdeal.Gen.facts, Cert.FfnWeightsGradientIdeal.Gen.facts,
  Cert.FfnDown.Gen.facts, Cert.FfnDownIdeal.Gen.facts, Cert.FfnDownGradientIdeal.Gen.facts,
  Cert.FfnForward.Gen.facts, Cert.FfnForwardIdeal.Gen.facts, Cert.FfnLayerIdeal.Gen.facts,
  Cert.FfnWeight.Gen.facts, Cert.FfnWeightIdeal.Gen.facts, Cert.FfnWeightGradientIdeal.Gen.facts,
  Cert.InWeights.Gen.facts, Cert.InWeightsIdeal.Gen.facts, Cert.InWeightsGradientIdeal.Gen.facts,
  Cert.OutForward.Gen.facts, Cert.OutForwardIdeal.Gen.facts, Cert.OutLayerIdeal.Gen.facts,
  Cert.OutBackward.Gen.facts, Cert.OutBackwardIdeal.Gen.facts, Cert.OutGradientIdeal.Gen.facts,
  Cert.OutWeights.Gen.facts, Cert.OutWeightsIdeal.Gen.facts, Cert.OutWeightsGradientIdeal.Gen.facts,
  Cert.HeadForward.Gen.facts, Cert.HeadForwardIdeal.Gen.facts, Cert.HeadGradientIdeal.Gen.facts,
  Cert.FfnBackwardIdeal.Value.facts_finite,
  frame_kernel, frame_ideal, frame_reference,
  frame_backward, frame_backward_ideal, frame_backward_ideal_finite (hPre := Cert.FfnBackwardIdeal.Value.facts_finite),
  frame_gradient, frame_gradient_finite (hPre := Cert.FfnBackwardIdeal.Value.facts_finite),
  frame_weights, frame_weights_ideal, frame_weights_gradient,
  frame_down, frame_down_ideal, frame_down_gradient,
  frame_forward, frame_forward_ideal, frame_layer,
  frame_weight, frame_weight_ideal, frame_weight_gradient,
  frame_in_weights, frame_in_weights_ideal, frame_in_weights_gradient,
  frame_out_forward, frame_out_forward_ideal, frame_out_layer,
  frame_out_backward, frame_out_backward_ideal, frame_out_gradient,
  frame_out_weights, frame_out_weights_ideal, frame_out_weights_gradient,
  frame_head, frame_head_ideal, frame_head_gradient,
  trivial, value,
  trivial, value_backward (hPre := Cert.FfnBackwardIdeal.Value.facts_finite),
  trivial, value_weights, trivial, value_down, trivial, value_forward, trivial, value_weight, trivial, value_in_weights,
  trivial, value_out_forward, trivial, value_out_backward, trivial, value_out_weights,
  trivial, value_head⟩

end Cert.Proof

end
